-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_dh [hPre_finite_dh : Cert.Pre_finite_dh.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.1 = (fun _ => 1#1)
    ∧ (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.1 = (fun _ => 1#1)
    ∧ (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.1 = (fun _ => 1#1)
    ∧ (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.1 = (fun _ => 1#1)
    ∧ (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.1 = (fun _ => 1#1)
    ∧ (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.1 = (fun _ => 1#1)
    ∧ (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.1 = (fun _ => 1#1)
    ∧ (Cert.Pre_finite_dh.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_dh [hPre_finite_dh : Cert.Pre_finite_dh.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.1 = (fun _ => 1#1)
    ∧ (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.1 = (fun _ => 1#1)
    ∧ (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.1 = (fun _ => 1#1)
    ∧ (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.1 = (fun _ => 1#1)
    ∧ (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.1 = (fun _ => 1#1)
    ∧ (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.1 = (fun _ => 1#1)
    ∧ (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.1 = (fun _ => 1#1)
    ∧ (Cert.Pre_finite_dh.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2.2.2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_dh [hKernel2Ideal : Cert.Kernel2Ideal.Facts] [hPre_finite_dh : Cert.Pre_finite_dh.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_dh m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_dh [hReference2Ideal : Cert.Reference2Ideal.Facts] [hPre_finite_dh : Cert.Pre_finite_dh.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_dh m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14)
      ∧ r.2.mem ((c.tc : Thread Cert.Kernel10.nD Cert.Kernel10.τ).loc Cert.Kernel10.main_arg15) = m ((c.tc : Thread Cert.Kernel10.nD Cert.Kernel10.τ).loc Cert.Kernel10.main_arg15)
      ∧ r.2.mem ((c.tc : Thread Cert.Kernel10.nD Cert.Kernel10.τ).loc Cert.Kernel10.main_arg16) = m ((c.tc : Thread Cert.Kernel10.nD Cert.Kernel10.τ).loc Cert.Kernel10.main_arg16)
      ∧ r.2.mem ((c.tc : Thread Cert.Kernel10.nD Cert.Kernel10.τ).loc Cert.Kernel10.main_arg17) = m ((c.tc : Thread Cert.Kernel10.nD Cert.Kernel10.τ).loc Cert.Kernel10.main_arg17)
      ∧ r.2.mem ((c.tc : Thread Cert.Kernel10.nD Cert.Kernel10.τ).loc Cert.Kernel10.main_arg18) = m ((c.tc : Thread Cert.Kernel10.nD Cert.Kernel10.τ).loc Cert.Kernel10.main_arg18)
      ∧ r.2.mem ((c.tc : Thread Cert.Kernel10.nD Cert.Kernel10.τ).loc Cert.Kernel10.main_arg19) = m ((c.tc : Thread Cert.Kernel10.nD Cert.Kernel10.τ).loc Cert.Kernel10.main_arg19)
      ∧ r.2.mem ((c.tc : Thread Cert.Kernel10.nD Cert.Kernel10.τ).loc Cert.Kernel10.main_arg20) = m ((c.tc : Thread Cert.Kernel10.nD Cert.Kernel10.τ).loc Cert.Kernel10.main_arg20)
      ∧ r.2.mem ((c.tc : Thread Cert.Kernel10.nD Cert.Kernel10.τ).loc Cert.Kernel10.main_arg21) = m ((c.tc : Thread Cert.Kernel10.nD Cert.Kernel10.τ).loc Cert.Kernel10.main_arg21)
      ∧ r.2.mem ((c.tc : Thread Cert.Kernel10.nD Cert.Kernel10.τ).loc Cert.Kernel10.main_arg22) = m ((c.tc : Thread Cert.Kernel10.nD Cert.Kernel10.τ).loc Cert.Kernel10.main_arg22)
      ∧ r.2.mem ((c.tc : Thread Cert.Kernel10.nD Cert.Kernel10.τ).loc Cert.Kernel10.main_arg23) = m ((c.tc : Thread Cert.Kernel10.nD Cert.Kernel10.τ).loc Cert.Kernel10.main_arg23))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
      ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
      ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
      ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
      ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
      ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
      ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
      ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
      ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15)
      ∧ r.2.mem ((c.tc : Thread Cert.Reference10Ideal.nD Cert.Reference10Ideal.τ).loc Cert.Reference10Ideal.main_arg16) = m ((c.tc : Thread Cert.Reference10Ideal.nD Cert.Reference10Ideal.τ).loc Cert.Reference10Ideal.main_arg16)
      ∧ r.2.mem ((c.tc : Thread Cert.Reference10Ideal.nD Cert.Reference10Ideal.τ).loc Cert.Reference10Ideal.main_arg17) = m ((c.tc : Thread Cert.Reference10Ideal.nD Cert.Reference10Ideal.τ).loc Cert.Reference10Ideal.main_arg17)
      ∧ r.2.mem ((c.tc : Thread Cert.Reference10Ideal.nD Cert.Reference10Ideal.τ).loc Cert.Reference10Ideal.main_arg18) = m ((c.tc : Thread Cert.Reference10Ideal.nD Cert.Reference10Ideal.τ).loc Cert.Reference10Ideal.main_arg18)
      ∧ r.2.mem ((c.tc : Thread Cert.Reference10Ideal.nD Cert.Reference10Ideal.τ).loc Cert.Reference10Ideal.main_arg19) = m ((c.tc : Thread Cert.Reference10Ideal.nD Cert.Reference10Ideal.τ).loc Cert.Reference10Ideal.main_arg19)
      ∧ r.2.mem ((c.tc : Thread Cert.Reference10Ideal.nD Cert.Reference10Ideal.τ).loc Cert.Reference10Ideal.main_arg20) = m ((c.tc : Thread Cert.Reference10Ideal.nD Cert.Reference10Ideal.τ).loc Cert.Reference10Ideal.main_arg20)
      ∧ r.2.mem ((c.tc : Thread Cert.Reference10Ideal.nD Cert.Reference10Ideal.τ).loc Cert.Reference10Ideal.main_arg21) = m ((c.tc : Thread Cert.Reference10Ideal.nD Cert.Reference10Ideal.τ).loc Cert.Reference10Ideal.main_arg21)
      ∧ r.2.mem ((c.tc : Thread Cert.Reference10Ideal.nD Cert.Reference10Ideal.τ).loc Cert.Reference10Ideal.main_arg22) = m ((c.tc : Thread Cert.Reference10Ideal.nD Cert.Reference10Ideal.τ).loc Cert.Reference10Ideal.main_arg22)
      ∧ r.2.mem ((c.tc : Thread Cert.Reference10Ideal.nD Cert.Reference10Ideal.τ).loc Cert.Reference10Ideal.main_arg23) = m ((c.tc : Thread Cert.Reference10Ideal.nD Cert.Reference10Ideal.τ).loc Cert.Reference10Ideal.main_arg23))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)) (v4 : (c : Dev Cert.KernelIdeal.nD) → Buf (Elt Ideal) ((c.tc : Thread Cert.KernelIdeal.nD Cert.KernelIdeal.τ).loc Cert.KernelIdeal.main_v22_4)) (v5 : (c : Dev Cert.KernelIdeal.nD) → Buf (Elt Ideal) ((c.tc : Thread Cert.KernelIdeal.nD Cert.KernelIdeal.τ).loc Cert.KernelIdeal.main_v22_5)) (v6 : (c : Dev Cert.KernelIdeal.nD) → Buf (Elt Ideal) ((c.tc : Thread Cert.KernelIdeal.nD Cert.KernelIdeal.τ).loc Cert.KernelIdeal.main_v22_6)) (v7 : (c : Dev Cert.KernelIdeal.nD) → Buf (Elt Ideal) ((c.tc : Thread Cert.KernelIdeal.nD Cert.KernelIdeal.τ).loc Cert.KernelIdeal.main_v22_7)) (v8 : (c : Dev Cert.KernelIdeal.nD) → Buf (Elt Ideal) ((c.tc : Thread Cert.KernelIdeal.nD Cert.KernelIdeal.τ).loc Cert.KernelIdeal.main_v22_8)) (v9 : (c : Dev Cert.KernelIdeal.nD) → Buf (Elt Ideal) ((c.tc : Thread Cert.KernelIdeal.nD Cert.KernelIdeal.τ).loc Cert.KernelIdeal.main_v22_9)) (v10 : (c : Dev Cert.KernelIdeal.nD) → Buf (Elt Ideal) ((c.tc : Thread Cert.KernelIdeal.nD Cert.KernelIdeal.τ).loc Cert.KernelIdeal.main_v22_10)) (v11 : (c : Dev Cert.KernelIdeal.nD) → Buf (Elt Ideal) ((c.tc : Thread Cert.KernelIdeal.nD Cert.KernelIdeal.τ).loc Cert.KernelIdeal.main_v22_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_v22_4) = v4 c
          ∧ r.2.mem ((c.tc : Thread Cert.KernelIdeal.nD Cert.KernelIdeal.τ).loc Cert.KernelIdeal.main_v22_5) = v5 c
          ∧ r.2.mem ((c.tc : Thread Cert.KernelIdeal.nD Cert.KernelIdeal.τ).loc Cert.KernelIdeal.main_v22_6) = v6 c
          ∧ r.2.mem ((c.tc : Thread Cert.KernelIdeal.nD Cert.KernelIdeal.τ).loc Cert.KernelIdeal.main_v22_7) = v7 c
          ∧ r.2.mem ((c.tc : Thread Cert.KernelIdeal.nD Cert.KernelIdeal.τ).loc Cert.KernelIdeal.main_v22_8) = v8 c
          ∧ r.2.mem ((c.tc : Thread Cert.KernelIdeal.nD Cert.KernelIdeal.τ).loc Cert.KernelIdeal.main_v22_9) = v9 c
          ∧ r.2.mem ((c.tc : Thread Cert.KernelIdeal.nD Cert.KernelIdeal.τ).loc Cert.KernelIdeal.main_v22_10) = v10 c
          ∧ r.2.mem ((c.tc : Thread Cert.KernelIdeal.nD Cert.KernelIdeal.τ).loc Cert.KernelIdeal.main_v22_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v114) = v3 c
          ∧ r.2.mem ((c.tc : Thread Cert.ReferenceIdeal.nD Cert.ReferenceIdeal.τ).loc Cert.ReferenceIdeal.main_v115) = v4 c
          ∧ r.2.mem ((c.tc : Thread Cert.ReferenceIdeal.nD Cert.ReferenceIdeal.τ).loc Cert.ReferenceIdeal.main_v117) = v5 c
          ∧ r.2.mem ((c.tc : Thread Cert.ReferenceIdeal.nD Cert.ReferenceIdeal.τ).loc Cert.ReferenceIdeal.main_v99) = v6 c
          ∧ r.2.mem ((c.tc : Thread Cert.ReferenceIdeal.nD Cert.ReferenceIdeal.τ).loc Cert.ReferenceIdeal.main_v107) = v7 c
          ∧ r.2.mem ((c.tc : Thread Cert.ReferenceIdeal.nD Cert.ReferenceIdeal.τ).loc Cert.ReferenceIdeal.main_v118) = v8 c
          ∧ r.2.mem ((c.tc : Thread Cert.ReferenceIdeal.nD Cert.ReferenceIdeal.τ).loc Cert.ReferenceIdeal.main_v101) = v9 c
          ∧ r.2.mem ((c.tc : Thread Cert.ReferenceIdeal.nD Cert.ReferenceIdeal.τ).loc Cert.ReferenceIdeal.main_v109) = v10 c
          ∧ r.2.mem ((c.tc : Thread Cert.ReferenceIdeal.nD Cert.ReferenceIdeal.τ).loc Cert.ReferenceIdeal.main_v111) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal_pre_finite_dh [hKernel2Ideal : Cert.Kernel2Ideal.Facts] [hReference2Ideal : Cert.Reference2Ideal.Facts] [hPre_finite_dh : Cert.Pre_finite_dh.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_dh m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v60) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_v12) = v2 c
          ∧ r.2.mem ((c.tc : Thread Cert.Reference4Ideal.nD Cert.Reference4Ideal.τ).loc Cert.Reference4Ideal.main_v13) = v3 c
          ∧ r.2.mem ((c.tc : Thread Cert.Reference4Ideal.nD Cert.Reference4Ideal.τ).loc Cert.Reference4Ideal.main_v19) = v4 c
          ∧ r.2.mem ((c.tc : Thread Cert.Reference4Ideal.nD Cert.Reference4Ideal.τ).loc Cert.Reference4Ideal.main_v20) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_arg1) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_v10) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)) (v8 : (c : Dev Cert.Kernel6Ideal.nD) → Buf (Elt Ideal) ((c.tc : Thread Cert.Kernel6Ideal.nD Cert.Kernel6Ideal.τ).loc Cert.Kernel6Ideal.main_v0_8)) (v9 : (c : Dev Cert.Kernel6Ideal.nD) → Buf (Elt Ideal) ((c.tc : Thread Cert.Kernel6Ideal.nD Cert.Kernel6Ideal.τ).loc Cert.Kernel6Ideal.main_v0_9)) (v10 : (c : Dev Cert.Kernel6Ideal.nD) → Buf (Elt Ideal) ((c.tc : Thread Cert.Kernel6Ideal.nD Cert.Kernel6Ideal.τ).loc Cert.Kernel6Ideal.main_v0_10)) (v11 : (c : Dev Cert.Kernel6Ideal.nD) → Buf (Elt Ideal) ((c.tc : Thread Cert.Kernel6Ideal.nD Cert.Kernel6Ideal.τ).loc Cert.Kernel6Ideal.main_v0_11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_v0_8) = v8 c
          ∧ r.2.mem ((c.tc : Thread Cert.Kernel6Ideal.nD Cert.Kernel6Ideal.τ).loc Cert.Kernel6Ideal.main_v0_9) = v9 c
          ∧ r.2.mem ((c.tc : Thread Cert.Kernel6Ideal.nD Cert.Kernel6Ideal.τ).loc Cert.Kernel6Ideal.main_v0_10) = v10 c
          ∧ r.2.mem ((c.tc : Thread Cert.Kernel6Ideal.nD Cert.Kernel6Ideal.τ).loc Cert.Kernel6Ideal.main_v0_11) = v11 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg1) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_v10) = v3 c
          ∧ r.2.mem ((c.tc : Thread Cert.Reference6Ideal.nD Cert.Reference6Ideal.τ).loc Cert.Reference6Ideal.main_arg5) = v4 c
          ∧ r.2.mem ((c.tc : Thread Cert.Reference6Ideal.nD Cert.Reference6Ideal.τ).loc Cert.Reference6Ideal.main_v47) = v5 c
          ∧ r.2.mem ((c.tc : Thread Cert.Reference6Ideal.nD Cert.Reference6Ideal.τ).loc Cert.Reference6Ideal.main_v28) = v6 c
          ∧ r.2.mem ((c.tc : Thread Cert.Reference6Ideal.nD Cert.Reference6Ideal.τ).loc Cert.Reference6Ideal.main_v34) = v7 c
          ∧ r.2.mem ((c.tc : Thread Cert.Reference6Ideal.nD Cert.Reference6Ideal.τ).loc Cert.Reference6Ideal.main_arg9) = v8 c
          ∧ r.2.mem ((c.tc : Thread Cert.Reference6Ideal.nD Cert.Reference6Ideal.τ).loc Cert.Reference6Ideal.main_v71) = v9 c
          ∧ r.2.mem ((c.tc : Thread Cert.Reference6Ideal.nD Cert.Reference6Ideal.τ).loc Cert.Reference6Ideal.main_v52) = v10 c
          ∧ r.2.mem ((c.tc : Thread Cert.Reference6Ideal.nD Cert.Reference6Ideal.τ).loc Cert.Reference6Ideal.main_v58) = v11 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v0) = v0 c
          ∧ r.2.mem ((c.tc : Thread Cert.Reference7Ideal.nD Cert.Reference7Ideal.τ).loc Cert.Reference7Ideal.main_v24) = v1 c
          ∧ r.2.mem ((c.tc : Thread Cert.Reference7Ideal.nD Cert.Reference7Ideal.τ).loc Cert.Reference7Ideal.main_v5) = v2 c
          ∧ r.2.mem ((c.tc : Thread Cert.Reference7Ideal.nD Cert.Reference7Ideal.τ).loc Cert.Reference7Ideal.main_v11) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v7)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v20) = v1 c
          ∧ r.2.mem ((c.tc : Thread Cert.Reference8Ideal.nD Cert.Reference8Ideal.τ).loc Cert.Reference8Ideal.main_v22) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)
      ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15)
      ∧ m' ((c.tc : Thread Cert.Reference10Ideal.nD Cert.Reference10Ideal.τ).loc Cert.Reference10Ideal.main_arg16) = m ((c.tc : Thread Cert.Kernel10Ideal.nD Cert.Kernel10Ideal.τ).loc Cert.Kernel10Ideal.main_arg16)
      ∧ m' ((c.tc : Thread Cert.Reference10Ideal.nD Cert.Reference10Ideal.τ).loc Cert.Reference10Ideal.main_arg17) = m ((c.tc : Thread Cert.Kernel10Ideal.nD Cert.Kernel10Ideal.τ).loc Cert.Kernel10Ideal.main_arg17)
      ∧ m' ((c.tc : Thread Cert.Reference10Ideal.nD Cert.Reference10Ideal.τ).loc Cert.Reference10Ideal.main_arg18) = m ((c.tc : Thread Cert.Kernel10Ideal.nD Cert.Kernel10Ideal.τ).loc Cert.Kernel10Ideal.main_arg18)
      ∧ m' ((c.tc : Thread Cert.Reference10Ideal.nD Cert.Reference10Ideal.τ).loc Cert.Reference10Ideal.main_arg19) = m ((c.tc : Thread Cert.Kernel10Ideal.nD Cert.Kernel10Ideal.τ).loc Cert.Kernel10Ideal.main_arg19)
      ∧ m' ((c.tc : Thread Cert.Reference10Ideal.nD Cert.Reference10Ideal.τ).loc Cert.Reference10Ideal.main_arg20) = m ((c.tc : Thread Cert.Kernel10Ideal.nD Cert.Kernel10Ideal.τ).loc Cert.Kernel10Ideal.main_arg20)
      ∧ m' ((c.tc : Thread Cert.Reference10Ideal.nD Cert.Reference10Ideal.τ).loc Cert.Reference10Ideal.main_arg21) = m ((c.tc : Thread Cert.Kernel10Ideal.nD Cert.Kernel10Ideal.τ).loc Cert.Kernel10Ideal.main_arg21)
      ∧ m' ((c.tc : Thread Cert.Reference10Ideal.nD Cert.Reference10Ideal.τ).loc Cert.Reference10Ideal.main_arg22) = m ((c.tc : Thread Cert.Kernel10Ideal.nD Cert.Kernel10Ideal.τ).loc Cert.Kernel10Ideal.main_arg22)
      ∧ m' ((c.tc : Thread Cert.Reference10Ideal.nD Cert.Reference10Ideal.τ).loc Cert.Reference10Ideal.main_arg23) = m ((c.tc : Thread Cert.Kernel10Ideal.nD Cert.Kernel10Ideal.τ).loc Cert.Kernel10Ideal.main_arg23)) →
    ∃ (v0 : (c : Dev Cert.Kernel10Ideal.nD) → Buf (Elt Ideal) ((c.tc : Thread Cert.Kernel10Ideal.nD Cert.Kernel10Ideal.τ).loc Cert.Kernel10Ideal.main_v79)) (v1 : (c : Dev Cert.Kernel10Ideal.nD) → Buf (Elt Ideal) ((c.tc : Thread Cert.Kernel10Ideal.nD Cert.Kernel10Ideal.τ).loc Cert.Kernel10Ideal.main_v98)) (v2 : (c : Dev Cert.Kernel10Ideal.nD) → Buf (Elt Ideal) ((c.tc : Thread Cert.Kernel10Ideal.nD Cert.Kernel10Ideal.τ).loc Cert.Kernel10Ideal.main_v117)) (v3 : (c : Dev Cert.Kernel10Ideal.nD) → Buf (Elt Ideal) ((c.tc : Thread Cert.Kernel10Ideal.nD Cert.Kernel10Ideal.τ).loc Cert.Kernel10Ideal.main_v82)) (v4 : (c : Dev Cert.Kernel10Ideal.nD) → Buf (Elt Ideal) ((c.tc : Thread Cert.Kernel10Ideal.nD Cert.Kernel10Ideal.τ).loc Cert.Kernel10Ideal.main_v101)) (v5 : (c : Dev Cert.Kernel10Ideal.nD) → Buf (Elt Ideal) ((c.tc : Thread Cert.Kernel10Ideal.nD Cert.Kernel10Ideal.τ).loc Cert.Kernel10Ideal.main_v120)) (v6 : (c : Dev Cert.Kernel10Ideal.nD) → Buf (Elt Ideal) ((c.tc : Thread Cert.Kernel10Ideal.nD Cert.Kernel10Ideal.τ).loc Cert.Kernel10Ideal.main_v86)) (v7 : (c : Dev Cert.Kernel10Ideal.nD) → Buf (Elt Ideal) ((c.tc : Thread Cert.Kernel10Ideal.nD Cert.Kernel10Ideal.τ).loc Cert.Kernel10Ideal.main_v105)) (v8 : (c : Dev Cert.Kernel10Ideal.nD) → Buf (Elt Ideal) ((c.tc : Thread Cert.Kernel10Ideal.nD Cert.Kernel10Ideal.τ).loc Cert.Kernel10Ideal.main_v124)) (v9 : (c : Dev Cert.Kernel10Ideal.nD) → Buf (Elt Ideal) ((c.tc : Thread Cert.Kernel10Ideal.nD Cert.Kernel10Ideal.τ).loc Cert.Kernel10Ideal.main_v90)) (v10 : (c : Dev Cert.Kernel10Ideal.nD) → Buf (Elt Ideal) ((c.tc : Thread Cert.Kernel10Ideal.nD Cert.Kernel10Ideal.τ).loc Cert.Kernel10Ideal.main_v109)) (v11 : (c : Dev Cert.Kernel10Ideal.nD) → Buf (Elt Ideal) ((c.tc : Thread Cert.Kernel10Ideal.nD Cert.Kernel10Ideal.τ).loc Cert.Kernel10Ideal.main_v128)) (v12 : (c : Dev Cert.Kernel10Ideal.nD) → Buf (Elt Ideal) ((c.tc : Thread Cert.Kernel10Ideal.nD Cert.Kernel10Ideal.τ).loc Cert.Kernel10Ideal.main_v93)) (v13 : (c : Dev Cert.Kernel10Ideal.nD) → Buf (Elt Ideal) ((c.tc : Thread Cert.Kernel10Ideal.nD Cert.Kernel10Ideal.τ).loc Cert.Kernel10Ideal.main_v112)) (v14 : (c : Dev Cert.Kernel10Ideal.nD) → Buf (Elt Ideal) ((c.tc : Thread Cert.Kernel10Ideal.nD Cert.Kernel10Ideal.τ).loc Cert.Kernel10Ideal.main_v131)) (v15 : (c : Dev Cert.Kernel10Ideal.nD) → Buf (Elt Ideal) ((c.tc : Thread Cert.Kernel10Ideal.nD Cert.Kernel10Ideal.τ).loc Cert.Kernel10Ideal.main_v95)) (v16 : (c : Dev Cert.Kernel10Ideal.nD) → Buf (Elt Ideal) ((c.tc : Thread Cert.Kernel10Ideal.nD Cert.Kernel10Ideal.τ).loc Cert.Kernel10Ideal.main_v114)) (v17 : (c : Dev Cert.Kernel10Ideal.nD) → Buf (Elt Ideal) ((c.tc : Thread Cert.Kernel10Ideal.nD Cert.Kernel10Ideal.τ).loc Cert.Kernel10Ideal.main_v133)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v79) = v0 c
          ∧ r.2.mem ((c.tc : Thread Cert.Kernel10Ideal.nD Cert.Kernel10Ideal.τ).loc Cert.Kernel10Ideal.main_v98) = v1 c
          ∧ r.2.mem ((c.tc : Thread Cert.Kernel10Ideal.nD Cert.Kernel10Ideal.τ).loc Cert.Kernel10Ideal.main_v117) = v2 c
          ∧ r.2.mem ((c.tc : Thread Cert.Kernel10Ideal.nD Cert.Kernel10Ideal.τ).loc Cert.Kernel10Ideal.main_v82) = v3 c
          ∧ r.2.mem ((c.tc : Thread Cert.Kernel10Ideal.nD Cert.Kernel10Ideal.τ).loc Cert.Kernel10Ideal.main_v101) = v4 c
          ∧ r.2.mem ((c.tc : Thread Cert.Kernel10Ideal.nD Cert.Kernel10Ideal.τ).loc Cert.Kernel10Ideal.main_v120) = v5 c
          ∧ r.2.mem ((c.tc : Thread Cert.Kernel10Ideal.nD Cert.Kernel10Ideal.τ).loc Cert.Kernel10Ideal.main_v86) = v6 c
          ∧ r.2.mem ((c.tc : Thread Cert.Kernel10Ideal.nD Cert.Kernel10Ideal.τ).loc Cert.Kernel10Ideal.main_v105) = v7 c
          ∧ r.2.mem ((c.tc : Thread Cert.Kernel10Ideal.nD Cert.Kernel10Ideal.τ).loc Cert.Kernel10Ideal.main_v124) = v8 c
          ∧ r.2.mem ((c.tc : Thread Cert.Kernel10Ideal.nD Cert.Kernel10Ideal.τ).loc Cert.Kernel10Ideal.main_v90) = v9 c
          ∧ r.2.mem ((c.tc : Thread Cert.Kernel10Ideal.nD Cert.Kernel10Ideal.τ).loc Cert.Kernel10Ideal.main_v109) = v10 c
          ∧ r.2.mem ((c.tc : Thread Cert.Kernel10Ideal.nD Cert.Kernel10Ideal.τ).loc Cert.Kernel10Ideal.main_v128) = v11 c
          ∧ r.2.mem ((c.tc : Thread Cert.Kernel10Ideal.nD Cert.Kernel10Ideal.τ).loc Cert.Kernel10Ideal.main_v93) = v12 c
          ∧ r.2.mem ((c.tc : Thread Cert.Kernel10Ideal.nD Cert.Kernel10Ideal.τ).loc Cert.Kernel10Ideal.main_v112) = v13 c
          ∧ r.2.mem ((c.tc : Thread Cert.Kernel10Ideal.nD Cert.Kernel10Ideal.τ).loc Cert.Kernel10Ideal.main_v131) = v14 c
          ∧ r.2.mem ((c.tc : Thread Cert.Kernel10Ideal.nD Cert.Kernel10Ideal.τ).loc Cert.Kernel10Ideal.main_v95) = v15 c
          ∧ r.2.mem ((c.tc : Thread Cert.Kernel10Ideal.nD Cert.Kernel10Ideal.τ).loc Cert.Kernel10Ideal.main_v114) = v16 c
          ∧ r.2.mem ((c.tc : Thread Cert.Kernel10Ideal.nD Cert.Kernel10Ideal.τ).loc Cert.Kernel10Ideal.main_v133) = v17 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
          ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
          ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16)
          ∧ r.2.mem ((c.tc : Thread Cert.Kernel10Ideal.nD Cert.Kernel10Ideal.τ).loc Cert.Kernel10Ideal.main_arg17) = m ((c.tc : Thread Cert.Kernel10Ideal.nD Cert.Kernel10Ideal.τ).loc Cert.Kernel10Ideal.main_arg17)
          ∧ r.2.mem ((c.tc : Thread Cert.Kernel10Ideal.nD Cert.Kernel10Ideal.τ).loc Cert.Kernel10Ideal.main_arg18) = m ((c.tc : Thread Cert.Kernel10Ideal.nD Cert.Kernel10Ideal.τ).loc Cert.Kernel10Ideal.main_arg18)
          ∧ r.2.mem ((c.tc : Thread Cert.Kernel10Ideal.nD Cert.Kernel10Ideal.τ).loc Cert.Kernel10Ideal.main_arg19) = m ((c.tc : Thread Cert.Kernel10Ideal.nD Cert.Kernel10Ideal.τ).loc Cert.Kernel10Ideal.main_arg19)
          ∧ r.2.mem ((c.tc : Thread Cert.Kernel10Ideal.nD Cert.Kernel10Ideal.τ).loc Cert.Kernel10Ideal.main_arg20) = m ((c.tc : Thread Cert.Kernel10Ideal.nD Cert.Kernel10Ideal.τ).loc Cert.Kernel10Ideal.main_arg20)
          ∧ r.2.mem ((c.tc : Thread Cert.Kernel10Ideal.nD Cert.Kernel10Ideal.τ).loc Cert.Kernel10Ideal.main_arg21) = m ((c.tc : Thread Cert.Kernel10Ideal.nD Cert.Kernel10Ideal.τ).loc Cert.Kernel10Ideal.main_arg21)
          ∧ r.2.mem ((c.tc : Thread Cert.Kernel10Ideal.nD Cert.Kernel10Ideal.τ).loc Cert.Kernel10Ideal.main_arg22) = m ((c.tc : Thread Cert.Kernel10Ideal.nD Cert.Kernel10Ideal.τ).loc Cert.Kernel10Ideal.main_arg22)
          ∧ r.2.mem ((c.tc : Thread Cert.Kernel10Ideal.nD Cert.Kernel10Ideal.τ).loc Cert.Kernel10Ideal.main_arg23) = m ((c.tc : Thread Cert.Kernel10Ideal.nD Cert.Kernel10Ideal.τ).loc Cert.Kernel10Ideal.main_arg23))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_v47) = v3 c
          ∧ r.2.mem ((c.tc : Thread Cert.Reference10Ideal.nD Cert.Reference10Ideal.τ).loc Cert.Reference10Ideal.main_v28) = v4 c
          ∧ r.2.mem ((c.tc : Thread Cert.Reference10Ideal.nD Cert.Reference10Ideal.τ).loc Cert.Reference10Ideal.main_v34) = v5 c
          ∧ r.2.mem ((c.tc : Thread Cert.Reference10Ideal.nD Cert.Reference10Ideal.τ).loc Cert.Reference10Ideal.main_v71) = v6 c
          ∧ r.2.mem ((c.tc : Thread Cert.Reference10Ideal.nD Cert.Reference10Ideal.τ).loc Cert.Reference10Ideal.main_v52) = v7 c
          ∧ r.2.mem ((c.tc : Thread Cert.Reference10Ideal.nD Cert.Reference10Ideal.τ).loc Cert.Reference10Ideal.main_v58) = v8 c
          ∧ r.2.mem ((c.tc : Thread Cert.Reference10Ideal.nD Cert.Reference10Ideal.τ).loc Cert.Reference10Ideal.main_v95) = v9 c
          ∧ r.2.mem ((c.tc : Thread Cert.Reference10Ideal.nD Cert.Reference10Ideal.τ).loc Cert.Reference10Ideal.main_v76) = v10 c
          ∧ r.2.mem ((c.tc : Thread Cert.Reference10Ideal.nD Cert.Reference10Ideal.τ).loc Cert.Reference10Ideal.main_v82) = v11 c
          ∧ r.2.mem ((c.tc : Thread Cert.Reference10Ideal.nD Cert.Reference10Ideal.τ).loc Cert.Reference10Ideal.main_v119) = v12 c
          ∧ r.2.mem ((c.tc : Thread Cert.Reference10Ideal.nD Cert.Reference10Ideal.τ).loc Cert.Reference10Ideal.main_v100) = v13 c
          ∧ r.2.mem ((c.tc : Thread Cert.Reference10Ideal.nD Cert.Reference10Ideal.τ).loc Cert.Reference10Ideal.main_v106) = v14 c
          ∧ r.2.mem ((c.tc : Thread Cert.Reference10Ideal.nD Cert.Reference10Ideal.τ).loc Cert.Reference10Ideal.main_v143) = v15 c
          ∧ r.2.mem ((c.tc : Thread Cert.Reference10Ideal.nD Cert.Reference10Ideal.τ).loc Cert.Reference10Ideal.main_v124) = v16 c
          ∧ r.2.mem ((c.tc : Thread Cert.Reference10Ideal.nD Cert.Reference10Ideal.τ).loc Cert.Reference10Ideal.main_v130) = v17 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15)
          ∧ r.2.mem ((c.tc : Thread Cert.Reference10Ideal.nD Cert.Reference10Ideal.τ).loc Cert.Reference10Ideal.main_arg16) = m' ((c.tc : Thread Cert.Reference10Ideal.nD Cert.Reference10Ideal.τ).loc Cert.Reference10Ideal.main_arg16)
          ∧ r.2.mem ((c.tc : Thread Cert.Reference10Ideal.nD Cert.Reference10Ideal.τ).loc Cert.Reference10Ideal.main_arg17) = m' ((c.tc : Thread Cert.Reference10Ideal.nD Cert.Reference10Ideal.τ).loc Cert.Reference10Ideal.main_arg17)
          ∧ r.2.mem ((c.tc : Thread Cert.Reference10Ideal.nD Cert.Reference10Ideal.τ).loc Cert.Reference10Ideal.main_arg18) = m' ((c.tc : Thread Cert.Reference10Ideal.nD Cert.Reference10Ideal.τ).loc Cert.Reference10Ideal.main_arg18)
          ∧ r.2.mem ((c.tc : Thread Cert.Reference10Ideal.nD Cert.Reference10Ideal.τ).loc Cert.Reference10Ideal.main_arg19) = m' ((c.tc : Thread Cert.Reference10Ideal.nD Cert.Reference10Ideal.τ).loc Cert.Reference10Ideal.main_arg19)
          ∧ r.2.mem ((c.tc : Thread Cert.Reference10Ideal.nD Cert.Reference10Ideal.τ).loc Cert.Reference10Ideal.main_arg20) = m' ((c.tc : Thread Cert.Reference10Ideal.nD Cert.Reference10Ideal.τ).loc Cert.Reference10Ideal.main_arg20)
          ∧ r.2.mem ((c.tc : Thread Cert.Reference10Ideal.nD Cert.Reference10Ideal.τ).loc Cert.Reference10Ideal.main_arg21) = m' ((c.tc : Thread Cert.Reference10Ideal.nD Cert.Reference10Ideal.τ).loc Cert.Reference10Ideal.main_arg21)
          ∧ r.2.mem ((c.tc : Thread Cert.Reference10Ideal.nD Cert.Reference10Ideal.τ).loc Cert.Reference10Ideal.main_arg22) = m' ((c.tc : Thread Cert.Reference10Ideal.nD Cert.Reference10Ideal.τ).loc Cert.Reference10Ideal.main_arg22)
          ∧ r.2.mem ((c.tc : Thread Cert.Reference10Ideal.nD Cert.Reference10Ideal.τ).loc Cert.Reference10Ideal.main_arg23) = m' ((c.tc : Thread Cert.Reference10Ideal.nD Cert.Reference10Ideal.τ).loc Cert.Reference10Ideal.main_arg23))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)) (v1 : (c : Dev Cert.Kernel11Ideal.nD) → Buf (Elt Ideal) ((c.tc : Thread Cert.Kernel11Ideal.nD Cert.Kernel11Ideal.τ).loc Cert.Kernel11Ideal.main_v4)) (v2 : (c : Dev Cert.Kernel11Ideal.nD) → Buf (Elt Ideal) ((c.tc : Thread Cert.Kernel11Ideal.nD Cert.Kernel11Ideal.τ).loc Cert.Kernel11Ideal.main_v5)) (v3 : (c : Dev Cert.Kernel11Ideal.nD) → Buf (Elt Ideal) ((c.tc : Thread Cert.Kernel11Ideal.nD Cert.Kernel11Ideal.τ).loc Cert.Kernel11Ideal.main_v6)) (v4 : (c : Dev Cert.Kernel11Ideal.nD) → Buf (Elt Ideal) ((c.tc : Thread Cert.Kernel11Ideal.nD Cert.Kernel11Ideal.τ).loc Cert.Kernel11Ideal.main_v9)) (v5 : (c : Dev Cert.Kernel11Ideal.nD) → Buf (Elt Ideal) ((c.tc : Thread Cert.Kernel11Ideal.nD Cert.Kernel11Ideal.τ).loc Cert.Kernel11Ideal.main_v11)) (v6 : (c : Dev Cert.Kernel11Ideal.nD) → Buf (Elt Ideal) ((c.tc : Thread Cert.Kernel11Ideal.nD Cert.Kernel11Ideal.τ).loc Cert.Kernel11Ideal.main_v59)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_v4) = v1 c
          ∧ r.2.mem ((c.tc : Thread Cert.Kernel11Ideal.nD Cert.Kernel11Ideal.τ).loc Cert.Kernel11Ideal.main_v5) = v2 c
          ∧ r.2.mem ((c.tc : Thread Cert.Kernel11Ideal.nD Cert.Kernel11Ideal.τ).loc Cert.Kernel11Ideal.main_v6) = v3 c
          ∧ r.2.mem ((c.tc : Thread Cert.Kernel11Ideal.nD Cert.Kernel11Ideal.τ).loc Cert.Kernel11Ideal.main_v9) = v4 c
          ∧ r.2.mem ((c.tc : Thread Cert.Kernel11Ideal.nD Cert.Kernel11Ideal.τ).loc Cert.Kernel11Ideal.main_v11) = v5 c
          ∧ r.2.mem ((c.tc : Thread Cert.Kernel11Ideal.nD Cert.Kernel11Ideal.τ).loc Cert.Kernel11Ideal.main_v59) = v6 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_v12) = v1 c
          ∧ r.2.mem ((c.tc : Thread Cert.Reference11Ideal.nD Cert.Reference11Ideal.τ).loc Cert.Reference11Ideal.main_v13) = v2 c
          ∧ r.2.mem ((c.tc : Thread Cert.Reference11Ideal.nD Cert.Reference11Ideal.τ).loc Cert.Reference11Ideal.main_v14) = v3 c
          ∧ r.2.mem ((c.tc : Thread Cert.Reference11Ideal.nD Cert.Reference11Ideal.τ).loc Cert.Reference11Ideal.main_v15) = v4 c
          ∧ r.2.mem ((c.tc : Thread Cert.Reference11Ideal.nD Cert.Reference11Ideal.τ).loc Cert.Reference11Ideal.main_v16) = v5 c
          ∧ r.2.mem ((c.tc : Thread Cert.Reference11Ideal.nD Cert.Reference11Ideal.τ).loc Cert.Reference11Ideal.main_v65) = v6 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite_dh : Cert.Pre_finite_dh.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_dh (hKernel2Ideal := hKernel2Ideal) (hPre_finite_dh := hPre_finite_dh)
    ∧ quiescent_Reference2Ideal (hReference2Ideal := hReference2Ideal)
    ∧ quiescent_Reference2Ideal_pre_finite_dh (hReference2Ideal := hReference2Ideal) (hPre_finite_dh := hPre_finite_dh)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_dh (hKernel2Ideal := hKernel2Ideal) (hReference2Ideal := hReference2Ideal) (hPre_finite_dh := hPre_finite_dh)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite.lean ====
abbrev S8192x512 : Shape := ⟨2, ![8192, 512]⟩
abbrev S8192x1024 : Shape := ⟨2, ![8192, 1024]⟩
abbrev S8192x8192 : Shape := ⟨2, ![8192, 8192]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩

class Facts : Prop where
  bcast_S_S8192x512 : S_.BroadcastsInDim S8192x512 (![] : Fin 0 → Fin S8192x512.rank)
  bitsLt_bf16_f32 : FTy.bits .bf16 < FTy.bits .f32
  bcast_S_S8192x1024 : S_.BroadcastsInDim S8192x1024 (![] : Fin 0 → Fin S8192x1024.rank)
  bcast_S_S8192x8192 : S_.BroadcastsInDim S8192x8192 (![] : Fin 0 → Fin S8192x8192.rank)
  bcast_S_S1x1024 : S_.BroadcastsInDim S1x1024 (![] : Fin 0 → Fin S1x1024.rank)
  bcast_S_S512x1024 : S_.BroadcastsInDim S512x1024 (![] : Fin 0 → Fin S512x1024.rank)
  bcast_S_S1024x1024 : S_.BroadcastsInDim S1024x1024 (![] : Fin 0 → Fin S1024x1024.rank)

variable [Facts]

def fn_part1 {F : FTy → Type} [FloatOps F] (main_arg6 : FVec F S1x1024 .f32) (main_arg7 : FVec F S512x1024 .bf16) (main_arg8 : FVec F S1024x1024 .bf16) (main_arg9 : FVec F S1024x1024 .bf16) (main_v2 : IVec S8192x512 1) (main_v6 : IVec S8192x1024 1) (main_v9 : IVec S8192x8192 1) (main_v12 : IVec S8192x1024 1) (main_v15 : IVec S8192x1024 1) (main_v16 : FVec F S1x1024 .f32) (main_v17 : FVec F S1x1024 .f32) : IVec S8192x512 1 × IVec S8192x1024 1 × IVec S8192x8192 1 × IVec S8192x1024 1 × IVec S8192x1024 1 × IVec S1x1024 1 × IVec S1x1024 1 × IVec S512x1024 1 × IVec S1024x1024 1 × IVec S1024x1024 1 :=
  let main_v18 : IVec S1x1024 1 := cmpf .olt main_v16 main_v17
  let main_v19 : FVec F S1x1024 .f32 := Host.absf main_arg6
  let main_cst_5 : FVec F S_ .f32 := constant S_ .f32 0x7F800000#32
  let main_v20 : FVec F S1x1024 .f32 := broadcastInDim S1x1024 ![] bcast_S_S1x1024 main_cst_5
  let main_v21 : IVec S1x1024 1 := cmpf .olt main_v19 main_v20
  let main_v22 : FVec F S512x1024 .f32 := (extf .f32 · bitsLt_bf16_f32) main_arg7
  let main_v23 : FVec F S512x1024 .f32 := Host.absf main_v22
  let main_cst_6 : FVec F S_ .f32 := constant S_ .f32 0x7F800000#32
  let main_v24 : FVec F S512x1024 .f32 := broadcastInDim S512x1024 ![] bcast_S_S512x1024 main_cst_6
  let main_v25 : IVec S512x1024 1 := cmpf .olt main_v23 main_v24
  let main_v26 : FVec F S1024x1024 .f32 := (extf .f32 · bitsLt_bf16_f32) main_arg8
  let main_v27 : FVec F S1024x1024 .f32 := Host.absf main_v26
  let main_cst_7 : FVec F S_ .f32 := constant S_ .f32 0x7F800000#32
  let main_v28 : FVec F S1024x1024 .f32 := broadcastInDim S1024x1024 ![] bcast_S_S1024x1024 main_cst_7
  let main_v29 : IVec S1024x1024 1 := cmpf .olt main_v27 main_v28
  let main_v30 : FVec F S1024x1024 .f32 := (extf .f32 · bitsLt_bf16_f32) main_arg9
  let main_v31 : FVec F S1024x1024 .f32 := Host.absf main_v30
  let main_cst_8 : FVec F S_ .f32 := constant S_ .f32 0x7F800000#32
  let main_v32 : FVec F S1024x1024 .f32 := broadcastInDim S1024x1024 ![] bcast_S_S1024x1024 main_cst_8
  let main_v33 : IVec S1024x1024 1 := cmpf .olt main_v31 main_v32
  (main_v2, main_v6, main_v9, main_v12, main_v15, main_v18, main_v21, main_v25, main_v29, main_v33)

def fn {F : FTy → Type} [FloatOps F] (main_arg0 : FVec F S8192x512 .f32) (main_arg1 : FVec F S8192x1024 .bf16) (main_arg2 : FVec F S8192x8192 .f32) (main_arg3 : FVec F S8192x1024 .f32) (main_arg4 : FVec F S8192x1024 .f32) (main_arg5 : FVec F S1x1024 .f32) (main_arg6 : FVec F S1x1024 .f32) (main_arg7 : FVec F S512x1024 .bf16) (main_arg8 : FVec F S1024x1024 .bf16) (main_arg9 : FVec F S1024x1024 .bf16) : IVec S8192x512 1 × IVec S8192x1024 1 × IVec S8192x8192 1 × IVec S8192x1024 1 × IVec S8192x1024 1 × IVec S1x1024 1 × IVec S1x1024 1 × IVec S512x1024 1 × IVec S1024x1024 1 × IVec S1024x1024 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_v3 : FVec F S8192x1024 .f32 := (extf .f32 · bitsLt_bf16_f32) main_arg1
  let main_v4 : FVec F S8192x1024 .f32 := Host.absf main_v3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_v7 : FVec F S8192x8192 .f32 := Host.absf main_arg2
  let main_cst_1 : FVec F S_ .f32 := constant S_ .f32 0x7F800000#32
  let main_v8 : FVec F S8192x8192 .f32 := broadcastInDim S8192x8192 ![] bcast_S_S8192x8192 main_cst_1
  let main_v9 : IVec S8192x8192 1 := cmpf .olt main_v7 main_v8
  let main_v10 : FVec F S8192x1024 .f32 := Host.absf main_arg3
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_v13 : FVec F S8192x1024 .f32 := Host.absf main_arg4
  let main_cst_3 : FVec F S_ .f32 := constant S_ .f32 0x7F800000#32
  let main_v14 : FVec F S8192x1024 .f32 := broadcastInDim S8192x1024 ![] bcast_S_S8192x1024 main_cst_3
  let main_v15 : IVec S8192x1024 1 := cmpf .olt main_v13 main_v14
  let main_v16 : FVec F S1x1024 .f32 := Host.absf main_arg5
  let main_cst_4 : FVec F S_ .f32 := constant S_ .f32 0x7F800000#32
  let main_v17 : FVec F S1x1024 .f32 := broadcastInDim S1x1024 ![] bcast_S_S1x1024 main_cst_4
  fn_part1 (F := F) main_arg6 main_arg7 main_arg8 main_arg9 main_v2 main_v6 main_v9 main_v12 main_v15 main_v16 main_v17
-- ==== Pre_finite_dh.lean ====
abbrev S8192x512 : Shape := ⟨2, ![8192, 512]⟩
abbrev S8192x4096 : Shape := ⟨2, ![8192, 4096]⟩
abbrev S8192x2048 : Shape := ⟨2, ![8192, 2048]⟩
abbrev S1024x8192 : Shape := ⟨2, ![1024, 8192]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  bcast_S_S8192x4096 : S_.BroadcastsInDim S8192x4096 (![] : Fin 0 → Fin S8192x4096.rank)
  bcast_S_S8192x2048 : S_.BroadcastsInDim S8192x2048 (![] : Fin 0 → Fin S8192x2048.rank)
  bcast_S_S1024x8192 : S_.BroadcastsInDim S1024x8192 (![] : Fin 0 → Fin S1024x8192.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn_part2 {F : FTy → Type} [FloatOps F] (main_v3 : IVec S8192x512 1) (main_v7 : IVec S8192x512 1) (main_v11 : IVec S8192x512 1) (main_v15 : IVec S8192x512 1) (main_v19 : IVec S8192x4096 1) (main_v23 : IVec S8192x2048 1) (main_v27 : IVec S1024x8192 1) (main_v30 : IVec S8192x1024 1) (main_v33 : IVec S8192x1024 1) (main_v36 : IVec S1x1024 1) (main_v37 : FVec F S1x1024 .f32) : IVec S8192x512 1 × IVec S8192x512 1 × IVec S8192x512 1 × IVec S8192x512 1 × IVec S8192x4096 1 × IVec S8192x2048 1 × IVec S1024x8192 1 × IVec S8192x1024 1 × IVec S8192x1024 1 × IVec S1x1024 1 × IVec S1x1024 1 :=
  let main_cst_9 : FVec F S_ .f32 := constant S_ .f32 0x7F800000#32
  let main_v38 : FVec F S1x1024 .f32 := broadcastInDim S1x1024 ![] bcast_S_S1x1024 main_cst_9
  let main_v39 : IVec S1x1024 1 := cmpf .olt main_v37 main_v38
  (main_v3, main_v7, main_v11, main_v15, main_v19, main_v23, main_v27, main_v30, main_v33, main_v36, main_v39)

def fn_part1 {F : FTy → Type} [FloatOps F] (main_arg5 : FVec F S8192x2048 .bf16) (main_arg6 : FVec F S1024x8192 .bf16) (main_arg7 : FVec F S8192x1024 .f32) (main_arg8 : FVec F S8192x1024 .f32) (main_arg9 : FVec F S1x1024 .f32) (main_arg10 : FVec F S1x1024 .f32) (main_v3 : IVec S8192x512 1) (main_v7 : IVec S8192x512 1) (main_v11 : IVec S8192x512 1) (main_v15 : IVec S8192x512 1) (main_v17 : FVec F S8192x4096 .f32) (main_v18 : FVec F S8192x4096 .f32) : IVec S8192x512 1 × IVec S8192x512 1 × IVec S8192x512 1 × IVec S8192x512 1 × IVec S8192x4096 1 × IVec S8192x2048 1 × IVec S1024x8192 1 × IVec S8192x1024 1 × IVec S8192x1024 1 × IVec S1x1024 1 × IVec S1x1024 1 :=
  let main_v19 : IVec S8192x4096 1 := cmpf .olt main_v17 main_v18
  let main_v20 : FVec F S8192x2048 .f32 := (extf .f32 · bitsLt_bf16_f32) main_arg5
  let main_v21 : FVec F S8192x2048 .f32 := Host.absf main_v20
  let main_cst_4 : FVec F S_ .f32 := constant S_ .f32 0x7F800000#32
  let main_v22 : FVec F S8192x2048 .f32 := broadcastInDim S8192x2048 ![] bcast_S_S8192x2048 main_cst_4
  let main_v23 : IVec S8192x2048 1 := cmpf .olt main_v21 main_v22
  let main_v24 : FVec F S1024x8192 .f32 := (extf .f32 · bitsLt_bf16_f32) main_arg6
  let main_v25 : FVec F S1024x8192 .f32 := Host.absf main_v24
  let main_cst_5 : FVec F S_ .f32 := constant S_ .f32 0x7F800000#32
  let main_v26 : FVec F S1024x8192 .f32 := broadcastInDim S1024x8192 ![] bcast_S_S1024x8192 main_cst_5
  let main_v27 : IVec S1024x8192 1 := cmpf .olt main_v25 main_v26
  let main_v28 : FVec F S8192x1024 .f32 := Host.absf main_arg7
  let main_cst_6 : FVec F S_ .f32 := constant S_ .f32 0x7F800000#32
  let main_v29 : FVec F S8192x1024 .f32 := broadcastInDim S8192x1024 ![] bcast_S_S8192x1024 main_cst_6
  let main_v30 : IVec S8192x1024 1 := cmpf .olt main_v28 main_v29
  let main_v31 : FVec F S8192x1024 .f32 := Host.absf main_arg8
  let main_cst_7 : FVec F S_ .f32 := constant S_ .f32 0x7F800000#32
  let main_v32 : FVec F S8192x1024 .f32 := broadcastInDim S8192x1024 ![] bcast_S_S8192x1024 main_cst_7
  let main_v33 : IVec S8192x1024 1 := cmpf .olt main_v31 main_v32
  let main_v34 : FVec F S1x1024 .f32 := Host.absf main_arg9
  let main_cst_8 : FVec F S_ .f32 := constant S_ .f32 0x7F800000#32
  let main_v35 : FVec F S1x1024 .f32 := broadcastInDim S1x1024 ![] bcast_S_S1x1024 main_cst_8
  let main_v36 : IVec S1x1024 1 := cmpf .olt main_v34 main_v35
  let main_v37 : FVec F S1x1024 .f32 := Host.absf main_arg10
  fn_part2 (F := F) main_v3 main_v7 main_v11 main_v15 main_v19 main_v23 main_v27 main_v30 main_v33 main_v36 main_v37

def fn {F : FTy → Type} [FloatOps F] (main_arg0 : FVec F S8192x512 .bf16) (main_arg1 : FVec F S8192x512 .bf16) (main_arg2 : FVec F S8192x512 .bf16) (main_arg3 : FVec F S8192x512 .bf16) (main_arg4 : FVec F S8192x4096 .bf16) (main_arg5 : FVec F S8192x2048 .bf16) (main_arg6 : FVec F S1024x8192 .bf16) (main_arg7 : FVec F S8192x1024 .f32) (main_arg8 : FVec F S8192x1024 .f32) (main_arg9 : FVec F S1x1024 .f32) (main_arg10 : FVec F S1x1024 .f32) : IVec S8192x512 1 × IVec S8192x512 1 × IVec S8192x512 1 × IVec S8192x512 1 × IVec S8192x4096 1 × IVec S8192x2048 1 × IVec S1024x8192 1 × IVec S8192x1024 1 × IVec S8192x1024 1 × IVec S1x1024 1 × IVec S1x1024 1 :=
  let main_v0 : FVec F S8192x512 .f32 := (extf .f32 · bitsLt_bf16_f32) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  let main_v8 : FVec F S8192x512 .f32 := (extf .f32 · bitsLt_bf16_f32) main_arg2
  let main_v9 : FVec F S8192x512 .f32 := Host.absf main_v8
  let main_cst_1 : FVec F S_ .f32 := constant S_ .f32 0x7F800000#32
  let main_v10 : FVec F S8192x512 .f32 := broadcastInDim S8192x512 ![] bcast_S_S8192x512 main_cst_1
  let main_v11 : IVec S8192x512 1 := cmpf .olt main_v9 main_v10
  let main_v12 : FVec F S8192x512 .f32 := (extf .f32 · bitsLt_bf16_f32) main_arg3
  let main_v13 : FVec F S8192x512 .f32 := Host.absf main_v12
  let main_cst_2 : FVec F S_ .f32 := constant S_ .f32 0x7F800000#32
  let main_v14 : FVec F S8192x512 .f32 := broadcastInDim S8192x512 ![] bcast_S_S8192x512 main_cst_2
  let main_v15 : IVec S8192x512 1 := cmpf .olt main_v13 main_v14
  let main_v16 : FVec F S8192x4096 .f32 := (extf .f32 · bitsLt_bf16_f32) main_arg4
  let main_v17 : FVec F S8192x4096 .f32 := Host.absf main_v16
  let main_cst_3 : FVec F S_ .f32 := constant S_ .f32 0x7F800000#32
  let main_v18 : FVec F S8192x4096 .f32 := broadcastInDim S8192x4096 ![] bcast_S_S8192x4096 main_cst_3
  fn_part1 (F := F) main_arg5 main_arg6 main_arg7 main_arg8 main_arg9 main_arg10 main_v3 main_v7 main_v11 main_v15 main_v17 main_v18
-- ==== Kernel.lean ====
abbrev S8192x512 : Shape := ⟨2, ![8192, 512]⟩
abbrev S8192x1024 : Shape := ⟨2, ![8192, 1024]⟩
abbrev S8192x8192 : Shape := ⟨2, ![8192, 8192]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S6x1024 : Shape := ⟨2, ![6, 1024]⟩
abbrev S8x1024 : Shape := ⟨2, ![8, 1024]⟩
abbrev S8x8 : Shape := ⟨2, ![8, 8]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S8192x2048 : Shape := ⟨2, ![8192, 2048]⟩
abbrev S8x128 : Shape := ⟨2, ![8, 128]⟩
abbrev S256x512 : Shape := ⟨2, ![256, 512]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 55
  | .vmem => 43
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S8192x8192, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S512x1024, .bf16⟩
  | .hbm, ⟨8, _⟩ => ⟨S1024x1024, .bf16⟩
  | .hbm, ⟨9, _⟩ => ⟨S1024x1024, .bf16⟩
  | .hbm, ⟨10, _⟩ => ⟨S8192x512, .f32⟩
  | .hbm, ⟨11, _⟩ => ⟨S_, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S_, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .bf16⟩
  | .hbm, ⟨24, _⟩ => ⟨S_, .f32⟩
  | .hbm, ⟨25, _⟩ => ⟨S6x1024, .f32⟩
  | .hbm, ⟨26, _⟩ => ⟨S8x1024, .f32⟩
  | .hbm, ⟨27, _⟩ => ⟨S8x8, .i32⟩
  | .hbm, ⟨28, _⟩ => ⟨S8x8, .i32⟩
  | .hbm, ⟨29, _⟩ => ⟨S_, .i32⟩
  | .hbm, ⟨30, _⟩ => ⟨S8x8, .i32⟩
  | .hbm, ⟨31, _⟩ => ⟨S8x8, .i32⟩
  | .hbm, ⟨32, _⟩ => ⟨S8x8, .i1⟩
  | .hbm, ⟨33, _⟩ => ⟨S8x8, .f32⟩
  | .hbm, ⟨34, _⟩ => ⟨S_, .f32⟩
  | .hbm, ⟨35, _⟩ => ⟨S64x64, .f32⟩
  | .hbm, ⟨36, _⟩ => ⟨S8x1x8x1, .f32⟩
  | .hbm, ⟨37, _⟩ => ⟨S1x64x1x64, .f32⟩
  | .hbm, ⟨38, _⟩ => ⟨S8x64x8x64, .f32⟩
  | .hbm, ⟨39, _⟩ => ⟨S8x64x8x64, .f32⟩
  | .hbm, ⟨40, _⟩ => ⟨S8x64x8x64, .f32⟩
  | .hbm, ⟨41, _⟩ => ⟨S512x512, .f32⟩
  | .hbm, ⟨42, _⟩ => ⟨S512x512, .bf16⟩
  | .hbm, ⟨43, _⟩ => ⟨S8192x1024, .bf16⟩
  | .hbm, ⟨44, _⟩ => ⟨S8192x1024, .f32⟩
  | .hbm, ⟨45, _⟩ => ⟨S8192x1024, .bf16⟩
  | .hbm, ⟨46, _⟩ => ⟨S8192x1024, .bf16⟩
  | .hbm, ⟨47, _⟩ => ⟨S8192x1024, .bf16⟩
  | .hbm, ⟨48, _⟩ => ⟨S8192x2048, .bf16⟩
  | .hbm, ⟨49, _⟩ => ⟨S8192x512, .f32⟩
  | .hbm, ⟨50, _⟩ => ⟨S8192x512, .f32⟩
  | .hbm, ⟨51, _⟩ => ⟨S8192x512, .bf16⟩
  | .hbm, ⟨52, _⟩ => ⟨S8192x1024, .f32⟩
  | .hbm, ⟨53, _⟩ => ⟨S8x1024, .f32⟩
  | .hbm, ⟨54, _⟩ => ⟨S8x128, .f32⟩
  | .local _ .vmem, ⟨0, _⟩ => ⟨S256x512, .bf16⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x512, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x2048, .bf16⟩
  | .local _ .vmem, ⟨32, _⟩ => ⟨S256x2048, .bf16⟩
  | .local _ .vmem, ⟨33, _⟩ => ⟨S256x512, .f32⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .bf16⟩
  | .local _ .vmem, ⟨38, _⟩ => ⟨S256x512, .bf16⟩
  | .local _ .vmem, ⟨39, _⟩ => ⟨S256x1024, .f32⟩
  | .local _ .vmem, ⟨40, _⟩ => ⟨S256x1024, .f32⟩
  | .local _ .vmem, ⟨41, _⟩ => ⟨S8x1024, .f32⟩
  | .local _ .vmem, ⟨42, _⟩ => ⟨S8x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v20 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev main_v22_2 : Ref sig .tc := ⟨.hbm, 45, rfl⟩
abbrev main_v22_3 : Ref sig .tc := ⟨.hbm, 46, rfl⟩
abbrev main_v22_4 : Ref sig .tc := ⟨.hbm, 47, rfl⟩
abbrev main_v22_5 : Ref sig .tc := ⟨.hbm, 48, rfl⟩
abbrev main_v22_6 : Ref sig .tc := ⟨.hbm, 49, rfl⟩
abbrev main_v22_7 : Ref sig .tc := ⟨.hbm, 50, rfl⟩
abbrev main_v22_8 : Ref sig .tc := ⟨.hbm, 51, rfl⟩
abbrev main_v22_9 : Ref sig .tc := ⟨.hbm, 52, rfl⟩
abbrev main_v22_10 : Ref sig .tc := ⟨.hbm, 53, rfl⟩
abbrev main_v22_11 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg24_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem24_0 : DmaSem sig := 42

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S8x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceIdeal.lean ====
abbrev S8192x512 : Shape := ⟨2, ![8192, 512]⟩
abbrev S8192x1024 : Shape := ⟨2, ![8192, 1024]⟩
abbrev S8192x8192 : Shape := ⟨2, ![8192, 8192]⟩
abbrev S1x1024 : Shape := ⟨2, ![1, 1024]⟩
abbrev S512x1024 : Shape := ⟨2, ![512, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x8x64 : Shape := ⟨3, ![8192, 8, 64]⟩
abbrev S8192x8 : Shape := ⟨2, ![8192, 8]⟩
abbrev S8192x8x1 : Shape := ⟨3, ![8192, 8, 1]⟩
abbrev S6x1024 : Shape := ⟨2, ![6, 1024]⟩
abbrev S8x1024 : Shape := ⟨2, ![8, 1024]⟩
abbrev S8x128 : Shape := ⟨2, ![8, 128]⟩
abbrev S8192x2048 : Shape := ⟨2, ![8192, 2048]⟩

abbrev nBuf : Space → Nat
  | .hbm => 170
  | .vmem => 0
  | .smem => 0
  | _ => 0

abbrev hbmTy0_0 (i : Nat) : BufTy := match i % 128 with
  | 0 => ⟨S8192x512, .f32⟩
  | 1 => ⟨S8192x1024, .bf16⟩
  | 2 => ⟨S8192x8192, .f32⟩
  | 3 => ⟨S8192x1024, .f32⟩
  | 4 => ⟨S8192x1024, .f32⟩
  | 5 => ⟨S1x1024, .f32⟩
  | 6 => ⟨S1x1024, .f32⟩
  | 7 => ⟨S512x1024, .bf16⟩
  | 8 => ⟨S1024x1024, .bf16⟩
  | 9 => ⟨S1024x1024, .bf16⟩
  | 10 => ⟨S8192x512, .f32⟩
  | 11 => ⟨S8192x1024, .f32⟩
  | 12 => ⟨S8192x1024, .f32⟩
  | 13 => ⟨S8192x1024, .f32⟩
  | 14 => ⟨S512x1024, .f32⟩
  | 15 => ⟨S1024x1024, .f32⟩
  | 16 => ⟨S1024x1024, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S8192x512, .f32⟩
  | 30 => ⟨S8192x512, .f32⟩
  | 31 => ⟨S8192x1024, .f32⟩
  | 32 => ⟨S8192x1024, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S_, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S8192x1024, .f32⟩
  | 64 => ⟨S8192x1024, .f32⟩
  | 65 => ⟨S_, .f32⟩
  | 66 => ⟨S8192, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1, .f32⟩
  | 75 => ⟨S8192x1, .f32⟩
  | 76 => ⟨S_, .f32⟩
  | 77 => ⟨S8192x1, .f32⟩
  | 78 => ⟨S8192x1, .f32⟩
  | 79 => ⟨S8192x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192, .f32⟩
  | 90 => ⟨S_, .f32⟩
  | 91 => ⟨S8192, .f32⟩
  | 92 => ⟨S8192, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S8192, .f32⟩
  | 101 => ⟨S_, .f32⟩
  | 102 => ⟨S8192, .f32⟩
  | 103 => ⟨S8192, .f32⟩
  | 104 => ⟨S8192x1024, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S8192x1024, .f32⟩
  | 111 => ⟨S8192x1024, .f32⟩
  | 112 => ⟨S8192x1024, .f32⟩
  | 113 => ⟨S_, .f32⟩
  | 114 => ⟨S8192, .f32⟩
  | 115 => ⟨S8192x1, .f32⟩
  | 116 => ⟨S8192x1024, .f32⟩
  | 117 => ⟨S8192x1024, .f32⟩
  | 118 => ⟨S8192x1, .f32⟩
  | 119 => ⟨S_, .f32⟩
  | 120 => ⟨S8192x1, .f32⟩
  | 121 => ⟨S8192x1, .f32⟩
  | 122 => ⟨S_, .f32⟩
  | 123 => ⟨S8192, .f32⟩
  | 124 => ⟨S8192x1024, .f32⟩
  | 125 => ⟨S8192x1024, .f32⟩
  | 126 => ⟨S8192x1024, .f32⟩
  | 127 => ⟨S8192x1024, .f32⟩
  | _ => ⟨S8192x512, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S_, .f32⟩
  | 5 => ⟨S1024, .f32⟩
  | 6 => ⟨S1x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S8192x512, .f32⟩
  | 15 => ⟨S8192x512, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x1024, .f32⟩
  | 22 => ⟨S8192x512, .f32⟩
  | 23 => ⟨S8192x8x64, .f32⟩
  | 24 => ⟨S_, .f32⟩
  | 25 => ⟨S8192x8, .f32⟩
  | 26 => ⟨S8192x8x1, .f32⟩
  | 27 => ⟨S8192x8x64, .f32⟩
  | 28 => ⟨S8192x512, .f32⟩
  | 29 => ⟨S_, .f32⟩
  | 30 => ⟨S6x1024, .f32⟩
  | 31 => ⟨S8x1024, .f32⟩
  | 32 => ⟨S_, .f32⟩
  | 33 => ⟨S_, .f32⟩
  | 34 => ⟨S8x128, .f32⟩
  | 35 => ⟨S8192x1024, .bf16⟩
  | 36 => ⟨S8192x1024, .bf16⟩
  | 37 => ⟨S8192x1024, .bf16⟩
  | 38 => ⟨S8192x1024, .bf16⟩
  | 39 => ⟨S8192x2048, .f32⟩
  | 40 => ⟨S8192x2048, .bf16⟩
  | 41 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v7_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v7_1 : Ref sig .tc := ⟨.hbm, 28, rfl⟩
abbrev main_v7_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_cst_0 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_2 : Ref sig .tc := ⟨.hbm, 48, rfl⟩
abbrev main_v23 : Ref sig .tc := ⟨.hbm, 49, rfl⟩
abbrev main_v24 : Ref sig .tc := ⟨.hbm, 50, rfl⟩
abbrev main_cst_3 : Ref sig .tc := ⟨.hbm, 51, rfl⟩
abbrev main_v25 : Ref sig .tc := ⟨.hbm, 52, rfl⟩
abbrev main_v26 : Ref sig .tc := ⟨.hbm, 53, rfl⟩
abbrev main_cst_4 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_cst_10 : Ref sig .tc := ⟨.hbm, 88, rfl⟩
abbrev main_v55 : Ref sig .tc := ⟨.hbm, 89, rfl⟩
abbrev main_cst_11 : Ref sig .tc := ⟨.hbm, 90, rfl⟩
abbrev main_v56 : Ref sig .tc := ⟨.hbm, 91, rfl⟩
abbrev main_v57 : Ref sig .tc := ⟨.hbm, 92, rfl⟩
abbrev main_cst_12 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_cst_14 : Ref sig .tc := ⟨.hbm, 97, rfl⟩
abbrev main_cst_15 : Ref sig .tc := ⟨.hbm, 98, rfl⟩
abbrev main_v60 : Ref sig .tc := ⟨.hbm, 99, rfl⟩
abbrev main_v61 : Ref sig .tc := ⟨.hbm, 100, rfl⟩
abbrev main_cst_16 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_17 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_18 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_19 : Ref sig .tc := ⟨.hbm, 119, rfl⟩
abbrev main_v77 : Ref sig .tc := ⟨.hbm, 120, rfl⟩
abbrev main_v78 : Ref sig .tc := ⟨.hbm, 121, rfl⟩
abbrev main_cst_20 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_21 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_call1_v0 : Ref sig .tc := ⟨.hbm, 145, rfl⟩
abbrev main_call1_v1 : Ref sig .tc := ⟨.hbm, 146, rfl⟩
abbrev main_call1_v2 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_22 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_23 : Ref sig .tc := ⟨.hbm, 157, rfl⟩
abbrev main_v108 : Ref sig .tc := ⟨.hbm, 158, rfl⟩
abbrev main_v109 : Ref sig .tc := ⟨.hbm, 159, rfl⟩
abbrev main_cst_24 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩

abbrev nD : Nat := 1
abbrev τ : Topo := Topo.v7x

variable {F : FTy → Type} [FloatOps F]
-- ==== Kernel2.lean ====
abbrev S8192x512 : Shape := ⟨2, ![8192, 512]⟩
abbrev S8192x4096 : Shape := ⟨2, ![8192, 4096]⟩
abbrev S8192x2048 : Shape := ⟨2, ![8192, 2048]⟩
abbrev S1024x8192 : Shape := ⟨2, ![1024, 8192]⟩
abbrev S8192x1024 : Shape := ⟨2, ![8192, 1024]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S512x512 : Shape := ⟨2, ![512, 512]⟩
abbrev S512x4096 : Shape := ⟨2, ![512, 4096]⟩
abbrev S512x2048 : Shape := ⟨2, ![512, 2048]⟩
abbrev S512x1024 : Shape := ⟨2, ![512, 1024]⟩
abbrev S1024x512 : Shape := ⟨2, ![1024, 512]⟩
abbrev S1024x4096 : Shape := ⟨2, ![1024, 4096]⟩
abbrev S1024x2048 : Shape := ⟨2, ![1024, 2048]⟩
abbrev S512 : Shape := ⟨1, ![512]⟩
abbrev S512x1 : Shape := ⟨2, ![512, 1]⟩
abbrev S1024 : Shape := ⟨1, ![1024]⟩

abbrev nBuf : Space → Nat
  | .hbm => 23
  | .vmem => 21
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x4096, .bf16⟩
  | .hbm, ⟨5, _⟩ => ⟨S8192x2048, .bf16⟩
  | .hbm, ⟨6, _⟩ => ⟨S1024x8192, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S5x1024, .f32⟩
  | .hbm, ⟨20, _⟩ => ⟨S8x1024, .f32⟩
  | .hbm, ⟨21, _⟩ => ⟨S8192x1024, .f32⟩
  | .hbm, ⟨22, _⟩ => ⟨S8x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x4096, .bf16⟩
  | .local _ .vmem, ⟨9, _⟩ => ⟨S512x4096, .bf16⟩
  | .local _ .vmem, ⟨10, _⟩ => ⟨S512x2048, .bf16⟩
  | .local _ .vmem, ⟨11, _⟩ => ⟨S512x2048, .bf16⟩
  | .local _ .vmem, ⟨12, _⟩ => ⟨S1024x8192, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S8x1024, .f32⟩
  | .local _ .vmem, ⟨18, _⟩ => ⟨S512x1024, .f32⟩
  | .local _ .vmem, ⟨19, _⟩ => ⟨S512x1024, .f32⟩
  | .local _ .vmem, ⟨20, _⟩ => ⟨S8x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S8192x512 : Shape := ⟨2, ![8192, 512]⟩
abbrev S8192x4096 : Shape := ⟨2, ![8192, 4096]⟩
abbrev S8192x2048 : Shape := ⟨2, ![8192, 2048]⟩
abbrev S1024x8192 : Shape := ⟨2, ![1024, 8192]⟩
abbrev S8192x1024 : Shape := ⟨2, ![8192, 1024]⟩
abbrev S1x1024 : Shape := ⟨2, ![1, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x4096, .bf16⟩
  | .hbm, ⟨5, _⟩ => ⟨S8192x2048, .bf16⟩
  | .hbm, ⟨6, _⟩ => ⟨S1024x8192, .bf16⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1024x8192, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x4096, .f32⟩
  | .hbm, ⟨17, _⟩ => ⟨S8192x2048, .f32⟩
  | .hbm, ⟨18, _⟩ => ⟨S8192x8192, .f32⟩
  | .hbm, ⟨19, _⟩ => ⟨S_, .f32⟩
  | .hbm, ⟨20, _⟩ => ⟨S1x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x8192, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S5x1024, .f32⟩
  | .hbm, ⟨84, _⟩ => ⟨S8x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S8192x512 : Shape := ⟨2, ![8192, 512]⟩
abbrev S8192x4096 : Shape := ⟨2, ![8192, 4096]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S4x1024x2048 : Shape := ⟨3, ![4, 1024, 2048]⟩
abbrev S1024x512 : Shape := ⟨2, ![1024, 512]⟩
abbrev S512x512 : Shape := ⟨2, ![512, 512]⟩
abbrev S512x2048 : Shape := ⟨2, ![512, 2048]⟩
abbrev S1x1024x2048 : Shape := ⟨3, ![1, 1024, 2048]⟩
abbrev S1x1024x512 : Shape := ⟨3, ![1, 1024, 512]⟩
abbrev S1024x2048 : Shape := ⟨2, ![1024, 2048]⟩

abbrev nBuf : Space → Nat
  | .hbm => 36
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x4096, .bf16⟩
  | .hbm, ⟨9, _⟩ => ⟨S8192x2048, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S1024x8192, .bf16⟩
  | .hbm, ⟨34, _⟩ => ⟨S4x1024x2048, .f32⟩
  | .hbm, ⟨35, _⟩ => ⟨S4x1024x2048, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S1x1024x2048, .f32⟩
  | .local _ .vmem, ⟨15, _⟩ => ⟨S1x1024x2048, .f32⟩
  | .local _ .vmem, ⟨16, _⟩ => ⟨S1x1024x2048, .bf16⟩
  | .local _ .vmem, ⟨17, _⟩ => ⟨S1x1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c1_i32 : BitVec 32 := 1#32
  let v8 : BitVec 1 := Scalar.cmpi .eq arg0 c1_i32
  let c2_i32 : BitVec 32 := 2#32
  let v9 : BitVec 1 := Scalar.cmpi .eq arg0 c2_i32
  let v10 : BitVec 1 := Scalar.ori v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg0 : BitVec 32 := BitVec.ofNat 32 (i 0).val
  let c3_i32 : BitVec 32 := 3#32
  let v13 : BitVec 1 := Scalar.cmpi .eq arg0 c3_i32
  let v14 : BitVec 32 := Scalar.extui v13
  let c0_i32_5 : BitVec 32 := 0#32
  let v15 : BitVec 1 := Scalar.cmpi .ne v14 c0_i32_5
  v15

def k0_cond5 (i : grid0.Coords) : BitVec 1 :=
  let arg1 : BitVec 32 := BitVec.ofNat 32 (i 1).val
  let c15_i32 : BitVec 32 := 15#32
  let v16 : BitVec 1 := Scalar.cmpi .eq arg1 c15_i32
  let v17 : BitVec 32 := Scalar.extui v16
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c2_i32 : BitVec 32 := 2#32
  let v1 : BitVec 1 := Scalar.cmpi .eq arg0 c2_i32
  let v2 : BitVec 1 := Scalar.ori v0 v1
  let c0_i32 : BitVec 32 := 0#32
  let v3 : BitVec 32 := Scalar.select v2 arg1 c0_i32
  let c2_i32_0 : BitVec 32 := 2#32
  let v4 : BitVec 1 := Scalar.cmpi .eq arg0 c2_i32_0
  let c1_i32_1 : BitVec 32 := 1#32
  let c0_i32_2 : BitVec 32 := 0#32
  let v5 : BitVec 32 := Scalar.select v4 c1_i32_1 c0_i32_2
  let c0_i32_3 : BitVec 32 := 0#32
  ![v3.toNat, v5.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S8192x1024 : Shape := ⟨2, ![8192, 1024]⟩
abbrev S1x1024 : Shape := ⟨2, ![1, 1024]⟩
abbrev S8192x512 : Shape := ⟨2, ![8192, 512]⟩
abbrev S8192x4096 : Shape := ⟨2, ![8192, 4096]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1024x8192 : Shape := ⟨2, ![1024, 8192]⟩
abbrev S1024x4x2048 : Shape := ⟨3, ![1024, 4, 2048]⟩
abbrev S4x1024x2048 : Shape := ⟨3, ![4, 1024, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x4096, .bf16⟩
  | .hbm, ⟨9, _⟩ => ⟨S8192x2048, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x4096, .f32⟩
  | .hbm, ⟨37, _⟩ => ⟨S8192x2048, .f32⟩
  | .hbm, ⟨38, _⟩ => ⟨S8192x8192, .f32⟩
  | .hbm, ⟨39, _⟩ => ⟨S_, .f32⟩
  | .hbm, ⟨40, _⟩ => ⟨S1024x8192, .f32⟩
  | .hbm, ⟨41, _⟩ => ⟨S8192x8192, .f32⟩
  | .hbm, ⟨42, _⟩ => ⟨S8192x1024, .f32⟩
  | .hbm, ⟨43, _⟩ => ⟨S1024x8192, .f32⟩
  | .hbm, ⟨44, _⟩ => ⟨S1024x4x2048, .f32⟩
  | .hbm, ⟨45, _⟩ => ⟨S4x1024x2048, .f32⟩
  | .hbm, ⟨46, _⟩ => ⟨S4x1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S1024x1024, .f32⟩
  | .hbm, ⟨7, _⟩ => ⟨S1024x1024, .bf16⟩
  | .hbm, ⟨8, _⟩ => ⟨S512x1024, .f32⟩
  | .hbm, ⟨9, _⟩ => ⟨S512x1024, .bf16⟩
  | .hbm, ⟨10, _⟩ => ⟨S1024x1024, .f32⟩
  | .hbm, ⟨11, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .bf16⟩
  | .local _ .vmem, ⟨16, _⟩ => ⟨S1024x1024, .f32⟩
  | .local _ .vmem, ⟨17, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v24 : BitVec 1 := Scalar.cmpi .eq arg0 c15_i32
  let v25 : BitVec 32 := Scalar.extui v24
  let c0_i32_26 : BitVec 32 := 0#32
  let v26 : BitVec 1 := Scalar.cmpi .ne v25 c0_i32_26
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S8192x1024 : Shape := ⟨2, ![8192, 1024]⟩
abbrev S8192x512 : Shape := ⟨2, ![8192, 512]⟩
abbrev S_ : Shape := ⟨0, ![]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1024x1024, .f32⟩
  | .hbm, ⟨10, _⟩ => ⟨S8192x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S8192x512, .f32⟩
  | .hbm, ⟨15, _⟩ => ⟨S8192x1024, .f32⟩
  | .hbm, ⟨16, _⟩ => ⟨S_, .f32⟩
  | .hbm, ⟨17, _⟩ => ⟨S512x1024, .f32⟩
  | .hbm, ⟨18, _⟩ => ⟨S8192x1024, .f32⟩
  | .hbm, ⟨19, _⟩ => ⟨S1024x512, .f32⟩
  | .hbm, ⟨20, _⟩ => ⟨S512x1024, .f32⟩
  | .hbm, ⟨21, _⟩ => ⟨S512x1024, .bf16⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024x1024, .f32⟩
  | .hbm, ⟨26, _⟩ => ⟨S8192x1024, .f32⟩
  | .hbm, ⟨27, _⟩ => ⟨S1024x1024, .f32⟩
  | .hbm, ⟨28, _⟩ => ⟨S1024x1024, .f32⟩
  | .hbm, ⟨29, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S1024x2048 : Shape := ⟨2, ![1024, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S1024x2048 : Shape := ⟨2, ![1024, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S_, .f32⟩
  | .hbm, ⟨5, _⟩ => ⟨S1024x2048, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S_, .f32⟩
  | .hbm, ⟨12, _⟩ => ⟨S1024x2048, .f32⟩
  | .hbm, ⟨13, _⟩ => ⟨S1024x2048, .f32⟩
  | .hbm, ⟨14, _⟩ => ⟨S1024x2048, .f32⟩
  | .hbm, ⟨15, _⟩ => ⟨S_, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S_, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S1024x2048, .f32⟩
  | .hbm, ⟨26, _⟩ => ⟨S_, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S_, .f32⟩
  | .hbm, ⟨35, _⟩ => ⟨S1024x2048, .f32⟩
  | .hbm, ⟨36, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S512x256 : Shape := ⟨2, ![512, 256]⟩
abbrev S256x1024 : Shape := ⟨2, ![256, 1024]⟩

abbrev nBuf : Space → Nat
  | .hbm => 24
  | .vmem => 24
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== Reference6Ideal.lean ====
abbrev S512x256 : Shape := ⟨2, ![512, 256]⟩
abbrev S256x1024 : Shape := ⟨2, ![256, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | .hbm, ⟨37, _⟩ => ⟨S512x256, .f32⟩
  | .hbm, ⟨38, _⟩ => ⟨S_, .f32⟩
  | .hbm, ⟨39, _⟩ => ⟨S512x256, .f32⟩
  | .hbm, ⟨40, _⟩ => ⟨S512x256, .f32⟩
  | .hbm, ⟨41, _⟩ => ⟨S512x256, .f32⟩
  | .hbm, ⟨42, _⟩ => ⟨S_, .f32⟩
  | .hbm, ⟨43, _⟩ => ⟨S512x256, .f32⟩
  | .hbm, ⟨44, _⟩ => ⟨S512x256, .f32⟩
  | .hbm, ⟨45, _⟩ => ⟨S_, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S_, .f32⟩
  | .hbm, ⟨53, _⟩ => ⟨S256x1024, .f32⟩
  | .hbm, ⟨54, _⟩ => ⟨S256x1024, .f32⟩
  | .hbm, ⟨55, _⟩ => ⟨S256x1024, .f32⟩
  | .hbm, ⟨56, _⟩ => ⟨S_, .f32⟩
  | .hbm, ⟨57, _⟩ => ⟨S256x1024, .f32⟩
  | .hbm, ⟨58, _⟩ => ⟨S256x1024, .f32⟩
  | .hbm, ⟨59, _⟩ => ⟨S256x1024, .f32⟩
  | .hbm, ⟨60, _⟩ => ⟨S_, .f32⟩
  | .hbm, ⟨61, _⟩ => ⟨S256x1024, .f32⟩
  | .hbm, ⟨62, _⟩ => ⟨S256x1024, .f32⟩
  | .hbm, ⟨63, _⟩ => ⟨S_, .f32⟩
  | .hbm, ⟨64, _⟩ => ⟨S256x1024, .f32⟩
  | .hbm, ⟨65, _⟩ => ⟨S256x1024, .f32⟩
  | .hbm, ⟨66, _⟩ => ⟨S256x1024, .f32⟩
  | .hbm, ⟨67, _⟩ => ⟨S_, .f32⟩
  | .hbm, ⟨68, _⟩ => ⟨S256x1024, .f32⟩
  | .hbm, ⟨69, _⟩ => ⟨S256x1024, .f32⟩
  | .hbm, ⟨70, _⟩ => ⟨S256x1024, .f32⟩
  | .hbm, ⟨71, _⟩ => ⟨S_, .f32⟩
  | .hbm, ⟨72, _⟩ => ⟨S256x1024, .f32⟩
  | .hbm, ⟨73, _⟩ => ⟨S256x1024, .f32⟩
  | .hbm, ⟨74, _⟩ => ⟨S256x1024, .f32⟩
  | .hbm, ⟨75, _⟩ => ⟨S_, .f32⟩
  | .hbm, ⟨76, _⟩ => ⟨S256x1024, .f32⟩
  | .hbm, ⟨77, _⟩ => ⟨S256x1024, .f32⟩
  | .hbm, ⟨78, _⟩ => ⟨S_, .f32⟩
  | .hbm, ⟨79, _⟩ => ⟨S256x1024, .f32⟩
  | .hbm, ⟨80, _⟩ => ⟨S256x1024, .f32⟩
  | .hbm, ⟨81, _⟩ => ⟨S_, .f32⟩
  | .hbm, ⟨82, _⟩ => ⟨S256x1024, .f32⟩
  | .hbm, ⟨83, _⟩ => ⟨S256x1024, .f32⟩
  | .hbm, ⟨84, _⟩ => ⟨S256x1024, .f32⟩
  | .hbm, ⟨85, _⟩ => ⟨S_, .f32⟩
  | .hbm, ⟨86, _⟩ => ⟨S256x1024, .f32⟩
  | .hbm, ⟨87, _⟩ => ⟨S256x1024, .f32⟩
  | .hbm, ⟨88, _⟩ => ⟨S256x1024, .f32⟩
  | .hbm, ⟨89, _⟩ => ⟨S_, .f32⟩
  | .hbm, ⟨90, _⟩ => ⟨S256x1024, .f32⟩
  | .hbm, ⟨91, _⟩ => ⟨S256x1024, .f32⟩
  | .hbm, ⟨92, _⟩ => ⟨S256x1024, .f32⟩
  | .hbm, ⟨93, _⟩ => ⟨S_, .f32⟩
  | .hbm, ⟨94, _⟩ => ⟨S256x1024, .f32⟩
  | .hbm, ⟨95, _⟩ => ⟨S256x1024, .f32⟩
  | .hbm, ⟨96, _⟩ => ⟨S_, .f32⟩
  | .hbm, ⟨97, _⟩ => ⟨S256x1024, .f32⟩
  | .hbm, ⟨98, _⟩ => ⟨S256x1024, .f32⟩
  | .hbm, ⟨99, _⟩ => ⟨S256x1024, .f32⟩
  | .hbm, ⟨100, _⟩ => ⟨S_, .f32⟩
  | .hbm, ⟨101, _⟩ => ⟨S256x1024, .f32⟩
  | .hbm, ⟨102, _⟩ => ⟨S256x1024, .f32⟩
  | .hbm, ⟨103, _⟩ => ⟨S256x1024, .f32⟩
  | .hbm, ⟨104, _⟩ => ⟨S_, .f32⟩
  | .hbm, ⟨105, _⟩ => ⟨S256x1024, .f32⟩
  | .hbm, ⟨106, _⟩ => ⟨S256x1024, .f32⟩
  | .hbm, ⟨107, _⟩ => ⟨S256x1024, .f32⟩
  | .hbm, ⟨108, _⟩ => ⟨S_, .f32⟩
  | .hbm, ⟨109, _⟩ => ⟨S256x1024, .f32⟩
  | .hbm, ⟨110, _⟩ => ⟨S256x1024, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== Kernel7.lean ====
abbrev S1024x8 : Shape := ⟨2, ![1024, 8]⟩
abbrev S8x768 : Shape := ⟨2, ![8, 768]⟩
abbrev S1024x768 : Shape := ⟨2, ![1024, 768]⟩
abbrev S256x8 : Shape := ⟨2, ![256, 8]⟩
abbrev S256x768 : Shape := ⟨2, ![256, 768]⟩
abbrev S256x1 : Shape := ⟨2, ![256, 1]⟩
abbrev S1x768 : Shape := ⟨2, ![1, 768]⟩

abbrev nBuf : Space → Nat
  | .hbm => 9
  | .vmem => 17
  | .smem => 0
  | _ => 0

abbrev bufTy : (tb : Table) → Fin (tcTables nBuf tb) → BufTy
  | .hbm, ⟨0, _⟩ => ⟨S1024x8, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .local _ .vmem, ⟨0, _⟩ => ⟨S256x8, .f32⟩
  | .local _ .vmem, ⟨1, _⟩ => ⟨S256x8, .f32⟩
  | .local _ .vmem, ⟨2, _⟩ => ⟨S8x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S1024x8 : Shape := ⟨2, ![1024, 8]⟩
abbrev S8x768 : Shape := ⟨2, ![8, 768]⟩
abbrev S1024x768 : Shape := ⟨2, ![1024, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S8x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S_, .f32⟩
  | .hbm, ⟨7, _⟩ => ⟨S1024x768, .f32⟩
  | .hbm, ⟨8, _⟩ => ⟨S1024x768, .f32⟩
  | .hbm, ⟨9, _⟩ => ⟨S_, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S_, .f32⟩
  | .hbm, ⟨25, _⟩ => ⟨S1024x768, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S6x1024 : Shape := ⟨2, ![6, 1024]⟩
abbrev S8x1024 : Shape := ⟨2, ![8, 1024]⟩
abbrev S2 : Shape := ⟨1, ![2]⟩
abbrev S8192x8192 : Shape := ⟨2, ![8192, 8192]⟩
abbrev S1024x8192 : Shape := ⟨2, ![1024, 8192]⟩
abbrev S512x1024 : Shape := ⟨2, ![512, 1024]⟩
abbrev S512x2048 : Shape := ⟨2, ![512, 2048]⟩
abbrev S1 : Shape := ⟨1, ![1]⟩
abbrev S1024x512 : Shape := ⟨2, ![1024, 512]⟩
abbrev S512 : Shape := ⟨1, ![512]⟩
abbrev S512x1 : Shape := ⟨2, ![512, 1]⟩
abbrev S8192x2048 : Shape := ⟨2, ![8192, 2048]⟩

abbrev nBuf : Space → Nat
  | .hbm => 17
  | .vmem => 10
  | .smem => 1
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .bf16⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S6x1024, .f32⟩
  | .hbm, ⟨11, _⟩ => ⟨S8x1024, .f32⟩
  | .hbm, ⟨12, _⟩ => ⟨S_, .i32⟩
  | .hbm, ⟨13, _⟩ => ⟨S8192x8192, .f32⟩
  | .hbm, ⟨14, _⟩ => ⟨S8192x1024, .bf16⟩
  | .hbm, ⟨15, _⟩ => ⟨S1024x8192, .bf16⟩
  | .hbm, ⟨16, _⟩ => ⟨S8192x2048, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .smem, ⟨0, _⟩ => ⟨S2, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v5.idx], fun | 0 => main_v5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c0_i32 : BitVec 32 := 0#32
  ![arg0.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S1024x8192 : Shape := ⟨2, ![1024, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x2048, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1024x2048, .f32⟩
  | .hbm, ⟨28, _⟩ => ⟨S8192x2048, .f32⟩
  | .hbm, ⟨29, _⟩ => ⟨S8192x1024, .bf16⟩
  | .hbm, ⟨30, _⟩ => ⟨S1024x8192, .f32⟩
  | .hbm, ⟨31, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel9.lean ====
abbrev S8192x1024 : Shape := ⟨2, ![8192, 1024]⟩
abbrev S1024x8192 : Shape := ⟨2, ![1024, 8192]⟩
abbrev S8192x8192 : Shape := ⟨2, ![8192, 8192]⟩
abbrev S_ : Shape := ⟨0, ![]⟩
abbrev S2 : Shape := ⟨1, ![2]⟩
abbrev S512x1024 : Shape := ⟨2, ![512, 1024]⟩
abbrev S1024x2048 : Shape := ⟨2, ![1024, 2048]⟩
abbrev S1 : Shape := ⟨1, ![1]⟩
abbrev S512x2048 : Shape := ⟨2, ![512, 2048]⟩

abbrev nBuf : Space → Nat
  | .hbm => 5
  | .vmem => 6
  | .smem => 1
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x8192, .f32⟩
  | .hbm, ⟨3, _⟩ => ⟨S_, .i32⟩
  | .hbm, ⟨4, _⟩ => ⟨S8192x8192, .f32⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | .local _ .smem, ⟨0, _⟩ => ⟨S2, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  let c0_i32_5 : BitVec 32 := 0#32
  ![c0_i32_4.toNat, v12.toNat]

def cc0_transform_3 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c1_i32 : BitVec 32 := 1#32
  let v1 : BitVec 32 := Scalar.addi v0 c1_i32
  let v2 : BitVec 32 := Scalar.addi v1 arg0
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_1 : BitVec 32 := 0#32
  let v6 : BitVec 1 := Scalar.cmpi .ne v5 c0_i32_1
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let v10 : BitVec 1 := Scalar.andi v9 v6
  let v11 : BitVec 32 := Scalar.addi v5 v4
  let v12 : BitVec 32 := Scalar.select v10 v11 v5
  let c0_i32_4 : BitVec 32 := 0#32
  ![arg1.toNat, v12.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S8192x1024 : Shape := ⟨2, ![8192, 1024]⟩
abbrev S1024x8192 : Shape := ⟨2, ![1024, 8192]⟩
abbrev S8192x8192 : Shape := ⟨2, ![8192, 8192]⟩
abbrev S1024x6144 : Shape := ⟨2, ![1024, 6144]⟩
abbrev S8192x6144 : Shape := ⟨2, ![8192, 6144]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x8192, .f32⟩
  | .hbm, ⟨3, _⟩ => ⟨S8192x1024, .f32⟩
  | .hbm, ⟨4, _⟩ => ⟨S1024x6144, .bf16⟩
  | .hbm, ⟨5, _⟩ => ⟨S1024x6144, .f32⟩
  | .hbm, ⟨6, _⟩ => ⟨S8192x6144, .f32⟩
  | .hbm, ⟨7, _⟩ => ⟨S8192x2048, .f32⟩
  | .hbm, ⟨8, _⟩ => ⟨S8192x8192, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S1x3072 : Shape := ⟨2, ![1, 3072]⟩
abbrev S1x1024 : Shape := ⟨2, ![1, 1024]⟩
abbrev S1x128 : Shape := ⟨2, ![1, 128]⟩
abbrev S32x8 : Shape := ⟨2, ![32, 8]⟩
abbrev S2x1024 : Shape := ⟨2, ![2, 1024]⟩
abbrev S1024 : Shape := ⟨1, ![1024]⟩
abbrev S3072 : Shape := ⟨1, ![3072]⟩
abbrev S_ : Shape := ⟨0, ![]⟩
abbrev S3x1024 : Shape := ⟨2, ![3, 1024]⟩
abbrev S128 : Shape := ⟨1, ![128]⟩
abbrev S256 : Shape := ⟨1, ![256]⟩
abbrev S2048 : Shape := ⟨1, ![2048]⟩
abbrev S9x1024 : Shape := ⟨2, ![9, 1024]⟩
abbrev S16x1024 : Shape := ⟨2, ![16, 1024]⟩

abbrev nBuf : Space → Nat
  | .hbm => 217
  | .vmem => 8
  | .smem => 0
  | _ => 0

abbrev hbmTy0_0 (i : Nat) : BufTy := match i % 128 with
  | 0 => ⟨S1x3072, .f32⟩
  | 1 => ⟨S1x3072, .f32⟩
  | 2 => ⟨S1x3072, .f32⟩
  | 3 => ⟨S1x3072, .f32⟩
  | 4 => ⟨S1x1024, .f32⟩
  | 5 => ⟨S1x1024, .f32⟩
  | 6 => ⟨S1x1024, .f32⟩
  | 7 => ⟨S1x1024, .f32⟩
  | 8 => ⟨S1x128, .f32⟩
  | 9 => ⟨S1x128, .f32⟩
  | 10 => ⟨S1x128, .f32⟩
  | 11 => ⟨S1x128, .f32⟩
  | 12 => ⟨S32x8, .f32⟩
  | 13 => ⟨S32x8, .f32⟩
  | 14 => ⟨S32x8, .f32⟩
  | 15 => ⟨S32x8, .f32⟩
  | 16 => ⟨S2x1024, .f32⟩
  | 17 => ⟨S2x1024, .f32⟩
  | 18 => ⟨S2x1024, .f32⟩
  | 19 => ⟨S2x1024, .f32⟩
  | 20 => ⟨S1024, .f32⟩
  | 21 => ⟨S1024, .f32⟩
  | 22 => ⟨S1024, .f32⟩
  | 23 => ⟨S1024, .f32⟩
  | 24 => ⟨S3072, .f32⟩
  | 25 => ⟨S_, .i32⟩
  | 26 => ⟨S_, .f32⟩
  | 27 => ⟨S3072, .f32⟩
  | 28 => ⟨S3x1024, .f32⟩
  | 29 => ⟨S1024, .f32⟩
  | 30 => ⟨S_, .i32⟩
  | 31 => ⟨S_, .f32⟩
  | 32 => ⟨S1024, .f32⟩
  | 33 => ⟨S1x1024, .f32⟩
  | 34 => ⟨S128, .f32⟩
  | 35 => ⟨S_, .i32⟩
  | 36 => ⟨S_, .f32⟩
  | 37 => ⟨S1024, .f32⟩
  | 38 => ⟨S1x1024, .f32⟩
  | 39 => ⟨S256, .f32⟩
  | 40 => ⟨S_, .i32⟩
  | 41 => ⟨S_, .f32⟩
  | 42 => ⟨S1024, .f32⟩
  | 43 => ⟨S1x1024, .f32⟩
  | 44 => ⟨S2048, .f32⟩
  | 45 => ⟨S_, .i32⟩
  | 46 => ⟨S_, .f32⟩
  | 47 => ⟨S2048, .f32⟩
  | 48 => ⟨S2x1024, .f32⟩
  | 49 => ⟨S_, .i32⟩
  | 50 => ⟨S_, .f32⟩
  | 51 => ⟨S1024, .f32⟩
  | 52 => ⟨S1x1024, .f32⟩
  | 53 => ⟨S9x1024, .f32⟩
  | 54 => ⟨S3072, .f32⟩
  | 55 => ⟨S_, .i32⟩
  | 56 => ⟨S_, .f32⟩
  | 57 => ⟨S3072, .f32⟩
  | 58 => ⟨S3x1024, .f32⟩
  | 59 => ⟨S1024, .f32⟩
  | 60 => ⟨S_, .i32⟩
  | 61 => ⟨S_, .f32⟩
  | 62 => ⟨S1024, .f32⟩
  | 63 => ⟨S1x1024, .f32⟩
  | 64 => ⟨S128, .f32⟩
  | 65 => ⟨S_, .i32⟩
  | 66 => ⟨S_, .f32⟩
  | 67 => ⟨S1024, .f32⟩
  | 68 => ⟨S1x1024, .f32⟩
  | 69 => ⟨S256, .f32⟩
  | 70 => ⟨S_, .i32⟩
  | 71 => ⟨S_, .f32⟩
  | 72 => ⟨S1024, .f32⟩
  | 73 => ⟨S1x1024, .f32⟩
  | 74 => ⟨S2048, .f32⟩
  | 75 => ⟨S_, .i32⟩
  | 76 => ⟨S_, .f32⟩
  | 77 => ⟨S2048, .f32⟩
  | 78 => ⟨S2x1024, .f32⟩
  | 79 => ⟨S_, .i32⟩
  | 80 => ⟨S_, .f32⟩
  | 81 => ⟨S1024, .f32⟩
  | 82 => ⟨S1x1024, .f32⟩
  | 83 => ⟨S9x1024, .f32⟩
  | 84 => ⟨S3072, .f32⟩
  | 85 => ⟨S_, .i32⟩
  | 86 => ⟨S_, .f32⟩
  | 87 => ⟨S3072, .f32⟩
  | 88 => ⟨S3x1024, .f32⟩
  | 89 => ⟨S1024, .f32⟩
  | 90 => ⟨S_, .i32⟩
  | 91 => ⟨S_, .f32⟩
  | 92 => ⟨S1024, .f32⟩
  | 93 => ⟨S1x1024, .f32⟩
  | 94 => ⟨S128, .f32⟩
  | 95 => ⟨S_, .i32⟩
  | 96 => ⟨S_, .f32⟩
  | 97 => ⟨S1024, .f32⟩
  | 98 => ⟨S1x1024, .f32⟩
  | 99 => ⟨S256, .f32⟩
  | 100 => ⟨S_, .i32⟩
  | 101 => ⟨S_, .f32⟩
  | 102 => ⟨S1024, .f32⟩
  | 103 => ⟨S1x1024, .f32⟩
  | 104 => ⟨S2048, .f32⟩
  | 105 => ⟨S_, .i32⟩
  | 106 => ⟨S_, .f32⟩
  | 107 => ⟨S2048, .f32⟩
  | 108 => ⟨S2x1024, .f32⟩
  | 109 => ⟨S_, .i32⟩
  | 110 => ⟨S_, .f32⟩
  | 111 => ⟨S1024, .f32⟩
  | 112 => ⟨S1x1024, .f32⟩
  | 113 => ⟨S9x1024, .f32⟩
  | 114 => ⟨S3072, .f32⟩
  | 115 => ⟨S_, .i32⟩
  | 116 => ⟨S_, .f32⟩
  | 117 => ⟨S3072, .f32⟩
  | 118 => ⟨S3x1024, .f32⟩
  | 119 => ⟨S1024, .f32⟩
  | 120 => ⟨S_, .i32⟩
  | 121 => ⟨S_, .f32⟩
  | 122 => ⟨S1024, .f32⟩
  | 123 => ⟨S1x1024, .f32⟩
  | 124 => ⟨S128, .f32⟩
  | 125 => ⟨S_, .i32⟩
  | 126 => ⟨S_, .f32⟩
  | 127 => ⟨S1024, .f32⟩
  | _ => ⟨S1x3072, .f32⟩

abbrev hbmTy0_1 (i : Nat) : BufTy := match i % 128 with
  | 0 => ⟨S1x1024, .f32⟩
  | 1 => ⟨S256, .f32⟩
  | 2 => ⟨S_, .i32⟩
  | 3 => ⟨S_, .f32⟩
  | 4 => ⟨S1024, .f32⟩
  | 5 => ⟨S1x1024, .f32⟩
  | 6 => ⟨S2048, .f32⟩
  | 7 => ⟨S_, .i32⟩
  | 8 => ⟨S_, .f32⟩
  | 9 => ⟨S2048, .f32⟩
  | 10 => ⟨S2x1024, .f32⟩
  | 11 => ⟨S_, .i32⟩
  | 12 => ⟨S_, .f32⟩
  | 13 => ⟨S1024, .f32⟩
  | 14 => ⟨S1x1024, .f32⟩
  | 15 => ⟨S9x1024, .f32⟩
  | 16 => ⟨S_, .i32⟩
  | 17 => ⟨S_, .f32⟩
  | 18 => ⟨S16x1024, .f32⟩
  | 19 => ⟨S_, .i32⟩
  | 20 => ⟨S_, .f32⟩
  | 21 => ⟨S16x1024, .f32⟩
  | 22 => ⟨S_, .i32⟩
  | 23 => ⟨S_, .f32⟩
  | 24 => ⟨S16x1024, .f32⟩
  | 25 => ⟨S_, .i32⟩
  | 26 => ⟨S_, .f32⟩
  | 27 => ⟨S16x1024, .f32⟩
  | 28 => ⟨S16x1024, .f32⟩
  | 29 => ⟨S16x1024, .f32⟩
  | 30 => ⟨S16x1024, .f32⟩
  | 31 => ⟨S16x1024, .f32⟩
  | 32 => ⟨S3x1024, .f32⟩
  | 33 => ⟨S3072, .f32⟩
  | 34 => ⟨S1x3072, .f32⟩
  | 35 => ⟨S1x1024, .f32⟩
  | 36 => ⟨S1024, .f32⟩
  | 37 => ⟨S1x1024, .f32⟩
  | 38 => ⟨S1x1024, .f32⟩
  | 39 => ⟨S1024, .f32⟩
  | 40 => ⟨S128, .f32⟩
  | 41 => ⟨S1x128, .f32⟩
  | 42 => ⟨S1x1024, .f32⟩
  | 43 => ⟨S1024, .f32⟩
  | 44 => ⟨S256, .f32⟩
  | 45 => ⟨S32x8, .f32⟩
  | 46 => ⟨S2x1024, .f32⟩
  | 47 => ⟨S2048, .f32⟩
  | 48 => ⟨S2x1024, .f32⟩
  | 49 => ⟨S1x1024, .f32⟩
  | 50 => ⟨S1024, .f32⟩
  | 51 => ⟨S3x1024, .f32⟩
  | 52 => ⟨S3072, .f32⟩
  | 53 => ⟨S1x3072, .f32⟩
  | 54 => ⟨S1x1024, .f32⟩
  | 55 => ⟨S1024, .f32⟩
  | 56 => ⟨S1x1024, .f32⟩
  | 57 => ⟨S1x1024, .f32⟩
  | 58 => ⟨S1024, .f32⟩
  | 59 => ⟨S128, .f32⟩
  | 60 => ⟨S1x128, .f32⟩
  | 61 => ⟨S1x1024, .f32⟩
  | 62 => ⟨S1024, .f32⟩
  | 63 => ⟨S256, .f32⟩
  | 64 => ⟨S32x8, .f32⟩
  | 65 => ⟨S2x1024, .f32⟩
  | 66 => ⟨S2048, .f32⟩
  | 67 => ⟨S2x1024, .f32⟩
  | 68 => ⟨S1x1024, .f32⟩
  | 69 => ⟨S1024, .f32⟩
  | 70 => ⟨S3x1024, .f32⟩
  | 71 => ⟨S3072, .f32⟩
  | 72 => ⟨S1x3072, .f32⟩
  | 73 => ⟨S1x1024, .f32⟩
  | 74 => ⟨S1024, .f32⟩
  | 75 => ⟨S1x1024, .f32⟩
  | 76 => ⟨S1x1024, .f32⟩
  | 77 => ⟨S1024, .f32⟩
  | 78 => ⟨S128, .f32⟩
  | 79 => ⟨S1x128, .f32⟩
  | 80 => ⟨S1x1024, .f32⟩
  | 81 => ⟨S1024, .f32⟩
  | 82 => ⟨S256, .f32⟩
  | 83 => ⟨S32x8, .f32⟩
  | 84 => ⟨S2x1024, .f32⟩
  | 85 => ⟨S2048, .f32⟩
  | 86 => ⟨S2x1024, .f32⟩
  | 87 => ⟨S1x1024, .f32⟩
  | 88 => ⟨S1024, .f32⟩
  | _ => ⟨S1x3072, .f32⟩

abbrev hbmTy (i : Nat) : BufTy := match i / 128 with
  | 0 => hbmTy0_0 i
  | 1 => hbmTy0_1 i
  | _ => ⟨S1x3072, .f32⟩

abbrev bufTy : (tb : Table) → Fin (tcTables nBuf tb) → BufTy
  | .hbm, ⟨i, _⟩ => hbmTy i
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_c : Ref sig .tc := ⟨.hbm, 25, rfl⟩
abbrev main_call0_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c_0 : Ref sig .tc := ⟨.hbm, 30, rfl⟩
abbrev main_call1_v0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_1 : Ref sig .tc := ⟨.hbm, 35, rfl⟩
abbrev main_call2_v0 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_c_2 : Ref sig .tc := ⟨.hbm, 40, rfl⟩
abbrev main_call3_v0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_c_3 : Ref sig .tc := ⟨.hbm, 45, rfl⟩
abbrev main_call4_v0 : Ref sig .tc := ⟨.hbm, 46, rfl⟩
abbrev main_v13 : Ref sig .tc := ⟨.hbm, 47, rfl⟩
abbrev main_v14 : Ref sig .tc := ⟨.hbm, 48, rfl⟩
abbrev main_c_4 : Ref sig .tc := ⟨.hbm, 49, rfl⟩
abbrev main_call5_v0 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_c_5 : Ref sig .tc := ⟨.hbm, 55, rfl⟩
abbrev main_call6_v0 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_c_6 : Ref sig .tc := ⟨.hbm, 60, rfl⟩
abbrev main_call7_v0 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_c_7 : Ref sig .tc := ⟨.hbm, 65, rfl⟩
abbrev main_call8_v0 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_c_8 : Ref sig .tc := ⟨.hbm, 70, rfl⟩
abbrev main_call9_v0 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_c_9 : Ref sig .tc := ⟨.hbm, 75, rfl⟩
abbrev main_call10_v0 : Ref sig .tc := ⟨.hbm, 76, rfl⟩
abbrev main_v31 : Ref sig .tc := ⟨.hbm, 77, rfl⟩
abbrev main_v32 : Ref sig .tc := ⟨.hbm, 78, rfl⟩
abbrev main_c_10 : Ref sig .tc := ⟨.hbm, 79, rfl⟩
abbrev main_call11_v0 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_c_11 : Ref sig .tc := ⟨.hbm, 85, rfl⟩
abbrev main_call12_v0 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_c_12 : Ref sig .tc := ⟨.hbm, 90, rfl⟩
abbrev main_call13_v0 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_c_13 : Ref sig .tc := ⟨.hbm, 95, rfl⟩
abbrev main_call14_v0 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_c_14 : Ref sig .tc := ⟨.hbm, 100, rfl⟩
abbrev main_call15_v0 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_c_15 : Ref sig .tc := ⟨.hbm, 105, rfl⟩
abbrev main_call16_v0 : Ref sig .tc := ⟨.hbm, 106, rfl⟩
abbrev main_v49 : Ref sig .tc := ⟨.hbm, 107, rfl⟩
abbrev main_v50 : Ref sig .tc := ⟨.hbm, 108, rfl⟩
abbrev main_c_16 : Ref sig .tc := ⟨.hbm, 109, rfl⟩
abbrev main_call17_v0 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_c_17 : Ref sig .tc := ⟨.hbm, 115, rfl⟩
abbrev main_call18_v0 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_c_18 : Ref sig .tc := ⟨.hbm, 120, rfl⟩
abbrev main_call19_v0 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_c_19 : Ref sig .tc := ⟨.hbm, 125, rfl⟩
abbrev main_call20_v0 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_c_20 : Ref sig .tc := ⟨.hbm, 130, rfl⟩
abbrev main_call21_v0 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_c_21 : Ref sig .tc := ⟨.hbm, 135, rfl⟩
abbrev main_call22_v0 : Ref sig .tc := ⟨.hbm, 136, rfl⟩
abbrev main_v67 : Ref sig .tc := ⟨.hbm, 137, rfl⟩
abbrev main_v68 : Ref sig .tc := ⟨.hbm, 138, rfl⟩
abbrev main_c_22 : Ref sig .tc := ⟨.hbm, 139, rfl⟩
abbrev main_call23_v0 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_c_23 : Ref sig .tc := ⟨.hbm, 144, rfl⟩
abbrev main_call24_v0 : Ref sig .tc := ⟨.hbm, 145, rfl⟩
abbrev main_v72 : Ref sig .tc := ⟨.hbm, 146, rfl⟩
abbrev main_c_24 : Ref sig .tc := ⟨.hbm, 147, rfl⟩
abbrev main_call25_v0 : Ref sig .tc := ⟨.hbm, 148, rfl⟩
abbrev main_v73 : Ref sig .tc := ⟨.hbm, 149, rfl⟩
abbrev main_c_25 : Ref sig .tc := ⟨.hbm, 150, rfl⟩
abbrev main_call26_v0 : Ref sig .tc := ⟨.hbm, 151, rfl⟩
abbrev main_v74 : Ref sig .tc := ⟨.hbm, 152, rfl⟩
abbrev main_c_26 : Ref sig .tc := ⟨.hbm, 153, rfl⟩
abbrev main_call27_v0 : Ref sig .tc := ⟨.hbm, 154, rfl⟩
abbrev main_v75 : Ref sig .tc := ⟨.hbm, 155, rfl⟩
abbrev main_v76_0 : Ref sig .tc := ⟨.hbm, 156, rfl⟩
abbrev main_v76_1 : Ref sig .tc := ⟨.hbm, 157, rfl⟩
abbrev main_v76_2 : Ref sig .tc := ⟨.hbm, 158, rfl⟩
abbrev main_v76_3 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev main_v131 : Ref sig .tc := ⟨.hbm, 214, rfl⟩
abbrev main_v132 : Ref sig .tc := ⟨.hbm, 215, rfl⟩
abbrev main_v133 : Ref sig .tc := ⟨.hbm, 216, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference10Ideal.lean ====
abbrev S1x3072 : Shape := ⟨2, ![1, 3072]⟩
abbrev S1x1024 : Shape := ⟨2, ![1, 1024]⟩
abbrev S1x128 : Shape := ⟨2, ![1, 128]⟩
abbrev S32x8 : Shape := ⟨2, ![32, 8]⟩
abbrev S2x1024 : Shape := ⟨2, ![2, 1024]⟩
abbrev S1024 : Shape := ⟨1, ![1024]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S1x3072, .f32⟩
  | 1 => ⟨S1x3072, .f32⟩
  | 2 => ⟨S1x3072, .f32⟩
  | 3 => ⟨S1x3072, .f32⟩
  | 4 => ⟨S1x1024, .f32⟩
  | 5 => ⟨S1x1024, .f32⟩
  | 6 => ⟨S1x1024, .f32⟩
  | 7 => ⟨S1x1024, .f32⟩
  | 8 => ⟨S1x128, .f32⟩
  | 9 => ⟨S1x128, .f32⟩
  | 10 => ⟨S1x128, .f32⟩
  | 11 => ⟨S1x128, .f32⟩
  | 12 => ⟨S32x8, .f32⟩
  | 13 => ⟨S32x8, .f32⟩
  | 14 => ⟨S32x8, .f32⟩
  | 15 => ⟨S32x8, .f32⟩
  | 16 => ⟨S2x1024, .f32⟩
  | 17 => ⟨S2x1024, .f32⟩
  | 18 => ⟨S2x1024, .f32⟩
  | 19 => ⟨S2x1024, .f32⟩
  | 20 => ⟨S1024, .f32⟩
  | 21 => ⟨S1024, .f32⟩
  | 22 => ⟨S1024, .f32⟩
  | 23 => ⟨S1024, .f32⟩
  | 24 => ⟨S_, .f32⟩
  | 25 => ⟨S1x3072, .f32⟩
  | 26 => ⟨S1x3072, .f32⟩
  | 27 => ⟨S_, .f32⟩
  | 28 => ⟨S1x3072, .f32⟩
  | 29 => ⟨S1x3072, .f32⟩
  | 30 => ⟨S1x3072, .f32⟩
  | 31 => ⟨S_, .f32⟩
  | 32 => ⟨S1x3072, .f32⟩
  | 33 => ⟨S1x3072, .f32⟩
  | 34 => ⟨S1x3072, .f32⟩
  | 35 => ⟨S_, .f32⟩
  | 36 => ⟨S1x3072, .f32⟩
  | 37 => ⟨S1x3072, .f32⟩
  | 38 => ⟨S1x3072, .f32⟩
  | 39 => ⟨S_, .f32⟩
  | 40 => ⟨S1x3072, .f32⟩
  | 41 => ⟨S1x3072, .f32⟩
  | 42 => ⟨S_, .f32⟩
  | 43 => ⟨S1x3072, .f32⟩
  | 44 => ⟨S1x3072, .f32⟩
  | 45 => ⟨S1x3072, .f32⟩
  | 46 => ⟨S_, .f32⟩
  | 47 => ⟨S1x3072, .f32⟩
  | 48 => ⟨S1x3072, .f32⟩
  | 49 => ⟨S1x3072, .f32⟩
  | 50 => ⟨S_, .f32⟩
  | 51 => ⟨S1x3072, .f32⟩
  | 52 => ⟨S1x3072, .f32⟩
  | 53 => ⟨S1x3072, .f32⟩
  | 54 => ⟨S_, .f32⟩
  | 55 => ⟨S1x3072, .f32⟩
  | 56 => ⟨S1x3072, .f32⟩
  | 57 => ⟨S_, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S_, .f32⟩
  | 91 => ⟨S1x128, .f32⟩
  | 92 => ⟨S1x128, .f32⟩
  | 93 => ⟨S_, .f32⟩
  | 94 => ⟨S1x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S_, .f32⟩
  | 106 => ⟨S1x128, .f32⟩
  | 107 => ⟨S1x128, .f32⟩
  | 108 => ⟨S_, .f32⟩
  | 109 => ⟨S1x128, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S1x128, .f32⟩
  | 116 => ⟨S_, .f32⟩
  | 117 => ⟨S1x128, .f32⟩
  | 118 => ⟨S1x128, .f32⟩
  | 119 => ⟨S1x128, .f32⟩
  | 120 => ⟨S_, .f32⟩
  | 121 => ⟨S1x128, .f32⟩
  | 122 => ⟨S1x128, .f32⟩
  | 123 => ⟨S_, .f32⟩
  | 124 => ⟨S32x8, .f32⟩
  | 125 => ⟨S32x8, .f32⟩
  | 126 => ⟨S_, .f32⟩
  | 127 => ⟨S32x8, .f32⟩
  | _ => ⟨S1x3072, .f32⟩

abbrev hbmTy0_1 (i : Nat) : BufTy := match i % 128 with
  | 0 => ⟨S32x8, .f32⟩
  | 1 => ⟨S32x8, .f32⟩
  | 2 => ⟨S_, .f32⟩
  | 3 => ⟨S32x8, .f32⟩
  | 4 => ⟨S32x8, .f32⟩
  | 5 => ⟨S32x8, .f32⟩
  | 6 => ⟨S_, .f32⟩
  | 7 => ⟨S32x8, .f32⟩
  | 8 => ⟨S32x8, .f32⟩
  | 9 => ⟨S32x8, .f32⟩
  | 10 => ⟨S_, .f32⟩
  | 11 => ⟨S32x8, .f32⟩
  | 12 => ⟨S32x8, .f32⟩
  | 13 => ⟨S_, .f32⟩
  | 14 => ⟨S32x8, .f32⟩
  | 15 => ⟨S32x8, .f32⟩
  | 16 => ⟨S32x8, .f32⟩
  | 17 => ⟨S_, .f32⟩
  | 18 => ⟨S32x8, .f32⟩
  | 19 => ⟨S32x8, .f32⟩
  | 20 => ⟨S32x8, .f32⟩
  | 21 => ⟨S_, .f32⟩
  | 22 => ⟨S32x8, .f32⟩
  | 23 => ⟨S32x8, .f32⟩
  | 24 => ⟨S32x8, .f32⟩
  | 25 => ⟨S_, .f32⟩
  | 26 => ⟨S32x8, .f32⟩
  | 27 => ⟨S32x8, .f32⟩
  | 28 => ⟨S_, .f32⟩
  | 29 => ⟨S2x1024, .f32⟩
  | 30 => ⟨S2x1024, .f32⟩
  | 31 => ⟨S_, .f32⟩
  | 32 => ⟨S2x1024, .f32⟩
  | 33 => ⟨S2x1024, .f32⟩
  | 34 => ⟨S2x1024, .f32⟩
  | 35 => ⟨S_, .f32⟩
  | 36 => ⟨S2x1024, .f32⟩
  | 37 => ⟨S2x1024, .f32⟩
  | 38 => ⟨S2x1024, .f32⟩
  | 39 => ⟨S_, .f32⟩
  | 40 => ⟨S2x1024, .f32⟩
  | 41 => ⟨S2x1024, .f32⟩
  | 42 => ⟨S2x1024, .f32⟩
  | 43 => ⟨S_, .f32⟩
  | 44 => ⟨S2x1024, .f32⟩
  | 45 => ⟨S2x1024, .f32⟩
  | 46 => ⟨S_, .f32⟩
  | 47 => ⟨S2x1024, .f32⟩
  | 48 => ⟨S2x1024, .f32⟩
  | 49 => ⟨S2x1024, .f32⟩
  | 50 => ⟨S_, .f32⟩
  | 51 => ⟨S2x1024, .f32⟩
  | 52 => ⟨S2x1024, .f32⟩
  | 53 => ⟨S2x1024, .f32⟩
  | 54 => ⟨S_, .f32⟩
  | 55 => ⟨S2x1024, .f32⟩
  | 56 => ⟨S2x1024, .f32⟩
  | 57 => ⟨S2x1024, .f32⟩
  | 58 => ⟨S_, .f32⟩
  | 59 => ⟨S2x1024, .f32⟩
  | 60 => ⟨S2x1024, .f32⟩
  | 61 => ⟨S_, .f32⟩
  | 62 => ⟨S1024, .f32⟩
  | 63 => ⟨S1024, .f32⟩
  | 64 => ⟨S_, .f32⟩
  | 65 => ⟨S1024, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S_, .f32⟩
  | 73 => ⟨S1024, .f32⟩
  | 74 => ⟨S1024, .f32⟩
  | 75 => ⟨S1024, .f32⟩
  | 76 => ⟨S_, .f32⟩
  | 77 => ⟨S1024, .f32⟩
  | 78 => ⟨S1024, .f32⟩
  | 79 => ⟨S_, .f32⟩
  | 80 => ⟨S1024, .f32⟩
  | 81 => ⟨S1024, .f32⟩
  | 82 => ⟨S1024, .f32⟩
  | 83 => ⟨S_, .f32⟩
  | 84 => ⟨S1024, .f32⟩
  | 85 => ⟨S1024, .f32⟩
  | 86 => ⟨S1024, .f32⟩
  | 87 => ⟨S_, .f32⟩
  | 88 => ⟨S1024, .f32⟩
  | 89 => ⟨S1024, .f32⟩
  | 90 => ⟨S1024, .f32⟩
  | 91 => ⟨S_, .f32⟩
  | 92 => ⟨S1024, .f32⟩
  | 93 => ⟨S1024, .f32⟩
  | _ => ⟨S1x3072, .f32⟩

abbrev hbmTy (i : Nat) : BufTy := match i / 128 with
  | 0 => hbmTy0_0 i
  | 1 => hbmTy0_1 i
  | _ => ⟨S1x3072, .f32⟩

abbrev bufTy : (tb : Table) → Fin (tcTables nBuf tb) → BufTy
  | .hbm, ⟨i, _⟩ => hbmTy i
  | _, _ => ⟨S1x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel11.lean ====
abbrev S8x16x1024 : Shape := ⟨3, ![8, 16, 1024]⟩
abbrev S2x1024 : Shape := ⟨2, ![2, 1024]⟩
abbrev S16x1024 : Shape := ⟨2, ![16, 1024]⟩
abbrev S1x16x1024 : Shape := ⟨3, ![1, 16, 1024]⟩
abbrev S1x1 : Shape := ⟨2, ![1, 1]⟩
abbrev S_ : Shape := ⟨0, ![]⟩
abbrev S3x1024 : Shape := ⟨2, ![3, 1024]⟩
abbrev S1x3072 : Shape := ⟨2, ![1, 3072]⟩
abbrev S1x1024 : Shape := ⟨2, ![1, 1024]⟩
abbrev S1x128 : Shape := ⟨2, ![1, 128]⟩
abbrev S1x256 : Shape := ⟨2, ![1, 256]⟩
abbrev S256 : Shape := ⟨1, ![256]⟩
abbrev S32x8 : Shape := ⟨2, ![32, 8]⟩
abbrev S1024 : Shape := ⟨1, ![1024]⟩

abbrev nBuf : Space → Nat
  | .hbm => 79
  | .vmem => 2
  | .smem => 0
  | _ => 0

abbrev bufTy : (tb : Table) → Fin (tcTables nBuf tb) → BufTy
  | .hbm, ⟨0, _⟩ => ⟨S8x16x1024, .f32⟩
  | .hbm, ⟨1, _⟩ => ⟨S2x1024, .f32⟩
  | .hbm, ⟨2, _⟩ => ⟨S16x1024, .f32⟩
  | .hbm, ⟨3, _⟩ => ⟨S1x1, .f32⟩
  | .hbm, ⟨4, _⟩ => ⟨S_, .f32⟩
  | .hbm, ⟨5, _⟩ => ⟨S3x1024, .f32⟩
  | .hbm, ⟨6, _⟩ => ⟨S1x3072, .f32⟩
  | .hbm, ⟨7, _⟩ => ⟨S1x1024, .f32⟩
  | .hbm, ⟨8, _⟩ => ⟨S1x128, .f32⟩
  | .hbm, ⟨9, _⟩ => ⟨S1x256, .f32⟩
  | .hbm, ⟨10, _⟩ => ⟨S256, .f32⟩
  | .hbm, ⟨11, _⟩ => ⟨S32x8, .f32⟩
  | .hbm, ⟨12, _⟩ => ⟨S1x1024, .f32⟩
  | .hbm, ⟨13, _⟩ => ⟨S1024, .f32⟩
  | .hbm, ⟨14, _⟩ => ⟨S_, .f32⟩
  | .hbm, ⟨15, _⟩ => ⟨S1024, .f32⟩
  | .hbm, ⟨16, _⟩ => ⟨S1x1024, .f32⟩
  | .hbm, ⟨17, _⟩ => ⟨S2x1024, .f32⟩
  | .hbm, ⟨18, _⟩ => ⟨S2x1024, .i1⟩
  | .hbm, ⟨19, _⟩ => ⟨S2x1024, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .i1⟩
  | .hbm, ⟨28, _⟩ => ⟨S_, .f32⟩
  | .hbm, ⟨29, _⟩ => ⟨S1024, .f32⟩
  | .hbm, ⟨30, _⟩ => ⟨S1024, .i1⟩
  | .hbm, ⟨31, _⟩ => ⟨S_, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1x1024, .f32⟩
  | .hbm, ⟨40, _⟩ => ⟨S2x1024, .f32⟩
  | .hbm, ⟨41, _⟩ => ⟨S2x1024, .f32⟩
  | .hbm, ⟨42, _⟩ => ⟨S2x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2x1024, .f32⟩
  | .hbm, ⟨47, _⟩ => ⟨S2x1024, .f32⟩
  | .hbm, ⟨48, _⟩ => ⟨S1x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S_, .f32⟩
  | .hbm, ⟨54, _⟩ => ⟨S2x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S_, .f32⟩
  | .hbm, ⟨61, _⟩ => ⟨S2x1024, .f32⟩
  | .hbm, ⟨62, _⟩ => ⟨S_, .f32⟩
  | .hbm, ⟨63, _⟩ => ⟨S_, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S2x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S1x1024, .f32⟩
  | .hbm, ⟨72, _⟩ => ⟨S2x1024, .f32⟩
  | .hbm, ⟨73, _⟩ => ⟨S2x1024, .f32⟩
  | .hbm, ⟨74, _⟩ => ⟨S_, .f32⟩
  | .hbm, ⟨75, _⟩ => ⟨S1024, .f32⟩
  | .hbm, ⟨76, _⟩ => ⟨S2x1024, .f32⟩
  | .hbm, ⟨77, _⟩ => ⟨S2x1024, .f32⟩
  | .hbm, ⟨78, _⟩ => ⟨S2x1024, .f32⟩
  | .local _ .vmem, ⟨0, _⟩ => ⟨S8x16x1024, .f32⟩
  | .local _ .vmem, ⟨1, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_call0_call0_cst : Ref sig .tc := ⟨.hbm, 52, rfl⟩
abbrev main_call0_call0_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_call1_call0_cst : Ref sig .tc := ⟨.hbm, 62, rfl⟩
abbrev main_call1_call0_v0 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference11Ideal.lean ====
abbrev S8x16x1024 : Shape := ⟨3, ![8, 16, 1024]⟩
abbrev S2x1024 : Shape := ⟨2, ![2, 1024]⟩
abbrev S8x1x1 : Shape := ⟨3, ![8, 1, 1]⟩
abbrev S8 : Shape := ⟨1, ![8]⟩
abbrev S8x3x1024 : Shape := ⟨3, ![8, 3, 1024]⟩
abbrev S8x1x3072 : Shape := ⟨3, ![8, 1, 3072]⟩
abbrev S8x1x1024 : Shape := ⟨3, ![8, 1, 1024]⟩
abbrev S8x1x128 : Shape := ⟨3, ![8, 1, 128]⟩
abbrev S8x1x256 : Shape := ⟨3, ![8, 1, 256]⟩
abbrev S8x256 : Shape := ⟨2, ![8, 256]⟩
abbrev S8x32x8 : Shape := ⟨3, ![8, 32, 8]⟩
abbrev S8x1024 : Shape := ⟨2, ![8, 1024]⟩
abbrev S_ : Shape := ⟨0, ![]⟩
abbrev S1x3072 : Shape := ⟨2, ![1, 3072]⟩
abbrev S1x1024 : Shape := ⟨2, ![1, 1024]⟩
abbrev S1x128 : Shape := ⟨2, ![1, 128]⟩
abbrev S32x8 : Shape := ⟨2, ![32, 8]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S2x1024, .f32⟩
  | .hbm, ⟨2, _⟩ => ⟨S8x1x1, .f32⟩
  | .hbm, ⟨3, _⟩ => ⟨S8, .f32⟩
  | .hbm, ⟨4, _⟩ => ⟨S8x3x1024, .f32⟩
  | .hbm, ⟨5, _⟩ => ⟨S8x1x3072, .f32⟩
  | .hbm, ⟨6, _⟩ => ⟨S8x1x1024, .f32⟩
  | .hbm, ⟨7, _⟩ => ⟨S8x1x128, .f32⟩
  | .hbm, ⟨8, _⟩ => ⟨S8x1x256, .f32⟩
  | .hbm, ⟨9, _⟩ => ⟨S8x256, .f32⟩
  | .hbm, ⟨10, _⟩ => ⟨S8x32x8, .f32⟩
  | .hbm, ⟨11, _⟩ => ⟨S8x1x1024, .f32⟩
  | .hbm, ⟨12, _⟩ => ⟨S8x1024, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x3072, .f32⟩
  | .hbm, ⟨17, _⟩ => ⟨S_, .f32⟩
  | .hbm, ⟨18, _⟩ => ⟨S1x1024, .f32⟩
  | .hbm, ⟨19, _⟩ => ⟨S_, .f32⟩
  | .hbm, ⟨20, _⟩ => ⟨S1x128, .f32⟩
  | .hbm, ⟨21, _⟩ => ⟨S_, .f32⟩
  | .hbm, ⟨22, _⟩ => ⟨S32x8, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2x1024, .f32⟩
  | .hbm, ⟨29, _⟩ => ⟨S2x1024, .i1⟩
  | .hbm, ⟨30, _⟩ => ⟨S2x1024, .f32⟩
  | .hbm, ⟨31, _⟩ => ⟨S_, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S_, .f32⟩
  | .hbm, ⟨37, _⟩ => ⟨S1024, .f32⟩
  | .hbm, ⟨38, _⟩ => ⟨S1024, .i1⟩
  | .hbm, ⟨39, _⟩ => ⟨S_, .f32⟩
  | .hbm, ⟨40, _⟩ => ⟨S1024, .f32⟩
  | .hbm, ⟨41, _⟩ => ⟨S1024, .i1⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1x1024, .f32⟩
  | .hbm, ⟨51, _⟩ => ⟨S2x1024, .f32⟩
  | .hbm, ⟨52, _⟩ => ⟨S2x1024, .f32⟩
  | .hbm, ⟨53, _⟩ => ⟨S2x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2x1024, .f32⟩
  | .hbm, ⟨58, _⟩ => ⟨S2x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S_, .f32⟩
  | .hbm, ⟨65, _⟩ => ⟨S2x1024, .f32⟩
  | .hbm, ⟨66, _⟩ => ⟨S1x1024, .f32⟩
  | .hbm, ⟨67, _⟩ => ⟨S1024, .f32⟩
  | .hbm, ⟨68, _⟩ => ⟨S8x1x1024, .f32⟩
  | .hbm, ⟨69, _⟩ => ⟨S8x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S2x1024, .f32⟩
  | .hbm, ⟨75, _⟩ => ⟨S_, .f32⟩
  | .hbm, ⟨76, _⟩ => ⟨S_, .f32⟩
  | .hbm, ⟨77, _⟩ => ⟨S2x1024, .f32⟩
  | .hbm, ⟨78, _⟩ => ⟨S2x1024, .f32⟩
  | .hbm, ⟨79, _⟩ => ⟨S2x1024, .f32⟩
  | .hbm, ⟨80, _⟩ => ⟨S2x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S1x1024, .f32⟩
  | .hbm, ⟨85, _⟩ => ⟨S2x1024, .f32⟩
  | .hbm, ⟨86, _⟩ => ⟨S2x1024, .f32⟩
  | .hbm, ⟨87, _⟩ => ⟨S_, .f32⟩
  | .hbm, ⟨88, _⟩ => ⟨S1024, .f32⟩
  | .hbm, ⟨89, _⟩ => ⟨S2x1024, .f32⟩
  | .hbm, ⟨90, _⟩ => ⟨S2x1024, .f32⟩
  | .hbm, ⟨91, _⟩ => ⟨S2x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_cst_8 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_cst_11 : Ref sig .tc := ⟨.hbm, 44, rfl⟩
abbrev main_v30 : Ref sig .tc := ⟨.hbm, 45, rfl⟩
abbrev main_cst_12 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_13 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_14 : Ref sig .tc := ⟨.hbm, 60, rfl⟩
abbrev main_v43 : Ref sig .tc := ⟨.hbm, 61, rfl⟩
abbrev main_v44 : Ref sig .tc := ⟨.hbm, 62, rfl⟩
abbrev main_call0_call0_cst : Ref sig .tc := ⟨.hbm, 63, rfl⟩
abbrev main_call0_call0_v0 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_15 : Ref sig .tc := ⟨.hbm, 70, rfl⟩
abbrev main_v50 : Ref sig .tc := ⟨.hbm, 71, rfl⟩
abbrev main_v51 : Ref sig .tc := ⟨.hbm, 72, rfl⟩
abbrev main_cst_16 : Ref sig .tc := ⟨.hbm, 73, rfl⟩
abbrev main_v52 : Ref sig .tc := ⟨.hbm, 74, rfl⟩
abbrev main_call1_call0_cst : Ref sig .tc := ⟨.hbm, 75, rfl⟩
abbrev main_call1_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_17 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Proof.Bits.BodyA.lean ====
/- The merge kernel's body at the first grid point: from the inputs' blocks to the blocks of `Ins`. -/
module

public import proofs.«01_k».proof.Proof.Bits.ReadA
public import proofs.«01_k».proof.Proof.Bits.Step

@[expose] public section

set_option maxRecDepth 16384

noncomputable section

namespace MergeBits.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem body_A (c : Dev nD) (i : grid0.Coords) (arg1 : Memref sig .tc .vmem S256x512 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S512x512 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x2048 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x1024 .f32) (harg23 : arg23.IsWhole) (arg24 : Memref sig .tc .vmem S8x1024 .f32) (harg24 : arg24.IsWhole) (arg25 : Memref sig .tc .vmem S8x128 .f32) (harg25 : arg25.IsWhole)
    (hc0 : cond0_0 i) (x0 : Vec F S256x512 .bf16) (x1 : Vec F S256x1024 .bf16) (x2 : Vec F S256x1024 .f32) (x3 : Vec F S256x1024 .f32) (x4 : Vec F S256x1024 .f32) (x5 : Vec F S256x1024 .f32) (x6 : Vec F S8x1024 .f32) (x7 : Vec F S256x512 .f32) (x8 : Vec F S256x512 .f32) (x9 : Vec F S512x1024 .bf16) (x10 : Vec F S1024x1024 .bf16) (x11 : Vec F S1024x1024 .bf16) (x12 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (Ins.o14 (⟨x0, x1, x2, x3, x4, x5, x6, x7, x8, x9, x10, x11, x12⟩ : Ins F)) ∗ owns (c : Thread nD τ) arg15 fullShare (Ins.o15 (⟨x0, x1, x2, x3, x4, x5, x6, x7, x8, x9, x10, x11, x12⟩ : Ins F)) ∗ owns (c : Thread nD τ) arg16 fullShare (Ins.o16 (⟨x0, x1, x2, x3, x4, x5, x6, x7, x8, x9, x10, x11, x12⟩ : Ins F)) ∗ owns (c : Thread nD τ) arg17 fullShare (Ins.o17 (⟨x0, x1, x2, x3, x4, x5, x6, x7, x8, x9, x10, x11, x12⟩ : Ins F)) ∗ owns (c : Thread nD τ) arg18 fullShare (Ins.o18 (⟨x0, x1, x2, x3, x4, x5, x6, x7, x8, x9, x10, x11, x12⟩ : Ins F)) ∗ owns (c : Thread nD τ) arg19 fullShare (Ins.o19 (⟨x0, x1, x2, x3, x4, x5, x6, x7, x8, x9, x10, x11, x12⟩ : Ins F)) ∗ owns (c : Thread nD τ) arg20 fullShare (Ins.o20 (⟨x0, x1, x2, x3, x4, x5, x6, x7, x8, x9, x10, x11, x12⟩ : Ins F)) ∗ owns (c : Thread nD τ) arg21 fullShare (Ins.o21 (⟨x0, x1, x2, x3, x4, x5, x6, x7, x8, x9, x10, x11, x12⟩ : Ins F)) ∗ owns (c : Thread nD τ) arg22 fullShare (Ins.o22 (⟨x0, x1, x2, x3, x4, x5, x6, x7, x8, x9, x10, x11, x12⟩ : Ins F)) ∗ owns (c : Thread nD τ) arg23 fullShare (Ins.o23 (⟨x0, x1, x2, x3, x4, x5, x6, x7, x8, x9, x10, x11, x12⟩ : Ins F)) ∗ owns (c : Thread nD τ) arg24 fullShare (Ins.next24 (⟨x0, x1, x2, x3, x4, x5, x6, x7, x8, x9, x10, x11, x12⟩ : Ins F) k0_pay4) ∗ owns (c : Thread nD τ) arg25 fullShare (Ins.next25 (⟨x0, x1, x2, x3, x4, x5, x6, x7, x8, x9, x10, x11, x12⟩ : Ins F) k0_pay5)) -∗ K ⟨⟩))
      ⊢ wp frame (wpE (defs₀ (F := F)) Variants.none c none) Set.univ (cc0_merge_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  obtain ⟨e13, e14, e15, e16, e17, e18, e19, e20, e21, e22, e23, e24⟩ := reads_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 (⟨x0, x1, x2, x3, x4, x5, x6, x7, x8, x9, x10, x11, x12⟩ : Ins F)
  exact restate (owns_written c _ _ _ e13) (owns_written c _ _ _ e14) (owns_written c _ _ _ e15) (owns_written c _ _ _ e16) (owns_written c _ _ _ e17) (owns_written c _ _ _ e18) (owns_written c _ _ _ e19) (owns_written c _ _ _ e20) (owns_written c _ _ _ e21) (owns_written c _ _ _ e22) (owns_written c _ _ _ e23) (owns_written c _ _ _ e24)
    ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12).2.2.2.2.2.2.2.2.2.2.2.2 Set.univ K)

end MergeBits.Run
-- ==== Proof.Bits.BodyB.lean ====
/- The merge kernel's body at a grid point after the first: from the inputs' blocks to the blocks of `Ins`. -/
module

public import proofs.«01_k».proof.Proof.Bits.ReadB
public import proofs.«01_k».proof.Proof.Bits.Step

@[expose] public section

set_option maxRecDepth 16384

noncomputable section

namespace MergeBits.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem body_B (c : Dev nD) (i : grid0.Coords) (arg1 : Memref sig .tc .vmem S256x512 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S512x512 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x2048 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x1024 .f32) (harg23 : arg23.IsWhole) (arg24 : Memref sig .tc .vmem S8x1024 .f32) (harg24 : arg24.IsWhole) (arg25 : Memref sig .tc .vmem S8x128 .f32) (harg25 : arg25.IsWhole)
    (hc0 : ¬cond0_0 i) (x0 : Vec F S256x512 .bf16) (x1 : Vec F S256x1024 .bf16) (x2 : Vec F S256x1024 .f32) (x3 : Vec F S256x1024 .f32) (x4 : Vec F S256x1024 .f32) (x5 : Vec F S256x1024 .f32) (x6 : Vec F S8x1024 .f32) (x7 : Vec F S256x512 .f32) (x8 : Vec F S256x512 .f32) (x9 : Vec F S512x1024 .bf16) (x10 : Vec F S1024x1024 .bf16) (x11 : Vec F S1024x1024 .bf16) (x12 : Vec F S512x512 .bf16) (A24 : Vec F S8x1024 .f32) (A25 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare A24 ∗ owns (c : Thread nD τ) arg25 fullShare A25
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (Ins.o14 (⟨x0, x1, x2, x3, x4, x5, x6, x7, x8, x9, x10, x11, x12⟩ : Ins F)) ∗ owns (c : Thread nD τ) arg15 fullShare (Ins.o15 (⟨x0, x1, x2, x3, x4, x5, x6, x7, x8, x9, x10, x11, x12⟩ : Ins F)) ∗ owns (c : Thread nD τ) arg16 fullShare (Ins.o16 (⟨x0, x1, x2, x3, x4, x5, x6, x7, x8, x9, x10, x11, x12⟩ : Ins F)) ∗ owns (c : Thread nD τ) arg17 fullShare (Ins.o17 (⟨x0, x1, x2, x3, x4, x5, x6, x7, x8, x9, x10, x11, x12⟩ : Ins F)) ∗ owns (c : Thread nD τ) arg18 fullShare (Ins.o18 (⟨x0, x1, x2, x3, x4, x5, x6, x7, x8, x9, x10, x11, x12⟩ : Ins F)) ∗ owns (c : Thread nD τ) arg19 fullShare (Ins.o19 (⟨x0, x1, x2, x3, x4, x5, x6, x7, x8, x9, x10, x11, x12⟩ : Ins F)) ∗ owns (c : Thread nD τ) arg20 fullShare (Ins.o20 (⟨x0, x1, x2, x3, x4, x5, x6, x7, x8, x9, x10, x11, x12⟩ : Ins F)) ∗ owns (c : Thread nD τ) arg21 fullShare (Ins.o21 (⟨x0, x1, x2, x3, x4, x5, x6, x7, x8, x9, x10, x11, x12⟩ : Ins F)) ∗ owns (c : Thread nD τ) arg22 fullShare (Ins.o22 (⟨x0, x1, x2, x3, x4, x5, x6, x7, x8, x9, x10, x11, x12⟩ : Ins F)) ∗ owns (c : Thread nD τ) arg23 fullShare (Ins.o23 (⟨x0, x1, x2, x3, x4, x5, x6, x7, x8, x9, x10, x11, x12⟩ : Ins F)) ∗ owns (c : Thread nD τ) arg24 fullShare (Ins.next24 (⟨x0, x1, x2, x3, x4, x5, x6, x7, x8, x9, x10, x11, x12⟩ : Ins F) A24) ∗ owns (c : Thread nD τ) arg25 fullShare (Ins.next25 (⟨x0, x1, x2, x3, x4, x5, x6, x7, x8, x9, x10, x11, x12⟩ : Ins F) A25)) -∗ K ⟨⟩))
      ⊢ wp frame (wpE (defs₀ (F := F)) Variants.none c none) Set.univ (cc0_merge_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  obtain ⟨e13, e14, e15, e16, e17, e18, e19, e20, e21, e22, e23, e24⟩ := reads_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 (⟨x0, x1, x2, x3, x4, x5, x6, x7, x8, x9, x10, x11, x12⟩ : Ins F) A24 A25
  exact restate (owns_written c _ _ _ e13) (owns_written c _ _ _ e14) (owns_written c _ _ _ e15) (owns_written c _ _ _ e16) (owns_written c _ _ _ e17) (owns_written c _ _ _ e18) (owns_written c _ _ _ e19) (owns_written c _ _ _ e20) (owns_written c _ _ _ e21) (owns_written c _ _ _ e22) (owns_written_over c _ _ _ _ e23) (owns_written c _ _ _ e24)
    ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 A24 A25).2.2.2.2.2.2.2.2.2.2.2.2 Set.univ K)

end MergeBits.Run
-- ==== Proof.MergeFrame.lean ====
/- The merge call's frame at machine floats. -/
module

public import proofs.«01_k».proof.Defs
public import proofs.«01_k».proof.Proof.Gen.Kernel
public import proofs.«01_k».proof.Proof.Bits.Frame

@[expose] public section

set_option maxRecDepth 16384

noncomputable section

namespace Merge

open Idealize.ShloMosaic Idealize.SL.Sem

theorem frame_kernel : Cert.quiescent_Kernel := fun m ρ _ => MergeBits.Run.frame (F := Bits) m ρ

end Merge

end
-- ==== Proof.Math.lean ====
/-
  The mathematics of the merge of the two branches, its output product, the residual, the final normalisation and the
  loss, forwards and backwards, over the real numbers. Everything but the two reductions over the tokens acts on one
  row (one token) at a time, so each quantity is a function of a row index; the kernel uses it with the 256 rows of a
  block, the reference with all 8192 rows.
-/
module

public import Idealize.ShloMosaic.Lib.Pointwise

@[expose] public section

noncomputable section

namespace Merge

/-- A matrix of reals. -/
abbrev Mat (a b : ℕ) := Fin a → Fin b → ℝ

/-- The logistic function as the kernel computes it, through the hyperbolic tangent. -/
def sig (x : ℝ) : ℝ := 1 / 2 * Real.tanh (1 / 2 * x) + 1 / 2

/-- It is the logistic function as the reference writes it. -/
theorem sig_eq (x : ℝ) : sig x = 1 / (1 + Real.exp (-x)) := by
  have h : Real.exp (-x) = Real.exp (-(1 / 2 * x)) * Real.exp (-(1 / 2 * x)) := by
    rw [← Real.exp_add]; congr 1; ring
  have hpos := Real.exp_pos (1 / 2 * x)
  have hneg := Real.exp_pos (-(1 / 2 * x))
  have hm : Real.exp (1 / 2 * x) * Real.exp (-(1 / 2 * x)) = 1 := by rw [← Real.exp_add]; simp
  unfold sig
  rw [Real.tanh_eq_sinh_div_cosh, Real.sinh_eq, Real.cosh_eq, h]
  set a := Real.exp (1 / 2 * x)
  set b := Real.exp (-(1 / 2 * x))
  have h1 : a + b ≠ 0 := by positivity
  have h2 : 1 + b * b ≠ 0 := by positivity
  field_simp
  ring_nf
  linear_combination (2 * b) * hm

/-- The small constant the normalisation adds to the mean of the squares. -/
def eps : ℝ := 8796093 / 8796093022208

theorem eps_pos : 0 < eps := by unfold eps; norm_num

/-- The weights and the two vectors shared by all rows. -/
structure Params where
  wa : Mat 512 1024
  wb : Mat 1024 1024
  wo : Mat 1024 1024
  gate : Fin 1024 → ℝ
  fg : Fin 1024 → ℝ

/-- What belongs to the rows: the attention's output and its gate, the recurrence's gated output, the two merge gates,
    the residual stream and the target. -/
structure Rows (n : ℕ) where
  attn : Mat n 512
  za : Mat n 512
  ob : Mat n 1024
  ga : Mat n 1024
  gb : Mat n 1024
  x : Mat n 1024
  t : Mat n 1024

/-- Some of the rows. -/
def Rows.pick {n k : ℕ} (R : Rows n) (f : Fin k → Fin n) : Rows k :=
  ⟨fun s => R.attn (f s), fun s => R.za (f s), fun s => R.ob (f s), fun s => R.ga (f s), fun s => R.gb (f s),
    fun s => R.x (f s), fun s => R.t (f s)⟩

variable {n : ℕ} (W : Params) (R : Rows n)

/-! ## Forwards -/

/-- The attention's output through its gate. -/
def oa : Mat n 512 := fun s k => R.attn s k * (R.za s k * sig (R.za s k))
/-- The two branches projected. -/
def ya : Mat n 1024 := fun s c => ∑ k, oa R s k * W.wa k c
def yb : Mat n 1024 := fun s c => ∑ k, R.ob s k * W.wb k c
/-- The two merge gates. -/
def sa : Mat n 1024 := fun s c => sig (R.ga s c)
def sb : Mat n 1024 := fun s c => sig (R.gb s c)
/-- The merged branches. -/
def y : Mat n 1024 := fun s c => sa R s c * ya W R s c + sb R s c * yb W R s c
/-- The output product. -/
def u : Mat n 1024 := fun s c => ∑ k, y W R s k * W.wo k c
/-- The residual stream after the block. -/
def x2 : Mat n 1024 := fun s c => R.x s c + W.gate c * u W R s c
/-- The mean of its squares, with the small constant added. -/
def ms : Fin n → ℝ := fun s => (∑ c, x2 W R s c * x2 W R s c) * (1 / 1024) + eps
/-- The reciprocal of the root of that. -/
def r : Fin n → ℝ := fun s => (√(ms W R s))⁻¹
/-- The difference of the normalised stream and the target. -/
def err : Mat n 1024 := fun s c => x2 W R s c * r W R s * W.fg c - R.t s c

/-! ## Backwards -/

/-- The cotangent of the normalised stream. -/
def dout : Mat n 1024 := fun s c => err W R s c * (1 / 1024)
def gh : Mat n 1024 := fun s c => dout W R s c * W.fg c
/-- The mean of the cotangent against the stream. -/
def gx : Fin n → ℝ := fun s => (∑ c, gh W R s c * x2 W R s c) * (1 / 1024)
/-- The cotangent of the residual stream. -/
def dx2 : Mat n 1024 := fun s c => r W R s * gh W R s c - x2 W R s c * (r W R s * r W R s * r W R s * gx W R s)
def du : Mat n 1024 := fun s c => dx2 W R s c * W.gate c
def dy : Mat n 1024 := fun s c => ∑ k, du W R s k * W.wo c k
def dya : Mat n 1024 := fun s c => dy W R s c * sa R s c
def dyb : Mat n 1024 := fun s c => dy W R s c * sb R s c
def dga : Mat n 1024 := fun s c => dy W R s c * ya W R s c * sa R s c * (1 - sa R s c)
def dgb : Mat n 1024 := fun s c => dy W R s c * yb W R s c * sb R s c * (1 - sb R s c)
def doa : Mat n 512 := fun s c => ∑ k, dya W R s k * W.wa c k
def dob : Mat n 1024 := fun s c => ∑ k, dyb W R s k * W.wb c k
def sz : Mat n 512 := fun s c => sig (R.za s c)
def dat : Mat n 512 := fun s c => doa W R s c * (R.za s c * sz R s c)
def dza : Mat n 512 := fun s c => doa W R s c * R.attn s c * (sz R s c * (1 + R.za s c * (1 - sz R s c)))

/-- Whether two channels of the attention's output belong to one head: there are eight heads of 64 channels. -/
def head (k c : Fin 512) : ℝ := if k.val / 64 = c.val / 64 then 1 else 0
/-- The cotangent against the output, summed over a head's channels. -/
def dsum : Mat n 512 := fun s c => ∑ k, dat W R s k * R.attn s k * head k c

/-- The terms of the two vectors' gradients and of the loss that one row adds. -/
def dgate : Mat n 1024 := fun s c => dx2 W R s c * u W R s c
def dfg : Mat n 1024 := fun s c => dout W R s c * x2 W R s c * r W R s
def sq : Fin n → ℝ := fun s => ∑ c, err W R s c * err W R s c

/-- The two gates' gradients side by side. -/
def dgates : Mat n 2048 := fun s c =>
  if h : c.val < 1024 then dga W R s ⟨c.val, h⟩ else dgb W R s ⟨c.val - 1024, by omega⟩

/-- The eight rows of vectors' gradients that one row of tokens adds: the gate's, the final norm's, and six of zeros. -/
def vecTerm : Fin n → Mat 8 1024 := fun s i c => if i = 0 then dgate W R s c else if i = 1 then dfg W R s c else 0

/-- A sum weighted by `head` runs over the channels of one head. -/
theorem sum_head (f : Fin 512 → ℝ) (c : Fin 512) :
    ∑ k, f k * head k c = ∑ q : Fin 64, f ⟨c.val / 64 * 64 + q.val, by omega⟩ := by
  have e : ∀ k : Fin 512, f k * head k c = if k.val / 64 = c.val / 64 then f k else 0 := fun k => by
    unfold head; split <;> simp
  rw [Finset.sum_congr rfl fun k _ => e k, ← Finset.sum_filter]
  refine (Finset.sum_nbij' (fun q : Fin 64 => (⟨c.val / 64 * 64 + q.val, by omega⟩ : Fin 512))
    (fun k => ⟨k.val % 64, Nat.mod_lt _ (by norm_num)⟩) ?_ ?_ ?_ ?_ ?_).symm
  · intro q _
    simp only [Finset.mem_filter, Finset.mem_univ, true_and]
    omega
  · intro k _; exact Finset.mem_univ _
  · intro q _; ext; show (c.val / 64 * 64 + q.val) % 64 = q.val; omega
  · intro k hk
    have hk' : k.val / 64 = c.val / 64 := (Finset.mem_filter.mp hk).2
    ext; show c.val / 64 * 64 + k.val % 64 = k.val; omega
  · intro q _; rfl

theorem ms_pos (s : Fin n) : 0 < ms W R s := by
  unfold ms
  have h : 0 ≤ ∑ c, x2 W R s c * x2 W R s c := Finset.sum_nonneg fun c _ => mul_self_nonneg _
  have := eps_pos
  positivity

/-- The normalisation's factor squared is the reciprocal of the mean. -/
theorem r_sq (s : Fin n) : r W R s * r W R s = 1 / ms W R s := by
  unfold r
  rw [← mul_inv, Real.mul_self_sqrt (ms_pos W R s).le, one_div]

/-- The part of a sum over the tokens that the blocks `0 … n` hold. -/
def upTo (f : Fin 8192 → ℝ) (n : ℕ) : ℝ :=
  ∑ k ∈ Finset.range (n + 1), ∑ p : Fin 256, f ⟨(k * 256 + p.val) % 8192, Nat.mod_lt _ (by norm_num)⟩

theorem upTo_last (f : Fin 8192 → ℝ) : upTo f 31 = ∑ s, f s := by
  unfold upTo
  rw [Finset.sum_range, ← (finProdFinEquiv (m := 32) (n := 256)).sum_comp f, Fintype.sum_prod_type]
  refine Finset.sum_congr rfl fun k _ => Finset.sum_congr rfl fun p _ => congrArg f (Fin.ext ?_)
  show (k.val * 256 + p.val) % 8192 = p.val + 256 * k.val
  omega

end Merge

end
-- ==== Proof.Coe.lean ====
/-
  Arrays over the extended reals that hold finite values: `IsC v V` says that the two-dimensional array `v` is, entry by
  entry, the real matrix `V`. The values of the two programs are related to the real mathematics through it.
-/
module

public import Idealize.ShloMosaic.Lib.Pointwise
public import proofs.«01_k».proof.Proof.Math

@[expose] public section

noncomputable section

namespace Merge

open Idealize.ShloMosaic

/-- The array `v` holds the reals `V`. -/
def IsC {φ : FTy} {a b : ℕ} (v : FVec Ideal ⟨2, ![a, b]⟩ φ) (V : Mat a b) : Prop :=
  ∀ i j, v (ix2 i j) = ((V i j : ℝ) : EReal)

/-- The array of given reals. -/
def arr {a b : ℕ} (V : Mat a b) : (⟨2, ![a, b]⟩ : Shape).Idx → EReal := fun i => ((V (i 0) (i 1) : ℝ) : EReal)

theorem IsC.eq_arr {φ : FTy} {a b : ℕ} {v : FVec Ideal ⟨2, ![a, b]⟩ φ} {V : Mat a b} (h : IsC v V) : v = arr V := by
  funext i
  have e : i = ix2 (i 0) (i 1) := by
    funext a
    match a with
    | ⟨0, _⟩ => rfl
    | ⟨1, _⟩ => rfl
  rw [e]
  exact h _ _

theorem sum_coe {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_one : (1 : EReal) = ((1 : ℝ) : EReal) := rfl
theorem lit_two : Ideal.ofBits .f32 0x40000000#32 = ((2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_2048 : Ideal.ofBits .f32 0x45000000#32 = ((2048 : ℝ) : EReal) := by
  simp [Ideal.ofBits, Ideal.ieee, -EReal.coe_mul]; norm_num
theorem lit_inv1024 : Ideal.ofBits .f32 0x3A800000#32 = ((1 / 1024 : ℝ) : EReal) := by
  simp [Ideal.ofBits, Ideal.ieee, -EReal.coe_mul]; norm_num
theorem lit_eps : Ideal.ofBits .f32 0x358637BD#32 = ((eps : ℝ) : EReal) := by
  simp [Ideal.ofBits, Ideal.ieee, -EReal.coe_mul, eps]; norm_num

/-- The reciprocal of a root, of a positive real. -/
theorem rsqrt_pos {x : ℝ} (h : 0 < x) : Ideal.rsqrt ((x : ℝ) : EReal) = (((√x)⁻¹ : ℝ) : EReal) := by
  rw [Ideal.rsqrt_coe, if_neg (not_lt.mpr h.le), if_neg h.ne']

theorem div_1024 (x : ℝ) : Ideal.div ((x : ℝ) : EReal) ((1024 : ℝ) : EReal) = ((x * (1 / 1024) : ℝ) : EReal) := by
  rw [Ideal.div_coe (by norm_num), ← EReal.coe_mul]

end Merge

end
-- ==== Proof.Args.lean ====
/- What the ten arguments, of the kernel and of the reference alike, hold: reals, named by the mathematics. -/
module

public import proofs.«01_k».proof.Proof.Coe

@[expose] public section

noncomputable section

namespace Merge

open Idealize.ShloMosaic

/-- What the arguments hold. The third, the projection, holds the attention's gate and the two merge gates among its
    columns. -/
structure Args (W : Params) (R : Rows 8192) (P : Mat 8192 8192)
    (x0 : FVec Ideal ⟨2, ![8192, 512]⟩ .f32) (x1 : FVec Ideal ⟨2, ![8192, 1024]⟩ .bf16)
    (x2 : FVec Ideal ⟨2, ![8192, 8192]⟩ .f32) (x3 x4 : FVec Ideal ⟨2, ![8192, 1024]⟩ .f32) (x5 x6 : FVec Ideal ⟨2, ![1, 1024]⟩ .f32)
    (x7 : FVec Ideal ⟨2, ![512, 1024]⟩ .bf16) (x8 x9 : FVec Ideal ⟨2, ![1024, 1024]⟩ .bf16) : Prop where
  h0 : IsC x0 R.attn
  h1 : IsC x1 R.ob
  h2 : IsC x2 P
  za : R.za = fun s c => P s ⟨1536 + c.val, by omega⟩
  ga : R.ga = fun s c => P s ⟨6144 + c.val, by omega⟩
  gb : R.gb = fun s c => P s ⟨7168 + c.val, by omega⟩
  h3 : IsC x3 R.x
  h4 : IsC x4 R.t
  h5 : IsC x5 fun _ c => W.gate c
  h6 : IsC x6 fun _ c => W.fg c
  h7 : IsC x7 W.wa
  h8 : IsC x8 W.wb
  h9 : IsC x9 W.wo

/-- What the arguments hold, of arrays equal to them. -/
theorem Args.congr {W : Params} {R : Rows 8192} {P : Mat 8192 8192}
    {x0 x0' : FVec Ideal ⟨2, ![8192, 512]⟩ .f32} {x1 x1' : FVec Ideal ⟨2, ![8192, 1024]⟩ .bf16}
    {x2 x2' : FVec Ideal ⟨2, ![8192, 8192]⟩ .f32} {x3 x3' x4 x4' : FVec Ideal ⟨2, ![8192, 1024]⟩ .f32}
    {x5 x5' x6 x6' : FVec Ideal ⟨2, ![1, 1024]⟩ .f32} {x7 x7' : FVec Ideal ⟨2, ![512, 1024]⟩ .bf16}
    {x8 x8' x9 x9' : FVec Ideal ⟨2, ![1024, 1024]⟩ .bf16}
    (h : Args W R P x0 x1 x2 x3 x4 x5 x6 x7 x8 x9) (e0 : x0' = x0) (e1 : x1' = x1) (e2 : x2' = x2) (e3 : x3' = x3) (e4 : x4' = x4)
    (e5 : x5' = x5) (e6 : x6' = x6) (e7 : x7' = x7) (e8 : x8' = x8) (e9 : x9' = x9) :
    Args W R P x0' x1' x2' x3' x4' x5' x6' x7' x8' x9' := by
  subst e0 e1 e2 e3 e4 e5 e6 e7 e8 e9; exact h

end Merge

end
-- ==== Proof.Host.lean ====
/- What the host's lines before the launch leave in the three arrays they make for the kernel: the gated attention
   output, the two vectors with six rows of zeros, and the table of which channels share a head. -/
module

public import proofs.«01_k».proof.Proof.Gen.KernelIdeal.Frame.Runs
public import proofs.«01_k».proof.Proof.Args
public import Idealize.ShloMosaic.Lib.Claim
public import Idealize.ShloMosaic.Lib.Pointwise
public import Idealize.ShloMosaic.Lib.StableHlo.ReadAt

@[expose] public section

set_option maxRecDepth 16384

noncomputable section

namespace Merge

open Idealize.ShloMosaic Cert.KernelIdeal Cert.KernelIdeal.Gen

/-- What the kernel's arguments hold on a core. -/
abbrev KArgs (W : Params) (R : Rows 8192) (P : Mat 8192 8192) (m : (ℓ : Loc nD τ Cert.KernelIdeal.sig) → Buf (Elt Ideal) ℓ)
    (c : Dev nD) : Prop :=
  Args W R P (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))

variable {m : (ℓ : Loc nD τ Cert.KernelIdeal.sig) → Buf (Elt Ideal) ℓ} {c : Dev nD} {W : Params} {R : Rows 8192}
  {P : Mat 8192 8192} (K : KArgs W R P m c)
include K

/-- The attention's output through its gate. -/
theorem host_oa : IsC (φ := .bf16) (V m c main_v10) (oa R) := by
  intro i j
  have h0 := K.h0 i j
  have h2 := K.h2 i ⟨1536 + j.val, by omega⟩
  rw [← congrFun (congrFun K.za i) j] at h2
  unfold V
  after_reads_at
  rw [h0, h2, lit_half, ← EReal.coe_mul, Ideal.tanh_coe, ← EReal.coe_mul, ← EReal.coe_add, ← EReal.coe_mul,
    ← EReal.coe_mul]
  rfl

/-- The first row of the vectors. -/
theorem host_vec0 (j : Fin 1024) : (V m c main_v12 : FVec Ideal S8x1024 .f32) (ix2 0 j) = ((W.gate j : ℝ) : EReal) := by
  unfold V
  after_reads_at
  exact K.h5 0 j

/-- The second row of the vectors. -/
theorem host_vec1 (j : Fin 1024) : (V m c main_v12 : FVec Ideal S8x1024 .f32) (ix2 1 j) = ((W.fg j : ℝ) : EReal) := by
  unfold V
  after_reads_at
  exact K.h6 0 j

omit K in
/-- The table of the heads. -/
theorem host_head : IsC (φ := .bf16) (V m c main_v21) head := by
  intro i j
  have hi : i.val / 64 < 8 := by omega
  have hj : j.val / 64 < 8 := by omega
  unfold V
  after_reads_at
  unfold head
  by_cases e : i.val / 64 = j.val / 64
  · have h : IntOp.cmpi .eq (IntOp.addi (BitVec.ofNat 32 (i.val / 64)) 0#32) (BitVec.ofNat 32 (j.val / 64)) = 1#1 := by
      simp [IntOp.cmpi, IntOp.addi, e]
    rw [if_pos e, h]
    show (((1#1 : BitVec 1).toNat : ℝ) : EReal) = _
    simp
  · have h : IntOp.cmpi .eq (IntOp.addi (BitVec.ofNat 32 (i.val / 64)) 0#32) (BitVec.ofNat 32 (j.val / 64)) = 0#1 := by
      have : BitVec.ofNat 32 (i.val / 64) ≠ BitVec.ofNat 32 (j.val / 64) := fun h => e (by
        have := congrArg BitVec.toNat h
        simp only [BitVec.toNat_ofNat] at this
        omega)
      simp only [IntOp.cmpi, IntOp.addi, BitVec.add_zero, beq_eq_false_iff_ne.mpr this]; rfl
    rw [if_neg e, h]
    show (((0#1 : BitVec 1).toNat : ℝ) : EReal) = _
    simp

end Merge

end
-- ==== Proof.Reals.lean ====
/- The reals an array of finite elements holds. -/
module

public import proofs.«01_k».proof.Proof.Coe

@[expose] public section

noncomputable section

namespace Merge

open Idealize.ShloMosaic

/-- An element whose absolute value is below infinity is a real. -/
theorem coe_of_bit {x : EReal}
    (h : BitVec.ofBool (decide (FloatOps.absf (F := Ideal) (φ := .f32) x < Ideal.ofBits .f32 0x7F800000#32)) = 1#1) :
    x = ((x.toReal : ℝ) : EReal) := by
  have hlt : FloatOps.absf (F := Ideal) (φ := .f32) x < Ideal.ofBits .f32 0x7F800000#32 := by
    by_contra hn
    rw [decide_eq_false hn] at h
    exact absurd h (by decide)
  have hi : Ideal.ofBits .f32 0x7F800000#32 = ⊤ := by simp [Ideal.ofBits, Ideal.ieee]
  rw [hi] at hlt
  have h1 : x ≠ ⊤ := fun e => by subst e; exact absurd hlt (by show ¬(max (⊤ : EReal) (-⊤) < ⊤); simp)
  have h2 : x ≠ ⊥ := fun e => by subst e; exact absurd hlt (by show ¬(max (⊥ : EReal) (-⊥) < ⊤); simp)
  exact (EReal.coe_toReal h1 h2).symm

/-- The reals an array holds. -/
def reals {a b : ℕ} (v : (⟨2, ![a, b]⟩ : Shape).Idx → EReal) : Mat a b := fun i j => (v (ix2 i j)).toReal

end Merge

end
-- ==== Proof.Finite.lean ====
/- The precondition: every element of the arguments is a real; the reals the arguments hold. -/
module

public import proofs.«01_k».proof.Defs
public import proofs.«01_k».proof.Proof.Host
public import proofs.«01_k».proof.Proof.Reals

@[expose] public section

set_option maxRecDepth 16384

noncomputable section

namespace Merge

open Idealize.ShloMosaic

instance preFacts : Cert.Pre_finite.Facts where
  bcast_S_S8192x512 := by decide +kernel
  bitsLt_bf16_f32 := by decide +kernel
  bcast_S_S8192x1024 := by decide +kernel
  bcast_S_S8192x8192 := by decide +kernel
  bcast_S_S1x1024 := by decide +kernel
  bcast_S_S512x1024 := by decide +kernel
  bcast_S_S1024x1024 := by decide +kernel

section
variable (x0 : FVec Ideal ⟨2, ![8192, 512]⟩ .f32) (x1 : FVec Ideal ⟨2, ![8192, 1024]⟩ .bf16)
    (x2 : FVec Ideal ⟨2, ![8192, 8192]⟩ .f32) (x3 x4 : FVec Ideal ⟨2, ![8192, 1024]⟩ .f32) (x5 x6 : FVec Ideal ⟨2, ![1, 1024]⟩ .f32)
    (x7 : FVec Ideal ⟨2, ![512, 1024]⟩ .bf16) (x8 x9 : FVec Ideal ⟨2, ![1024, 1024]⟩ .bf16)

/-- The parameters among the arguments. -/
def params : Params := ⟨reals x7, reals x8, reals x9, reals x5 0, reals x6 0⟩

/-- The tokens' rows among the arguments. -/
def rows : Rows 8192 :=
  ⟨reals x0, fun s c => reals x2 s ⟨1536 + c.val, by omega⟩, reals x1, fun s c => reals x2 s ⟨6144 + c.val, by omega⟩,
    fun s c => reals x2 s ⟨7168 + c.val, by omega⟩, reals x3, reals x4⟩

/-- Under the precondition the arguments hold these reals. -/
theorem args_of_pre {x0 x1 x2 x3 x4 x5 x6 x7 x8 x9}
    (h0 : (Cert.Pre_finite.fn (F := Ideal) x0 x1 x2 x3 x4 x5 x6 x7 x8 x9).1 = fun _ => 1#1)
    (h1 : (Cert.Pre_finite.fn (F := Ideal) x0 x1 x2 x3 x4 x5 x6 x7 x8 x9).2.1 = fun _ => 1#1)
    (h2 : (Cert.Pre_finite.fn (F := Ideal) x0 x1 x2 x3 x4 x5 x6 x7 x8 x9).2.2.1 = fun _ => 1#1)
    (h3 : (Cert.Pre_finite.fn (F := Ideal) x0 x1 x2 x3 x4 x5 x6 x7 x8 x9).2.2.2.1 = fun _ => 1#1)
    (h4 : (Cert.Pre_finite.fn (F := Ideal) x0 x1 x2 x3 x4 x5 x6 x7 x8 x9).2.2.2.2.1 = fun _ => 1#1)
    (h5 : (Cert.Pre_finite.fn (F := Ideal) x0 x1 x2 x3 x4 x5 x6 x7 x8 x9).2.2.2.2.2.1 = fun _ => 1#1)
    (h6 : (Cert.Pre_finite.fn (F := Ideal) x0 x1 x2 x3 x4 x5 x6 x7 x8 x9).2.2.2.2.2.2.1 = fun _ => 1#1)
    (h7 : (Cert.Pre_finite.fn (F := Ideal) x0 x1 x2 x3 x4 x5 x6 x7 x8 x9).2.2.2.2.2.2.2.1 = fun _ => 1#1)
    (h8 : (Cert.Pre_finite.fn (F := Ideal) x0 x1 x2 x3 x4 x5 x6 x7 x8 x9).2.2.2.2.2.2.2.2.1 = fun _ => 1#1)
    (h9 : (Cert.Pre_finite.fn (F := Ideal) x0 x1 x2 x3 x4 x5 x6 x7 x8 x9).2.2.2.2.2.2.2.2.2 = fun _ => 1#1)
    : Args (params x5 x6 x7 x8 x9) (rows x0 x1 x2 x3 x4) (reals x2) x0 x1 x2 x3 x4 x5 x6 x7 x8 x9 where
  za := rfl
  ga := rfl
  gb := rfl
  h0 i j := by
    have h := congrFun h0 (ix2 i j)
    pointwise [Cert.Pre_finite.fn, Cert.Pre_finite.fn_part1] at h
    exact coe_of_bit h
  h1 i j := by
    have h := congrFun h1 (ix2 i j)
    pointwise [Cert.Pre_finite.fn, Cert.Pre_finite.fn_part1] at h
    exact coe_of_bit h
  h2 i j := by
    have h := congrFun h2 (ix2 i j)
    pointwise [Cert.Pre_finite.fn, Cert.Pre_finite.fn_part1] at h
    exact coe_of_bit h
  h3 i j := by
    have h := congrFun h3 (ix2 i j)
    pointwise [Cert.Pre_finite.fn, Cert.Pre_finite.fn_part1] at h
    exact coe_of_bit h
  h4 i j := by
    have h := congrFun h4 (ix2 i j)
    pointwise [Cert.Pre_finite.fn, Cert.Pre_finite.fn_part1] at h
    exact coe_of_bit h
  h5 i j := by
    obtain rfl : i = 0 := Subsingleton.elim _ _
    have h := congrFun h5 (ix2 0 j)
    pointwise [Cert.Pre_finite.fn, Cert.Pre_finite.fn_part1] at h
    exact coe_of_bit h
  h6 i j := by
    obtain rfl : i = 0 := Subsingleton.elim _ _
    have h := congrFun h6 (ix2 0 j)
    pointwise [Cert.Pre_finite.fn, Cert.Pre_finite.fn_part1] at h
    exact coe_of_bit h
  h7 i j := by
    have h := congrFun h7 (ix2 i j)
    pointwise [Cert.Pre_finite.fn, Cert.Pre_finite.fn_part1] at h
    exact coe_of_bit h
  h8 i j := by
    have h := congrFun h8 (ix2 i j)
    pointwise [Cert.Pre_finite.fn, Cert.Pre_finite.fn_part1] at h
    exact coe_of_bit h
  h9 i j := by
    have h := congrFun h9 (ix2 i j)
    pointwise [Cert.Pre_finite.fn, Cert.Pre_finite.fn_part1] at h
    exact coe_of_bit h

end

end Merge

end
-- ==== Proof.Block.lean ====
/- What the merge kernel does to one block of 256 tokens: from the thirteen staged input blocks, the block each
   output buffer holds when the body ends, and what the body adds to the two running accumulators. -/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Merge

open Cert.KernelIdeal Cert.KernelIdeal.Gen Idealize.ShloMosaic Idealize.ShloMosaic.TcCoe

/-- The input blocks of one grid point, numbered as the kernel's arguments. -/
structure Ins (F : FTy → Type) [FloatOps F] where
  a1 : Vec F S256x512 .bf16
  a2 : Vec F S256x1024 .bf16
  a3 : Vec F S256x1024 .f32
  a4 : Vec F S256x1024 .f32
  a5 : Vec F S256x1024 .f32
  a6 : Vec F S256x1024 .f32
  a7 : Vec F S8x1024 .f32
  a8 : Vec F S256x512 .f32
  a9 : Vec F S256x512 .f32
  a10 : Vec F S512x1024 .bf16
  a11 : Vec F S1024x1024 .bf16
  a12 : Vec F S1024x1024 .bf16
  a13 : Vec F S512x512 .bf16

namespace Ins

variable {F : FTy → Type} [FloatOps F]

/-- Row `0` of an eight-row block. -/
abbrev row0 (A : Vec F S8x1024 .f32) : Vec F S1x1024 .f32 :=
  View.ld A (Rect.unit (s := S8x1024) ![0, 0] S1x1024.size inb_S8x1024_S1x1024_0_0)

/-- Row `1` of an eight-row block. -/
abbrev row1 (A : Vec F S8x1024 .f32) : Vec F S1x1024 .f32 :=
  View.ld A (Rect.unit (s := S8x1024) ![1, 0] S1x1024.size inb_S8x1024_S1x1024_1_0)

variable (X : Ins F)

/-! The values the body computes on the way, numbered as in the printed kernel. -/

abbrev v4 := k0_pay6 (row0 X.a7)
abbrev v6 := k0_pay7 (row1 X.a7)
abbrev v10 := k0_pay8 X.a1 X.a10
abbrev v13 := k0_pay9 X.a2 X.a11
abbrev v21 := k0_pay10 X.a3
abbrev v29 := k0_pay11 X.a4
abbrev v30 := k0_pay12 X.a1 X.a10 X.a3
abbrev v31 := k0_pay13 X.a2 X.a11 X.a4
abbrev v36 := k0_pay15 X.v30 X.v31 X.a12
abbrev v40 := k0_pay16 X.v4 X.v30 X.v31 X.a12 X.a5
abbrev v48 := k0_pay17 X.v4 X.v30 X.v31 X.a12 X.a5
abbrev v66 := k0_pay20 X.v4 X.v6 X.v30 X.v31 X.a12 X.a5 X.a6
abbrev v68 := k0_pay21 X.v4 X.v6 X.v30 X.v31 X.a12 X.a5 X.a6
abbrev v70 := k0_pay22 X.v4 X.v6 X.v30 X.v31 X.a12 X.a5 X.a6
abbrev v71 := k0_pay23 X.v4 X.v30 X.v31 X.a12 X.a5
abbrev v104 := k0_pay28 X.v4 X.v40 X.v48 X.v68 X.v70 X.v71 X.a12
abbrev v106 := k0_pay29 X.v4 X.v21 X.v40 X.v48 X.v68 X.v70 X.v71 X.a12
abbrev v108 := k0_pay30 X.v4 X.v29 X.v40 X.v48 X.v68 X.v70 X.v71 X.a12
abbrev v126 := k0_pay33 X.v106 X.a10
abbrev v137 := k0_pay35 X.a9

/-! The blocks the body leaves. -/

/-- The merged branches `y`. -/
def o14 : Vec F S256x1024 .bf16 := k0_pay14 X.v30 X.v31
/-- The gradient of the residual stream. -/
def o15 : Vec F S256x1024 .f32 := k0_pay24 X.v40 X.v48 X.v68 X.v70 X.v71
/-- The gradient of the output product. -/
def o16 : Vec F S256x1024 .bf16 := k0_pay27 X.v4 X.v40 X.v48 X.v68 X.v70 X.v71
/-- The gradient of the first branch. -/
def o17 : Vec F S256x1024 .bf16 := X.v106
/-- The gradient of the second branch. -/
def o18 : Vec F S256x1024 .bf16 := X.v108
/-- The gradients of the two gates, side by side. -/
def o19 : Vec F S256x2048 .bf16 := fun i =>
  if h : (i 1).val < 1024 then k0_pay31 X.v10 X.v21 X.v104 (ix2 (i 0) ⟨(i 1).val, h⟩)
  else k0_pay32 X.v13 X.v29 X.v104
    (ix2 (i 0) ⟨(i 1).val - 1024, by have : (i 1).val < 2048 := (i 1).isLt; omega⟩)
/-- The gradient of the attention output. -/
def o20 : Vec F S256x512 .f32 := k0_pay1 X.v126 X.a9 X.v137
/-- The row sums `⟨attention, its gradient⟩` of each head, repeated along the head. -/
def o21 : Vec F S256x512 .f32 := k0_pay3 X.v126 X.a9 X.v137 X.a8 X.a13
/-- The gradient of the attention gate. -/
def o22 : Vec F S256x512 .bf16 := k0_pay2 X.v126 X.a9 X.v137 X.a8
/-- The gradient of the second branch's input. -/
def o23 : Vec F S256x1024 .f32 := k0_pay34 X.v108 X.a11

/-- The accumulator of the gate's and the norm weight's gradients after the body: rows `0` and `1` grow, the rest stays. -/
def next24 (A : Vec F S8x1024 .f32) : Vec F S8x1024 .f32 := fun i =>
  if (i 0).val = 0 then k0_pay25 X.v36 X.v40 X.v48 X.v68 X.v70 X.v71 (row0 A) (ix2 0 (i 1))
  else if (i 0).val = 1 then k0_pay26 X.v40 X.v48 X.v66 (row1 A) (ix2 0 (i 1))
  else A i

/-- The accumulator of the squared error after the body. -/
def next25 (A : Vec F S8x128 .f32) : Vec F S8x128 .f32 :=
  k0_pay19 X.v4 X.v6 X.v30 X.v31 X.a12 X.a5 X.a6 A

end Ins

end Merge
-- ==== Proof.Launch.Rows.lean ====
/- How stores into parts of a block read back, for the two buffers the merge kernel fills in parts. -/
module

public import proofs.«01_k».proof.Proof.Block
public import Idealize.ShloMosaic.Lib.WritesUnit
public import Idealize.ShloMosaic.Lib.VecWindow
public import Idealize.ShloMosaic.Lib.Pipeline.ValueKit

@[expose] public section

set_option maxRecDepth 16384
set_option maxHeartbeats 4000000

noncomputable section

namespace Merge

open Cert.KernelIdeal Cert.KernelIdeal.Gen Idealize.ShloMosaic Idealize.ShloMosaic.TcCoe Idealize.ShloMosaic.Tactic

variable {F : FTy → Type} [FloatOps F]

/-- Two stores of the two column halves of a block: what the block reads. -/
theorem gates_cols {v : View sig .tc .vmem S256x2048 .bf16} (f : v.ty.Contents (Elt F)) (w₀ w₁ : Vec F S256x1024 .bf16) :
    v.read (Elt F) (v.writes (Elt F) f
        [⟨Rect.unit (s := S256x2048) ![0, 1024] S256x1024.size inb_S256x2048_S256x1024_0_1024, w₁⟩,
          ⟨Rect.unit (s := S256x2048) ![0, 0] S256x1024.size inb_S256x2048_S256x1024_0_0, w₀⟩])
      = fun i => if h : (i 1).val < 1024 then w₀ (ix2 (i 0) ⟨(i 1).val, h⟩)
          else w₁ (ix2 (i 0) ⟨(i 1).val - 1024, by have : (i 1).val < 2048 := (i 1).isLt; omega⟩) := by
  funext i
  have hi : (i 1).val < 2048 := (i 1).isLt
  by_cases h : (i 1).val < 1024
  · rw [dif_pos h, View.read_writes_cons_unit_of_not_mem _ _ _ _ _ _ rfl 1 (Or.inl h)]
    exact View.read_writes_cons_unit_of_mem v f _ w₀ _ i (ix2 (i 0) ⟨(i 1).val, h⟩ : S256x1024.Idx) rfl fun a =>
      match a with
      | ⟨0, _⟩ => (Nat.zero_add _).symm
      | ⟨1, _⟩ => (Nat.zero_add _).symm
  · rw [dif_neg h]
    exact View.read_writes_cons_unit_of_mem v f _ w₁ _ i (ix2 (i 0) ⟨(i 1).val - 1024, by omega⟩ : S256x1024.Idx) rfl fun a =>
      match a with
      | ⟨0, _⟩ => (Nat.zero_add _).symm
      | ⟨1, _⟩ => show (i 1).val = 1024 + ((i 1).val - 1024) by omega

/-- Stores of row `0` and of row `1` of an eight-row block: what the block reads. -/
theorem acc_rows {v : View sig .tc .vmem S8x1024 .f32} (f : v.ty.Contents (Elt F)) (w₀ w₁ : Vec F S1x1024 .f32)
    (A : Vec F S8x1024 .f32) (L : List (View.Piece (Elt F) S8x1024 .f32)) (hA : v.read (Elt F) (v.writes (Elt F) f L) = A) :
    v.read (Elt F) (v.writes (Elt F) f
        (⟨Rect.unit (s := S8x1024) ![1, 0] S1x1024.size inb_S8x1024_S1x1024_1_0, w₁⟩ ::
          ⟨Rect.unit (s := S8x1024) ![0, 0] S1x1024.size inb_S8x1024_S1x1024_0_0, w₀⟩ :: L))
      = fun i => if (i 0).val = 0 then w₀ (ix2 0 (i 1)) else if (i 0).val = 1 then w₁ (ix2 0 (i 1)) else A i := by
  funext i
  by_cases h : (i 0).val = 1
  · rw [if_neg (by omega), if_pos h]
    exact View.read_writes_cons_unit_of_mem v f _ w₁ _ i (ix2 0 (i 1) : S1x1024.Idx) rfl fun a =>
      match a with
      | ⟨0, _⟩ => h
      | ⟨1, _⟩ => (Nat.zero_add _).symm
  rw [View.read_writes_cons_unit_of_not_mem _ _ _ _ _ _ rfl 0 (show (i 0).val < 1 ∨ 1 + 1 ≤ (i 0).val by omega)]
  by_cases h0 : (i 0).val = 0
  · rw [if_pos h0]
    exact View.read_writes_cons_unit_of_mem v f _ w₀ _ i (ix2 0 (i 1) : S1x1024.Idx) rfl fun a =>
      match a with
      | ⟨0, _⟩ => h0
      | ⟨1, _⟩ => (Nat.zero_add _).symm
  · rw [if_neg h0, if_neg h, ← hA]
    exact View.read_writes_cons_unit_of_not_mem _ _ _ _ _ _ rfl 0 (show (i 0).val < 0 ∨ 0 + 1 ≤ (i 0).val by omega)

/-- Row `0` of a block just filled. -/
theorem readCov_row0 (v : View sig .tc .vmem S8x1024 .f32) (Z : Vec F S8x1024 .f32) :
    v.readCov [(⟨Rect.unit (s := S8x1024) ![0, 0] S8x1024.size inb_S8x1024_S8x1024_0_0, Z⟩ : View.Piece (Elt F) S8x1024 .f32)]
        (Rect.unit (s := S8x1024) ![0, 0] S1x1024.size inb_S8x1024_S1x1024_0_0).toLoadRect
      = Ins.row0 Z := by
  have h := View.read_writes_full v v.junk inb_S8x1024_S8x1024_0_0 Z []
  exact congrArg (fun A => View.ld A (Rect.unit (s := S8x1024) ![0, 0] S1x1024.size inb_S8x1024_S1x1024_0_0)) h

/-- Row `1` of a block just filled and then stored to in row `0`. -/
theorem readCov_row1 (v : View sig .tc .vmem S8x1024 .f32) (Z : Vec F S8x1024 .f32) (w : Vec F S1x1024 .f32) :
    v.readCov [(⟨Rect.unit (s := S8x1024) ![0, 0] S1x1024.size inb_S8x1024_S1x1024_0_0, w⟩ : View.Piece (Elt F) S8x1024 .f32),
          ⟨Rect.unit (s := S8x1024) ![0, 0] S8x1024.size inb_S8x1024_S8x1024_0_0, Z⟩]
        (Rect.unit (s := S8x1024) ![1, 0] S1x1024.size inb_S8x1024_S1x1024_1_0).toLoadRect
      = Ins.row1 Z := by
  have h := View.read_writes_full v v.junk inb_S8x1024_S8x1024_0_0 Z []
  funext j
  refine (View.read_writes_cons_unit_of_not_mem v v.junk _ w _
    ((Rect.unit (s := S8x1024) ![1, 0] S1x1024.size inb_S8x1024_S1x1024_1_0).toLoadRect.idx j) rfl 0 (Or.inr ?_)).trans
    (congrFun h _)
  show 0 + 1 ≤ 1 + 1 * (j 0).val
  omega

end Merge
-- ==== Proof.Launch.ReadA.lean ====
/- The merge kernel's body, read back: the pieces its run leaves in each output buffer are the blocks of `Ins`. -/
module

public import proofs.«01_k».proof.Proof.Gen.KernelIdeal.Frame.RunA
public import proofs.«01_k».proof.Proof.Launch.Rows
public import Idealize.ShloMosaic.Lib.Pipeline.ValueKit

@[expose] public section

set_option maxRecDepth 16384
set_option maxHeartbeats 4000000

noncomputable section

namespace Merge

open Cert.KernelIdeal Cert.KernelIdeal.Gen Idealize.ShloMosaic Idealize.ShloMosaic.TcCoe Idealize.ShloMosaic.Tactic

variable {F : FTy → Type} [FloatOps F]

theorem reads_A (c : Dev nD) (i : grid0.Coords) (arg1 : Memref sig .tc .vmem S256x512 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S512x512 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x2048 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x1024 .f32) (harg23 : arg23.IsWhole) (arg24 : Memref sig .tc .vmem S8x1024 .f32) (harg24 : arg24.IsWhole) (arg25 : Memref sig .tc .vmem S8x128 .f32) (harg25 : arg25.IsWhole)
    (hc0 : cond0_0 i) (X : Ins F) :
    let k := kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0
      X.a1 X.a2 X.a3 X.a4 X.a5 X.a6 X.a7 X.a8 X.a9 X.a10 X.a11 X.a12 X.a13
    (∀ f, arg14.view.read (Elt F) (arg14.view.writes (Elt F) f k.1) = X.o14) ∧
    (∀ f, arg15.view.read (Elt F) (arg15.view.writes (Elt F) f k.2.1) = X.o15) ∧
    (∀ f, arg16.view.read (Elt F) (arg16.view.writes (Elt F) f k.2.2.1) = X.o16) ∧
    (∀ f, arg17.view.read (Elt F) (arg17.view.writes (Elt F) f k.2.2.2.1) = X.o17) ∧
    (∀ f, arg18.view.read (Elt F) (arg18.view.writes (Elt F) f k.2.2.2.2.1) = X.o18) ∧
    (∀ f, arg19.view.read (Elt F) (arg19.view.writes (Elt F) f k.2.2.2.2.2.1) = X.o19) ∧
    (∀ f, arg20.view.read (Elt F) (arg20.view.writes (Elt F) f k.2.2.2.2.2.2.1) = X.o20) ∧
    (∀ f, arg21.view.read (Elt F) (arg21.view.writes (Elt F) f k.2.2.2.2.2.2.2.1) = X.o21) ∧
    (∀ f, arg22.view.read (Elt F) (arg22.view.writes (Elt F) f k.2.2.2.2.2.2.2.2.1) = X.o22) ∧
    (∀ f, arg23.view.read (Elt F) (arg23.view.writes (Elt F) f k.2.2.2.2.2.2.2.2.2.1) = X.o23) ∧
    (∀ f, arg24.view.read (Elt F) (arg24.view.writes (Elt F) f k.2.2.2.2.2.2.2.2.2.2.1) = X.next24 k0_pay4) ∧
    (∀ f, arg25.view.read (Elt F) (arg25.view.writes (Elt F) f k.2.2.2.2.2.2.2.2.2.2.2.1) = X.next25 k0_pay5) := by
  unfold kernelRun0_A
  intro k
  refine ⟨fun f => ?_, fun f => ?_, fun f => ?_, fun f => ?_, fun f => ?_, fun f => ?_, fun f => ?_, fun f => ?_, fun f => ?_, fun f => ?_, fun f => ?_, fun f => ?_⟩
  case refine_11 =>
    simp only [k]
    sl_unfold_words
    simp (disch := decide) only [View.readAt_eq_ld, Memref.IsWhole.read_unread, View.ld_unit_lit']
    clear k
    rw [readCov_row1, readCov_row0]
    exact acc_rows _ _ _ _ _ (View.read_writes_full _ _ _ _ _)
  case refine_6 =>
    simp only [k]
    sl_unfold_words
    simp (disch := decide) only [View.readAt_eq_ld, Memref.IsWhole.read_unread, View.ld_unit_lit']
    clear k
    exact gates_cols _ _ _
  case refine_12 =>
    simp only [k]
    sl_unfold_words
    simp (disch := decide) only [View.readAt_eq_ld, Memref.IsWhole.read_unread, View.ld_unit_lit', View.readCov_unit_lit']
    clear k
    exact View.read_writes_full (s := _) _ _ _ _ _
  all_goals
    simp only [k]
    sl_unfold_words
    simp (disch := decide) only [View.readAt_eq_ld, Memref.IsWhole.read_unread, View.ld_unit_lit']
    clear k
    exact View.read_writes_full (s := _) _ _ _ _ []

end Merge
-- ==== Proof.Launch.Step.lean ====
/- Two rules for a body that holds 25 buffers, 13 it reads and 12 it writes: what the writes leave may be restated buffer by
   buffer, and the body's run may be framed with what the launch holds beside the buffers. -/
module

public import proofs.«01_k».proof.Proof.Launch.Rows
public import Idealize.ShloMosaic.Lib.Pipeline.ValueKit

@[expose] public section

set_option maxRecDepth 16384

noncomputable section

namespace Merge.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the writes leave, restated buffer by buffer. -/
theorem restate {I0 I1 I2 I3 I4 I5 I6 I7 I8 I9 I10 I11 I12 O13 O14 O15 O16 O17 O18 O19 O20 O21 O22 O23 O24 W13 W14 W15 W16 W17 W18 W19 W20 W21 W22 W23 W24 N13 N14 N15 N16 N17 N18 N19 N20 N21 N22 N23 N24 K G : sProp 𝕄}
    (w13 : W13 ⊢ N13) (w14 : W14 ⊢ N14) (w15 : W15 ⊢ N15) (w16 : W16 ⊢ N16) (w17 : W17 ⊢ N17) (w18 : W18 ⊢ N18) (w19 : W19 ⊢ N19) (w20 : W20 ⊢ N20) (w21 : W21 ⊢ N21) (w22 : W22 ⊢ N22) (w23 : W23 ⊢ N23) (w24 : W24 ⊢ N24)
    (run : iprop(I0 ∗ I1 ∗ I2 ∗ I3 ∗ I4 ∗ I5 ∗ I6 ∗ I7 ∗ I8 ∗ I9 ∗ I10 ∗ I11 ∗ I12 ∗ O13 ∗ O14 ∗ O15 ∗ O16 ∗ O17 ∗ O18 ∗ O19 ∗ O20 ∗ O21 ∗ O22 ∗ O23 ∗ O24 ∗ (iprop(I0 ∗ I1 ∗ I2 ∗ I3 ∗ I4 ∗ I5 ∗ I6 ∗ I7 ∗ I8 ∗ I9 ∗ I10 ∗ I11 ∗ I12 ∗ W13 ∗ W14 ∗ W15 ∗ W16 ∗ W17 ∗ W18 ∗ W19 ∗ W20 ∗ W21 ∗ W22 ∗ W23 ∗ W24) -∗ K)) ⊢ G) :
    iprop(I0 ∗ I1 ∗ I2 ∗ I3 ∗ I4 ∗ I5 ∗ I6 ∗ I7 ∗ I8 ∗ I9 ∗ I10 ∗ I11 ∗ I12 ∗ O13 ∗ O14 ∗ O15 ∗ O16 ∗ O17 ∗ O18 ∗ O19 ∗ O20 ∗ O21 ∗ O22 ∗ O23 ∗ O24 ∗ (iprop(I0 ∗ I1 ∗ I2 ∗ I3 ∗ I4 ∗ I5 ∗ I6 ∗ I7 ∗ I8 ∗ I9 ∗ I10 ∗ I11 ∗ I12 ∗ N13 ∗ N14 ∗ N15 ∗ N16 ∗ N17 ∗ N18 ∗ N19 ∗ N20 ∗ N21 ∗ N22 ∗ N23 ∗ N24) -∗ K)) ⊢ G := by
  refine .trans ?_ run
  iintro ⟨H0, H1, H2, H3, H4, H5, H6, H7, H8, H9, H10, H11, H12, H13, H14, H15, H16, H17, H18, H19, H20, H21, H22, H23, H24, HK⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iintro ⟨H0, H1, H2, H3, H4, H5, H6, H7, H8, H9, H10, H11, H12, H13, H14, H15, H16, H17, H18, H19, H20, H21, H22, H23, H24⟩
  iapply HK
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply w13; iexact H13
  isplitl [H14]; · iapply w14; iexact H14
  isplitl [H15]; · iapply w15; iexact H15
  isplitl [H16]; · iapply w16; iexact H16
  isplitl [H17]; · iapply w17; iexact H17
  isplitl [H18]; · iapply w18; iexact H18
  isplitl [H19]; · iapply w19; iexact H19
  isplitl [H20]; · iapply w20; iexact H20
  isplitl [H21]; · iapply w21; iexact H21
  isplitl [H22]; · iapply w22; iexact H22
  isplitl [H23]; · iapply w23; iexact H23
  iapply w24; iexact H24

/-- The body's run between what the launch hands over and what it takes back. -/
theorem framed {Φ Φ' Ow Ow' P0 P1 P2 P3 P4 P5 P6 P7 P8 P9 P10 P11 P12 P13 P14 P15 P16 P17 P18 P19 P20 P21 P22 P23 P24 I0 I1 I2 I3 I4 I5 I6 I7 I8 I9 I10 I11 I12 O13 O14 O15 O16 O17 O18 O19 O20 O21 O22 O23 O24 N13 N14 N15 N16 N17 N18 N19 N20 N21 N22 N23 N24 Q0 Q1 Q2 Q3 Q4 Q5 Q6 Q7 Q8 Q9 Q10 Q11 Q12 Q13 Q14 Q15 Q16 Q17 Q18 Q19 Q20 Q21 Q22 Q23 Q24 : sProp 𝕄} {G : (PUnit → sProp 𝕄) → sProp 𝕄}
    (run : ∀ K, iprop(I0 ∗ I1 ∗ I2 ∗ I3 ∗ I4 ∗ I5 ∗ I6 ∗ I7 ∗ I8 ∗ I9 ∗ I10 ∗ I11 ∗ I12 ∗ O13 ∗ O14 ∗ O15 ∗ O16 ∗ O17 ∗ O18 ∗ O19 ∗ O20 ∗ O21 ∗ O22 ∗ O23 ∗ O24 ∗ (iprop(I0 ∗ I1 ∗ I2 ∗ I3 ∗ I4 ∗ I5 ∗ I6 ∗ I7 ∗ I8 ∗ I9 ∗ I10 ∗ I11 ∗ I12 ∗ N13 ∗ N14 ∗ N15 ∗ N16 ∗ N17 ∗ N18 ∗ N19 ∗ N20 ∗ N21 ∗ N22 ∗ N23 ∗ N24) -∗ K ⟨⟩)) ⊢ G K)
    (hΦ : Φ ⊢ Φ') (hOw : Ow ⊢ Ow')
    (p0 : P0 ⊢ I0) (p1 : P1 ⊢ I1) (p2 : P2 ⊢ I2) (p3 : P3 ⊢ I3) (p4 : P4 ⊢ I4) (p5 : P5 ⊢ I5) (p6 : P6 ⊢ I6) (p7 : P7 ⊢ I7) (p8 : P8 ⊢ I8) (p9 : P9 ⊢ I9) (p10 : P10 ⊢ I10) (p11 : P11 ⊢ I11) (p12 : P12 ⊢ I12) (p13 : P13 ⊢ O13) (p14 : P14 ⊢ O14) (p15 : P15 ⊢ O15) (p16 : P16 ⊢ O16) (p17 : P17 ⊢ O17) (p18 : P18 ⊢ O18) (p19 : P19 ⊢ O19) (p20 : P20 ⊢ O20) (p21 : P21 ⊢ O21) (p22 : P22 ⊢ O22) (p23 : P23 ⊢ O23) (p24 : P24 ⊢ O24)
    (q0 : I0 ⊢ Q0) (q1 : I1 ⊢ Q1) (q2 : I2 ⊢ Q2) (q3 : I3 ⊢ Q3) (q4 : I4 ⊢ Q4) (q5 : I5 ⊢ Q5) (q6 : I6 ⊢ Q6) (q7 : I7 ⊢ Q7) (q8 : I8 ⊢ Q8) (q9 : I9 ⊢ Q9) (q10 : I10 ⊢ Q10) (q11 : I11 ⊢ Q11) (q12 : I12 ⊢ Q12) (q13 : N13 ⊢ Q13) (q14 : N14 ⊢ Q14) (q15 : N15 ⊢ Q15) (q16 : N16 ⊢ Q16) (q17 : N17 ⊢ Q17) (q18 : N18 ⊢ Q18) (q19 : N19 ⊢ Q19) (q20 : N20 ⊢ Q20) (q21 : N21 ⊢ Q21) (q22 : N22 ⊢ Q22) (q23 : N23 ⊢ Q23) (q24 : N24 ⊢ Q24) :
    iprop(Φ ∗ Ow ∗ P0 ∗ P1 ∗ P2 ∗ P3 ∗ P4 ∗ P5 ∗ P6 ∗ P7 ∗ P8 ∗ P9 ∗ P10 ∗ P11 ∗ P12 ∗ P13 ∗ P14 ∗ P15 ∗ P16 ∗ P17 ∗ P18 ∗ P19 ∗ P20 ∗ P21 ∗ P22 ∗ P23 ∗ P24) ⊢ G (fun _ => iprop(Φ' ∗ Ow' ∗ Q0 ∗ Q1 ∗ Q2 ∗ Q3 ∗ Q4 ∗ Q5 ∗ Q6 ∗ Q7 ∗ Q8 ∗ Q9 ∗ Q10 ∗ Q11 ∗ Q12 ∗ Q13 ∗ Q14 ∗ Q15 ∗ Q16 ∗ Q17 ∗ Q18 ∗ Q19 ∗ Q20 ∗ Q21 ∗ Q22 ∗ Q23 ∗ Q24)) := by
  refine .trans ?_ (run _)
  iintro ⟨HΦ, Ho, H0, H1, H2, H3, H4, H5, H6, H7, H8, H9, H10, H11, H12, H13, H14, H15, H16, H17, H18, H19, H20, H21, H22, H23, H24⟩
  isplitl [H0]; · iapply p0; iexact H0
  isplitl [H1]; · iapply p1; iexact H1
  isplitl [H2]; · iapply p2; iexact H2
  isplitl [H3]; · iapply p3; iexact H3
  isplitl [H4]; · iapply p4; iexact H4
  isplitl [H5]; · iapply p5; iexact H5
  isplitl [H6]; · iapply p6; iexact H6
  isplitl [H7]; · iapply p7; iexact H7
  isplitl [H8]; · iapply p8; iexact H8
  isplitl [H9]; · iapply p9; iexact H9
  isplitl [H10]; · iapply p10; iexact H10
  isplitl [H11]; · iapply p11; iexact H11
  isplitl [H12]; · iapply p12; iexact H12
  isplitl [H13]; · iapply p13; iexact H13
  isplitl [H14]; · iapply p14; iexact H14
  isplitl [H15]; · iapply p15; iexact H15
  isplitl [H16]; · iapply p16; iexact H16
  isplitl [H17]; · iapply p17; iexact H17
  isplitl [H18]; · iapply p18; iexact H18
  isplitl [H19]; · iapply p19; iexact H19
  isplitl [H20]; · iapply p20; iexact H20
  isplitl [H21]; · iapply p21; iexact H21
  isplitl [H22]; · iapply p22; iexact H22
  isplitl [H23]; · iapply p23; iexact H23
  isplitl [H24]; · iapply p24; iexact H24
  iintro ⟨H0, H1, H2, H3, H4, H5, H6, H7, H8, H9, H10, H11, H12, H13, H14, H15, H16, H17, H18, H19, H20, H21, H22, H23, H24⟩
  isplitl [HΦ]; · iapply hΦ; iexact HΦ
  isplitl [Ho]; · iapply hOw; iexact Ho
  isplitl [H0]; · iapply q0; iexact H0
  isplitl [H1]; · iapply q1; iexact H1
  isplitl [H2]; · iapply q2; iexact H2
  isplitl [H3]; · iapply q3; iexact H3
  isplitl [H4]; · iapply q4; iexact H4
  isplitl [H5]; · iapply q5; iexact H5
  isplitl [H6]; · iapply q6; iexact H6
  isplitl [H7]; · iapply q7; iexact H7
  isplitl [H8]; · iapply q8; iexact H8
  isplitl [H9]; · iapply q9; iexact H9
  isplitl [H10]; · iapply q10; iexact H10
  isplitl [H11]; · iapply q11; iexact H11
  isplitl [H12]; · iapply q12; iexact H12
  isplitl [H13]; · iapply q13; iexact H13
  isplitl [H14]; · iapply q14; iexact H14
  isplitl [H15]; · iapply q15; iexact H15
  isplitl [H16]; · iapply q16; iexact H16
  isplitl [H17]; · iapply q17; iexact H17
  isplitl [H18]; · iapply q18; iexact H18
  isplitl [H19]; · iapply q19; iexact H19
  isplitl [H20]; · iapply q20; iexact H20
  isplitl [H21]; · iapply q21; iexact H21
  isplitl [H22]; · iapply q22; iexact H22
  isplitl [H23]; · iapply q23; iexact H23
  iapply q24; iexact H24

/-- A buffer whose pieces read as `x` whatever lay beneath holds `x`. -/
theorem owns_written {sh : Shape} {e : EltTy} (c : Dev nD) (M : Memref sig .tc .vmem sh e) (L : List (View.Piece (Elt F) sh e))
    (x : Vec F sh e) (h : ∀ f, M.view.read (Elt F) (M.view.writes (Elt F) f L) = x) :
    iprop(∃ f, M.view.loc (c : Thread nD τ) ↦[M.view.set]{fullShare} M.view.writes (Elt F) f L)
      ⊢ (owns (c : Thread nD τ) M fullShare x : sProp 𝕄) := by
  iintro ⟨%f, H⟩
  unfold owns; iexists _; isplitr
  swap; · iexact H
  ipureintro; exact h f

/-- The same over known contents. -/
theorem owns_written_over {sh : Shape} {e : EltTy} (c : Dev nD) (M : Memref sig .tc .vmem sh e) (L : List (View.Piece (Elt F) sh e))
    (x : Vec F sh e) (f) (h : M.view.read (Elt F) (M.view.writes (Elt F) f L) = x) :
    iprop(M.view.loc (c : Thread nD τ) ↦[M.view.set]{fullShare} M.view.writes (Elt F) f L)
      ⊢ (owns (c : Thread nD τ) M fullShare x : sProp 𝕄) := by
  iintro H
  unfold owns; iexists _; isplitr
  swap; · iexact H
  ipureintro; exact h

/-- A buffer that holds `x` whatever `d` is. -/
theorem owns_before {sh : Shape} {e : EltTy} {α : Type} (c : Dev nD) (M : Memref sig .tc .vmem sh e) (g : α → Vec F sh e) (x : Vec F sh e)
    (h : ∀ d, g d = x) :
    iprop(∃ d, owns (c : Thread nD τ) M fullShare (g d)) ⊢ (owns (c : Thread nD τ) M fullShare x : sProp 𝕄) := by
  simp only [h]
  iintro ⟨%d, H⟩
  iexact H

/-- A buffer that holds something. -/
theorem owns_some {sh : Shape} {e : EltTy} {α : Type} (c : Dev nD) (M : Memref sig .tc .vmem sh e) (g : α → Vec F sh e) :
    iprop(∃ d, owns (c : Thread nD τ) M fullShare (g d)) ⊢ (iprop(∃ d, owns (c : Thread nD τ) M fullShare d) : sProp 𝕄) := by
  iintro ⟨%d, H⟩
  iexists _
  iexact H

/-- Equal contents. -/
theorem owns_after {sh : Shape} {e : EltTy} (c : Dev nD) (M : Memref sig .tc .vmem sh e) {x y : Vec F sh e} (h : y = x) :
    owns (c : Thread nD τ) M fullShare x ⊢ (owns (c : Thread nD τ) M fullShare y : sProp 𝕄) := by
  rw [h]

end Merge.Run
-- ==== Proof.Launch.BodyA.lean ====
/- The merge kernel's body at the first grid point: from the inputs' blocks to the blocks of `Ins`. -/
module

public import proofs.«01_k».proof.Proof.Launch.ReadA
public import proofs.«01_k».proof.Proof.Launch.Step

@[expose] public section

set_option maxRecDepth 16384

noncomputable section

namespace Merge.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem body_A (c : Dev nD) (i : grid0.Coords) (arg1 : Memref sig .tc .vmem S256x512 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S512x512 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x2048 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x1024 .f32) (harg23 : arg23.IsWhole) (arg24 : Memref sig .tc .vmem S8x1024 .f32) (harg24 : arg24.IsWhole) (arg25 : Memref sig .tc .vmem S8x128 .f32) (harg25 : arg25.IsWhole)
    (hc0 : cond0_0 i) (x0 : Vec F S256x512 .bf16) (x1 : Vec F S256x1024 .bf16) (x2 : Vec F S256x1024 .f32) (x3 : Vec F S256x1024 .f32) (x4 : Vec F S256x1024 .f32) (x5 : Vec F S256x1024 .f32) (x6 : Vec F S8x1024 .f32) (x7 : Vec F S256x512 .f32) (x8 : Vec F S256x512 .f32) (x9 : Vec F S512x1024 .bf16) (x10 : Vec F S1024x1024 .bf16) (x11 : Vec F S1024x1024 .bf16) (x12 : Vec F S512x512 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (Ins.o14 (⟨x0, x1, x2, x3, x4, x5, x6, x7, x8, x9, x10, x11, x12⟩ : Ins F)) ∗ owns (c : Thread nD τ) arg15 fullShare (Ins.o15 (⟨x0, x1, x2, x3, x4, x5, x6, x7, x8, x9, x10, x11, x12⟩ : Ins F)) ∗ owns (c : Thread nD τ) arg16 fullShare (Ins.o16 (⟨x0, x1, x2, x3, x4, x5, x6, x7, x8, x9, x10, x11, x12⟩ : Ins F)) ∗ owns (c : Thread nD τ) arg17 fullShare (Ins.o17 (⟨x0, x1, x2, x3, x4, x5, x6, x7, x8, x9, x10, x11, x12⟩ : Ins F)) ∗ owns (c : Thread nD τ) arg18 fullShare (Ins.o18 (⟨x0, x1, x2, x3, x4, x5, x6, x7, x8, x9, x10, x11, x12⟩ : Ins F)) ∗ owns (c : Thread nD τ) arg19 fullShare (Ins.o19 (⟨x0, x1, x2, x3, x4, x5, x6, x7, x8, x9, x10, x11, x12⟩ : Ins F)) ∗ owns (c : Thread nD τ) arg20 fullShare (Ins.o20 (⟨x0, x1, x2, x3, x4, x5, x6, x7, x8, x9, x10, x11, x12⟩ : Ins F)) ∗ owns (c : Thread nD τ) arg21 fullShare (Ins.o21 (⟨x0, x1, x2, x3, x4, x5, x6, x7, x8, x9, x10, x11, x12⟩ : Ins F)) ∗ owns (c : Thread nD τ) arg22 fullShare (Ins.o22 (⟨x0, x1, x2, x3, x4, x5, x6, x7, x8, x9, x10, x11, x12⟩ : Ins F)) ∗ owns (c : Thread nD τ) arg23 fullShare (Ins.o23 (⟨x0, x1, x2, x3, x4, x5, x6, x7, x8, x9, x10, x11, x12⟩ : Ins F)) ∗ owns (c : Thread nD τ) arg24 fullShare (Ins.next24 (⟨x0, x1, x2, x3, x4, x5, x6, x7, x8, x9, x10, x11, x12⟩ : Ins F) k0_pay4) ∗ owns (c : Thread nD τ) arg25 fullShare (Ins.next25 (⟨x0, x1, x2, x3, x4, x5, x6, x7, x8, x9, x10, x11, x12⟩ : Ins F) k0_pay5)) -∗ K ⟨⟩))
      ⊢ wp frame (wpE (defs₀ (F := F)) Variants.none c none) Set.univ (cc0_merge_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  obtain ⟨e13, e14, e15, e16, e17, e18, e19, e20, e21, e22, e23, e24⟩ := reads_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 (⟨x0, x1, x2, x3, x4, x5, x6, x7, x8, x9, x10, x11, x12⟩ : Ins F)
  exact restate (owns_written c _ _ _ e13) (owns_written c _ _ _ e14) (owns_written c _ _ _ e15) (owns_written c _ _ _ e16) (owns_written c _ _ _ e17) (owns_written c _ _ _ e18) (owns_written c _ _ _ e19) (owns_written c _ _ _ e20) (owns_written c _ _ _ e21) (owns_written c _ _ _ e22) (owns_written c _ _ _ e23) (owns_written c _ _ _ e24)
    ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12).2.2.2.2.2.2.2.2.2.2.2.2 Set.univ K)

end Merge.Run
-- ==== Proof.Launch.RunB.lean ====
/- GENERATED, UNTRUSTED: the whole-body RUN of `proofs.«01_k».proof.KernelIdeal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken: points 1, 2, … 31: 31 of 32), WITH the
    proof that on whole staging memrefs — the inputs' at their contents, the outputs it reads before covering (23, 24) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x512 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S512x512 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x2048 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x1024 .f32) (harg23 : arg23.IsWhole) (arg24 : Memref sig .tc .vmem S8x1024 .f32) (harg24 : arg24.IsWhole) (arg25 : Memref sig .tc .vmem S8x128 .f32) (harg25 : arg25.IsWhole) (hc0 : ¬cond0_0 i)
    (x0 : Vec F S256x512 .bf16) (x1 : Vec F S256x1024 .bf16) (x2 : Vec F S256x1024 .f32) (x3 : Vec F S256x1024 .f32) (x4 : Vec F S256x1024 .f32) (x5 : Vec F S256x1024 .f32) (x6 : Vec F S8x1024 .f32) (x7 : Vec F S256x512 .f32) (x8 : Vec F S256x512 .f32) (x9 : Vec F S512x1024 .bf16) (x10 : Vec F S1024x1024 .bf16) (x11 : Vec F S1024x1024 .bf16) (x12 : Vec F S512x512 .bf16) (xo23 : Vec F S8x1024 .f32) (xo24 : Vec F S8x128 .f32) :
    Σ' (L13 : List (View.Piece (Elt F) S256x1024 .bf16)), Σ' (L14 : List (View.Piece (Elt F) S256x1024 .f32)), Σ' (L15 : List (View.Piece (Elt F) S256x1024 .bf16)), Σ' (L16 : List (View.Piece (Elt F) S256x1024 .bf16)), Σ' (L17 : List (View.Piece (Elt F) S256x1024 .bf16)), Σ' (L18 : List (View.Piece (Elt F) S256x2048 .bf16)), Σ' (L19 : List (View.Piece (Elt F) S256x512 .f32)), Σ' (L20 : List (View.Piece (Elt F) S256x512 .f32)), Σ' (L21 : List (View.Piece (Elt F) S256x512 .bf16)), Σ' (L22 : List (View.Piece (Elt F) S256x1024 .f32)), Σ' (L23 : List (View.Piece (Elt F) S8x1024 .f32)), { L24 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xo23 ∗ owns (c : Thread nD τ) arg25 fullShare xo24
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (arg24.view.loc (c : Thread nD τ) ↦[arg24.view.set]{fullShare} arg24.view.writes (Elt F) (harg24.unread xo23) L23) ∗ (∃ f, arg25.view.loc (c : Thread nD τ) ↦[arg25.view.set]{fullShare} arg25.view.writes (Elt F) f L24)) -∗ K ⟨⟩))
          ⊢ wp frame (wpE (defs₀ (F := F)) Variants.none c none) E (cc0_merge_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, fun E K => ?run⟩
  case run =>
    simp only [cc0_merge_fwd_bwd_eq_skeleton]; unfold cc0_merge_fwd_bwd_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg24.eq_unread hf23; obtain rfl := harg25.eq_unread hf24
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexact H23
    iexists _; iexact H24

end Cert.KernelIdeal.Gen

end
-- ==== Proof.Launch.ReadB.lean ====
/- The merge kernel's body, read back: the pieces its run leaves in each output buffer are the blocks of `Ins`. -/
module

public import proofs.«01_k».proof.Proof.Launch.RunB
public import proofs.«01_k».proof.Proof.Launch.Rows
public import Idealize.ShloMosaic.Lib.Pipeline.ValueKit

@[expose] public section

set_option maxRecDepth 16384
set_option maxHeartbeats 4000000

noncomputable section

namespace Merge

open Cert.KernelIdeal Cert.KernelIdeal.Gen Idealize.ShloMosaic Idealize.ShloMosaic.TcCoe Idealize.ShloMosaic.Tactic

variable {F : FTy → Type} [FloatOps F]

theorem reads_B (c : Dev nD) (i : grid0.Coords) (arg1 : Memref sig .tc .vmem S256x512 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S512x512 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x2048 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x1024 .f32) (harg23 : arg23.IsWhole) (arg24 : Memref sig .tc .vmem S8x1024 .f32) (harg24 : arg24.IsWhole) (arg25 : Memref sig .tc .vmem S8x128 .f32) (harg25 : arg25.IsWhole)
    (hc0 : ¬cond0_0 i) (X : Ins F) (A24 : Vec F S8x1024 .f32) (A25 : Vec F S8x128 .f32) :
    let k := kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0
      X.a1 X.a2 X.a3 X.a4 X.a5 X.a6 X.a7 X.a8 X.a9 X.a10 X.a11 X.a12 X.a13 A24 A25
    (∀ f, arg14.view.read (Elt F) (arg14.view.writes (Elt F) f k.1) = X.o14) ∧
    (∀ f, arg15.view.read (Elt F) (arg15.view.writes (Elt F) f k.2.1) = X.o15) ∧
    (∀ f, arg16.view.read (Elt F) (arg16.view.writes (Elt F) f k.2.2.1) = X.o16) ∧
    (∀ f, arg17.view.read (Elt F) (arg17.view.writes (Elt F) f k.2.2.2.1) = X.o17) ∧
    (∀ f, arg18.view.read (Elt F) (arg18.view.writes (Elt F) f k.2.2.2.2.1) = X.o18) ∧
    (∀ f, arg19.view.read (Elt F) (arg19.view.writes (Elt F) f k.2.2.2.2.2.1) = X.o19) ∧
    (∀ f, arg20.view.read (Elt F) (arg20.view.writes (Elt F) f k.2.2.2.2.2.2.1) = X.o20) ∧
    (∀ f, arg21.view.read (Elt F) (arg21.view.writes (Elt F) f k.2.2.2.2.2.2.2.1) = X.o21) ∧
    (∀ f, arg22.view.read (Elt F) (arg22.view.writes (Elt F) f k.2.2.2.2.2.2.2.2.1) = X.o22) ∧
    (∀ f, arg23.view.read (Elt F) (arg23.view.writes (Elt F) f k.2.2.2.2.2.2.2.2.2.1) = X.o23) ∧
    (arg24.view.read (Elt F) (arg24.view.writes (Elt F) (harg24.unread A24) k.2.2.2.2.2.2.2.2.2.2.1) = X.next24 A24) ∧
    (∀ f, arg25.view.read (Elt F) (arg25.view.writes (Elt F) f k.2.2.2.2.2.2.2.2.2.2.2.1) = X.next25 A25) := by
  unfold kernelRun0_B
  intro k
  refine ⟨fun f => ?_, fun f => ?_, fun f => ?_, fun f => ?_, fun f => ?_, fun f => ?_, fun f => ?_, fun f => ?_, fun f => ?_, fun f => ?_, ?_, fun f => ?_⟩
  case refine_11 =>
    simp only [k]
    sl_unfold_words
    simp (disch := decide) only [View.readAt_eq_ld, Memref.IsWhole.read_unread, View.ld_unit_lit']
    clear k
    exact acc_rows _ _ _ _ [] (harg24.read_unread A24)
  case refine_6 =>
    simp only [k]
    sl_unfold_words
    simp (disch := decide) only [View.readAt_eq_ld, Memref.IsWhole.read_unread, View.ld_unit_lit']
    clear k
    exact gates_cols _ _ _
  all_goals
    simp only [k]
    sl_unfold_words
    simp (disch := decide) only [View.readAt_eq_ld, Memref.IsWhole.read_unread, View.ld_unit_lit']
    clear k
    exact View.read_writes_full (s := _) _ _ _ _ []

end Merge
-- ==== Proof.Launch.BodyB.lean ====
/- The merge kernel's body at a grid point after the first: from the inputs' blocks to the blocks of `Ins`. -/
module

public import proofs.«01_k».proof.Proof.Launch.ReadB
public import proofs.«01_k».proof.Proof.Launch.Step

@[expose] public section

set_option maxRecDepth 16384

noncomputable section

namespace Merge.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem body_B (c : Dev nD) (i : grid0.Coords) (arg1 : Memref sig .tc .vmem S256x512 .bf16) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S512x512 .bf16) (harg13 : arg13.IsWhole) (arg14 : Memref sig .tc .vmem S256x1024 .bf16) (harg14 : arg14.IsWhole) (arg15 : Memref sig .tc .vmem S256x1024 .f32) (harg15 : arg15.IsWhole) (arg16 : Memref sig .tc .vmem S256x1024 .bf16) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x2048 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x1024 .f32) (harg23 : arg23.IsWhole) (arg24 : Memref sig .tc .vmem S8x1024 .f32) (harg24 : arg24.IsWhole) (arg25 : Memref sig .tc .vmem S8x128 .f32) (harg25 : arg25.IsWhole)
    (hc0 : ¬cond0_0 i) (x0 : Vec F S256x512 .bf16) (x1 : Vec F S256x1024 .bf16) (x2 : Vec F S256x1024 .f32) (x3 : Vec F S256x1024 .f32) (x4 : Vec F S256x1024 .f32) (x5 : Vec F S256x1024 .f32) (x6 : Vec F S8x1024 .f32) (x7 : Vec F S256x512 .f32) (x8 : Vec F S256x512 .f32) (x9 : Vec F S512x1024 .bf16) (x10 : Vec F S1024x1024 .bf16) (x11 : Vec F S1024x1024 .bf16) (x12 : Vec F S512x512 .bf16) (A24 : Vec F S8x1024 .f32) (A25 : Vec F S8x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare A24 ∗ owns (c : Thread nD τ) arg25 fullShare A25
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (Ins.o14 (⟨x0, x1, x2, x3, x4, x5, x6, x7, x8, x9, x10, x11, x12⟩ : Ins F)) ∗ owns (c : Thread nD τ) arg15 fullShare (Ins.o15 (⟨x0, x1, x2, x3, x4, x5, x6, x7, x8, x9, x10, x11, x12⟩ : Ins F)) ∗ owns (c : Thread nD τ) arg16 fullShare (Ins.o16 (⟨x0, x1, x2, x3, x4, x5, x6, x7, x8, x9, x10, x11, x12⟩ : Ins F)) ∗ owns (c : Thread nD τ) arg17 fullShare (Ins.o17 (⟨x0, x1, x2, x3, x4, x5, x6, x7, x8, x9, x10, x11, x12⟩ : Ins F)) ∗ owns (c : Thread nD τ) arg18 fullShare (Ins.o18 (⟨x0, x1, x2, x3, x4, x5, x6, x7, x8, x9, x10, x11, x12⟩ : Ins F)) ∗ owns (c : Thread nD τ) arg19 fullShare (Ins.o19 (⟨x0, x1, x2, x3, x4, x5, x6, x7, x8, x9, x10, x11, x12⟩ : Ins F)) ∗ owns (c : Thread nD τ) arg20 fullShare (Ins.o20 (⟨x0, x1, x2, x3, x4, x5, x6, x7, x8, x9, x10, x11, x12⟩ : Ins F)) ∗ owns (c : Thread nD τ) arg21 fullShare (Ins.o21 (⟨x0, x1, x2, x3, x4, x5, x6, x7, x8, x9, x10, x11, x12⟩ : Ins F)) ∗ owns (c : Thread nD τ) arg22 fullShare (Ins.o22 (⟨x0, x1, x2, x3, x4, x5, x6, x7, x8, x9, x10, x11, x12⟩ : Ins F)) ∗ owns (c : Thread nD τ) arg23 fullShare (Ins.o23 (⟨x0, x1, x2, x3, x4, x5, x6, x7, x8, x9, x10, x11, x12⟩ : Ins F)) ∗ owns (c : Thread nD τ) arg24 fullShare (Ins.next24 (⟨x0, x1, x2, x3, x4, x5, x6, x7, x8, x9, x10, x11, x12⟩ : Ins F) A24) ∗ owns (c : Thread nD τ) arg25 fullShare (Ins.next25 (⟨x0, x1, x2, x3, x4, x5, x6, x7, x8, x9, x10, x11, x12⟩ : Ins F) A25)) -∗ K ⟨⟩))
      ⊢ wp frame (wpE (defs₀ (F := F)) Variants.none c none) Set.univ (cc0_merge_fwd_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  obtain ⟨e13, e14, e15, e16, e17, e18, e19, e20, e21, e22, e23, e24⟩ := reads_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 (⟨x0, x1, x2, x3, x4, x5, x6, x7, x8, x9, x10, x11, x12⟩ : Ins F) A24 A25
  exact restate (owns_written c _ _ _ e13) (owns_written c _ _ _ e14) (owns_written c _ _ _ e15) (owns_written c _ _ _ e16) (owns_written c _ _ _ e17) (owns_written c _ _ _ e18) (owns_written c _ _ _ e19) (owns_written c _ _ _ e20) (owns_written c _ _ _ e21) (owns_written c _ _ _ e22) (owns_written_over c _ _ _ _ e23) (owns_written c _ _ _ e24)
    ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 x0 x1 x2 x3 x4 x5 x6 x7 x8 x9 x10 x11 x12 A24 A25).2.2.2.2.2.2.2.2.2.2.2.2 Set.univ K)

end Merge.Run
-- ==== Proof.Launch.Frame.lean ====
/- The run of the merge kernel with what every buffer holds: the proof data of its pipeline — each input's block, each
   output's block as the body leaves it (`Ins`), the two accumulators point by point —, the body at any grid point, and
   the launch. -/
module

public import proofs.«01_k».proof.Proof.Launch.BodyA
public import proofs.«01_k».proof.Proof.Launch.BodyB
public import Idealize.ShloMosaic.Lib.Claim

@[expose] public section

set_option maxRecDepth 16384

noncomputable section

namespace Merge.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks the inputs' buffers hold at grid point `t`. -/
def ins (c : Dev nD) (t : Fin cfg0.N) : Ins F where
  a1 := iblk m c 0 t
  a2 := iblk m c 1 t
  a3 := iblk m c 2 t
  a4 := iblk m c 3 t
  a5 := iblk m c 4 t
  a6 := iblk m c 5 t
  a7 := iblk m c 6 t
  a8 := iblk m c 7 t
  a9 := iblk m c 8 t
  a10 := iblk m c 9 t
  a11 := iblk m c 10 t
  a12 := iblk m c 11 t
  a13 := iblk m c 12 t

/-- The two accumulators after grid point `n`: zero before the first, grown by each point. -/
def acc (c : Dev nD) : (n : ℕ) → n < cfg0.N → Vec F S8x1024 .f32 × Vec F S8x128 .f32
  | 0, h => ((ins m c ⟨0, h⟩).next24 k0_pay4, (ins m c ⟨0, h⟩).next25 k0_pay5)
  | n + 1, h => ((ins m c ⟨n + 1, h⟩).next24 (acc c n (Nat.lt_of_succ_lt h)).1,
      (ins m c ⟨n + 1, h⟩).next25 (acc c n (Nat.lt_of_succ_lt h)).2)

theorem acc_first (c : Dev nD) (t : Fin cfg0.N) (h0 : t.val % 32 = 0) :
    acc m c t.val t.isLt = ((ins m c t).next24 k0_pay4, (ins m c t).next25 k0_pay5) := by
  obtain ⟨n, hn⟩ := t
  have hN : n < 32 := lt_of_lt_of_eq hn (show cfg0.N = 32 from N_0)
  cases n with
  | zero => rfl
  | succ n => exact absurd h0 (by dsimp only; omega)

theorem acc_next (c : Dev nD) (t : Fin cfg0.N) (h0 : ¬t.val % 32 = 0) :
    acc m c t.val t.isLt
      = ((ins m c t).next24 (acc m c (t.val - 1) (Nat.lt_of_le_of_lt (Nat.sub_le _ _) t.isLt)).1,
        (ins m c t).next25 (acc m c (t.val - 1) (Nat.lt_of_le_of_lt (Nat.sub_le _ _) t.isLt)).2) := by
  obtain ⟨n, hn⟩ := t
  cases n with
  | zero => exact absurd (Nat.zero_mod 32) h0
  | succ n => rfl

/-- The proof data of the one pipeline on core `c`: the arrays as the region finds them; after the body at
    point `t` each input's buffer at its block, each output's at what the body computes from the blocks, the two
    accumulators at their running contents; nothing owed; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (ins m c t).o14
    | ⟨14, _⟩ => (ins m c t).o15
    | ⟨15, _⟩ => (ins m c t).o16
    | ⟨16, _⟩ => (ins m c t).o17
    | ⟨17, _⟩ => (ins m c t).o18
    | ⟨18, _⟩ => (ins m c t).o19
    | ⟨19, _⟩ => (ins m c t).o20
    | ⟨20, _⟩ => (ins m c t).o21
    | ⟨21, _⟩ => (ins m c t).o22
    | ⟨22, _⟩ => (ins m c t).o23
    | ⟨23, _⟩ => (acc m c t.val t.isLt).1
    | ⟨24, _⟩ => (acc m c t.val t.isLt).2
    | ⟨_ + 25, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (ins m c t).o14 := by dsimp only [dats]
theorem after0_14 (c : Dev nD) (t : Fin cfg0.N) : (dats m 0 c).after 14 t = (ins m c t).o15 := by dsimp only [dats]
theorem after0_15 (c : Dev nD) (t : Fin cfg0.N) : (dats m 0 c).after 15 t = (ins m c t).o16 := by dsimp only [dats]
theorem after0_16 (c : Dev nD) (t : Fin cfg0.N) : (dats m 0 c).after 16 t = (ins m c t).o17 := by dsimp only [dats]
theorem after0_17 (c : Dev nD) (t : Fin cfg0.N) : (dats m 0 c).after 17 t = (ins m c t).o18 := by dsimp only [dats]
theorem after0_18 (c : Dev nD) (t : Fin cfg0.N) : (dats m 0 c).after 18 t = (ins m c t).o19 := by dsimp only [dats]
theorem after0_19 (c : Dev nD) (t : Fin cfg0.N) : (dats m 0 c).after 19 t = (ins m c t).o20 := by dsimp only [dats]
theorem after0_20 (c : Dev nD) (t : Fin cfg0.N) : (dats m 0 c).after 20 t = (ins m c t).o21 := by dsimp only [dats]
theorem after0_21 (c : Dev nD) (t : Fin cfg0.N) : (dats m 0 c).after 21 t = (ins m c t).o22 := by dsimp only [dats]
theorem after0_22 (c : Dev nD) (t : Fin cfg0.N) : (dats m 0 c).after 22 t = (ins m c t).o23 := by dsimp only [dats]
theorem after0_23 (c : Dev nD) (t : Fin cfg0.N) : (dats m 0 c).after 23 t = (acc m c t.val t.isLt).1 := by dsimp only [dats]
theorem after0_24 (c : Dev nD) (t : Fin cfg0.N) : (dats m 0 c).after 24 t = (acc m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
/-- At a point of case B output 23's current staging buffer holds what the body left at the point before: the point is
    not the first, the buffer was not written back between (`flush0_23`), the window is live and uncut (Lib/Pipeline/Frame.lean
    `Dat.before_out_kept`). -/
theorem before0_23_B (c : Dev nD) (t : Fin cfg0.N) (h0 : ¬t.val % 32 = 0) (d) :
    (dats m 0 c).before 23 t d = (acc m c (t.val - 1) (Nat.lt_of_le_of_lt (Nat.sub_le _ _) t.isLt)).1 := by
  have hN : t.val < 32 := lt_of_lt_of_eq t.isLt (show cfg0.N = 32 from N_0)
  rw [Dat.before_out_kept _ 23 rfl t (by omega) (Bool.eq_false_iff.mpr fun h => by have := (flush0_23 _).mp h; dsimp only at this; omega)
    (fun _ => rfl) (fun _ _ => rfl)]
  dsimp only [dats]
/-- At a point of case B output 24's current staging buffer holds what the body left at the point before: the point is
    not the first, the buffer was not written back between (`flush0_24`), the window is live and uncut (Lib/Pipeline/Frame.lean
    `Dat.before_out_kept`). -/
theorem before0_24_B (c : Dev nD) (t : Fin cfg0.N) (h0 : ¬t.val % 32 = 0) (d) :
    (dats m 0 c).before 24 t d = (acc m c (t.val - 1) (Nat.lt_of_le_of_lt (Nat.sub_le _ _) t.isLt)).2 := by
  have hN : t.val < 32 := lt_of_lt_of_eq t.isLt (show cfg0.N = 32 from N_0)
  rw [Dat.before_out_kept _ 24 rfl t (by omega) (Bool.eq_false_iff.mpr fun h => by have := (flush0_24 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 1000000 in
/-- The body at the first point, which zeroes the accumulators. -/
theorem sound_A (c : Dev nD) (t : Fin cfg0.N) (h0 : t.val % 32 = 0) :
    bodyPre m c t ⊢ wp frame (wpE (defs₀ (F := F)) Variants.none c none) Set.univ (bodyAt0 t) (fun _ => bodyPost m c t) := by
  unfold bodyPre bodyPost bodyAt0
  exact framed (G := wp frame (wpE (defs₀ (F := F)) Variants.none c none) Set.univ _)
    (body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) .rfl .rfl
    (owns_before c _ _ _ (before0_0 m c t)) (owns_before c _ _ _ (before0_1 m c t)) (owns_before c _ _ _ (before0_2 m c t)) (owns_before c _ _ _ (before0_3 m c t)) (owns_before c _ _ _ (before0_4 m c t)) (owns_before c _ _ _ (before0_5 m c t)) (owns_before c _ _ _ (before0_6 m c t)) (owns_before c _ _ _ (before0_7 m c t)) (owns_before c _ _ _ (before0_8 m c t)) (owns_before c _ _ _ (before0_9 m c t)) (owns_before c _ _ _ (before0_10 m c t)) (owns_before c _ _ _ (before0_11 m c t)) (owns_before c _ _ _ (before0_12 m c t)) (owns_some c _ _) (owns_some c _ _) (owns_some c _ _) (owns_some c _ _) (owns_some c _ _) (owns_some c _ _) (owns_some c _ _) (owns_some c _ _) (owns_some c _ _) (owns_some c _ _) (owns_some c _ _) (owns_some c _ _)
    (owns_after c _ (after0_0 m c t)) (owns_after c _ (after0_1 m c t)) (owns_after c _ (after0_2 m c t)) (owns_after c _ (after0_3 m c t)) (owns_after c _ (after0_4 m c t)) (owns_after c _ (after0_5 m c t)) (owns_after c _ (after0_6 m c t)) (owns_after c _ (after0_7 m c t)) (owns_after c _ (after0_8 m c t)) (owns_after c _ (after0_9 m c t)) (owns_after c _ (after0_10 m c t)) (owns_after c _ (after0_11 m c t)) (owns_after c _ (after0_12 m c t)) (owns_after c _ (after0_13 m c t)) (owns_after c _ (after0_14 m c t)) (owns_after c _ (after0_15 m c t)) (owns_after c _ (after0_16 m c t)) (owns_after c _ (after0_17 m c t)) (owns_after c _ (after0_18 m c t)) (owns_after c _ (after0_19 m c t)) (owns_after c _ (after0_20 m c t)) (owns_after c _ (after0_21 m c t)) (owns_after c _ (after0_22 m c t)) (owns_after c _ ((after0_23 m c t).trans (congrArg Prod.fst (acc_first m c t h0)))) (owns_after c _ ((after0_24 m c t).trans (congrArg Prod.snd (acc_first m c t h0))))

set_option maxHeartbeats 1000000 in
/-- The body at a later point, where the accumulators hold what the point before left. -/
theorem sound_B (c : Dev nD) (t : Fin cfg0.N) (h0 : ¬t.val % 32 = 0) :
    bodyPre m c t ⊢ wp frame (wpE (defs₀ (F := F)) Variants.none c none) Set.univ (bodyAt0 t) (fun _ => bodyPost m c t) := by
  unfold bodyPre bodyPost bodyAt0
  exact framed (G := wp frame (wpE (defs₀ (F := F)) Variants.none c none) Set.univ _)
    (body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (acc m c (t.val - 1) (Nat.lt_of_le_of_lt (Nat.sub_le _ _) t.isLt)).1 (acc m c (t.val - 1) (Nat.lt_of_le_of_lt (Nat.sub_le _ _) t.isLt)).2) .rfl .rfl
    (owns_before c _ _ _ (before0_0 m c t)) (owns_before c _ _ _ (before0_1 m c t)) (owns_before c _ _ _ (before0_2 m c t)) (owns_before c _ _ _ (before0_3 m c t)) (owns_before c _ _ _ (before0_4 m c t)) (owns_before c _ _ _ (before0_5 m c t)) (owns_before c _ _ _ (before0_6 m c t)) (owns_before c _ _ _ (before0_7 m c t)) (owns_before c _ _ _ (before0_8 m c t)) (owns_before c _ _ _ (before0_9 m c t)) (owns_before c _ _ _ (before0_10 m c t)) (owns_before c _ _ _ (before0_11 m c t)) (owns_before c _ _ _ (before0_12 m c t)) (owns_some c _ _) (owns_some c _ _) (owns_some c _ _) (owns_some c _ _) (owns_some c _ _) (owns_some c _ _) (owns_some c _ _) (owns_some c _ _) (owns_some c _ _) (owns_some c _ _) (owns_before c _ _ _ (before0_23_B m c t h0)) (owns_before c _ _ _ (before0_24_B m c t h0))
    (owns_after c _ (after0_0 m c t)) (owns_after c _ (after0_1 m c t)) (owns_after c _ (after0_2 m c t)) (owns_after c _ (after0_3 m c t)) (owns_after c _ (after0_4 m c t)) (owns_after c _ (after0_5 m c t)) (owns_after c _ (after0_6 m c t)) (owns_after c _ (after0_7 m c t)) (owns_after c _ (after0_8 m c t)) (owns_after c _ (after0_9 m c t)) (owns_after c _ (after0_10 m c t)) (owns_after c _ (after0_11 m c t)) (owns_after c _ (after0_12 m c t)) (owns_after c _ (after0_13 m c t)) (owns_after c _ (after0_14 m c t)) (owns_after c _ (after0_15 m c t)) (owns_after c _ (after0_16 m c t)) (owns_after c _ (after0_17 m c t)) (owns_after c _ (after0_18 m c t)) (owns_after c _ (after0_19 m c t)) (owns_after c _ (after0_20 m c t)) (owns_after c _ (after0_21 m c t)) (owns_after c _ (after0_22 m c t)) (owns_after c _ ((after0_23 m c t).trans (congrArg Prod.fst (acc_next m c t h0)))) (owns_after c _ ((after0_24 m c t).trans (congrArg Prod.snd (acc_next m c t h0))))

theorem sound_body (c : Dev nD) (t : Fin cfg0.N) :
    bodyPre m c t ⊢ wp frame (wpE (defs₀ (F := F)) Variants.none c none) Set.univ (bodyAt0 t) (fun _ => bodyPost m c t) := by
  by_cases h0 : t.val % 32 = 0
  · exact sound_A m c t h0
  · exact sound_B m c t h0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame, at any values: the run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Merge.Run

end
-- ==== Proof.Pay.lean ====
/-
  What each payload of the kernel computes on a block of rows that holds reals: the corresponding quantity of the
  mathematics. A payload's arguments are given by what they hold, so the lemmas chain as the payloads do.
-/
module

public import proofs.«01_k».proof.Proof.Gen.KernelIdeal.Skeleton
public import proofs.«01_k».proof.Proof.Coe

@[expose] public section

noncomputable section

namespace Merge

open Idealize.ShloMosaic Cert.KernelIdeal Cert.KernelIdeal.Gen

variable {W : Params} {R : Rows 256}

/-! ## Forwards -/

theorem pay6 {v : FVec Ideal S1x1024 .f32} {V : Mat 1 1024} (h : IsC v V) : IsC (k0_pay6 v) V := by
  intro i j; pointwise [k0_pay6]; exact h _ _

theorem pay7 {v : FVec Ideal S1x1024 .f32} {V : Mat 1 1024} (h : IsC v V) : IsC (k0_pay7 v) V := by
  intro i j; pointwise [k0_pay7]; exact h _ _

theorem pay8 {v7 : FVec Ideal S256x512 .bf16} {v9 : FVec Ideal S512x1024 .bf16} (h7 : IsC v7 (oa R)) (h9 : IsC v9 W.wa) :
    IsC (k0_pay8 v7 v9) (ya W R) := by
  intro i j
  pointwise [k0_pay8]
  simp only [h7 _ _, h9 _ _, ← EReal.coe_mul, sum_coe]
  rfl

theorem pay9 {v11 : FVec Ideal S256x1024 .bf16} {v12 : FVec Ideal S1024x1024 .bf16} (h11 : IsC v11 R.ob)
    (h12 : IsC v12 W.wb) : IsC (k0_pay9 v11 v12) (yb W R) := by
  intro i j
  pointwise [k0_pay9]
  simp only [h11 _ _, h12 _ _, ← EReal.coe_mul, sum_coe]
  rfl

theorem pay10 {v : FVec Ideal S256x1024 .f32} (h : IsC v R.ga) : IsC (k0_pay10 v) (sa R) := by
  intro i j
  pointwise [k0_pay10]
  simp only [h _ _, lit_half, ← EReal.coe_mul, ← EReal.coe_add, Ideal.tanh_coe]
  rfl

theorem pay11 {v : FVec Ideal S256x1024 .f32} (h : IsC v R.gb) : IsC (k0_pay11 v) (sb R) := by
  intro i j
  pointwise [k0_pay11]
  simp only [h _ _, lit_half, ← EReal.coe_mul, ← EReal.coe_add, Ideal.tanh_coe]
  rfl

theorem pay35 {v : FVec Ideal S256x512 .f32} (h : IsC v R.za) : IsC (k0_pay35 v) (sz R) := by
  intro i j
  pointwise [k0_pay35]
  simp only [h _ _, lit_half, ← EReal.coe_mul, ← EReal.coe_add, Ideal.tanh_coe]
  rfl

theorem pay12 {v7 : FVec Ideal S256x512 .bf16} {v9 : FVec Ideal S512x1024 .bf16} {v14 : FVec Ideal S256x1024 .f32}
    (h7 : IsC v7 (oa R)) (h9 : IsC v9 W.wa) (h14 : IsC v14 R.ga) :
    IsC (k0_pay12 v7 v9 v14) (fun s c => sa R s c * ya W R s c) := by
  intro i j
  pointwise [k0_pay12]
  rw [pay10 h14, pay8 h7 h9, ← EReal.coe_mul]

theorem pay13 {v11 : FVec Ideal S256x1024 .bf16} {v12 : FVec Ideal S1024x1024 .bf16} {v22 : FVec Ideal S256x1024 .f32}
    (h11 : IsC v11 R.ob) (h12 : IsC v12 W.wb) (h22 : IsC v22 R.gb) :
    IsC (k0_pay13 v11 v12 v22) (fun s c => sb R s c * yb W R s c) := by
  intro i j
  pointwise [k0_pay13]
  rw [pay11 h22, pay9 h11 h12, ← EReal.coe_mul]

section
variable {v4 v6 : FVec Ideal S1x1024 .f32} {v30 v31 v37 v53 : FVec Ideal S256x1024 .f32}
  {v35 : FVec Ideal S1024x1024 .bf16}
  (h4 : IsC v4 fun _ c => W.gate c) (h6 : IsC v6 fun _ c => W.fg c)
  (h30 : IsC v30 fun s c => sa R s c * ya W R s c) (h31 : IsC v31 fun s c => sb R s c * yb W R s c)
  (h35 : IsC v35 W.wo) (h37 : IsC v37 R.x) (h53 : IsC v53 R.t)

include h30 h31 in
theorem pay14 : IsC (k0_pay14 v30 v31) (y W R) := by
  intro i j
  pointwise [k0_pay14]
  rw [h30, h31, ← EReal.coe_add]
  rfl

include h30 h31 h35 in
theorem pay15 : IsC (k0_pay15 v30 v31 v35) (u W R) := by
  intro i j
  pointwise [k0_pay15]
  simp only [pay14 h30 h31 _ _, h35 _ _, ← EReal.coe_mul, sum_coe]
  rfl

include h4 h30 h31 h35 h37 in
theorem pay16 : IsC (k0_pay16 v4 v30 v31 v35 v37) (x2 W R) := by
  intro i j
  pointwise [k0_pay16]
  rw [h37, h4, pay15 h30 h31 h35, ← EReal.coe_mul, ← EReal.coe_add]
  rfl

include h4 h30 h31 h35 h37 in
theorem pay17 : IsC (k0_pay17 v4 v30 v31 v35 v37) (fun s _ => r W R s) := by
  intro i j
  pointwise [k0_pay17]
  simp only [pay16 h4 h30 h31 h35 h37 _ _, lit_1024, lit_eps, ← EReal.coe_mul, sum_coe, div_1024, ← EReal.coe_add]
  exact rsqrt_pos (ms_pos W R i)

include h4 h6 h30 h31 h35 h37 h53 in
theorem pay18 : IsC (k0_pay18 v4 v6 v30 v31 v35 v37 v53) (err W R) := by
  intro i j
  pointwise [k0_pay18]
  rw [pay16 h4 h30 h31 h35 h37, pay17 h4 h30 h31 h35 h37, h6, h53, ← EReal.coe_mul, ← EReal.coe_mul, ← EReal.coe_sub]
  rfl

include h4 h6 h30 h31 h35 h37 h53 in
theorem pay20 : IsC (k0_pay20 v4 v6 v30 v31 v35 v37 v53) (dout W R) := by
  intro i j
  pointwise [k0_pay20]
  rw [pay18 h4 h6 h30 h31 h35 h37 h53, lit_inv1024, ← EReal.coe_mul]
  rfl

include h4 h6 h30 h31 h35 h37 h53 in
theorem pay21 : IsC (k0_pay21 v4 v6 v30 v31 v35 v37 v53) (gh W R) := by
  intro i j
  pointwise [k0_pay21]
  rw [pay20 h4 h6 h30 h31 h35 h37 h53, h6, ← EReal.coe_mul]
  rfl

include h4 h6 h30 h31 h35 h37 h53 in
theorem pay22 : IsC (k0_pay22 v4 v6 v30 v31 v35 v37 v53) (fun s c => r W R s * gh W R s c) := by
  intro i j
  pointwise [k0_pay22]
  rw [pay21 h4 h6 h30 h31 h35 h37 h53, pay17 h4 h30 h31 h35 h37, ← EReal.coe_mul]

include h4 h30 h31 h35 h37 in
theorem pay23 : IsC (k0_pay23 v4 v30 v31 v35 v37) (fun s _ => r W R s * r W R s) := by
  intro i j
  pointwise [k0_pay23]
  rw [pay17 h4 h30 h31 h35 h37, ← EReal.coe_mul]

include h4 h6 h30 h31 h35 h37 h53 in
theorem pay19 {v55 : FVec Ideal S8x128 .f32} {A : ℝ} (h55 : IsC v55 fun _ _ => A) :
    IsC (k0_pay19 v4 v6 v30 v31 v35 v37 v53 v55) (fun _ _ => A + ∑ s, sq W R s) := by
  intro i j
  pointwise [k0_pay19]
  simp only [pay18 h4 h6 h30 h31 h35 h37 h53 _ _, h55 _ _, ← EReal.coe_mul, sum_coe, ← EReal.coe_add]
  rfl

end

/-! ## Backwards -/

section
variable {v4 : FVec Ideal S1x1024 .f32} {v36 v40 v66 v68 v70 v21 v29 v10 v13 v104 : FVec Ideal S256x1024 .f32}
  {v48 v71 : FVec Ideal S256x1 .f32} {v103 : FVec Ideal S1024x1024 .bf16}
  (h4 : IsC v4 fun _ c => W.gate c)
  (h40 : IsC v40 (x2 W R)) (h48 : IsC v48 fun s _ => r W R s) (h68 : IsC v68 (gh W R))
  (h70 : IsC v70 fun s c => r W R s * gh W R s c) (h71 : IsC v71 fun s _ => r W R s * r W R s)

include h40 h48 h68 h70 h71 in
theorem pay24 : IsC (k0_pay24 v40 v48 v68 v70 v71) (dx2 W R) := by
  intro i j
  pointwise [k0_pay24]
  simp only [h40 _ _, h48 _ _, h68 _ _, h70 _ _, h71 _ _, lit_1024, ← EReal.coe_mul, sum_coe, div_1024, ← EReal.coe_sub]
  rfl

include h40 h48 h68 h70 h71 in
theorem pay25 (h36 : IsC v36 (u W R)) {v82 : FVec Ideal S1x1024 .f32} {A : Mat 1 1024} (h82 : IsC v82 A) :
    IsC (k0_pay25 v36 v40 v48 v68 v70 v71 v82) (fun i c => A i c + ∑ s, dgate W R s c) := by
  intro i j
  pointwise [k0_pay25]
  simp only [pay24 h40 h48 h68 h70 h71 _ _, h36 _ _, h82 _ _, ← EReal.coe_mul, sum_coe, ← EReal.coe_add]
  rfl

include h40 h48 in
theorem pay26 (h66 : IsC v66 (dout W R)) {v89 : FVec Ideal S1x1024 .f32} {A : Mat 1 1024} (h89 : IsC v89 A) :
    IsC (k0_pay26 v40 v48 v66 v89) (fun i c => A i c + ∑ s, dfg W R s c) := by
  intro i j
  pointwise [k0_pay26]
  simp only [h40 _ _, h48 _ _, h66 _ _, h89 _ _, ← EReal.coe_mul, sum_coe, ← EReal.coe_add]
  rfl

include h4 h40 h48 h68 h70 h71 in
theorem pay27 : IsC (k0_pay27 v4 v40 v48 v68 v70 v71) (du W R) := by
  intro i j
  pointwise [k0_pay27]
  rw [pay24 h40 h48 h68 h70 h71, h4, ← EReal.coe_mul]
  rfl

include h4 h40 h48 h68 h70 h71 in
theorem pay28 (h103 : IsC v103 W.wo) : IsC (k0_pay28 v4 v40 v48 v68 v70 v71 v103) (dy W R) := by
  intro i j
  pointwise [k0_pay28]
  simp only [pay27 h4 h40 h48 h68 h70 h71 _ _, h103 _ _, ← EReal.coe_mul, sum_coe]
  rfl

include h4 h40 h48 h68 h70 h71 in
theorem pay29 (h103 : IsC v103 W.wo) (h21 : IsC v21 (sa R)) :
    IsC (k0_pay29 v4 v21 v40 v48 v68 v70 v71 v103) (dya W R) := by
  intro i j
  pointwise [k0_pay29]
  rw [pay28 h4 h40 h48 h68 h70 h71 h103, h21, ← EReal.coe_mul]
  rfl

include h4 h40 h48 h68 h70 h71 in
theorem pay30 (h103 : IsC v103 W.wo) (h29 : IsC v29 (sb R)) :
    IsC (k0_pay30 v4 v29 v40 v48 v68 v70 v71 v103) (dyb W R) := by
  intro i j
  pointwise [k0_pay30]
  rw [pay28 h4 h40 h48 h68 h70 h71 h103, h29, ← EReal.coe_mul]
  rfl

theorem pay31 (h10 : IsC v10 (ya W R)) (h21 : IsC v21 (sa R)) (h104 : IsC v104 (dy W R)) :
    IsC (k0_pay31 v10 v21 v104) (dga W R) := by
  intro i j
  pointwise [k0_pay31]
  simp only [h10 _ _, h21 _ _, h104 _ _, lit_one, ← EReal.coe_mul, ← EReal.coe_sub]
  rfl

theorem pay32 (h13 : IsC v13 (yb W R)) (h29 : IsC v29 (sb R)) (h104 : IsC v104 (dy W R)) :
    IsC (k0_pay32 v13 v29 v104) (dgb W R) := by
  intro i j
  pointwise [k0_pay32]
  simp only [h13 _ _, h29 _ _, h104 _ _, lit_one, ← EReal.coe_mul, ← EReal.coe_sub]
  rfl

end

theorem pay33 {v106 : FVec Ideal S256x1024 .bf16} {v125 : FVec Ideal S512x1024 .bf16} (h106 : IsC v106 (dya W R))
    (h125 : IsC v125 W.wa) : IsC (k0_pay33 v106 v125) (doa W R) := by
  intro i j
  pointwise [k0_pay33]
  simp only [h106 _ _, h125 _ _, ← EReal.coe_mul, sum_coe]
  rfl

theorem pay34 {v108 : FVec Ideal S256x1024 .bf16} {v127 : FVec Ideal S1024x1024 .bf16} (h108 : IsC v108 (dyb W R))
    (h127 : IsC v127 W.wb) : IsC (k0_pay34 v108 v127) (dob W R) := by
  intro i j
  pointwise [k0_pay34]
  simp only [h108 _ _, h127 _ _, ← EReal.coe_mul, sum_coe]
  rfl

section
variable {v126 v130 v137 v138 : FVec Ideal S256x512 .f32} {v153 : FVec Ideal S512x512 .bf16}
  (h126 : IsC v126 (doa W R)) (h130 : IsC v130 R.za) (h137 : IsC v137 (sz R)) (h138 : IsC v138 R.attn)

include h126 h130 h137 in
theorem pay1 : IsC (k0_pay1 v126 v130 v137) (dat W R) := by
  intro i j
  pointwise [k0_pay1]
  rw [h126, h130, h137, ← EReal.coe_mul, ← EReal.coe_mul]
  rfl

include h126 h130 h137 h138 in
theorem pay2 : IsC (k0_pay2 v126 v130 v137 v138) (dza W R) := by
  intro i j
  pointwise [k0_pay2]
  simp only [h126 _ _, h130 _ _, h137 _ _, h138 _ _, lit_one, ← EReal.coe_mul, ← EReal.coe_sub, ← EReal.coe_add]
  rfl

include h126 h130 h137 h138 in
/-- The product is split into a rounded part and the rest; over the reals the rest is zero. -/
theorem pay3 (h153 : IsC v153 head) : IsC (k0_pay3 v126 v130 v137 v138 v153) (dsum W R) := by
  intro i j
  pointwise [k0_pay3]
  simp only [pay1 h126 h130 h137 _ _, h138 _ _, h153 _ _, ← EReal.coe_mul, ← EReal.coe_sub, sum_coe, ← EReal.coe_add]
  simp [dsum]

end

end Merge

end
-- ==== Proof.BlockVal.lean ====
/- What the kernel's body leaves when its input blocks hold reals: the quantities of the mathematics, for the rows of the
   block. -/
module

public import proofs.«01_k».proof.Proof.Block
public import proofs.«01_k».proof.Proof.Pay

@[expose] public section

set_option maxRecDepth 16384

noncomputable section

namespace Merge

open Idealize.ShloMosaic Cert.KernelIdeal Cert.KernelIdeal.Gen

/-- The input blocks hold reals. -/
structure InsC (X : Ins Ideal) (W : Params) (R : Rows 256) : Prop where
  h1 : IsC (φ := .bf16) X.a1 (oa R)
  h2 : IsC (φ := .bf16) X.a2 R.ob
  h3 : IsC (φ := .f32) X.a3 R.ga
  h4 : IsC (φ := .f32) X.a4 R.gb
  h5 : IsC (φ := .f32) X.a5 R.x
  h6 : IsC (φ := .f32) X.a6 R.t
  h70 : ∀ j, X.a7 (ix2 0 j) = ((W.gate j : ℝ) : EReal)
  h71 : ∀ j, X.a7 (ix2 1 j) = ((W.fg j : ℝ) : EReal)
  h8 : IsC (φ := .f32) X.a8 R.attn
  h9 : IsC (φ := .f32) X.a9 R.za
  h10 : IsC (φ := .bf16) X.a10 W.wa
  h11 : IsC (φ := .bf16) X.a11 W.wb
  h12 : IsC (φ := .bf16) X.a12 W.wo
  h13 : IsC (φ := .bf16) X.a13 head

theorem row0_apply (A : Vec Ideal S8x1024 .f32) (i : Fin 1) (j : Fin 1024) : Ins.row0 A (ix2 i j) = A (ix2 0 j) := by
  refine congrArg A ?_
  funext a
  match a with
  | ⟨0, _⟩ => exact Fin.ext (by show 0 + 1 * i.val = 0; omega)
  | ⟨1, _⟩ => exact Fin.ext (by show 0 + 1 * j.val = j.val; omega)

theorem row1_apply (A : Vec Ideal S8x1024 .f32) (i : Fin 1) (j : Fin 1024) : Ins.row1 A (ix2 i j) = A (ix2 1 j) := by
  refine congrArg A ?_
  funext a
  match a with
  | ⟨0, _⟩ => exact Fin.ext (by show 1 + 1 * i.val = 1; omega)
  | ⟨1, _⟩ => exact Fin.ext (by show 0 + 1 * j.val = j.val; omega)

namespace InsC

variable {X : Ins Ideal} {W : Params} {R : Rows 256} (B : InsC X W R)
include B

theorem v4 : IsC (φ := .f32) X.v4 fun _ j => W.gate j := pay6 fun i j => (row0_apply _ i j).trans (B.h70 j)
theorem v6 : IsC (φ := .f32) X.v6 fun _ j => W.fg j := pay7 fun i j => (row1_apply _ i j).trans (B.h71 j)
theorem v10 : IsC (φ := .f32) X.v10 (ya W R) := pay8 B.h1 B.h10
theorem v13 : IsC (φ := .f32) X.v13 (yb W R) := pay9 B.h2 B.h11
theorem v21 : IsC (φ := .f32) X.v21 (sa R) := pay10 B.h3
theorem v29 : IsC (φ := .f32) X.v29 (sb R) := pay11 B.h4
theorem v30 : IsC (φ := .f32) X.v30 fun s c => sa R s c * ya W R s c := pay12 B.h1 B.h10 B.h3
theorem v31 : IsC (φ := .f32) X.v31 fun s c => sb R s c * yb W R s c := pay13 B.h2 B.h11 B.h4
theorem v36 : IsC (φ := .f32) X.v36 (u W R) := pay15 B.v30 B.v31 B.h12
theorem v40 : IsC (φ := .f32) X.v40 (x2 W R) := pay16 B.v4 B.v30 B.v31 B.h12 B.h5
theorem v48 : IsC (φ := .f32) X.v48 fun s _ => r W R s := pay17 B.v4 B.v30 B.v31 B.h12 B.h5
theorem v66 : IsC (φ := .f32) X.v66 (dout W R) := pay20 B.v4 B.v6 B.v30 B.v31 B.h12 B.h5 B.h6
theorem v68 : IsC (φ := .f32) X.v68 (gh W R) := pay21 B.v4 B.v6 B.v30 B.v31 B.h12 B.h5 B.h6
theorem v70 : IsC (φ := .f32) X.v70 fun s c => r W R s * gh W R s c := pay22 B.v4 B.v6 B.v30 B.v31 B.h12 B.h5 B.h6
theorem v71 : IsC (φ := .f32) X.v71 fun s _ => r W R s * r W R s := pay23 B.v4 B.v30 B.v31 B.h12 B.h5
theorem v104 : IsC (φ := .f32) X.v104 (dy W R) := pay28 B.v4 B.v40 B.v48 B.v68 B.v70 B.v71 B.h12
theorem v106 : IsC (φ := .bf16) X.v106 (dya W R) := pay29 B.v4 B.v40 B.v48 B.v68 B.v70 B.v71 B.h12 B.v21
theorem v108 : IsC (φ := .bf16) X.v108 (dyb W R) := pay30 B.v4 B.v40 B.v48 B.v68 B.v70 B.v71 B.h12 B.v29
theorem v126 : IsC (φ := .f32) X.v126 (doa W R) := pay33 B.v106 B.h10
theorem v137 : IsC (φ := .f32) X.v137 (sz R) := pay35 B.h9

theorem o14 : IsC (φ := .bf16) X.o14 (y W R) := pay14 B.v30 B.v31
theorem o15 : IsC (φ := .f32) X.o15 (dx2 W R) := pay24 B.v40 B.v48 B.v68 B.v70 B.v71
theorem o16 : IsC (φ := .bf16) X.o16 (du W R) := pay27 B.v4 B.v40 B.v48 B.v68 B.v70 B.v71
theorem o17 : IsC (φ := .bf16) X.o17 (dya W R) := B.v106
theorem o18 : IsC (φ := .bf16) X.o18 (dyb W R) := B.v108
theorem o20 : IsC (φ := .f32) X.o20 (dat W R) := pay1 B.v126 B.h9 B.v137
theorem o21 : IsC (φ := .f32) X.o21 (dsum W R) := pay3 B.v126 B.h9 B.v137 B.h8 B.h13
theorem o22 : IsC (φ := .bf16) X.o22 (dza W R) := pay2 B.v126 B.h9 B.v137 B.h8
theorem o23 : IsC (φ := .f32) X.o23 (dob W R) := pay34 B.v108 B.h11

/-- The gates' gradients side by side. -/
theorem o19 : IsC (φ := .bf16) X.o19 (dgates W R) := by
  intro i j
  by_cases h : j.val < 1024
  · rw [Ins.o19, dgates, dif_pos h, dif_pos (show ((ix2 i j : S256x2048.Idx) 1).val < 1024 from h)]
    exact pay31 B.v10 B.v21 B.v104 _ _
  · rw [Ins.o19, dgates, dif_neg h, dif_neg (show ¬((ix2 i j : S256x2048.Idx) 1).val < 1024 from h)]
    exact pay32 B.v13 B.v29 B.v104 _ _

/-- What the body adds to the first accumulator. -/
theorem next24 {A : Vec Ideal S8x1024 .f32} {a : Mat 8 1024} (h : IsC (φ := .f32) A a) :
    IsC (φ := .f32) (X.next24 A) (fun i j => a i j + ∑ s, vecTerm W R s i j) := by
  intro i j
  show (if i.val = 0 then _ else if i.val = 1 then _ else A (ix2 i j)) = _
  by_cases h0 : i = 0
  · subst h0
    exact pay25 B.v40 B.v48 B.v68 B.v70 B.v71 B.v36 (A := fun _ c => a 0 c) (fun i j => (row0_apply A i j).trans (h 0 j)) 0 j
  by_cases h1 : i = 1
  · subst h1
    exact pay26 B.v40 B.v48 B.v66 (A := fun _ c => a 1 c) (fun i j => (row1_apply A i j).trans (h 1 j)) 0 j
  have e0 : ¬i.val = 0 := fun e => h0 (Fin.ext e)
  have e1 : ¬i.val = 1 := fun e => h1 (Fin.ext e)
  refine ((if_neg e0).trans (if_neg e1)).trans ((h i j).trans ?_)
  simp [vecTerm, h0, h1]

/-- What the body adds to the second. -/
theorem next25 {A : Vec Ideal S8x128 .f32} {a : ℝ} (h : IsC (φ := .f32) A fun _ _ => a) :
    IsC (φ := .f32) (X.next25 A) (fun _ _ => a + ∑ s, sq W R s) := pay19 B.v4 B.v6 B.v30 B.v31 B.h12 B.h5 B.h6 h

end InsC

/-- The accumulators start at zero. -/
theorem pay4 : IsC (φ := .f32) (k0_pay4 (F := Ideal)) fun _ _ => 0 := by
  intro i j; pointwise [k0_pay4]; simp

theorem pay5 : IsC (φ := .f32) (k0_pay5 (F := Ideal)) fun _ _ => 0 := by
  intro i j; pointwise [k0_pay5]; simp

end Merge

end
-- ==== Proof.InsRead.lean ====
/- The kernel's input blocks, read off the arrays: block `t` of the tokens' arrays is their rows `256 t … 256 t + 255`
   (of the projection, in the columns of one gate), the weights' and the vectors' block is the whole array. -/
module

public import proofs.«01_k».proof.Proof.Host
public import Idealize.ShloMosaic.Lib.Pipeline.ValueKit

@[expose] public section

set_option maxRecDepth 16384

noncomputable section

namespace Merge

open Idealize.ShloMosaic Cert.KernelIdeal Cert.KernelIdeal.Gen

theorem point_lt (t : Fin cfg0.N) : t.val < 32 := lt_of_lt_of_eq t.isLt (show cfg0.N = 32 from N_0)

/-- The token that is row `p` of block `t`. -/
def tok (t : Fin cfg0.N) (p : Fin 256) : Fin 8192 := ⟨t.val * 256 + p.val, by have := point_lt t; omega⟩

/-- The block of each token array at each point. -/
theorem rows_index : ∀ t : Fin cfg0.N,
    win0_0.index t = ![t.val, 0] ∧ win0_1.index t = ![t.val, 0] ∧ win0_2.index t = ![t.val, 6]
    ∧ win0_3.index t = ![t.val, 7] ∧ win0_4.index t = ![t.val, 0] ∧ win0_5.index t = ![t.val, 0]
    ∧ win0_7.index t = ![t.val, 0] ∧ win0_8.index t = ![t.val, 3] :=
  (by decide +kernel : ∀ t : Fin grid0.N,
    win0_0.index t = ![t.val, 0] ∧ win0_1.index t = ![t.val, 0] ∧ win0_2.index t = ![t.val, 6]
    ∧ win0_3.index t = ![t.val, 7] ∧ win0_4.index t = ![t.val, 0] ∧ win0_5.index t = ![t.val, 0]
    ∧ win0_7.index t = ![t.val, 0] ∧ win0_8.index t = ![t.val, 3])

/-- The arrays taken whole. -/
theorem whole_index : ∀ t : Fin cfg0.N,
    win0_6.index t = ![0, 0] ∧ win0_9.index t = ![0, 0] ∧ win0_10.index t = ![0, 0] ∧ win0_11.index t = ![0, 0]
    ∧ win0_12.index t = ![0, 0] :=
  (by decide +kernel : ∀ t : Fin grid0.N,
    win0_6.index t = ![0, 0] ∧ win0_9.index t = ![0, 0] ∧ win0_10.index t = ![0, 0] ∧ win0_11.index t = ![0, 0]
    ∧ win0_12.index t = ![0, 0])

variable {m : (ℓ : Loc nD τ Cert.KernelIdeal.sig) → Buf (Elt Ideal) ℓ} {c : Dev nD} (t : Fin cfg0.N)

theorem blk0 (i : Fin 256) (j : Fin 512) : iblk m c 0 t (ix2 i j) = V m c main_v10 (ix2 (tok t i) j) := by
  obtain ⟨e, -, -, -, -, -, -, -⟩ := rows_index t
  blk_ext [iblk, tok, e]
theorem blk1 (i : Fin 256) (j : Fin 1024) : iblk m c 1 t (ix2 i j) = V m c main_arg1 (ix2 (tok t i) j) := by
  obtain ⟨-, e, -, -, -, -, -, -⟩ := rows_index t
  blk_ext [iblk, tok, e]
theorem blk2 (i : Fin 256) (j : Fin 1024) : iblk m c 2 t (ix2 i j) = V m c main_arg2 (ix2 (tok t i) ⟨6144 + j.val, by omega⟩) := by
  obtain ⟨-, -, e, -, -, -, -, -⟩ := rows_index t
  blk_ext [iblk, tok, e]
theorem blk3 (i : Fin 256) (j : Fin 1024) : iblk m c 3 t (ix2 i j) = V m c main_arg2 (ix2 (tok t i) ⟨7168 + j.val, by omega⟩) := by
  obtain ⟨-, -, -, e, -, -, -, -⟩ := rows_index t
  blk_ext [iblk, tok, e]
theorem blk4 (i : Fin 256) (j : Fin 1024) : iblk m c 4 t (ix2 i j) = V m c main_arg3 (ix2 (tok t i) j) := by
  obtain ⟨-, -, -, -, e, -, -, -⟩ := rows_index t
  blk_ext [iblk, tok, e]
theorem blk5 (i : Fin 256) (j : Fin 1024) : iblk m c 5 t (ix2 i j) = V m c main_arg4 (ix2 (tok t i) j) := by
  obtain ⟨-, -, -, -, -, e, -, -⟩ := rows_index t
  blk_ext [iblk, tok, e]
theorem blk7 (i : Fin 256) (j : Fin 512) : iblk m c 7 t (ix2 i j) = V m c main_arg0 (ix2 (tok t i) j) := by
  obtain ⟨-, -, -, -, -, -, e, -⟩ := rows_index t
  blk_ext [iblk, tok, e]
theorem blk8 (i : Fin 256) (j : Fin 512) : iblk m c 8 t (ix2 i j) = V m c main_arg2 (ix2 (tok t i) ⟨1536 + j.val, by omega⟩) := by
  obtain ⟨-, -, -, -, -, -, -, e⟩ := rows_index t
  blk_ext [iblk, tok, e]
theorem blk6 (i : Fin 8) (j : Fin 1024) : iblk m c 6 t (ix2 i j) = V m c main_v12 (ix2 i j) := by
  obtain ⟨e, -, -, -, -⟩ := whole_index t
  blk_ext [iblk, e]
theorem blk9 (i : Fin 512) (j : Fin 1024) : iblk m c 9 t (ix2 i j) = V m c main_arg7 (ix2 i j) := by
  obtain ⟨-, e, -, -, -⟩ := whole_index t
  blk_ext [iblk, e]
theorem blk10 (i : Fin 1024) (j : Fin 1024) : iblk m c 10 t (ix2 i j) = V m c main_arg8 (ix2 i j) := by
  obtain ⟨-, -, e, -, -⟩ := whole_index t
  blk_ext [iblk, e]
theorem blk11 (i : Fin 1024) (j : Fin 1024) : iblk m c 11 t (ix2 i j) = V m c main_arg9 (ix2 i j) := by
  obtain ⟨-, -, -, e, -⟩ := whole_index t
  blk_ext [iblk, e]
theorem blk12 (i : Fin 512) (j : Fin 512) : iblk m c 12 t (ix2 i j) = V m c main_v21 (ix2 i j) := by
  obtain ⟨-, -, -, -, e⟩ := whole_index t
  blk_ext [iblk, e]

end Merge

end
-- ==== Proof.KerVal.lean ====
/- What the kernel's twelve result arrays hold after the run, when its arguments hold reals. -/
module

public import proofs.«01_k».proof.Proof.Launch.Frame
public import proofs.«01_k».proof.Proof.BlockVal
public import proofs.«01_k».proof.Proof.InsRead

@[expose] public section

set_option maxRecDepth 16384
set_option maxHeartbeats 400000

noncomputable section

namespace Merge

open Idealize.ShloMosaic Cert.KernelIdeal Cert.KernelIdeal.Gen Merge.Run

/-- What the thirteen blocks hold, one at a time. -/
theorem insC_mk {W : Params} {R : Rows 256} {a1 a2 a3 a4 a5 a6 a7 a8 a9 a10 a11 a12 a13}
    (h1 : IsC (φ := .bf16) a1 (oa R)) (h2 : IsC (φ := .bf16) a2 R.ob) (h3 : IsC (φ := .f32) a3 R.ga) (h4 : IsC (φ := .f32) a4 R.gb)
    (h5 : IsC (φ := .f32) a5 R.x) (h6 : IsC (φ := .f32) a6 R.t) (h70 : ∀ j, a7 (ix2 0 j) = ((W.gate j : ℝ) : EReal))
    (h71 : ∀ j, a7 (ix2 1 j) = ((W.fg j : ℝ) : EReal)) (h8 : IsC (φ := .f32) a8 R.attn) (h9 : IsC (φ := .f32) a9 R.za)
    (h10 : IsC (φ := .bf16) a10 W.wa) (h11 : IsC (φ := .bf16) a11 W.wb) (h12 : IsC (φ := .bf16) a12 W.wo)
    (h13 : IsC (φ := .bf16) a13 head) : InsC (⟨a1, a2, a3, a4, a5, a6, a7, a8, a9, a10, a11, a12, a13⟩ : Ins Ideal) W R :=
  ⟨h1, h2, h3, h4, h5, h6, h70, h71, h8, h9, h10, h11, h12, h13⟩

variable {m : (ℓ : Loc nD τ Cert.KernelIdeal.sig) → Buf (Elt Ideal) ℓ} {c : Dev nD} {W : Params} {R : Rows 8192}
  {P : Mat 8192 8192} (K : KArgs W R P m c)
include K

theorem in1 (t : Fin cfg0.N) : IsC (φ := .bf16) (iblk m c 0 t) (oa (R.pick (tok t))) := fun i j =>
  (blk0 t i j).trans (host_oa K _ _)

theorem in2 (t : Fin cfg0.N) : IsC (φ := .bf16) (iblk m c 1 t) (R.pick (tok t)).ob := fun i j =>
  (blk1 t i j).trans ((congrFun (V_main_arg1 m c) _).trans (K.h1 _ _))

theorem in3 (t : Fin cfg0.N) : IsC (φ := .f32) (iblk m c 2 t) (R.pick (tok t)).ga := fun i j =>
  (blk2 t i j).trans ((congrFun (V_main_arg2 m c) _).trans ((K.h2 _ _).trans (by rw [← congrFun (congrFun K.ga _) j]; rfl)))

theorem in4 (t : Fin cfg0.N) : IsC (φ := .f32) (iblk m c 3 t) (R.pick (tok t)).gb := fun i j =>
  (blk3 t i j).trans ((congrFun (V_main_arg2 m c) _).trans ((K.h2 _ _).trans (by rw [← congrFun (congrFun K.gb _) j]; rfl)))

theorem in5 (t : Fin cfg0.N) : IsC (φ := .f32) (iblk m c 4 t) (R.pick (tok t)).x := fun i j =>
  (blk4 t i j).trans ((congrFun (V_main_arg3 m c) _).trans (K.h3 _ _))

theorem in6 (t : Fin cfg0.N) : IsC (φ := .f32) (iblk m c 5 t) (R.pick (tok t)).t := fun i j =>
  (blk5 t i j).trans ((congrFun (V_main_arg4 m c) _).trans (K.h4 _ _))

theorem in70 (t : Fin cfg0.N) (j : Fin 1024) : (iblk m c 6 t : Vec Ideal S8x1024 .f32) (ix2 0 j) = ((W.gate j : ℝ) : EReal) :=
  (blk6 t 0 j).trans (host_vec0 K j)

theorem in71 (t : Fin cfg0.N) (j : Fin 1024) : (iblk m c 6 t : Vec Ideal S8x1024 .f32) (ix2 1 j) = ((W.fg j : ℝ) : EReal) :=
  (blk6 t 1 j).trans (host_vec1 K j)

theorem in8 (t : Fin cfg0.N) : IsC (φ := .f32) (iblk m c 7 t) (R.pick (tok t)).attn := fun i j =>
  (blk7 t i j).trans ((congrFun (V_main_arg0 m c) _).trans (K.h0 _ _))

theorem in9 (t : Fin cfg0.N) : IsC (φ := .f32) (iblk m c 8 t) (R.pick (tok t)).za := fun i j =>
  (blk8 t i j).trans ((congrFun (V_main_arg2 m c) _).trans ((K.h2 _ _).trans (by rw [← congrFun (congrFun K.za _) j]; rfl)))

theorem in10 (t : Fin cfg0.N) : IsC (φ := .bf16) (iblk m c 9 t) W.wa := fun i j =>
  (blk9 t i j).trans ((congrFun (V_main_arg7 m c) _).trans (K.h7 _ _))

theorem in11 (t : Fin cfg0.N) : IsC (φ := .bf16) (iblk m c 10 t) W.wb := fun i j =>
  (blk10 t i j).trans ((congrFun (V_main_arg8 m c) _).trans (K.h8 _ _))

theorem in12 (t : Fin cfg0.N) : IsC (φ := .bf16) (iblk m c 11 t) W.wo := fun i j =>
  (blk11 t i j).trans ((congrFun (V_main_arg9 m c) _).trans (K.h9 _ _))

omit K in
theorem in13 (t : Fin cfg0.N) : IsC (φ := .bf16) (iblk m c 12 t) head := fun i j => (blk12 t i j).trans (host_head _ _)

/-- The blocks of a point hold the rows of its tokens. -/
theorem insC (t : Fin cfg0.N) : InsC (ins m c t) W (R.pick (tok t)) := by
  unfold ins
  exact insC_mk (in1 K t) (in2 K t) (in3 K t) (in4 K t) (in5 K t) (in6 K t) (in70 K t) (in71 K t) (in8 K t) (in9 K t) (in10 K t)
    (in11 K t) (in12 K t) (in13 t)

omit K in
/-- The block of each output array at each point. -/
theorem outs_index : ∀ t : Fin cfg0.N,
    win0_13.index t = ![t.val, 0] ∧ win0_14.index t = ![t.val, 0] ∧ win0_15.index t = ![t.val, 0]
    ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0]
    ∧ win0_22.index t = ![t.val, 0] :=
  (by decide +kernel : ∀ t : Fin grid0.N,
    win0_13.index t = ![t.val, 0] ∧ win0_14.index t = ![t.val, 0] ∧ win0_15.index t = ![t.val, 0]
    ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0]
    ∧ win0_22.index t = ![t.val, 0])

theorem arr13 : (dats m 0 c).arrAt 13 cfg0.N = arr (y W R) := by
  refine (dats m 0 c).arrAt_eq_of_covers 13 _ (by decide +kernel) fun t hf z => ?_
  obtain ⟨e, -, -, -, -, -, -, -, -, -⟩ := outs_index t
  blk_simp
  rw [after0_13, (insC K t).o14.eq_arr]
  refine Eq.trans (b := arr (y W R) (ix2 (tok t (z 0)) (z 1))) rfl ?_
  blk_ext [tok, e]

theorem arr14 : (dats m 0 c).arrAt 14 cfg0.N = arr (dx2 W R) := by
  refine (dats m 0 c).arrAt_eq_of_covers 14 _ (by decide +kernel) fun t hf z => ?_
  obtain ⟨-, e, -, -, -, -, -, -, -, -⟩ := outs_index t
  blk_simp
  rw [after0_14, (insC K t).o15.eq_arr]
  refine Eq.trans (b := arr (dx2 W R) (ix2 (tok t (z 0)) (z 1))) rfl ?_
  blk_ext [tok, e]

theorem arr15 : (dats m 0 c).arrAt 15 cfg0.N = arr (du W R) := by
  refine (dats m 0 c).arrAt_eq_of_covers 15 _ (by decide +kernel) fun t hf z => ?_
  obtain ⟨-, -, e, -, -, -, -, -, -, -⟩ := outs_index t
  blk_simp
  rw [after0_15, (insC K t).o16.eq_arr]
  refine Eq.trans (b := arr (du W R) (ix2 (tok t (z 0)) (z 1))) rfl ?_
  blk_ext [tok, e]

theorem arr16 : (dats m 0 c).arrAt 16 cfg0.N = arr (dya W R) := by
  refine (dats m 0 c).arrAt_eq_of_covers 16 _ (by decide +kernel) fun t hf z => ?_
  obtain ⟨-, -, -, e, -, -, -, -, -, -⟩ := outs_index t
  blk_simp
  rw [after0_16, (insC K t).o17.eq_arr]
  refine Eq.trans (b := arr (dya W R) (ix2 (tok t (z 0)) (z 1))) rfl ?_
  blk_ext [tok, e]

theorem arr17 : (dats m 0 c).arrAt 17 cfg0.N = arr (dyb W R) := by
  refine (dats m 0 c).arrAt_eq_of_covers 17 _ (by decide +kernel) fun t hf z => ?_
  obtain ⟨-, -, -, -, e, -, -, -, -, -⟩ := outs_index t
  blk_simp
  rw [after0_17, (insC K t).o18.eq_arr]
  refine Eq.trans (b := arr (dyb W R) (ix2 (tok t (z 0)) (z 1))) rfl ?_
  blk_ext [tok, e]

theorem arr18 : (dats m 0 c).arrAt 18 cfg0.N = arr (dgates W R) := by
  refine (dats m 0 c).arrAt_eq_of_covers 18 _ (by decide +kernel) fun t hf z => ?_
  obtain ⟨-, -, -, -, -, e, -, -, -, -⟩ := outs_index t
  blk_simp
  rw [after0_18, (insC K t).o19.eq_arr]
  refine Eq.trans (b := arr (dgates W R) (ix2 (tok t (z 0)) (z 1))) rfl ?_
  blk_ext [tok, e]

theorem arr19 : (dats m 0 c).arrAt 19 cfg0.N = arr (dat W R) := by
  refine (dats m 0 c).arrAt_eq_of_covers 19 _ (by decide +kernel) fun t hf z => ?_
  obtain ⟨-, -, -, -, -, -, e, -, -, -⟩ := outs_index t
  blk_simp
  rw [after0_19, (insC K t).o20.eq_arr]
  refine Eq.trans (b := arr (dat W R) (ix2 (tok t (z 0)) (z 1))) rfl ?_
  blk_ext [tok, e]

theorem arr20 : (dats m 0 c).arrAt 20 cfg0.N = arr (dsum W R) := by
  refine (dats m 0 c).arrAt_eq_of_covers 20 _ (by decide +kernel) fun t hf z => ?_
  obtain ⟨-, -, -, -, -, -, -, e, -, -⟩ := outs_index t
  blk_simp
  rw [after0_20, (insC K t).o21.eq_arr]
  refine Eq.trans (b := arr (dsum W R) (ix2 (tok t (z 0)) (z 1))) rfl ?_
  blk_ext [tok, e]

theorem arr21 : (dats m 0 c).arrAt 21 cfg0.N = arr (dza W R) := by
  refine (dats m 0 c).arrAt_eq_of_covers 21 _ (by decide +kernel) fun t hf z => ?_
  obtain ⟨-, -, -, -, -, -, -, -, e, -⟩ := outs_index t
  blk_simp
  rw [after0_21, (insC K t).o22.eq_arr]
  refine Eq.trans (b := arr (dza W R) (ix2 (tok t (z 0)) (z 1))) rfl ?_
  blk_ext [tok, e]

theorem arr22 : (dats m 0 c).arrAt 22 cfg0.N = arr (dob W R) := by
  refine (dats m 0 c).arrAt_eq_of_covers 22 _ (by decide +kernel) fun t hf z => ?_
  obtain ⟨-, -, -, -, -, -, -, -, -, e⟩ := outs_index t
  blk_simp
  rw [after0_22, (insC K t).o23.eq_arr]
  refine Eq.trans (b := arr (dob W R) (ix2 (tok t (z 0)) (z 1))) rfl ?_
  blk_ext [tok, e]

omit K in
/-- The part of a sum over the tokens that the first blocks hold, a block at a time. -/
theorem upTo_tok (f : Fin 8192 → ℝ) (n : ℕ) (hn : n < cfg0.N) :
    ∑ p : Fin 256, f ⟨(n * 256 + p.val) % 8192, Nat.mod_lt _ (by norm_num)⟩ = ∑ p, f (tok ⟨n, hn⟩ p) := by
  refine Finset.sum_congr rfl fun p _ => congrArg f (Fin.ext ?_)
  have := point_lt ⟨n, hn⟩
  show (n * 256 + p.val) % 8192 = n * 256 + p.val
  dsimp only at this
  omega

/-- The accumulators after each point. -/
theorem acc_val (n : ℕ) (hn : n < cfg0.N) :
    IsC (φ := .f32) (acc m c n hn).1 (fun i j => upTo (fun s => vecTerm W R s i j) n)
      ∧ IsC (φ := .f32) (acc m c n hn).2 (fun _ _ => upTo (sq W R) n) := by
  induction n with
  | zero =>
    refine ⟨fun i j => ((insC K ⟨0, hn⟩).next24 pay4 i j).trans (congrArg (fun x : ℝ => (x : EReal)) ?_),
      fun i j => ((insC K ⟨0, hn⟩).next25 pay5 i j).trans (congrArg (fun x : ℝ => (x : EReal)) ?_)⟩
    · unfold upTo
      dsimp only
      rw [Finset.sum_range_succ, Finset.sum_range_zero, upTo_tok (fun s => vecTerm W R s i j) _ hn]
      rfl
    · unfold upTo
      dsimp only
      rw [Finset.sum_range_succ, Finset.sum_range_zero, upTo_tok (sq W R) _ hn]
      rfl
  | succ n ih =>
    obtain ⟨h1, h2⟩ := ih (Nat.lt_of_succ_lt hn)
    refine ⟨fun i j => ((insC K ⟨n + 1, hn⟩).next24 h1 i j).trans (congrArg (fun x : ℝ => (x : EReal)) ?_),
      fun i j => ((insC K ⟨n + 1, hn⟩).next25 h2 i j).trans (congrArg (fun x : ℝ => (x : EReal)) ?_)⟩
    · unfold upTo
      dsimp only
      rw [Finset.sum_range_succ _ (n + 1), upTo_tok (fun s => vecTerm W R s i j) _ hn]
      rfl
    · unfold upTo
      dsimp only
      rw [Finset.sum_range_succ _ (n + 1), upTo_tok (sq W R) _ hn]
      rfl

omit K in
/-- The last point. -/
def lastPoint : Fin cfg0.N := ⟨31, lt_of_lt_of_eq (by norm_num) (show cfg0.N = 32 from N_0).symm⟩

theorem arr23 : (dats m 0 c).arrAt 23 cfg0.N = arr fun i j => ∑ s, vecTerm W R s i j := by
  refine (dats m 0 c).arrAt_eq_of_after_last 23 lastPoint (by decide +kernel) _ fun j => ?_
  blk_simp
  rw [after0_23, (acc_val K _ _).1.eq_arr]
  exact congrArg (fun x : ℝ => (x : EReal)) (upTo_last _)

theorem arr24 : (dats m 0 c).arrAt 24 cfg0.N = arr fun _ _ => ∑ s, sq W R s := by
  refine (dats m 0 c).arrAt_eq_of_after_last 24 lastPoint (by decide +kernel) _ fun j => ?_
  blk_simp
  rw [after0_24, (acc_val K _ _).2.eq_arr]
  exact congrArg (fun x : ℝ => (x : EReal)) (upTo_last _)

end Merge

end
-- ==== Proof.RefPay.lean ====
/-
  What each buffer of the reference holds when its arguments hold reals: the corresponding quantity of the mathematics.
-/
module

public import proofs.«01_k».proof.Proof.Gen.ReferenceIdeal.Read
public import proofs.«01_k».proof.Proof.Args

@[expose] public section

noncomputable section

namespace Merge

open Idealize.ShloMosaic Cert.ReferenceIdeal Cert.ReferenceIdeal.Gen Cert.ReferenceIdeal.Read

/-- The reference's logistic function, of a real. -/
theorem logistic_coe (x : ℝ) : Ideal.div 1 (1 + Ideal.exp (-((x : ℝ) : EReal))) = ((sig x : ℝ) : EReal) := by
  have h : 1 + Real.exp (-x) ≠ 0 := by positivity
  rw [← EReal.coe_neg, Ideal.exp_coe, lit_one, ← EReal.coe_add, Ideal.div_coe h, ← EReal.coe_mul, sig_eq, one_mul]

section
variable {W : Params} {R : Rows 8192} {P : Mat 8192 8192} {x0 : FVec Ideal S8192x512 .f32} {x1 : FVec Ideal S8192x1024 .bf16}
    {x2 : FVec Ideal S8192x8192 .f32} {x3 x4 : FVec Ideal S8192x1024 .f32} {x5 x6 : FVec Ideal S1x1024 .f32}
    {x7 : FVec Ideal S512x1024 .bf16} {x8 x9 : FVec Ideal S1024x1024 .bf16}
  (A : Args W R P x0 x1 x2 x3 x4 x5 x6 x7 x8 x9)
include A

theorem ref_za : IsC (φ := .f32) (val_main_v0 (F := Ideal) x2) R.za := by
  intro i j
  pointwise [val_main_v0]
  rw [A.h2, A.za]

theorem ref_ga : IsC (φ := .f32) (val_main_v1 (F := Ideal) x2) R.ga := by
  intro i j
  pointwise [val_main_v1]
  rw [A.h2, A.ga]

theorem ref_gb : IsC (φ := .f32) (val_main_v2 (F := Ideal) x2) R.gb := by
  intro i j
  pointwise [val_main_v2]
  rw [A.h2, A.gb]

theorem ref_sz : IsC (φ := .f32) (val_main_v7_2 (F := Ideal) x2) (sz R) := by
  intro i j
  pointwise [val_main_v7_2, val_main_call0_v4, val_main_call0_v3, val_main_call0_v1, val_main_call0_v0, val_main_call0_v2, val_main_call0_cst, val_main_call0_cst_0]
  rw [ref_za A, logistic_coe]
  rfl

theorem ref_sa : IsC (φ := .f32) (val_main_v16 (F := Ideal) x2) (sa R) := by
  intro i j
  pointwise [val_main_v16, val_main_v15, val_main_v14, val_main_v13, val_main_v12, val_main_v11, val_main_cst, val_main_cst_0]
  rw [ref_ga A, logistic_coe]
  rfl

theorem ref_sb : IsC (φ := .f32) (val_main_v26 (F := Ideal) x2) (sb R) := by
  intro i j
  pointwise [val_main_v26, val_main_v25, val_main_v24, val_main_v23, val_main_v22, val_main_v21, val_main_cst_2, val_main_cst_3]
  rw [ref_gb A, logistic_coe]
  rfl

theorem ref_silu : IsC (φ := .f32) (val_main_v7_0 (F := Ideal) x2) fun s c => R.za s c * sz R s c := by
  intro i j
  pointwise [val_main_v7_0]
  rw [ref_za A, ref_sz A, ← EReal.coe_mul]

theorem ref_ya : IsC (φ := .f32) (val_main_v9 (F := Ideal) x0 x2 x7) (ya W R) := by
  intro i j
  pointwise [val_main_v9, val_main_v8, val_main_v4]
  simp only [A.h0 _ _, A.h7 _ _, ref_silu A _ _, ← EReal.coe_mul, ← EReal.coe_add, ← EReal.coe_sub, sum_coe]
  rfl

theorem ref_yb : IsC (φ := .f32) (val_main_v10 (F := Ideal) x1 x8) (yb W R) := by
  intro i j
  pointwise [val_main_v10, val_main_v3, val_main_v5]
  simp only [A.h1 _ _, A.h8 _ _, ← EReal.coe_mul, ← EReal.coe_add, ← EReal.coe_sub, sum_coe]
  rfl

theorem ref_y : IsC (φ := .f32) (val_main_v31 (F := Ideal) x0 x1 x2 x7 x8) (y W R) := by
  intro i j
  pointwise [val_main_v31, val_main_v20, val_main_v30]
  simp only [ref_sa A _ _, ref_sb A _ _, ref_ya A _ _, ref_yb A _ _, ← EReal.coe_mul, ← EReal.coe_add, ← EReal.coe_sub, sum_coe]
  rfl

theorem ref_u : IsC (φ := .f32) (val_main_v32 (F := Ideal) x0 x1 x2 x7 x8 x9) (u W R) := by
  intro i j
  pointwise [val_main_v32, val_main_v6]
  simp only [ref_y A _ _, A.h9 _ _, ← EReal.coe_mul, ← EReal.coe_add, ← EReal.coe_sub, sum_coe]
  rfl

theorem ref_x2 : IsC (φ := .f32) (val_main_v35 (F := Ideal) x0 x1 x2 x3 x5 x7 x8 x9) (Merge.x2 W R) := by
  intro i j
  pointwise [val_main_v35, val_main_v34, val_main_v33]
  simp only [A.h3 _ _, A.h5 _ _, ref_u A _ _, ← EReal.coe_mul, ← EReal.coe_add, ← EReal.coe_sub, sum_coe]
  rfl

theorem ref_ms : IsC (φ := .f32) (val_main_v42 (F := Ideal) x0 x1 x2 x3 x5 x7 x8 x9) fun s _ => ms W R s := by
  intro i j
  pointwise [val_main_v42, val_main_v41, val_main_v40, val_main_v39, val_main_v38, val_main_v37, val_main_v36, val_main_cst_5, val_main_cst_6, val_main_cst_7]
  simp only [ref_x2 A _ _, lit_1024, lit_eps, div_1024, ← EReal.coe_mul, ← EReal.coe_add, ← EReal.coe_sub, sum_coe]
  rfl

theorem ref_r : IsC (φ := .f32) (val_main_v43 (F := Ideal) x0 x1 x2 x3 x5 x7 x8 x9) fun s _ => r W R s := by
  intro i j
  pointwise [val_main_v43]
  rw [ref_ms A]
  exact rsqrt_pos (ms_pos W R i)

/-- The derivative of the reciprocal root. -/
theorem ref_dr : IsC (φ := .f32) (val_main_v46 (F := Ideal) x0 x1 x2 x3 x5 x7 x8 x9) fun s _ => -(1 / 2) * (r W R s * (1 / ms W R s)) := by
  intro i j
  pointwise [val_main_v46, val_main_v45, val_main_v44, val_main_cst_8]
  rw [ref_ms A, ref_r A, lit_neg_half, Ideal.div_coe (ms_pos W R i).ne', ← EReal.coe_mul, ← EReal.coe_mul]

theorem ref_n : IsC (φ := .f32) (val_main_v48 (F := Ideal) x0 x1 x2 x3 x5 x7 x8 x9) fun s c => Merge.x2 W R s c * r W R s := by
  intro i j
  pointwise [val_main_v48, val_main_v47]
  rw [ref_x2 A, ref_r A, ← EReal.coe_mul]

theorem ref_err : IsC (φ := .f32) (val_main_v51 (F := Ideal) x0 x1 x2 x3 x4 x5 x6 x7 x8 x9) (err W R) := by
  intro i j
  pointwise [val_main_v51, val_main_v50, val_main_v49]
  simp only [ref_n A _ _, A.h6 _ _, A.h4 _ _, ← EReal.coe_mul, ← EReal.coe_add, ← EReal.coe_sub, sum_coe]
  rfl

theorem ref_dout : IsC (φ := .f32) (val_main_v65 (F := Ideal) x0 x1 x2 x3 x4 x5 x6 x7 x8 x9) (dout W R) := by
  intro i j
  pointwise [val_main_v65, val_main_v64, val_main_v63, val_main_v62, val_main_v61, val_main_v60, val_main_v54, val_main_v53, val_main_cst_9, val_main_cst_14, val_main_cst_15, val_main_cst_16]
  simp only [ref_err A _ _, lit_half, lit_one, lit_two, lit_1024, div_1024, ← EReal.coe_mul, ← EReal.coe_add, ← EReal.coe_sub, sum_coe]
  rw [dout]
  congr 1
  ring

theorem ref_gh : IsC (φ := .f32) (val_main_v70 (F := Ideal) x0 x1 x2 x3 x4 x5 x6 x7 x8 x9) (gh W R) := by
  intro i j
  pointwise [val_main_v70, val_main_v69]
  simp only [ref_dout A _ _, A.h6 _ _, ← EReal.coe_mul, ← EReal.coe_add, ← EReal.coe_sub, sum_coe]
  rfl

/-- Half the factor of the stream in its own cotangent. -/
theorem ref_k : IsC (φ := .f32) (val_main_v80 (F := Ideal) x0 x1 x2 x3 x4 x5 x6 x7 x8 x9) fun s _ => -(1 / 2) * (r W R s * r W R s * r W R s * gx W R s) := by
  intro i j
  pointwise [val_main_v80, val_main_v79, val_main_v78, val_main_v77, val_main_v76, val_main_v73, val_main_v72, val_main_v71, val_main_cst_18, val_main_cst_19, val_main_cst_20]
  simp only [ref_x2 A _ _, ref_gh A _ _, ref_dr A _ _, lit_1024, div_1024, ← EReal.coe_mul, ← EReal.coe_add, ← EReal.coe_sub, sum_coe]
  rw [gx, ← r_sq, Fin.sum_univ_one]
  simp only [mul_comm (Merge.x2 W R _ _)]
  congr 1
  ring

theorem ref_dx2 : IsC (φ := .f32) (val_main_v84 (F := Ideal) x0 x1 x2 x3 x4 x5 x6 x7 x8 x9) (dx2 W R) := by
  intro i j
  pointwise [val_main_v84, val_main_v83, val_main_v82, val_main_v81, val_main_v75, val_main_v74]
  simp only [ref_x2 A _ _, ref_gh A _ _, ref_k A _ _, ref_r A _ _, ← EReal.coe_mul, ← EReal.coe_add, ← EReal.coe_sub, sum_coe]
  rw [dx2]
  congr 1
  ring

theorem ref_du : IsC (φ := .f32) (val_main_v86 (F := Ideal) x0 x1 x2 x3 x4 x5 x6 x7 x8 x9) (du W R) := by
  intro i j
  pointwise [val_main_v86, val_main_v85]
  simp only [ref_dx2 A _ _, A.h5 _ _, ← EReal.coe_mul, ← EReal.coe_add, ← EReal.coe_sub, sum_coe]
  rw [du, mul_comm]

theorem ref_dy : IsC (φ := .f32) (val_main_v90 (F := Ideal) x0 x1 x2 x3 x4 x5 x6 x7 x8 x9) (dy W R) := by
  intro i j
  pointwise [val_main_v90, val_main_v6]
  simp only [ref_du A _ _, A.h9 _ _, ← EReal.coe_mul, ← EReal.coe_add, ← EReal.coe_sub, sum_coe]
  rfl

theorem ref_dya : IsC (φ := .f32) (val_main_v94 (F := Ideal) x0 x1 x2 x3 x4 x5 x6 x7 x8 x9) (dya W R) := by
  intro i j
  pointwise [val_main_v94]
  rw [ref_sa A, ref_dy A, ← EReal.coe_mul, dya, mul_comm]

theorem ref_dyb : IsC (φ := .f32) (val_main_v91 (F := Ideal) x0 x1 x2 x3 x4 x5 x6 x7 x8 x9) (dyb W R) := by
  intro i j
  pointwise [val_main_v91]
  rw [ref_sb A, ref_dy A, ← EReal.coe_mul, dyb, mul_comm]

theorem ref_dga : IsC (φ := .f32) (val_main_v96 (F := Ideal) x0 x1 x2 x3 x4 x5 x6 x7 x8 x9) (dga W R) := by
  intro i j
  pointwise [val_main_v96, val_main_v95, val_main_v19, val_main_v18, val_main_v17, val_main_cst_1]
  simp only [ref_sa A _ _, ref_dy A _ _, ref_ya A _ _, lit_one, ← EReal.coe_mul, ← EReal.coe_add, ← EReal.coe_sub, sum_coe]
  rw [dga]
  congr 1
  ring

theorem ref_dgb : IsC (φ := .f32) (val_main_v93 (F := Ideal) x0 x1 x2 x3 x4 x5 x6 x7 x8 x9) (dgb W R) := by
  intro i j
  pointwise [val_main_v93, val_main_v92, val_main_v29, val_main_v28, val_main_v27, val_main_cst_4]
  simp only [ref_sb A _ _, ref_dy A _ _, ref_yb A _ _, lit_one, ← EReal.coe_mul, ← EReal.coe_add, ← EReal.coe_sub, sum_coe]
  rw [dgb]
  congr 1
  ring

theorem ref_doa : IsC (φ := .f32) (val_main_v97 (F := Ideal) x0 x1 x2 x3 x4 x5 x6 x7 x8 x9) (doa W R) := by
  intro i j
  pointwise [val_main_v97, val_main_v4]
  simp only [ref_dya A _ _, A.h7 _ _, ← EReal.coe_mul, ← EReal.coe_add, ← EReal.coe_sub, sum_coe]
  rfl

theorem ref_dob : IsC (φ := .f32) (val_main_v101 (F := Ideal) x0 x1 x2 x3 x4 x5 x6 x7 x8 x9) (dob W R) := by
  intro i j
  pointwise [val_main_v101, val_main_v5]
  simp only [ref_dyb A _ _, A.h8 _ _, ← EReal.coe_mul, ← EReal.coe_add, ← EReal.coe_sub, sum_coe]
  rfl

theorem ref_dat : IsC (φ := .f32) (val_main_v99 (F := Ideal) x0 x1 x2 x3 x4 x5 x6 x7 x8 x9) (dat W R) := by
  intro i j
  pointwise [val_main_v99]
  simp only [ref_doa A _ _, ref_silu A _ _, ← EReal.coe_mul, ← EReal.coe_add, ← EReal.coe_sub, sum_coe]
  rfl

theorem ref_dza : IsC (φ := .f32) (val_main_v100 (F := Ideal) x0 x1 x2 x3 x4 x5 x6 x7 x8 x9) (dza W R) := by
  intro i j
  pointwise [val_main_v100, val_main_v98, val_main_v7_1, val_main_call1_v0, val_main_call1_v1, val_main_call1_v2, val_main_call0_v7, val_main_call0_v6, val_main_call0_cst_1]
  simp only [A.h0 _ _, ref_doa A _ _, ref_za A _ _, ref_sz A _ _, lit_one, ← EReal.coe_mul, ← EReal.coe_add, ← EReal.coe_sub, sum_coe]
  rw [dza]
  congr 1
  ring

theorem ref_dfg : IsC (φ := .f32) (val_main_v68 (F := Ideal) x0 x1 x2 x3 x4 x5 x6 x7 x8 x9) fun _ c => ∑ s, dfg W R s c := by
  intro i j
  pointwise [val_main_v68, val_main_v67, val_main_v66, val_main_cst_17]
  simp only [ref_n A _ _, ref_dout A _ _, ← EReal.coe_mul, ← EReal.coe_add, ← EReal.coe_sub, sum_coe]
  refine congrArg _ ?_
  exact Finset.sum_congr rfl fun s _ => by rw [dfg]; ring

theorem ref_dgate : IsC (φ := .f32) (val_main_v89 (F := Ideal) x0 x1 x2 x3 x4 x5 x6 x7 x8 x9) fun _ c => ∑ s, dgate W R s c := by
  intro i j
  pointwise [val_main_v89, val_main_v88, val_main_v87, val_main_cst_21]
  simp only [ref_u A _ _, ref_dx2 A _ _, ← EReal.coe_mul, ← EReal.coe_add, ← EReal.coe_sub, sum_coe]
  rfl

theorem ref_sq : IsC (φ := .f32) (val_main_v111 (F := Ideal) x0 x1 x2 x3 x4 x5 x6 x7 x8 x9) fun _ _ => ∑ s, sq W R s := by
  intro i j
  pointwise [val_main_v111, val_main_v110, val_main_v59, val_main_v58, val_main_v57, val_main_v56, val_main_v55, val_main_v52, val_main_cst_10, val_main_cst_11, val_main_cst_12, val_main_cst_13, val_main_cst_24]
  simp only [ref_err A _ _, lit_half, lit_1024, lit_2048, div_1024, ← EReal.coe_mul, ← EReal.coe_add, ← EReal.coe_sub, sum_coe]
  refine congrArg _ ?_
  rw [← Finset.sum_mul]
  simp only [sq]
  ring

theorem ref_dsum : IsC (φ := .f32) (val_main_v107 (F := Ideal) x0 x1 x2 x3 x4 x5 x6 x7 x8 x9) (dsum W R) := by
  intro i j
  pointwise [val_main_v107, val_main_v106, val_main_v105, val_main_v104, val_main_v103, val_main_v102, val_main_cst_22]
  simp only [ref_dat A _ _, A.h0 _ _, ← EReal.coe_mul, ← EReal.coe_add, ← EReal.coe_sub, sum_coe]
  rw [dsum, sum_head fun k => dat W R i k * R.attn i k]

end

end Merge

end
-- ==== Proof.RefOut.lean ====
/-
  The reference's results that are made of others: the rounded ones, the two gates' gradients side by side, and the
  vectors' gradients over six rows of zeros.
-/
module

public import proofs.«01_k».proof.Proof.RefPay

@[expose] public section

noncomputable section

namespace Merge

open Idealize.ShloMosaic Cert.ReferenceIdeal Cert.ReferenceIdeal.Gen Cert.ReferenceIdeal.Read

variable {W : Params} {R : Rows 8192} {P : Mat 8192 8192} {x0 : FVec Ideal S8192x512 .f32} {x1 : FVec Ideal S8192x1024 .bf16}
    {x2 : FVec Ideal S8192x8192 .f32} {x3 x4 : FVec Ideal S8192x1024 .f32} {x5 x6 : FVec Ideal S1x1024 .f32}
    {x7 : FVec Ideal S512x1024 .bf16} {x8 x9 : FVec Ideal S1024x1024 .bf16}
  (A : Args W R P x0 x1 x2 x3 x4 x5 x6 x7 x8 x9)
include A

theorem out_y : IsC (φ := .bf16) (val_main_v112 (F := Ideal) x0 x1 x2 x7 x8) (y W R) := fun i j => ref_y A i j

theorem out_du : IsC (φ := .bf16) (val_main_v113 (F := Ideal) x0 x1 x2 x3 x4 x5 x6 x7 x8 x9) (du W R) := fun i j => ref_du A i j

theorem out_dya : IsC (φ := .bf16) (val_main_v114 (F := Ideal) x0 x1 x2 x3 x4 x5 x6 x7 x8 x9) (dya W R) := fun i j => ref_dya A i j

theorem out_dyb : IsC (φ := .bf16) (val_main_v115 (F := Ideal) x0 x1 x2 x3 x4 x5 x6 x7 x8 x9) (dyb W R) := fun i j => ref_dyb A i j

theorem out_dza : IsC (φ := .bf16) (val_main_v118 (F := Ideal) x0 x1 x2 x3 x4 x5 x6 x7 x8 x9) (dza W R) := fun i j => ref_dza A i j

theorem out_dgates : IsC (φ := .bf16) (val_main_v117 (F := Ideal) x0 x1 x2 x3 x4 x5 x6 x7 x8 x9) (dgates W R) := by
  intro i j
  unfold dgates
  by_cases h : j.val < 1024
  · rw [dif_pos h, ← ref_dga A]
    pointwise [val_main_v117, val_main_v116]
    exact dif_pos h
  · rw [dif_neg h, ← ref_dgb A]
    pointwise [val_main_v117, val_main_v116]
    exact dif_neg h

theorem out_vec : IsC (φ := .f32) (val_main_v109 (F := Ideal) x0 x1 x2 x3 x4 x5 x6 x7 x8 x9)
    (fun i c => ∑ s, vecTerm W R s i c) := by
  intro i j
  by_cases h0 : i = 0
  · subst h0
    pointwise [val_main_v109]
    exact ref_dgate A 0 j
  by_cases h1 : i = 1
  · subst h1
    pointwise [val_main_v109]
    exact ref_dfg A 0 j
  · have e0 : ¬i.val < 1 := fun h => h0 (Fin.ext (by omega))
    have e1 : ¬i.val - 1 < 1 := fun h => h1 (Fin.ext (by show i.val = 1; omega))
    simp only [vecTerm, h0, h1, if_false, Finset.sum_const_zero]
    pointwise [val_main_v109, val_main_v108, val_main_cst_23]
    simp only [e0, e1, dif_neg, not_false_eq_true]
    simp

end Merge

end
-- ==== Proof.RefRun.lean ====
/- The reference's run, with its twelve results written as the mathematics has them. -/
module

public import proofs.«01_k».proof.Proof.Gen.ReferenceIdeal.Run
public import proofs.«01_k».proof.Proof.RefOut

@[expose] public section

noncomputable section

namespace Merge

open Idealize.ShloMosaic Idealize.SL.Sem Cert.ReferenceIdeal Cert.ReferenceIdeal.Gen Cert.ReferenceIdeal.Read

/-- Where the arguments hold reals the reference ends with each result at its quantity, the arguments unchanged. -/
theorem ref_run (m' : (ℓ : Loc nD τ Cert.ReferenceIdeal.sig) → Buf (Elt Ideal) ℓ) (ρ : Dev nD → PrngReg) (W : Dev nD → Params)
    (R : Dev nD → Rows 8192) (P : Dev nD → Mat 8192 8192)
    (A : ∀ c : Dev nD, Args (W c) (R c) (P c) (m' ((c.tc : Thread nD τ).loc main_arg0)) (m' ((c.tc : Thread nD τ).loc main_arg1))
      (m' ((c.tc : Thread nD τ).loc main_arg2)) (m' ((c.tc : Thread nD τ).loc main_arg3))
      (m' ((c.tc : Thread nD τ).loc main_arg4)) (m' ((c.tc : Thread nD τ).loc main_arg5))
      (m' ((c.tc : Thread nD τ).loc main_arg6)) (m' ((c.tc : Thread nD τ).loc main_arg7))
      (m' ((c.tc : Thread nD τ).loc main_arg8)) (m' ((c.tc : Thread nD τ).loc main_arg9))) :
    θ_run (defs (F := Ideal)) (onTc (τ := τ) (main (F := Ideal))) ⟨m', fun _ => 0, ρ⟩ (fun r => ∀ c : Dev nD,
      r.2.mem ((c.tc : Thread nD τ).loc main_v112) = arr (y (W c) (R c))
      ∧ r.2.mem ((c.tc : Thread nD τ).loc main_v84) = arr (dx2 (W c) (R c))
      ∧ r.2.mem ((c.tc : Thread nD τ).loc main_v113) = arr (du (W c) (R c))
      ∧ r.2.mem ((c.tc : Thread nD τ).loc main_v114) = arr (dya (W c) (R c))
      ∧ r.2.mem ((c.tc : Thread nD τ).loc main_v115) = arr (dyb (W c) (R c))
      ∧ r.2.mem ((c.tc : Thread nD τ).loc main_v117) = arr (dgates (W c) (R c))
      ∧ r.2.mem ((c.tc : Thread nD τ).loc main_v99) = arr (dat (W c) (R c))
      ∧ r.2.mem ((c.tc : Thread nD τ).loc main_v107) = arr (dsum (W c) (R c))
      ∧ r.2.mem ((c.tc : Thread nD τ).loc main_v118) = arr (dza (W c) (R c))
      ∧ r.2.mem ((c.tc : Thread nD τ).loc main_v101) = arr (dob (W c) (R c))
      ∧ r.2.mem ((c.tc : Thread nD τ).loc main_v109) = arr (fun i j => ∑ s, vecTerm (W c) (R c) s i j)
      ∧ r.2.mem ((c.tc : Thread nD τ).loc main_v111) = arr (fun _ _ => ∑ s, sq (W c) (R c) s)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)) := by
  refine (θ_run defs _ _).mono (fun r h c => ?_) (Cert.ReferenceIdeal.Value.run (F := Ideal) m' ρ)
  obtain ⟨h0, h1, h2, h3, h4, h5, h6, h7, h8, h9, h10, h11, hargs⟩ := h c
  exact ⟨h0.trans ((val_main_v112_eq _ _ _ _ _).trans (out_y (A c)).eq_arr),
    h1.trans ((val_main_v84_eq m' c).trans (IsC.eq_arr (φ := .f32) (ref_dx2 (A c)))),
    h2.trans ((val_main_v113_eq m' c).trans (IsC.eq_arr (φ := .f32) (out_du (A c)))),
    h3.trans ((val_main_v114_eq m' c).trans (IsC.eq_arr (φ := .f32) (out_dya (A c)))),
    h4.trans ((val_main_v115_eq m' c).trans (IsC.eq_arr (φ := .f32) (out_dyb (A c)))),
    h5.trans ((val_main_v117_eq m' c).trans (IsC.eq_arr (φ := .f32) (out_dgates (A c)))),
    h6.trans ((val_main_v99_eq m' c).trans (IsC.eq_arr (φ := .f32) (ref_dat (A c)))),
    h7.trans ((val_main_v107_eq m' c).trans (IsC.eq_arr (φ := .f32) (ref_dsum (A c)))),
    h8.trans ((val_main_v118_eq m' c).trans (IsC.eq_arr (φ := .f32) (out_dza (A c)))),
    h9.trans ((val_main_v101_eq m' c).trans (IsC.eq_arr (φ := .f32) (ref_dob (A c)))),
    h10.trans ((val_main_v109_eq m' c).trans (IsC.eq_arr (φ := .f32) (out_vec (A c)))),
    h11.trans ((val_main_v111_eq m' c).trans (IsC.eq_arr (φ := .f32) (ref_sq (A c)))), hargs⟩

end Merge

end
-- ==== Proof.MergeValue.lean ====
/- The certificate of the merge kernel: the gated merge of the two branches, the output projection, the residual, the final norm
   and the loss head, forward and backward in one launch.

   The frames and the values of the kernel come from one run (`Merge.Run`, module Launch/Frame), whose results the modules
   BlockVal and KerVal read at the reals the arguments hold; the reference's run is read by RefPay and RefOut. Both arrive at
   the quantities the module Math defines. -/
module

public import proofs.«01_k».proof.Defs
public import proofs.«01_k».proof.Proof.Finite
public import proofs.«01_k».proof.Proof.KerVal
public import proofs.«01_k».proof.Proof.RefRun
public import Idealize.ShloMosaic.Adequacy
public import Idealize.ShloMosaic.Init

@[expose] public section

set_option maxRecDepth 16384
set_option maxHeartbeats 1000000

noncomputable section

namespace Merge

open Idealize.ShloMosaic Idealize.SL.Sem

/-- The reference's frame. -/
theorem frame_ref : Cert.quiescent_ReferenceIdeal := fun m ρ _ =>
  (θ_run Cert.ReferenceIdeal.defs _ _).mono
    (fun r h => ⟨fun c => (h c).2.2.2.2.2.2.2.2.2.2.2.2, sem_eq_zero_of_no_sems (by decide) r.2⟩)
    (Cert.ReferenceIdeal.Value.run (F := Ideal) m ρ)

/-- The kernel and the reference compute the same twelve arrays. -/
theorem value : Cert.algebraic_KernelIdeal_ReferenceIdeal_pre_finite := by
  intro m g m' g' hpre hagree
  let W : Dev Cert.KernelIdeal.nD → Params := fun c => params
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
  let R : Dev Cert.KernelIdeal.nD → Rows 8192 := fun c => rows
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
  let P : Dev Cert.KernelIdeal.nD → Mat 8192 8192 := fun c =>
    reals (m ((c.tc : Thread Cert.KernelIdeal.nD Cert.KernelIdeal.τ).loc Cert.KernelIdeal.main_arg2))
  have K : ∀ c, KArgs (W c) (R c) (P c) m c := fun c => by
    obtain ⟨h0, h1, h2, h3, h4, h5, h6, h7, h8, h9⟩ := hpre c
    exact args_of_pre h0 h1 h2 h3 h4 h5 h6 h7 h8 h9
  refine ⟨fun c => arr (y (W c) (R c)), fun c => arr (dx2 (W c) (R c)), fun c => arr (du (W c) (R c)), fun c => arr (dya (W c) (R c)), fun c => arr (dyb (W c) (R c)), fun c => arr (dgates (W c) (R c)), fun c => arr (dat (W c) (R c)), fun c => arr (dsum (W c) (R c)), fun c => arr (dza (W c) (R c)), fun c => arr (dob (W c) (R c)), fun c => arr (fun i j => ∑ s, vecTerm (W c) (R c) s i j), fun c => arr (fun _ _ => ∑ s, sq (W c) (R c) s), ?_, ?_⟩
  · refine (θ_run _ _ _).mono (fun r h c => ?_) (θ_run_and (Merge.Run.run_main (F := Ideal) m g) (Merge.Run.unchanged (F := Ideal) m g))
    exact ⟨((h.1 c).1 13).trans (arr13 (K c)),
      ((h.1 c).1 14).trans (arr14 (K c)),
      ((h.1 c).1 15).trans (arr15 (K c)),
      ((h.1 c).1 16).trans (arr16 (K c)),
      ((h.1 c).1 17).trans (arr17 (K c)),
      ((h.1 c).1 18).trans (arr18 (K c)),
      ((h.1 c).1 19).trans (arr19 (K c)),
      ((h.1 c).1 20).trans (arr20 (K c)),
      ((h.1 c).1 21).trans (arr21 (K c)),
      ((h.1 c).1 22).trans (arr22 (K c)),
      ((h.1 c).1 23).trans (arr23 (K c)),
      ((h.1 c).1 24).trans (arr24 (K c)), h.2 c⟩
  · refine ref_run m' g' W R P fun c => ?_
    obtain ⟨e0, e1, e2, e3, e4, e5, e6, e7, e8, e9⟩ := hagree c
    exact (K c).congr e0 e1 e2 e3 e4 e5 e6 e7 e8 e9

end Merge

end
-- ==== Proof.Dh.Math.lean ====
/-
  The mathematics of the gradient of the token stream before the input projection, over the real numbers: the product of
  the six parts of the projection's cotangent with the weight, and the backward pass of the modulated normalisation. Each
  quantity is a function of a row; the kernel uses it with the 512 rows of a block, the reference with all 8192 rows.
-/
module

public import proofs.«01_k».proof.Proof.Math

@[expose] public section

noncomputable section

namespace Dh

open Merge (Mat eps eps_pos)

/-- The weight, and the normalisation's two vectors. -/
structure Params where
  w : Mat 1024 8192
  g : Fin 1024 → ℝ
  sc : Fin 1024 → ℝ

/-- What belongs to the rows: the six parts of the projection's cotangent, the stream, and the residual's cotangent. -/
structure Rows (n : ℕ) where
  q : Mat n 512
  k : Mat n 512
  v : Mat n 512
  z : Mat n 512
  h : Mat n 4096
  t : Mat n 2048
  x : Mat n 1024
  dx2 : Mat n 1024

/-- Some of the rows. -/
def Rows.pick {n k : ℕ} (R : Rows n) (f : Fin k → Fin n) : Rows k :=
  ⟨fun s => R.q (f s), fun s => R.k (f s), fun s => R.v (f s), fun s => R.z (f s), fun s => R.h (f s), fun s => R.t (f s),
    fun s => R.x (f s), fun s => R.dx2 (f s)⟩

variable {n : ℕ} (W : Params) (R : Rows n)

/-- The six parts side by side. -/
def cat : Mat n 8192 := fun s c =>
  if h : c.val < 512 then R.q s ⟨c.val, h⟩
  else if h1 : c.val - 512 < 512 then R.k s ⟨c.val - 512, h1⟩
  else if h2 : c.val - 512 - 512 < 512 then R.v s ⟨c.val - 512 - 512, h2⟩
  else if h3 : c.val - 512 - 512 - 512 < 512 then R.z s ⟨c.val - 512 - 512 - 512, h3⟩
  else if h4 : c.val - 512 - 512 - 512 - 512 < 4096 then R.h s ⟨c.val - 512 - 512 - 512 - 512, h4⟩
  else R.t s ⟨c.val - 512 - 512 - 512 - 512 - 4096, by omega⟩

/-- The cotangent of the modulated normalised stream. -/
def dh : Mat n 1024 := fun s j => ∑ c, cat R s c * W.w j c
/-- The mean of the stream's squares, with the small constant added. -/
def ms : Fin n → ℝ := fun s => (∑ c, R.x s c * R.x s c) * (1 / 1024) + eps
/-- The reciprocal of the root of that. -/
def r : Fin n → ℝ := fun s => (√(ms R s))⁻¹
/-- The normalised stream. -/
def xn : Mat n 1024 := fun s c => R.x s c * r R s
/-- Its cotangent. -/
def dxn : Mat n 1024 := fun s c => dh W R s c * (W.g c * (1 + W.sc c))
/-- The mean of the cotangent against the stream. -/
def mean : Fin n → ℝ := fun s => (∑ c, dxn W R s c * R.x s c) * (1 / 1024)
/-- The gradient of the stream. -/
def gx : Mat n 1024 := fun s c => R.dx2 s c + r R s * dxn W R s c - R.x s c * (r R s * r R s * r R s * mean W R s)

/-- The terms of the three vectors' gradients that one row adds: of the shift, the scale and the normalisation's weight. -/
def dscale : Mat n 1024 := fun s c => dh W R s c * xn R s c * W.g c
def dnorm : Mat n 1024 := fun s c => dh W R s c * xn R s c * (1 + W.sc c)

/-- The eight rows of vectors' gradients that one row of tokens adds: three, and five of zeros. -/
def vecTerm : Fin n → Mat 8 1024 := fun s i c =>
  if i = 0 then dh W R s c else if i = 1 then dscale W R s c else if i = 2 then dnorm W R s c else 0

theorem sum_two {a b : ℕ} (f : Fin (a + b) → ℝ) :
    ∑ k, f k = (∑ k : Fin a, f ⟨k.val, by omega⟩) + ∑ k : Fin b, f ⟨a + k.val, by omega⟩ := Fin.sum_univ_add f

/-- A sum over six ranges side by side, range by range. -/
theorem sum_six {a b c d e g o2 o3 o4 o5 N : ℕ} (h2 : o2 = a + b) (h3 : o3 = o2 + c) (h4 : o4 = o3 + d) (h5 : o5 = o4 + e)
    (hN : N = o5 + g) (f : Fin N → ℝ) :
    ∑ k, f k = (∑ k : Fin a, f ⟨k.val, by omega⟩) + (∑ k : Fin b, f ⟨a + k.val, by omega⟩)
      + (∑ k : Fin c, f ⟨o2 + k.val, by omega⟩) + (∑ k : Fin d, f ⟨o3 + k.val, by omega⟩)
      + (∑ k : Fin e, f ⟨o4 + k.val, by omega⟩) + ∑ k : Fin g, f ⟨o5 + k.val, by omega⟩ := by
  subst h2 h3 h4 h5 hN
  rw [sum_two f, sum_two (fun k : Fin (a + b + c + d + e) => f ⟨k.val, by omega⟩),
    sum_two (fun k : Fin (a + b + c + d) => f ⟨k.val, by omega⟩), sum_two (fun k : Fin (a + b + c) => f ⟨k.val, by omega⟩),
    sum_two (fun k : Fin (a + b) => f ⟨k.val, by omega⟩)]

/-- The cotangent as six products. -/
theorem dh_parts (s : Fin n) (j : Fin 1024) :
    dh W R s j = (∑ k, R.q s k * W.w j ⟨k.val, by omega⟩) + (∑ k, R.k s k * W.w j ⟨512 + k.val, by omega⟩)
      + (∑ k, R.v s k * W.w j ⟨1024 + k.val, by omega⟩) + (∑ k, R.z s k * W.w j ⟨1536 + k.val, by omega⟩)
      + (∑ k, R.h s k * W.w j ⟨2048 + k.val, by omega⟩) + ∑ k, R.t s k * W.w j ⟨6144 + k.val, by omega⟩ := by
  unfold dh
  refine (sum_six (a := 512) (b := 512) (c := 512) (d := 512) (e := 4096) (g := 2048) (o2 := 1024) (o3 := 1536) (o4 := 2048)
    (o5 := 6144) (N := 8192) rfl rfl rfl rfl rfl _).trans ?_
  refine congrArg₂ (· + ·) (congrArg₂ (· + ·) (congrArg₂ (· + ·) (congrArg₂ (· + ·) (congrArg₂ (· + ·) ?_ ?_) ?_) ?_) ?_) ?_
  all_goals refine Finset.sum_congr rfl fun k _ => congrArg (· * _) ?_
  · unfold cat; rw [dif_pos k.isLt]
  · unfold cat
    rw [dif_neg (by dsimp only; omega), dif_pos (by dsimp only; omega)]
    exact congrArg _ (Fin.ext (by dsimp only; omega))
  · unfold cat
    rw [dif_neg (by dsimp only; omega), dif_neg (by dsimp only; omega), dif_pos (by dsimp only; omega)]
    exact congrArg _ (Fin.ext (by dsimp only; omega))
  · unfold cat
    rw [dif_neg (by dsimp only; omega), dif_neg (by dsimp only; omega), dif_neg (by dsimp only; omega),
      dif_pos (by dsimp only; omega)]
    exact congrArg _ (Fin.ext (by dsimp only; omega))
  · unfold cat
    rw [dif_neg (by dsimp only; omega), dif_neg (by dsimp only; omega), dif_neg (by dsimp only; omega),
      dif_neg (by dsimp only; omega), dif_pos (by dsimp only; omega)]
    exact congrArg _ (Fin.ext (by dsimp only; omega))
  · unfold cat
    rw [dif_neg (by dsimp only; omega), dif_neg (by dsimp only; omega), dif_neg (by dsimp only; omega),
      dif_neg (by dsimp only; omega), dif_neg (by dsimp only; omega)]
    exact congrArg _ (Fin.ext (by dsimp only; omega))

theorem ms_pos (s : Fin n) : 0 < ms R s := by
  unfold ms
  have h : 0 ≤ ∑ c, R.x s c * R.x s c := Finset.sum_nonneg fun c _ => mul_self_nonneg _
  have := eps_pos
  positivity

/-- The normalisation's factor squared is the reciprocal of the mean. -/
theorem r_sq (s : Fin n) : r R s * r R s = 1 / ms R s := by
  unfold r
  rw [← mul_inv, Real.mul_self_sqrt (ms_pos R s).le, one_div]

/-- The part of a sum over the tokens that the blocks `0 … n` hold. -/
def upTo (f : Fin 8192 → ℝ) (n : ℕ) : ℝ :=
  ∑ k ∈ Finset.range (n + 1), ∑ p : Fin 512, f ⟨(k * 512 + p.val) % 8192, Nat.mod_lt _ (by norm_num)⟩

theorem upTo_last (f : Fin 8192 → ℝ) : upTo f 15 = ∑ s, f s := by
  unfold upTo
  rw [Finset.sum_range, ← (finProdFinEquiv (m := 16) (n := 512)).sum_comp f, Fintype.sum_prod_type]
  refine Finset.sum_congr rfl fun k _ => Finset.sum_congr rfl fun p _ => congrArg f (Fin.ext ?_)
  show (k.val * 512 + p.val) % 8192 = p.val + 512 * k.val
  omega

end Dh

end
-- ==== Proof.Dh.Args.lean ====
/- What the eleven arguments, of the kernel and of the reference alike, hold: reals, named by the mathematics. -/
module

public import proofs.«01_k».proof.Proof.Coe
public import proofs.«01_k».proof.Proof.Dh.Math

@[expose] public section

noncomputable section

namespace Dh

open Idealize.ShloMosaic Merge

/-- What the arguments hold. -/
structure Args (W : Params) (R : Rows 8192) (x0 x1 x2 x3 : FVec Ideal ⟨2, ![8192, 512]⟩ .bf16)
    (x4 : FVec Ideal ⟨2, ![8192, 4096]⟩ .bf16) (x5 : FVec Ideal ⟨2, ![8192, 2048]⟩ .bf16)
    (x6 : FVec Ideal ⟨2, ![1024, 8192]⟩ .bf16) (x7 x8 : FVec Ideal ⟨2, ![8192, 1024]⟩ .f32)
    (x9 x10 : FVec Ideal ⟨2, ![1, 1024]⟩ .f32) : Prop where
  h0 : IsC x0 R.q
  h1 : IsC x1 R.k
  h2 : IsC x2 R.v
  h3 : IsC x3 R.z
  h4 : IsC x4 R.h
  h5 : IsC x5 R.t
  h6 : IsC x6 W.w
  h7 : IsC x7 R.x
  h8 : IsC x8 R.dx2
  h9 : IsC x9 fun _ c => W.g c
  h10 : IsC x10 fun _ c => W.sc c

/-- What the arguments hold, of arrays equal to them. -/
theorem Args.congr {W : Params} {R : Rows 8192} {x0 x0' x1 x1' x2 x2' x3 x3' : FVec Ideal ⟨2, ![8192, 512]⟩ .bf16}
    {x4 x4' : FVec Ideal ⟨2, ![8192, 4096]⟩ .bf16} {x5 x5' : FVec Ideal ⟨2, ![8192, 2048]⟩ .bf16}
    {x6 x6' : FVec Ideal ⟨2, ![1024, 8192]⟩ .bf16} {x7 x7' x8 x8' : FVec Ideal ⟨2, ![8192, 1024]⟩ .f32}
    {x9 x9' x10 x10' : FVec Ideal ⟨2, ![1, 1024]⟩ .f32}
    (h : Args W R x0 x1 x2 x3 x4 x5 x6 x7 x8 x9 x10) (e0 : x0' = x0) (e1 : x1' = x1) (e2 : x2' = x2) (e3 : x3' = x3)
    (e4 : x4' = x4) (e5 : x5' = x5) (e6 : x6' = x6) (e7 : x7' = x7) (e8 : x8' = x8) (e9 : x9' = x9) (e10 : x10' = x10) :
    Args W R x0' x1' x2' x3' x4' x5' x6' x7' x8' x9' x10' := by
  subst e0 e1 e2 e3 e4 e5 e6 e7 e8 e9 e10; exact h

end Dh

end
-- ==== Proof.Dh.Finite.lean ====
/- The precondition: every element of the arguments is a real; the reals the arguments hold. -/
module

public import proofs.«01_k».proof.Proof.Gen.Pre_finite_dh
public import proofs.«01_k».proof.Proof.Reals
public import proofs.«01_k».proof.Proof.Dh.Args

@[expose] public section

set_option maxRecDepth 16384

noncomputable section

namespace Dh

open Idealize.ShloMosaic Merge

variable (x0 x1 x2 x3 : FVec Ideal ⟨2, ![8192, 512]⟩ .bf16)
    (x4 : FVec Ideal ⟨2, ![8192, 4096]⟩ .bf16) (x5 : FVec Ideal ⟨2, ![8192, 2048]⟩ .bf16)
    (x6 : FVec Ideal ⟨2, ![1024, 8192]⟩ .bf16) (x7 x8 : FVec Ideal ⟨2, ![8192, 1024]⟩ .f32)
    (x9 x10 : FVec Ideal ⟨2, ![1, 1024]⟩ .f32)

/-- The parameters among the arguments. -/
def params : Params := ⟨reals x6, reals x9 0, reals x10 0⟩

/-- The tokens' rows among the arguments. -/
def rows : Rows 8192 := ⟨reals x0, reals x1, reals x2, reals x3, reals x4, reals x5, reals x7, reals x8⟩

/-- Under the precondition the arguments hold these reals. -/
theorem args_of_pre {x0 x1 x2 x3 x4 x5 x6 x7 x8 x9 x10}
    (h0 : (Cert.Pre_finite_dh.fn (F := Ideal) x0 x1 x2 x3 x4 x5 x6 x7 x8 x9 x10).1 = fun _ => 1#1)
    (h1 : (Cert.Pre_finite_dh.fn (F := Ideal) x0 x1 x2 x3 x4 x5 x6 x7 x8 x9 x10).2.1 = fun _ => 1#1)
    (h2 : (Cert.Pre_finite_dh.fn (F := Ideal) x0 x1 x2 x3 x4 x5 x6 x7 x8 x9 x10).2.2.1 = fun _ => 1#1)
    (h3 : (Cert.Pre_finite_dh.fn (F := Ideal) x0 x1 x2 x3 x4 x5 x6 x7 x8 x9 x10).2.2.2.1 = fun _ => 1#1)
    (h4 : (Cert.Pre_finite_dh.fn (F := Ideal) x0 x1 x2 x3 x4 x5 x6 x7 x8 x9 x10).2.2.2.2.1 = fun _ => 1#1)
    (h5 : (Cert.Pre_finite_dh.fn (F := Ideal) x0 x1 x2 x3 x4 x5 x6 x7 x8 x9 x10).2.2.2.2.2.1 = fun _ => 1#1)
    (h6 : (Cert.Pre_finite_dh.fn (F := Ideal) x0 x1 x2 x3 x4 x5 x6 x7 x8 x9 x10).2.2.2.2.2.2.1 = fun _ => 1#1)
    (h7 : (Cert.Pre_finite_dh.fn (F := Ideal) x0 x1 x2 x3 x4 x5 x6 x7 x8 x9 x10).2.2.2.2.2.2.2.1 = fun _ => 1#1)
    (h8 : (Cert.Pre_finite_dh.fn (F := Ideal) x0 x1 x2 x3 x4 x5 x6 x7 x8 x9 x10).2.2.2.2.2.2.2.2.1 = fun _ => 1#1)
    (h9 : (Cert.Pre_finite_dh.fn (F := Ideal) x0 x1 x2 x3 x4 x5 x6 x7 x8 x9 x10).2.2.2.2.2.2.2.2.2.1 = fun _ => 1#1)
    (h10 : (Cert.Pre_finite_dh.fn (F := Ideal) x0 x1 x2 x3 x4 x5 x6 x7 x8 x9 x10).2.2.2.2.2.2.2.2.2.2 = fun _ => 1#1)
    : Args (params x6 x9 x10) (rows x0 x1 x2 x3 x4 x5 x7 x8) x0 x1 x2 x3 x4 x5 x6 x7 x8 x9 x10 where
  h0 i j := by
    have h := congrFun h0 (ix2 i j)
    pointwise [Cert.Pre_finite_dh.fn, Cert.Pre_finite_dh.fn_part1, Cert.Pre_finite_dh.fn_part2] at h
    exact coe_of_bit h
  h1 i j := by
    have h := congrFun h1 (ix2 i j)
    pointwise [Cert.Pre_finite_dh.fn, Cert.Pre_finite_dh.fn_part1, Cert.Pre_finite_dh.fn_part2] at h
    exact coe_of_bit h
  h2 i j := by
    have h := congrFun h2 (ix2 i j)
    pointwise [Cert.Pre_finite_dh.fn, Cert.Pre_finite_dh.fn_part1, Cert.Pre_finite_dh.fn_part2] at h
    exact coe_of_bit h
  h3 i j := by
    have h := congrFun h3 (ix2 i j)
    pointwise [Cert.Pre_finite_dh.fn, Cert.Pre_finite_dh.fn_part1, Cert.Pre_finite_dh.fn_part2] at h
    exact coe_of_bit h
  h4 i j := by
    have h := congrFun h4 (ix2 i j)
    pointwise [Cert.Pre_finite_dh.fn, Cert.Pre_finite_dh.fn_part1, Cert.Pre_finite_dh.fn_part2] at h
    exact coe_of_bit h
  h5 i j := by
    have h := congrFun h5 (ix2 i j)
    pointwise [Cert.Pre_finite_dh.fn, Cert.Pre_finite_dh.fn_part1, Cert.Pre_finite_dh.fn_part2] at h
    exact coe_of_bit h
  h6 i j := by
    have h := congrFun h6 (ix2 i j)
    pointwise [Cert.Pre_finite_dh.fn, Cert.Pre_finite_dh.fn_part1, Cert.Pre_finite_dh.fn_part2] at h
    exact coe_of_bit h
  h7 i j := by
    have h := congrFun h7 (ix2 i j)
    pointwise [Cert.Pre_finite_dh.fn, Cert.Pre_finite_dh.fn_part1, Cert.Pre_finite_dh.fn_part2] at h
    exact coe_of_bit h
  h8 i j := by
    have h := congrFun h8 (ix2 i j)
    pointwise [Cert.Pre_finite_dh.fn, Cert.Pre_finite_dh.fn_part1, Cert.Pre_finite_dh.fn_part2] at h
    exact coe_of_bit h
  h9 i j := by
    obtain rfl : i = 0 := Subsingleton.elim _ _
    have h := congrFun h9 (ix2 0 j)
    pointwise [Cert.Pre_finite_dh.fn, Cert.Pre_finite_dh.fn_part1, Cert.Pre_finite_dh.fn_part2] at h
    exact coe_of_bit h
  h10 i j := by
    obtain rfl : i = 0 := Subsingleton.elim _ _
    have h := congrFun h10 (ix2 0 j)
    pointwise [Cert.Pre_finite_dh.fn, Cert.Pre_finite_dh.fn_part1, Cert.Pre_finite_dh.fn_part2] at h
    exact coe_of_bit h

end Dh

end
-- ==== Proof.Dh.Pay.lean ====
/-
  What each payload of the kernel computes on a block of rows that holds reals: the corresponding quantity of the
  mathematics.
-/
module

public import proofs.«01_k».proof.Proof.Gen.Kernel2Ideal.Skeleton
public import proofs.«01_k».proof.Proof.Dh.Args

@[expose] public section

noncomputable section

namespace Dh

open Idealize.ShloMosaic Merge Cert.Kernel2Ideal Cert.Kernel2Ideal.Gen

variable {W : Params} {R : Rows 512}

theorem pay4 {v3 v6 v10 v14 : FVec Ideal S512x512 .bf16} {v4 v7 v11 v15 : FVec Ideal S1024x512 .bf16}
    {v18 : FVec Ideal S512x4096 .bf16} {v19 : FVec Ideal S1024x4096 .bf16} {v22 : FVec Ideal S512x2048 .bf16}
    {v23 : FVec Ideal S1024x2048 .bf16}
    (h3 : IsC v3 R.q) (h4 : IsC v4 fun j k => W.w j ⟨k.val, by omega⟩)
    (h6 : IsC v6 R.k) (h7 : IsC v7 fun j k => W.w j ⟨512 + k.val, by omega⟩)
    (h10 : IsC v10 R.v) (h11 : IsC v11 fun j k => W.w j ⟨1024 + k.val, by omega⟩)
    (h14 : IsC v14 R.z) (h15 : IsC v15 fun j k => W.w j ⟨1536 + k.val, by omega⟩)
    (h18 : IsC v18 R.h) (h19 : IsC v19 fun j k => W.w j ⟨2048 + k.val, by omega⟩)
    (h22 : IsC v22 R.t) (h23 : IsC v23 fun j k => W.w j ⟨6144 + k.val, by omega⟩) :
    IsC (k0_pay4 v3 v4 v6 v7 v10 v11 v14 v15 v18 v19 v22 v23) (dh W R) := by
  intro i j
  pointwise [k0_pay4]
  simp only [h3 _ _, h4 _ _, h6 _ _, h7 _ _, h10 _ _, h11 _ _, h14 _ _, h15 _ _, h18 _ _, h19 _ _, h22 _ _, h23 _ _,
    ← EReal.coe_mul, sum_coe, ← EReal.coe_add]
  rw [dh_parts]

section
variable {v25 : FVec Ideal S512x1024 .f32} {v26 v69 : FVec Ideal S512x1024 .f32} {v34 : FVec Ideal S512x1 .f32}
  (h25 : IsC v25 (dh W R)) (h26 : IsC v26 R.x) (h34 : IsC v34 fun s _ => r R s) (h69 : IsC v69 R.dx2)

include h26 in
theorem pay5 : IsC (k0_pay5 v26) fun s _ => r R s := by
  intro i j
  pointwise [k0_pay5]
  simp only [h26 _ _, lit_1024, lit_eps, ← EReal.coe_mul, sum_coe, div_1024, ← EReal.coe_add]
  exact rsqrt_pos (ms_pos R i)

include h26 in
theorem pay6 : IsC (k0_pay6 v26) (xn R) := by
  intro i j
  pointwise [k0_pay6]
  rw [pay5 h26, h26, ← EReal.coe_mul]
  rfl

include h25 h26 h34 h69 in
theorem pay2 {v65 : FVec Ideal S1x1024 .f32} (h65 : IsC v65 fun _ c => W.g c * (1 + W.sc c)) :
    IsC (k0_pay2 v25 v26 v34 v65 v69) (gx W R) := by
  intro i j
  pointwise [k0_pay2]
  simp only [h25 _ _, h26 _ _, h34 _ _, h65 _ _, h69 _ _, lit_1024, ← EReal.coe_mul, sum_coe, div_1024, ← EReal.coe_add,
    ← EReal.coe_sub]
  rfl

include h25 in
theorem pay7 {v37 : FVec Ideal S1x1024 .f32} {T : Mat 1 1024} (h37 : IsC v37 T) :
    IsC (k0_pay7 v25 v37) fun i c => T i c + ∑ s, dh W R s c := by
  intro i j
  pointwise [k0_pay7]
  simp only [h25 _ _, h37 _ _, sum_coe, ← EReal.coe_add]

include h25 h26 in
theorem pay8 {v43 v46 : FVec Ideal S1x1024 .f32} {T : Mat 1 1024} (h43 : IsC v43 T) (h46 : IsC v46 fun _ c => W.g c) :
    IsC (k0_pay8 v25 v26 v43 v46) fun i c => T i c + ∑ s, dscale W R s c := by
  intro i j
  pointwise [k0_pay8]
  simp only [h25 _ _, pay6 h26 _ _, h43 _ _, h46 _ _, ← EReal.coe_mul, sum_coe, ← EReal.coe_add]
  rfl

theorem pay9 {v54 : FVec Ideal S1x1024 .f32} {T : Mat 1 1024} (h54 : IsC v54 T) : IsC (k0_pay9 v54) T := by
  intro i j; pointwise [k0_pay9]; exact h54 _ _

include h25 h26 in
/-- The sum the third row adds, stored as the row `v55` and the sum. -/
theorem pay1 {v55 v57 : FVec Ideal S1x1024 .f32} {T : Mat 1 1024} (h55 : IsC v55 T) (h57 : IsC v57 fun _ c => 1 + W.sc c) :
    IsC (k0_pay1 v55 (k0_pay10 v25 v26 v57)) fun i c => T i c + ∑ s, dnorm W R s c := by
  intro i j
  pointwise [k0_pay1, k0_pay10]
  simp only [h25 _ _, pay6 h26 _ _, h55 _ _, h57 _ _, ← EReal.coe_mul, sum_coe, ← EReal.coe_add]
  rfl

end

end Dh

end
-- ==== Proof.Dh.Block.lean ====
/- What the kernel does to one block of 512 tokens: from the ten staged input blocks, the block of the stream's gradient
   the body leaves, and the rows it adds to the running accumulator of the vectors' gradients. -/
module

public import proofs.«01_k».proof.Proof.Dh.Pay
public import Idealize.ShloMosaic.Lib.Pipeline.Value

@[expose] public section

set_option maxRecDepth 16384

noncomputable section

namespace Dh

open Cert.Kernel2Ideal Cert.Kernel2Ideal.Gen Idealize.ShloMosaic Idealize.ShloMosaic.TcCoe Merge

/-- The input blocks of one grid point, in the order of the kernel's arguments. -/
structure Ins (F : FTy → Type) [FloatOps F] where
  x0 : Vec F S512x512 .bf16
  x1 : Vec F S512x512 .bf16
  x2 : Vec F S512x512 .bf16
  x3 : Vec F S512x512 .bf16
  x4 : Vec F S512x4096 .bf16
  x5 : Vec F S512x2048 .bf16
  x6 : Vec F S1024x8192 .bf16
  x7 : Vec F S512x1024 .f32
  x8 : Vec F S512x1024 .f32
  x9 : Vec F S8x1024 .f32

namespace Ins

variable {F : FTy → Type} [FloatOps F]

/-- Rows of an eight-row block. -/
abbrev row0 (A : Vec F S8x1024 .f32) : Vec F S1x1024 .f32 :=
  View.ld A (Rect.unit (s := S8x1024) ![0, 0] S1x1024.size inb_S8x1024_S1x1024_0_0)
abbrev row1 (A : Vec F S8x1024 .f32) : Vec F S1x1024 .f32 :=
  View.ld A (Rect.unit (s := S8x1024) ![1, 0] S1x1024.size inb_S8x1024_S1x1024_1_0)
abbrev row2 (A : Vec F S8x1024 .f32) : Vec F S1x1024 .f32 :=
  View.ld A (Rect.unit (s := S8x1024) ![2, 0] S1x1024.size inb_S8x1024_S1x1024_2_0)

variable (X : Ins F)

/-- The cotangent of the modulated normalised stream. -/
abbrev v25 : FVec F S512x1024 .f32 :=
  k0_pay4 X.x0 (View.ld X.x6 (Rect.unit (s := S1024x8192) ![0, 0] S1024x512.size inb_S1024x8192_S1024x512_0_0))
    X.x1 (View.ld X.x6 (Rect.unit (s := S1024x8192) ![0, 512] S1024x512.size inb_S1024x8192_S1024x512_0_512))
    X.x2 (View.ld X.x6 (Rect.unit (s := S1024x8192) ![0, 1024] S1024x512.size inb_S1024x8192_S1024x512_0_1024))
    X.x3 (View.ld X.x6 (Rect.unit (s := S1024x8192) ![0, 1536] S1024x512.size inb_S1024x8192_S1024x512_0_1536))
    X.x4 (View.ld X.x6 (Rect.unit (s := S1024x8192) ![0, 2048] S1024x4096.size inb_S1024x8192_S1024x4096_0_2048))
    X.x5 (View.ld X.x6 (Rect.unit (s := S1024x8192) ![0, 6144] S1024x2048.size inb_S1024x8192_S1024x2048_0_6144))

/-- The block of the stream's gradient. -/
def o10 : Vec F S512x1024 .f32 := k0_pay2 X.v25 X.x7 (k0_pay5 X.x7) (row0 X.x9) X.x8

/-- The accumulator after the body: its first three rows grow, the rest stays. -/
def next11 (A : Vec F S8x1024 .f32) : Vec F S8x1024 .f32 := fun i =>
  if (i 0).val = 0 then k0_pay7 X.v25 (row0 A) (ix2 0 (i 1))
  else if (i 0).val = 1 then k0_pay8 X.v25 X.x7 (row1 A) (row1 X.x9) (ix2 0 (i 1))
  else if (i 0).val = 2 then k0_pay1 (k0_pay9 (row2 A)) (k0_pay10 X.v25 X.x7 (row2 X.x9)) (ix2 0 (i 1))
  else A i

end Ins

/-! ## When the blocks hold reals -/

/-- The input blocks hold reals. -/
structure InsC (X : Ins Ideal) (W : Params) (R : Rows 512) : Prop where
  h0 : IsC (φ := .bf16) X.x0 R.q
  h1 : IsC (φ := .bf16) X.x1 R.k
  h2 : IsC (φ := .bf16) X.x2 R.v
  h3 : IsC (φ := .bf16) X.x3 R.z
  h4 : IsC (φ := .bf16) X.x4 R.h
  h5 : IsC (φ := .bf16) X.x5 R.t
  h6 : IsC (φ := .bf16) X.x6 W.w
  h7 : IsC (φ := .f32) X.x7 R.x
  h8 : IsC (φ := .f32) X.x8 R.dx2
  h90 : ∀ j, X.x9 (ix2 0 j) = ((W.g j * (1 + W.sc j) : ℝ) : EReal)
  h91 : ∀ j, X.x9 (ix2 1 j) = ((W.g j : ℝ) : EReal)
  h92 : ∀ j, X.x9 (ix2 2 j) = ((1 + W.sc j : ℝ) : EReal)

theorem row0_apply (A : Vec Ideal S8x1024 .f32) (i : Fin 1) (j : Fin 1024) : Ins.row0 A (ix2 i j) = A (ix2 0 j) := by
  refine congrArg A ?_
  funext a
  match a with
  | ⟨0, _⟩ => exact Fin.ext (by show 0 + 1 * i.val = 0; omega)
  | ⟨1, _⟩ => exact Fin.ext (by show 0 + 1 * j.val = j.val; omega)

theorem row1_apply (A : Vec Ideal S8x1024 .f32) (i : Fin 1) (j : Fin 1024) : Ins.row1 A (ix2 i j) = A (ix2 1 j) := by
  refine congrArg A ?_
  funext a
  match a with
  | ⟨0, _⟩ => exact Fin.ext (by show 1 + 1 * i.val = 1; omega)
  | ⟨1, _⟩ => exact Fin.ext (by show 0 + 1 * j.val = j.val; omega)

theorem row2_apply (A : Vec Ideal S8x1024 .f32) (i : Fin 1) (j : Fin 1024) : Ins.row2 A (ix2 i j) = A (ix2 2 j) := by
  refine congrArg A ?_
  funext a
  match a with
  | ⟨0, _⟩ => exact Fin.ext (by show 2 + 1 * i.val = 2; omega)
  | ⟨1, _⟩ => exact Fin.ext (by show 0 + 1 * j.val = j.val; omega)

/-- Columns of the weight. -/
theorem cols {k o : ℕ} (ho : o + k ≤ 8192) (h) (A : Vec Ideal S1024x8192 .bf16) (i : Fin 1024) (j : Fin k) :
    View.ld A (Rect.unit (s := S1024x8192) ![0, o] ![1024, k] h) (ix2 i j) = A (ix2 i ⟨o + j.val, by omega⟩) := by
  refine congrArg A ?_
  funext a
  match a with
  | ⟨0, _⟩ => exact Fin.ext (by show 0 + 1 * i.val = i.val; omega)
  | ⟨1, _⟩ => exact Fin.ext (by show o + 1 * j.val = o + j.val; omega)

namespace InsC

variable {X : Ins Ideal} {W : Params} {R : Rows 512} (B : InsC X W R)
include B

theorem v25 : IsC (φ := .f32) X.v25 (dh W R) := by
  refine pay4 B.h0 (fun i j => ?_) B.h1 (fun i j => ?_) B.h2 (fun i j => ?_) B.h3 (fun i j => ?_) B.h4 (fun i j => ?_) B.h5
    (fun i j => ?_)
  · refine (cols (o := 0) (k := 512) (by norm_num) _ _ i j).trans ((B.h6 _ _).trans ?_)
    refine congrArg (fun k => ((W.w i k : ℝ) : EReal)) (Fin.ext ?_)
    show 0 + j.val = j.val
    omega
  · exact (cols (o := 512) (k := 512) (by norm_num) _ _ i j).trans (B.h6 _ _)
  · exact (cols (o := 1024) (k := 512) (by norm_num) _ _ i j).trans (B.h6 _ _)
  · exact (cols (o := 1536) (k := 512) (by norm_num) _ _ i j).trans (B.h6 _ _)
  · exact (cols (o := 2048) (k := 4096) (by norm_num) _ _ i j).trans (B.h6 _ _)
  · exact (cols (o := 6144) (k := 2048) (by norm_num) _ _ i j).trans (B.h6 _ _)

theorem o10 : IsC (φ := .f32) X.o10 (gx W R) :=
  pay2 B.v25 B.h7 (pay5 B.h7) B.h8 fun i j => (row0_apply _ i j).trans (B.h90 j)

theorem next11 {A : Vec Ideal S8x1024 .f32} {T : Mat 8 1024} (hA : IsC (φ := .f32) A T) :
    IsC (φ := .f32) (X.next11 A) fun i c => T i c + ∑ s, vecTerm W R s i c := by
  intro i j
  unfold Ins.next11
  by_cases h0 : i = 0
  · subst h0
    refine (if_pos rfl).trans (pay7 B.v25 (T := fun _ c => T 0 c) (fun i j => (row0_apply _ i j).trans (hA 0 j)) 0 j)
  by_cases h1 : i = 1
  · subst h1
    refine (if_neg (fun h => by cases h)).trans ((if_pos rfl).trans
      (pay8 B.v25 B.h7 (T := fun _ c => T 1 c) (fun i j => (row1_apply _ i j).trans (hA 1 j))
        (fun i j => (row1_apply _ i j).trans (B.h91 j)) 0 j))
  by_cases h2 : i = 2
  · subst h2
    refine (if_neg (fun h => by cases h)).trans ((if_neg (fun h => by cases h)).trans ((if_pos rfl).trans
      (pay1 B.v25 B.h7 (T := fun _ c => T 2 c) (pay9 fun i j => (row2_apply _ i j).trans (hA 2 j))
        (fun i j => (row2_apply _ i j).trans (B.h92 j)) 0 j)))
  · refine (if_neg fun h => h0 (Fin.ext h)).trans ((if_neg fun h => h1 (Fin.ext h)).trans
      ((if_neg fun h => h2 (Fin.ext h)).trans ((hA i j).trans ?_)))
    simp only [vecTerm, h0, h1, h2, if_false, Finset.sum_const_zero, add_zero]

end InsC

theorem pay3 : IsC (φ := .f32) (k0_pay3 (F := Ideal)) fun _ _ => 0 := by
  intro i j; pointwise [k0_pay3]; simp

end Dh

end
-- ==== Proof.Dh.Reads.lean ====
/- The kernel's body, read back: what each case's run leaves in the two output buffers are the blocks of `Ins`. -/
module

public import proofs.«01_k».proof.Proof.Gen.Kernel2Ideal.Value
public import proofs.«01_k».proof.Proof.Dh.Block
public import Idealize.ShloMosaic.Lib.WritesUnit
public import Idealize.ShloMosaic.Lib.VecWindow
public import Idealize.ShloMosaic.Lib.Pipeline.ValueKit

@[expose] public section

set_option maxRecDepth 16384
set_option maxHeartbeats 4000000

noncomputable section

namespace Dh

open Cert.Kernel2Ideal Cert.Kernel2Ideal.Gen Idealize.ShloMosaic Idealize.ShloMosaic.TcCoe Idealize.ShloMosaic.Tactic

variable {F : FTy → Type} [FloatOps F]

/-- Stores of the first three rows of an eight-row block: what the block reads. -/
theorem acc_rows {v : View sig .tc .vmem S8x1024 .f32} (f : v.ty.Contents (Elt F)) (w₀ w₁ w₂ : Vec F S1x1024 .f32)
    (A : Vec F S8x1024 .f32) (L : List (View.Piece (Elt F) S8x1024 .f32)) (hA : v.read (Elt F) (v.writes (Elt F) f L) = A) :
    v.read (Elt F) (v.writes (Elt F) f
        (⟨Rect.unit (s := S8x1024) ![2, 0] S1x1024.size inb_S8x1024_S1x1024_2_0, w₂⟩ ::
          ⟨Rect.unit (s := S8x1024) ![1, 0] S1x1024.size inb_S8x1024_S1x1024_1_0, w₁⟩ ::
          ⟨Rect.unit (s := S8x1024) ![0, 0] S1x1024.size inb_S8x1024_S1x1024_0_0, w₀⟩ :: L))
      = fun i => if (i 0).val = 0 then w₀ (ix2 0 (i 1)) else if (i 0).val = 1 then w₁ (ix2 0 (i 1))
          else if (i 0).val = 2 then w₂ (ix2 0 (i 1)) else A i := by
  funext i
  by_cases h2 : (i 0).val = 2
  · rw [if_neg (by omega), if_neg (by omega), if_pos h2]
    exact View.read_writes_cons_unit_of_mem v f _ w₂ _ i (ix2 0 (i 1) : S1x1024.Idx) rfl fun a =>
      match a with
      | ⟨0, _⟩ => h2
      | ⟨1, _⟩ => (Nat.zero_add _).symm
  rw [View.read_writes_cons_unit_of_not_mem _ _ _ _ _ _ rfl 0 (show (i 0).val < 2 ∨ 2 + 1 ≤ (i 0).val by omega)]
  by_cases h1 : (i 0).val = 1
  · rw [if_neg (by omega), if_pos h1]
    exact View.read_writes_cons_unit_of_mem v f _ w₁ _ i (ix2 0 (i 1) : S1x1024.Idx) rfl fun a =>
      match a with
      | ⟨0, _⟩ => h1
      | ⟨1, _⟩ => (Nat.zero_add _).symm
  rw [View.read_writes_cons_unit_of_not_mem _ _ _ _ _ _ rfl 0 (show (i 0).val < 1 ∨ 1 + 1 ≤ (i 0).val by omega)]
  by_cases h0 : (i 0).val = 0
  · rw [if_pos h0]
    exact View.read_writes_cons_unit_of_mem v f _ w₀ _ i (ix2 0 (i 1) : S1x1024.Idx) rfl fun a =>
      match a with
      | ⟨0, _⟩ => h0
      | ⟨1, _⟩ => (Nat.zero_add _).symm
  · rw [if_neg h0, if_neg h1, if_neg h2, ← hA]
    exact View.read_writes_cons_unit_of_not_mem _ _ _ _ _ _ rfl 0 (show (i 0).val < 0 ∨ 0 + 1 ≤ (i 0).val by omega)

/-- Row `0` of a block just filled. -/
theorem readCov_row0 (v : View sig .tc .vmem S8x1024 .f32) (Z : Vec F S8x1024 .f32) :
    v.readCov [(⟨Rect.unit (s := S8x1024) ![0, 0] S8x1024.size inb_S8x1024_S8x1024_0_0, Z⟩ : View.Piece (Elt F) S8x1024 .f32)]
        (Rect.unit (s := S8x1024) ![0, 0] S1x1024.size inb_S8x1024_S1x1024_0_0).toLoadRect
      = Ins.row0 Z := by
  have h := View.read_writes_full v v.junk inb_S8x1024_S8x1024_0_0 Z []
  exact congrArg (fun A => View.ld A (Rect.unit (s := S8x1024) ![0, 0] S1x1024.size inb_S8x1024_S1x1024_0_0)) h

/-- Row `1` of a block just filled and then stored to in row `0`. -/
theorem readCov_row1 (v : View sig .tc .vmem S8x1024 .f32) (Z : Vec F S8x1024 .f32) (w : Vec F S1x1024 .f32) :
    v.readCov [(⟨Rect.unit (s := S8x1024) ![0, 0] S1x1024.size inb_S8x1024_S1x1024_0_0, w⟩ : View.Piece (Elt F) S8x1024 .f32),
          ⟨Rect.unit (s := S8x1024) ![0, 0] S8x1024.size inb_S8x1024_S8x1024_0_0, Z⟩]
        (Rect.unit (s := S8x1024) ![1, 0] S1x1024.size inb_S8x1024_S1x1024_1_0).toLoadRect
      = Ins.row1 Z := by
  have h := View.read_writes_full v v.junk inb_S8x1024_S8x1024_0_0 Z []
  funext j
  refine (View.read_writes_cons_unit_of_not_mem v v.junk _ w _
    ((Rect.unit (s := S8x1024) ![1, 0] S1x1024.size inb_S8x1024_S1x1024_1_0).toLoadRect.idx j) rfl 0 (Or.inr ?_)).trans
    (congrFun h _)
  show 0 + 1 ≤ 1 + 1 * (j 0).val
  omega

/-- Row `2` of a block just filled and then stored to in rows `0` and `1`. -/
theorem readCov_row2 (v : View sig .tc .vmem S8x1024 .f32) (Z : Vec F S8x1024 .f32) (w w' : Vec F S1x1024 .f32) :
    v.readCov [(⟨Rect.unit (s := S8x1024) ![1, 0] S1x1024.size inb_S8x1024_S1x1024_1_0, w'⟩ : View.Piece (Elt F) S8x1024 .f32),
          ⟨Rect.unit (s := S8x1024) ![0, 0] S1x1024.size inb_S8x1024_S1x1024_0_0, w⟩,
          ⟨Rect.unit (s := S8x1024) ![0, 0] S8x1024.size inb_S8x1024_S8x1024_0_0, Z⟩]
        (Rect.unit (s := S8x1024) ![2, 0] S1x1024.size inb_S8x1024_S1x1024_2_0).toLoadRect
      = Ins.row2 Z := by
  have h := View.read_writes_full v v.junk inb_S8x1024_S8x1024_0_0 Z []
  funext j
  refine (View.read_writes_cons_unit_of_not_mem v v.junk _ w' _
    ((Rect.unit (s := S8x1024) ![2, 0] S1x1024.size inb_S8x1024_S1x1024_2_0).toLoadRect.idx j) rfl 0 (Or.inr ?_)).trans
    ((View.read_writes_cons_unit_of_not_mem v v.junk _ w _
    ((Rect.unit (s := S8x1024) ![2, 0] S1x1024.size inb_S8x1024_S1x1024_2_0).toLoadRect.idx j) rfl 0 (Or.inr ?_)).trans
    (congrFun h _))
  · show 1 + 1 ≤ 2 + 1 * (j 0).val
    omega
  · show 0 + 1 ≤ 2 + 1 * (j 0).val
    omega

section
variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x4096 .bf16) (harg5 : arg5.IsWhole) (arg6 : Memref sig .tc .vmem S512x2048 .bf16) (harg6 : arg6.IsWhole) (arg7 : Memref sig .tc .vmem S1024x8192 .bf16) (harg7 : arg7.IsWhole) (arg8 : Memref sig .tc .vmem S512x1024 .f32) (harg8 : arg8.IsWhole) (arg9 : Memref sig .tc .vmem S512x1024 .f32) (harg9 : arg9.IsWhole) (arg10 : Memref sig .tc .vmem S8x1024 .f32) (harg10 : arg10.IsWhole) (arg11 : Memref sig .tc .vmem S512x1024 .f32) (harg11 : arg11.IsWhole) (arg12 : Memref sig .tc .vmem S8x1024 .f32) (harg12 : arg12.IsWhole)
  (X : Ins F)

theorem readA10 (hc0 : cond0_0 i) : out0_A_10 c i arg1 harg1 arg2 harg2 arg3 harg3 arg4 harg4 arg5 harg5 arg6 harg6 arg7 harg7 arg8 harg8 arg9 harg9 arg10 harg10 arg11 harg11 arg12 harg12 hc0 X.x0 X.x1 X.x2 X.x3 X.x4 X.x5 X.x6 X.x7 X.x8 X.x9 = X.o10 := by
  unfold out0_A_10 kernelRun0_A
  dsimp only
  sl_unfold_words
  simp (disch := decide) only [View.readAt_eq_ld, Memref.IsWhole.read_unread, View.ld_unit_lit']
  exact View.read_writes_full (s := _) _ _ _ _ []

theorem readA11 (hc0 : cond0_0 i) :
    out0_A_11 c i arg1 harg1 arg2 harg2 arg3 harg3 arg4 harg4 arg5 harg5 arg6 harg6 arg7 harg7 arg8 harg8 arg9 harg9 arg10 harg10 arg11 harg11 arg12 harg12 hc0 X.x0 X.x1 X.x2 X.x3 X.x4 X.x5 X.x6 X.x7 X.x8 X.x9 = X.next11 k0_pay3 := by
  unfold out0_A_11 kernelRun0_A
  dsimp only
  sl_unfold_words
  simp (disch := decide) only [View.readAt_eq_ld, Memref.IsWhole.read_unread, View.ld_unit_lit']
  rw [readCov_row2, readCov_row1, readCov_row0]
  exact acc_rows _ _ _ _ _ _ (View.read_writes_full _ _ _ _ _)

theorem readB10 (hc0 : ¬cond0_0 i) (A : Vec F S8x1024 .f32) :
    out0_B_10 c i arg1 harg1 arg2 harg2 arg3 harg3 arg4 harg4 arg5 harg5 arg6 harg6 arg7 harg7 arg8 harg8 arg9 harg9 arg10 harg10 arg11 harg11 arg12 harg12 hc0 X.x0 X.x1 X.x2 X.x3 X.x4 X.x5 X.x6 X.x7 X.x8 X.x9 A = X.o10 := by
  unfold out0_B_10 kernelRun0_B
  dsimp only
  sl_unfold_words
  simp (disch := decide) only [View.readAt_eq_ld, Memref.IsWhole.read_unread, View.ld_unit_lit']
  exact View.read_writes_full (s := _) _ _ _ _ []

theorem readB11 (hc0 : ¬cond0_0 i) (A : Vec F S8x1024 .f32) :
    out0_B_11 c i arg1 harg1 arg2 harg2 arg3 harg3 arg4 harg4 arg5 harg5 arg6 harg6 arg7 harg7 arg8 harg8 arg9 harg9 arg10 harg10 arg11 harg11 arg12 harg12 hc0 X.x0 X.x1 X.x2 X.x3 X.x4 X.x5 X.x6 X.x7 X.x8 X.x9 A = X.next11 A := by
  unfold out0_B_11 kernelRun0_B
  dsimp only
  sl_unfold_words
  simp (disch := decide) only [View.readAt_eq_ld, Memref.IsWhole.read_unread, View.ld_unit_lit']
  exact acc_rows _ _ _ _ _ [] (harg12.read_unread A)

/-! The same, of ten arrays one by one. -/

theorem blocksA10 (hc0 : cond0_0 i) (x0 x1 x2 x3 : Vec F S512x512 .bf16) (x4 : Vec F S512x4096 .bf16) (x5 : Vec F S512x2048 .bf16) (x6 : Vec F S1024x8192 .bf16)
    (x7 x8 : Vec F S512x1024 .f32) (x9 : Vec F S8x1024 .f32) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = Ins.o10 ⟨x0, x1, x2, x3, x4, x5, x6, x7, x8, x9⟩ :=
  readA10 c i arg1 harg1 arg2 harg2 arg3 harg3 arg4 harg4 arg5 harg5 arg6 harg6 arg7 harg7 arg8 harg8 arg9 harg9 arg10 harg10 arg11 harg11 arg12 harg12 ⟨x0, x1, x2, x3, x4, x5, x6, x7, x8, x9⟩ hc0

theorem blocksA11 (hc0 : cond0_0 i) (x0 x1 x2 x3 : Vec F S512x512 .bf16) (x4 : Vec F S512x4096 .bf16) (x5 : Vec F S512x2048 .bf16) (x6 : Vec F S1024x8192 .bf16)
    (x7 x8 : Vec F S512x1024 .f32) (x9 : Vec F S8x1024 .f32) :
    out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 = Ins.next11 ⟨x0, x1, x2, x3, x4, x5, x6, x7, x8, x9⟩ k0_pay3 :=
  readA11 c i arg1 harg1 arg2 harg2 arg3 harg3 arg4 harg4 arg5 harg5 arg6 harg6 arg7 harg7 arg8 harg8 arg9 harg9 arg10 harg10 arg11 harg11 arg12 harg12 ⟨x0, x1, x2, x3, x4, x5, x6, x7, x8, x9⟩ hc0

theorem blocksB10 (hc0 : ¬cond0_0 i) (x0 x1 x2 x3 : Vec F S512x512 .bf16) (x4 : Vec F S512x4096 .bf16) (x5 : Vec F S512x2048 .bf16) (x6 : Vec F S1024x8192 .bf16)
    (x7 x8 : Vec F S512x1024 .f32) (x9 : Vec F S8x1024 .f32) (A : Vec F S8x1024 .f32) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 A = Ins.o10 ⟨x0, x1, x2, x3, x4, x5, x6, x7, x8, x9⟩ :=
  readB10 c i arg1 harg1 arg2 harg2 arg3 harg3 arg4 harg4 arg5 harg5 arg6 harg6 arg7 harg7 arg8 harg8 arg9 harg9 arg10 harg10 arg11 harg11 arg12 harg12 ⟨x0, x1, x2, x3, x4, x5, x6, x7, x8, x9⟩ hc0 A

theorem blocksB11 (hc0 : ¬cond0_0 i) (x0 x1 x2 x3 : Vec F S512x512 .bf16) (x4 : Vec F S512x4096 .bf16) (x5 : Vec F S512x2048 .bf16) (x6 : Vec F S1024x8192 .bf16)
    (x7 x8 : Vec F S512x1024 .f32) (x9 : Vec F S8x1024 .f32) (A : Vec F S8x1024 .f32) :
    out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 x9 A = Ins.next11 ⟨x0, x1, x2, x3, x4, x5, x6, x7, x8, x9⟩ A :=
  readB11 c i arg1 harg1 arg2 harg2 arg3 harg3 arg4 harg4 arg5 harg5 arg6 harg6 arg7 harg7 arg8 harg8 arg9 harg9 arg10 harg10 arg11 harg11 arg12 harg12 ⟨x0, x1, x2, x3, x4, x5, x6, x7, x8, x9⟩ hc0 A

end

end Dh

end
-- ==== Proof.Dh.InsRead.lean ====
/- The kernel's arrays and blocks: the arguments, the three vectors the host puts in rows of one array, and the blocks of
   512 tokens. -/
module

public import proofs.«01_k».proof.Proof.Gen.Kernel2Ideal.Frame.Runs
public import proofs.«01_k».proof.Proof.Dh.Args
public import proofs.«01_k».proof.Proof.Dh.Block
public import Idealize.ShloMosaic.Lib.Claim
public import Idealize.ShloMosaic.Lib.Pointwise
public import Idealize.ShloMosaic.Lib.StableHlo.ReadAt
public import Idealize.ShloMosaic.Lib.Pipeline.ValueKit

@[expose] public section

set_option maxRecDepth 16384

noncomputable section

namespace Dh

open Idealize.ShloMosaic Cert.Kernel2Ideal Cert.Kernel2Ideal.Gen Merge

/-- What the kernel's arguments hold on a core. -/
abbrev KArgs (W : Params) (R : Rows 8192) (m : (ℓ : Loc nD τ Cert.Kernel2Ideal.sig) → Buf (Elt Ideal) ℓ) (c : Dev nD) : Prop :=
  Args W R (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10))

theorem point_lt (t : Fin cfg0.N) : t.val < 16 := lt_of_lt_of_eq t.isLt (show cfg0.N = 16 from N_0)

/-- The token that is row `p` of block `t`. -/
def tok (t : Fin cfg0.N) (p : Fin 512) : Fin 8192 := ⟨t.val * 512 + p.val, by have := point_lt t; omega⟩

/-- The blocks of the token arrays go with the point; the weight and the vectors are taken whole. -/
theorem index_eq : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![t.val, 0] ∧ win0_8.index t = ![t.val, 0]
    ∧ win0_9.index t = ![0, 0] ∧ win0_10.index t = ![t.val, 0] :=
  (by decide +kernel : ∀ t : Fin grid0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![t.val, 0] ∧ win0_8.index t = ![t.val, 0]
    ∧ win0_9.index t = ![0, 0] ∧ win0_10.index t = ![t.val, 0])

variable {m : (ℓ : Loc nD τ Cert.Kernel2Ideal.sig) → Buf (Elt Ideal) ℓ} {c : Dev nD}

section
variable (t : Fin cfg0.N)

theorem blk0 (i : Fin 512) (j : Fin 512) : iblk m c 0 t (ix2 i j) = V m c main_arg0 (ix2 (tok t i) j) := by
  obtain ⟨e, -⟩ := index_eq t
  blk_ext [iblk, tok, e]
theorem blk1 (i : Fin 512) (j : Fin 512) : iblk m c 1 t (ix2 i j) = V m c main_arg1 (ix2 (tok t i) j) := by
  obtain ⟨-, e, -⟩ := index_eq t
  blk_ext [iblk, tok, e]
theorem blk2 (i : Fin 512) (j : Fin 512) : iblk m c 2 t (ix2 i j) = V m c main_arg2 (ix2 (tok t i) j) := by
  obtain ⟨-, -, e, -⟩ := index_eq t
  blk_ext [iblk, tok, e]
theorem blk3 (i : Fin 512) (j : Fin 512) : iblk m c 3 t (ix2 i j) = V m c main_arg3 (ix2 (tok t i) j) := by
  obtain ⟨-, -, -, e, -⟩ := index_eq t
  blk_ext [iblk, tok, e]
theorem blk4 (i : Fin 512) (j : Fin 4096) : iblk m c 4 t (ix2 i j) = V m c main_arg4 (ix2 (tok t i) j) := by
  obtain ⟨-, -, -, -, e, -⟩ := index_eq t
  blk_ext [iblk, tok, e]
theorem blk5 (i : Fin 512) (j : Fin 2048) : iblk m c 5 t (ix2 i j) = V m c main_arg5 (ix2 (tok t i) j) := by
  obtain ⟨-, -, -, -, -, e, -⟩ := index_eq t
  blk_ext [iblk, tok, e]
theorem blk6 (i : Fin 1024) (j : Fin 8192) : iblk m c 6 t (ix2 i j) = V m c main_arg6 (ix2 i j) := by
  obtain ⟨-, -, -, -, -, -, e, -⟩ := index_eq t
  blk_ext [iblk, e]
theorem blk7 (i : Fin 512) (j : Fin 1024) : iblk m c 7 t (ix2 i j) = V m c main_arg7 (ix2 (tok t i) j) := by
  obtain ⟨-, -, -, -, -, -, -, e, -⟩ := index_eq t
  blk_ext [iblk, tok, e]
theorem blk8 (i : Fin 512) (j : Fin 1024) : iblk m c 8 t (ix2 i j) = V m c main_arg8 (ix2 (tok t i) j) := by
  obtain ⟨-, -, -, -, -, -, -, -, e, -⟩ := index_eq t
  blk_ext [iblk, tok, e]
theorem blk9 (i : Fin 8) (j : Fin 1024) : iblk m c 9 t (ix2 i j) = V m c main_v6 (ix2 i j) := by
  obtain ⟨-, -, -, -, -, -, -, -, -, e, -⟩ := index_eq t
  blk_ext [iblk, e]

end

variable {W : Params} {R : Rows 8192} (K : KArgs W R m c)
include K

/-- The first row of the vectors. -/
theorem host_vec0 (j : Fin 1024) : (V m c main_v6 : FVec Ideal S8x1024 .f32) (ix2 0 j) = ((W.g j * (1 + W.sc j) : ℝ) : EReal) := by
  have h9 := K.h9 0 j
  have h10 := K.h10 0 j
  unfold V
  after_reads_at
  after_reads_at
  rw [h9, h10, lit_one, ← EReal.coe_add, ← EReal.coe_mul]

/-- The second row of the vectors. -/
theorem host_vec1 (j : Fin 1024) : (V m c main_v6 : FVec Ideal S8x1024 .f32) (ix2 1 j) = ((W.g j : ℝ) : EReal) := by
  unfold V
  after_reads_at
  exact K.h9 0 j

/-- The third row of the vectors. -/
theorem host_vec2 (j : Fin 1024) : (V m c main_v6 : FVec Ideal S8x1024 .f32) (ix2 2 j) = ((1 + W.sc j : ℝ) : EReal) := by
  have h10 := K.h10 0 j
  unfold V
  after_reads_at
  after_reads_at
  rw [h10, lit_one, ← EReal.coe_add]

omit K in
/-- The blocks of a point. -/
abbrev ins (m : (ℓ : Loc nD τ Cert.Kernel2Ideal.sig) → Buf (Elt Ideal) ℓ) (c : Dev nD) (t : Fin cfg0.N) : Ins Ideal :=
  ⟨iblk m c 0 t, iblk m c 1 t, iblk m c 2 t, iblk m c 3 t, iblk m c 4 t, iblk m c 5 t, iblk m c 6 t, iblk m c 7 t, iblk m c 8 t,
    iblk m c 9 t⟩

set_option maxHeartbeats 1000000 in
/-- The blocks of a point hold the rows of its tokens. -/
theorem insC (t : Fin cfg0.N) : InsC (ins m c t) W (R.pick (tok t)) where
  h0 i j := (blk0 t i j).trans ((congrFun (V_main_arg0 m c) _).trans (K.h0 _ _))
  h1 i j := (blk1 t i j).trans ((congrFun (V_main_arg1 m c) _).trans (K.h1 _ _))
  h2 i j := (blk2 t i j).trans ((congrFun (V_main_arg2 m c) _).trans (K.h2 _ _))
  h3 i j := (blk3 t i j).trans ((congrFun (V_main_arg3 m c) _).trans (K.h3 _ _))
  h4 i j := (blk4 t i j).trans ((congrFun (V_main_arg4 m c) _).trans (K.h4 _ _))
  h5 i j := (blk5 t i j).trans ((congrFun (V_main_arg5 m c) _).trans (K.h5 _ _))
  h6 i j := (blk6 t i j).trans ((congrFun (V_main_arg6 m c) _).trans (K.h6 _ _))
  h7 i j := (blk7 t i j).trans ((congrFun (V_main_arg7 m c) _).trans (K.h7 _ _))
  h8 i j := (blk8 t i j).trans ((congrFun (V_main_arg8 m c) _).trans (K.h8 _ _))
  h90 j := (blk9 t 0 j).trans (host_vec0 K j)
  h91 j := (blk9 t 1 j).trans (host_vec1 K j)
  h92 j := (blk9 t 2 j).trans (host_vec2 K j)

end Dh

end
-- ==== Proof.Dh.KerVal.lean ====
/- What the kernel's two result arrays hold after the run, when its arguments hold reals. -/
module

public import proofs.«01_k».proof.Proof.Dh.Reads
public import proofs.«01_k».proof.Proof.Dh.InsRead

@[expose] public section

set_option maxRecDepth 16384
set_option maxHeartbeats 400000

noncomputable section

namespace Dh

open Idealize.ShloMosaic Cert.Kernel2Ideal Cert.Kernel2Ideal.Gen Merge

variable (m : (ℓ : Loc nD τ Cert.Kernel2Ideal.sig) → Buf (Elt Ideal) ℓ) (c : Dev nD)

/-- Each point's block of the stream's gradient. -/
theorem outs_10 (t : Fin cfg0.N) : (outsAt0 m c t.val t.isLt).1 = (ins m c t).o10 := by
  by_cases h0 : t.val % 16 = 0
  · rw [outsAt0_A m c t h0]; dsimp only; rw [blocksA10]
  · rw [outsAt0_B m c t h0]; dsimp only; rw [blocksB10]

/-- The accumulator where it starts. -/
theorem outs_11_A (t : Fin cfg0.N) (h0 : t.val % 16 = 0) :
    (outsAt0 m c t.val t.isLt).2 = (ins m c t).next11 (k0_pay3 (F := Ideal)) := by
  rw [outsAt0_A m c t h0]; dsimp only; rw [blocksA11]

/-- The accumulator where it goes on. -/
theorem outs_11_B (t : Fin cfg0.N) (h0 : ¬t.val % 16 = 0) :
    (outsAt0 m c t.val t.isLt).2
      = (ins m c t).next11 (outsAt0 m c (t.val - 1) (Nat.lt_of_le_of_lt (Nat.sub_le _ _) t.isLt)).2 := by
  rw [outsAt0_B m c t h0]; dsimp only; rw [blocksB11]

/-- The part of a sum over the tokens that one block holds. -/
theorem upTo_tok (f : Fin 8192 → ℝ) (n : ℕ) (hn : n < cfg0.N) :
    ∑ p : Fin 512, f ⟨(n * 512 + p.val) % 8192, Nat.mod_lt _ (by norm_num)⟩ = ∑ p, f (tok ⟨n, hn⟩ p) := by
  refine Finset.sum_congr rfl fun p _ => congrArg f (Fin.ext ?_)
  have := point_lt ⟨n, hn⟩
  show (n * 512 + p.val) % 8192 = n * 512 + p.val
  dsimp only at this
  omega

variable {m c} {W : Params} {R : Rows 8192} (K : KArgs W R m c)
include K

/-- The accumulator after each point. -/
theorem acc_val (n : ℕ) (hn : n < cfg0.N) :
    IsC (φ := .f32) (outsAt0 m c n hn).2 (fun i j => upTo (fun s => vecTerm W R s i j) n) := by
  induction n with
  | zero =>
    rw [outs_11_A m c ⟨0, hn⟩ (Nat.zero_mod _)]
    refine fun i j => ((insC K ⟨0, hn⟩).next11 pay3 i j).trans (congrArg (fun x : ℝ => (x : EReal)) ?_)
    unfold upTo
    dsimp only
    rw [Finset.sum_range_succ, Finset.sum_range_zero, upTo_tok (fun s => vecTerm W R s i j) _ hn]
    rfl
  | succ n ih =>
    have hlt := point_lt ⟨n + 1, hn⟩
    rw [outs_11_B m c ⟨n + 1, hn⟩ (show ¬(n + 1) % 16 = 0 by dsimp only at hlt; omega)]
    refine fun i j => ((insC K ⟨n + 1, hn⟩).next11 (ih (Nat.lt_of_succ_lt hn)) i j).trans
      (congrArg (fun x : ℝ => (x : EReal)) ?_)
    unfold upTo
    dsimp only
    rw [Finset.sum_range_succ _ (n + 1), upTo_tok (fun s => vecTerm W R s i j) _ hn]
    rfl

/-- The stream's gradient. -/
theorem arr10 : (dats m 0 c).arrAt 10 cfg0.N = arr (gx W R) := by
  refine (dats m 0 c).arrAt_eq_of_covers 10 _ (by decide +kernel) fun t hf y => ?_
  obtain ⟨-, -, -, -, -, -, -, -, -, -, e⟩ := index_eq t
  blk_simp
  rw [after0_10, outs_10, (insC K t).o10.eq_arr]
  refine Eq.trans (b := arr (gx W R) (ix2 (tok t (y 0)) (y 1))) rfl ?_
  blk_ext [tok, e]

omit K in
/-- The last point. -/
def lastPoint : Fin cfg0.N := ⟨15, lt_of_lt_of_eq (by norm_num) (show cfg0.N = 16 from N_0).symm⟩

/-- The vectors' gradients. -/
theorem arr11 : (dats m 0 c).arrAt 11 cfg0.N = arr fun i j => ∑ s, vecTerm W R s i j := by
  refine (dats m 0 c).arrAt_eq_of_after_last 11 lastPoint (by decide +kernel) _ fun j => ?_
  blk_simp
  rw [after0_11, (acc_val K _ _).eq_arr]
  exact congrArg (fun x : ℝ => (x : EReal)) (upTo_last _)

end Dh

end
-- ==== Proof.Dh.Ref.lean ====
/-
  What each buffer of the reference holds when its arguments hold reals: the corresponding quantity of the mathematics.
-/
module

public import proofs.«01_k».proof.Proof.Gen.Reference2Ideal.Read
public import proofs.«01_k».proof.Proof.Gen.Reference2Ideal.Run
public import proofs.«01_k».proof.Proof.Dh.Args

@[expose] public section

noncomputable section

namespace Dh

open Idealize.ShloMosaic Idealize.SL.Sem Merge Cert.Reference2Ideal Cert.Reference2Ideal.Gen Cert.Reference2Ideal.Read

section
variable {W : Params} {R : Rows 8192} {x0 x1 x2 x3 : FVec Ideal S8192x512 .bf16} {x4 : FVec Ideal S8192x4096 .bf16}
    {x5 : FVec Ideal S8192x2048 .bf16} {x6 : FVec Ideal S1024x8192 .bf16} {x7 x8 : FVec Ideal S8192x1024 .f32}
    {x9 x10 : FVec Ideal S1x1024 .f32}
  (A : Args W R x0 x1 x2 x3 x4 x5 x6 x7 x8 x9 x10)
include A

theorem ref_cat : IsC (φ := .f32) (val_main_v7 (F := Ideal) x0 x1 x2 x3 x4 x5) (cat R) := by
  intro i j
  pointwise [val_main_v7, val_main_v1, val_main_v2, val_main_v3, val_main_v4, val_main_v5, val_main_v6]
  unfold cat
  simp only [A.h0 _ _, A.h1 _ _, A.h2 _ _, A.h3 _ _, A.h4 _ _, A.h5 _ _]
  split_ifs <;> rfl

theorem ref_dh : IsC (φ := .f32) (val_main_v31 (F := Ideal) x0 x1 x2 x3 x4 x5 x6) (dh W R) := by
  intro i j
  pointwise [val_main_v31, val_main_v0]
  simp only [ref_cat A _ _, A.h6 _ _, ← EReal.coe_mul, sum_coe]
  rfl

theorem ref_ms : IsC (φ := .f32) (val_main_v15 (F := Ideal) x7) fun s _ => ms R s := by
  intro i j
  pointwise [val_main_v15, val_main_v14, val_main_v13, val_main_v12, val_main_v11, val_main_v10, val_main_v9, val_main_cst_0, val_main_cst_1, val_main_cst_2]
  simp only [A.h7 _ _, lit_1024, lit_eps, div_1024, ← EReal.coe_mul, ← EReal.coe_add, sum_coe]
  rfl

theorem ref_r : IsC (φ := .f32) (val_main_v16 (F := Ideal) x7) fun s _ => r R s := by
  intro i j
  pointwise [val_main_v16]
  rw [ref_ms A]
  exact rsqrt_pos (ms_pos R i)

/-- The derivative of the reciprocal root. -/
theorem ref_dr : IsC (φ := .f32) (val_main_v19 (F := Ideal) x7) fun s _ => -(1 / 2) * (r R s * (1 / ms R s)) := by
  intro i j
  pointwise [val_main_v19, val_main_v18, val_main_v17, val_main_cst_3]
  rw [ref_ms A, ref_r A, lit_neg_half, Ideal.div_coe (ms_pos R i).ne', ← EReal.coe_mul, ← EReal.coe_mul]

theorem ref_xn : IsC (φ := .f32) (val_main_v21 (F := Ideal) x7) (xn R) := by
  intro i j
  pointwise [val_main_v21, val_main_v20]
  rw [A.h7, ref_r A, ← EReal.coe_mul]
  rfl

theorem ref_sc : IsC (φ := .f32) (val_main_v25 (F := Ideal) x10) fun _ c => 1 + W.sc c := by
  intro i j
  pointwise [val_main_v25, val_main_v24, val_main_cst_4]
  rw [A.h10, lit_one, ← EReal.coe_add]

theorem ref_shift : IsC (φ := .f32) (val_main_v33 (F := Ideal) x0 x1 x2 x3 x4 x5 x6) fun _ c => ∑ s, dh W R s c := by
  intro i j
  pointwise [val_main_v33, val_main_v32, val_main_cst_5]
  simp only [ref_dh A _ _, sum_coe]

theorem ref_scale : IsC (φ := .f32) (val_main_v36 (F := Ideal) x0 x1 x2 x3 x4 x5 x6 x7 x9) fun _ c => ∑ s, dscale W R s c := by
  intro i j
  pointwise [val_main_v36, val_main_v35, val_main_v34, val_main_v23, val_main_v22, val_main_cst_6]
  simp only [ref_dh A _ _, ref_xn A _ _, A.h9 _ _, ← EReal.coe_mul, sum_coe]
  refine congrArg _ ?_
  exact Finset.sum_congr rfl fun s _ => by rw [dscale]; ring

theorem ref_dhs : IsC (φ := .f32) (val_main_v38 (F := Ideal) x0 x1 x2 x3 x4 x5 x6 x10) fun s c => dh W R s c * (1 + W.sc c) := by
  intro i j
  pointwise [val_main_v38, val_main_v37]
  rw [ref_dh A, ref_sc A, ← EReal.coe_mul]

theorem ref_norm : IsC (φ := .f32) (val_main_v41 (F := Ideal) x0 x1 x2 x3 x4 x5 x6 x7 x10) fun _ c => ∑ s, dnorm W R s c := by
  intro i j
  pointwise [val_main_v41, val_main_v40, val_main_v39, val_main_cst_7]
  simp only [ref_dhs A _ _, ref_xn A _ _, ← EReal.coe_mul, sum_coe]
  refine congrArg _ ?_
  exact Finset.sum_congr rfl fun s _ => by rw [dnorm]; ring

theorem ref_dxn : IsC (φ := .f32) (val_main_v43 (F := Ideal) x0 x1 x2 x3 x4 x5 x6 x9 x10) (dxn W R) := by
  intro i j
  pointwise [val_main_v43, val_main_v42]
  rw [ref_dhs A, A.h9, ← EReal.coe_mul, dxn]
  refine congrArg _ ?_
  ring

/-- Half the factor of the stream in its own cotangent. -/
theorem ref_k : IsC (φ := .f32) (val_main_v53 (F := Ideal) x0 x1 x2 x3 x4 x5 x6 x7 x9 x10)
    fun s _ => -(1 / 2) * (r R s * r R s * r R s * mean W R s) := by
  intro i j
  pointwise [val_main_v53, val_main_v52, val_main_v51, val_main_v50, val_main_v49, val_main_v46, val_main_v45, val_main_v44, val_main_cst_8, val_main_cst_9, val_main_cst_10]
  simp only [A.h7 _ _, ref_dxn A _ _, ref_dr A _ _, lit_1024, div_1024, ← EReal.coe_mul, ← EReal.coe_add, sum_coe]
  rw [mean, ← r_sq, Fin.sum_univ_one]
  simp only [mul_comm (R.x _ _)]
  refine congrArg _ ?_
  ring

theorem ref_gx : IsC (φ := .f32) (val_main_v58 (F := Ideal) x0 x1 x2 x3 x4 x5 x6 x7 x8 x9 x10) (gx W R) := by
  intro i j
  pointwise [val_main_v58, val_main_v57, val_main_v56, val_main_v55, val_main_v54, val_main_v48, val_main_v47]
  simp only [A.h7 _ _, A.h8 _ _, ref_dxn A _ _, ref_k A _ _, ref_r A _ _, ← EReal.coe_mul, ← EReal.coe_add, ← EReal.coe_sub]
  rw [gx]
  refine congrArg _ ?_
  ring

theorem ref_vec : IsC (φ := .f32) (val_main_v60 (F := Ideal) x0 x1 x2 x3 x4 x5 x6 x7 x9 x10)
    (fun i c => ∑ s, vecTerm W R s i c) := by
  intro i j
  by_cases h0 : i = 0
  · subst h0
    pointwise [val_main_v60]
    exact ref_shift A 0 j
  by_cases h1 : i = 1
  · subst h1
    pointwise [val_main_v60]
    exact ref_scale A 0 j
  by_cases h2 : i = 2
  · subst h2
    pointwise [val_main_v60]
    exact ref_norm A 0 j
  · have e0 : ¬i.val < 1 := fun h => h0 (Fin.ext (by omega))
    have e1 : ¬i.val - 1 < 1 := fun h => h1 (Fin.ext (by show i.val = 1; omega))
    have e2 : ¬i.val - 1 - 1 < 1 := fun h => h2 (Fin.ext (by show i.val = 2; omega))
    simp only [vecTerm, h0, h1, h2, if_false, Finset.sum_const_zero]
    pointwise [val_main_v60, val_main_v59, val_main_cst_11]
    simp only [e0, e1, e2, dif_neg, not_false_eq_true]
    simp

end

end Dh

end
-- ==== Proof.Dh.RefRun.lean ====
/- The reference's run, with its two results written as the mathematics has them. -/
module

public import proofs.«01_k».proof.Proof.Dh.Ref

@[expose] public section

noncomputable section

namespace Dh

open Idealize.ShloMosaic Idealize.SL.Sem Merge Cert.Reference2Ideal Cert.Reference2Ideal.Gen Cert.Reference2Ideal.Read

/-- Where the arguments hold reals the reference ends with each result at its quantity, the arguments unchanged. -/
theorem ref_run (m' : (ℓ : Loc nD τ Cert.Reference2Ideal.sig) → Buf (Elt Ideal) ℓ) (ρ : Dev nD → PrngReg) (W : Dev nD → Params)
    (R : Dev nD → Rows 8192)
    (A : ∀ c : Dev nD, Args (W c) (R c) (m' ((c.tc : Thread nD τ).loc main_arg0)) (m' ((c.tc : Thread nD τ).loc main_arg1))
      (m' ((c.tc : Thread nD τ).loc main_arg2)) (m' ((c.tc : Thread nD τ).loc main_arg3))
      (m' ((c.tc : Thread nD τ).loc main_arg4)) (m' ((c.tc : Thread nD τ).loc main_arg5))
      (m' ((c.tc : Thread nD τ).loc main_arg6)) (m' ((c.tc : Thread nD τ).loc main_arg7))
      (m' ((c.tc : Thread nD τ).loc main_arg8)) (m' ((c.tc : Thread nD τ).loc main_arg9))
      (m' ((c.tc : Thread nD τ).loc main_arg10))) :
    θ_run (defs (F := Ideal)) (onTc (τ := τ) (main (F := Ideal))) ⟨m', fun _ => 0, ρ⟩ (fun r => ∀ c : Dev nD,
      r.2.mem ((c.tc : Thread nD τ).loc main_v58) = arr (gx (W c) (R c))
      ∧ r.2.mem ((c.tc : Thread nD τ).loc main_v60) = arr (fun i j => ∑ s, vecTerm (W c) (R c) s i j)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) := by
  refine (θ_run defs _ _).mono (fun r h c => ?_) (Cert.Reference2Ideal.Value.run (F := Ideal) m' ρ)
  obtain ⟨h0, h1, hargs⟩ := h c
  exact ⟨h0.trans ((val_main_v58_eq m' c).trans (IsC.eq_arr (φ := .f32) (ref_gx (A c)))),
    h1.trans ((val_main_v60_eq m' c).trans (IsC.eq_arr (φ := .f32) (ref_vec (A c)))), hargs⟩

end Dh

end
-- ==== Proof.Dh.Value.lean ====
/- The two value runs of the gradient of the projection's input and of the norm before it, side by side. -/
module

public import proofs.«01_k».proof.Defs
public import proofs.«01_k».proof.Proof.Dh.Finite
public import proofs.«01_k».proof.Proof.Dh.KerVal
public import proofs.«01_k».proof.Proof.Dh.RefRun
public import Idealize.ShloMosaic.Adequacy
public import Idealize.ShloMosaic.Init

@[expose] public section

noncomputable section

namespace Dh

open Idealize.ShloMosaic Idealize.SL.Sem Merge

/-- The reference's frame. -/
theorem frame_ref : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- The kernel and the reference compute the same two arrays. -/
theorem value : Cert.algebraic_Kernel2Ideal_Reference2Ideal_pre_finite_dh := by
  intro m g m' g' hpre hagree
  let W : Dev Cert.Kernel2Ideal.nD → Params := fun c => params
    (m ((c.tc : Thread Cert.Kernel2Ideal.nD Cert.Kernel2Ideal.τ).loc Cert.Kernel2Ideal.main_arg6))
    (m ((c.tc : Thread Cert.Kernel2Ideal.nD Cert.Kernel2Ideal.τ).loc Cert.Kernel2Ideal.main_arg9))
    (m ((c.tc : Thread Cert.Kernel2Ideal.nD Cert.Kernel2Ideal.τ).loc Cert.Kernel2Ideal.main_arg10))
  let R : Dev Cert.Kernel2Ideal.nD → Rows 8192 := fun c => rows
    (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5))
    (m ((c.tc : Thread Cert.Kernel2Ideal.nD Cert.Kernel2Ideal.τ).loc Cert.Kernel2Ideal.main_arg7))
    (m ((c.tc : Thread Cert.Kernel2Ideal.nD Cert.Kernel2Ideal.τ).loc Cert.Kernel2Ideal.main_arg8))
  have K : ∀ c, KArgs (W c) (R c) m c := fun c => by
    obtain ⟨h0, h1, h2, h3, h4, h5, h6, h7, h8, h9, h10⟩ := hpre c
    exact args_of_pre h0 h1 h2 h3 h4 h5 h6 h7 h8 h9 h10
  refine ⟨fun c => arr (gx (W c) (R c)), fun c => arr fun i j => ∑ s, vecTerm (W c) (R c) s i j, ?_, ?_⟩
  · refine (θ_run _ _ _).mono (fun r h c => ?_) (Cert.Kernel2Ideal.Value.run_blocks (F := Ideal) m g)
    obtain ⟨h0, h1, hargs⟩ := h c
    exact ⟨h0.trans (arr10 (K c)), h1.trans (arr11 (K c)), hargs⟩
  · refine ref_run m' g' W R fun c => ?_
    obtain ⟨e0, e1, e2, e3, e4, e5, e6, e7, e8, e9, e10⟩ := hagree c
    exact (K c).congr e0 e1 e2 e3 e4 e5 e6 e7 e8 e9 e10

end Dh

end
-- ==== Proof.Dw.InRead.lean ====
/- The body of the input projection's weight gradient, read back, for the column blocks that come from one array each. -/
module

public import proofs.«01_k».proof.Proof.Gen.Kernel3Ideal.Value
public import Idealize.ShloMosaic.Lib.WritesUnit
public import Idealize.ShloMosaic.Lib.VecWindow
public import Idealize.ShloMosaic.Lib.Pipeline.ValueKit

@[expose] public section

set_option maxRecDepth 16384
set_option maxHeartbeats 1000000

noncomputable section

namespace Dw

open Cert.Kernel3Ideal Cert.Kernel3Ideal.Gen Idealize.ShloMosaic Idealize.ShloMosaic.TcCoe Idealize.ShloMosaic.Tactic

variable {F : FTy → Type} [FloatOps F]

section
variable (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S1x1024x2048 .f32) (harg9 : arg9.IsWhole) (arg10 : Memref sig .tc .vmem S1x1024x2048 .bf16) (harg10 : arg10.IsWhole)
  (x0 : Vec F S1024x512 .bf16) (x1 x2 x3 x4 : Vec F S512x512 .bf16) (x5 x6 : Vec F S512x2048 .bf16)
  (a7 : Vec F S1x1024x2048 .f32)

theorem readD7 (hc0 : cond0_0 i) (hc1 : ¬cond0_1 i) (hc2 : cond0_2 i) (hc3 : ¬cond0_3 i) (hc4 : ¬cond0_4 i) :
    out0_D_7 c i arg2 harg2 arg3 harg3 arg4 harg4 arg5 harg5 arg6 harg6 arg7 harg7 arg8 harg8 arg9 harg9 arg10 harg10 hc0 hc1 hc2 hc3 hc4 x0 x1 x2 x3 x4 x5 x6 = k0_pay4 x0 k0_pay1 x5 := by
  unfold out0_D_7 kernelRun0_D
  dsimp only
  sl_unfold_words
  simp (disch := decide) only [View.readAt_eq_ld, Memref.IsWhole.read_unread, View.ld_unit_lit', View.readCov_unit_lit']
  exact View.read_writes_full (s := _) _ _ _ _ _

theorem readE7 (hc0 : ¬cond0_0 i) (hc1 : ¬cond0_1 i) (hc2 : cond0_2 i) (hc3 : ¬cond0_3 i) (hc4 : ¬cond0_4 i) :
    out0_E_7 c i arg2 harg2 arg3 harg3 arg4 harg4 arg5 harg5 arg6 harg6 arg7 harg7 arg8 harg8 arg9 harg9 arg10 harg10 hc0 hc1 hc2 hc3 hc4 x0 x1 x2 x3 x4 x5 x6 a7 = k0_pay4 x0 a7 x5 := by
  unfold out0_E_7 kernelRun0_E
  dsimp only
  sl_unfold_words
  simp (disch := decide) only [View.readAt_eq_ld, Memref.IsWhole.read_unread, View.ld_unit_lit', View.readCov_unit_lit']
  exact View.read_writes_full (s := _) _ _ _ _ _

theorem readF7 (hc0 : ¬cond0_0 i) (hc1 : ¬cond0_1 i) (hc2 : cond0_2 i) (hc3 : ¬cond0_3 i) (hc4 : cond0_4 i) :
    out0_F_7 c i arg2 harg2 arg3 harg3 arg4 harg4 arg5 harg5 arg6 harg6 arg7 harg7 arg8 harg8 arg9 harg9 arg10 harg10 hc0 hc1 hc2 hc3 hc4 x0 x1 x2 x3 x4 x5 x6 a7 = k0_pay4 x0 a7 x5 := by
  unfold out0_F_7 kernelRun0_F
  dsimp only
  sl_unfold_words
  simp (disch := decide) only [View.readAt_eq_ld, Memref.IsWhole.read_unread, View.ld_unit_lit', View.readCov_unit_lit']
  exact View.read_writes_full (s := _) _ _ _ _ _

theorem readF8 (hc0 : ¬cond0_0 i) (hc1 : ¬cond0_1 i) (hc2 : cond0_2 i) (hc3 : ¬cond0_3 i) (hc4 : cond0_4 i) :
    out0_F_8 c i arg2 harg2 arg3 harg3 arg4 harg4 arg5 harg5 arg6 harg6 arg7 harg7 arg8 harg8 arg9 harg9 arg10 harg10 hc0 hc1 hc2 hc3 hc4 x0 x1 x2 x3 x4 x5 x6 a7 = k0_pay6 (k0_pay4 x0 a7 x5) := by
  unfold out0_F_8 kernelRun0_F
  dsimp only
  sl_unfold_words
  simp (disch := decide) only [View.readAt_eq_ld, Memref.IsWhole.read_unread, View.ld_unit_lit', View.readCov_unit_lit']
  exact View.read_writes_full (s := _) _ _ _ _ _

theorem readG7 (hc0 : cond0_0 i) (hc1 : ¬cond0_1 i) (hc2 : ¬cond0_2 i) (hc3 : cond0_3 i) (hc4 : ¬cond0_4 i) :
    out0_G_7 c i arg2 harg2 arg3 harg3 arg4 harg4 arg5 harg5 arg6 harg6 arg7 harg7 arg8 harg8 arg9 harg9 arg10 harg10 hc0 hc1 hc2 hc3 hc4 x0 x1 x2 x3 x4 x5 x6 = k0_pay5 x0 k0_pay1 x6 := by
  unfold out0_G_7 kernelRun0_G
  dsimp only
  sl_unfold_words
  simp (disch := decide) only [View.readAt_eq_ld, Memref.IsWhole.read_unread, View.ld_unit_lit', View.readCov_unit_lit']
  exact View.read_writes_full (s := _) _ _ _ _ _

theorem readH7 (hc0 : ¬cond0_0 i) (hc1 : ¬cond0_1 i) (hc2 : ¬cond0_2 i) (hc3 : cond0_3 i) (hc4 : ¬cond0_4 i) :
    out0_H_7 c i arg2 harg2 arg3 harg3 arg4 harg4 arg5 harg5 arg6 harg6 arg7 harg7 arg8 harg8 arg9 harg9 arg10 harg10 hc0 hc1 hc2 hc3 hc4 x0 x1 x2 x3 x4 x5 x6 a7 = k0_pay5 x0 a7 x6 := by
  unfold out0_H_7 kernelRun0_H
  dsimp only
  sl_unfold_words
  simp (disch := decide) only [View.readAt_eq_ld, Memref.IsWhole.read_unread, View.ld_unit_lit', View.readCov_unit_lit']
  exact View.read_writes_full (s := _) _ _ _ _ _

theorem readI7 (hc0 : ¬cond0_0 i) (hc1 : ¬cond0_1 i) (hc2 : ¬cond0_2 i) (hc3 : cond0_3 i) (hc4 : cond0_4 i) :
    out0_I_7 c i arg2 harg2 arg3 harg3 arg4 harg4 arg5 harg5 arg6 harg6 arg7 harg7 arg8 harg8 arg9 harg9 arg10 harg10 hc0 hc1 hc2 hc3 hc4 x0 x1 x2 x3 x4 x5 x6 a7 = k0_pay5 x0 a7 x6 := by
  unfold out0_I_7 kernelRun0_I
  dsimp only
  sl_unfold_words
  simp (disch := decide) only [View.readAt_eq_ld, Memref.IsWhole.read_unread, View.ld_unit_lit', View.readCov_unit_lit']
  exact View.read_writes_full (s := _) _ _ _ _ _

theorem readI8 (hc0 : ¬cond0_0 i) (hc1 : ¬cond0_1 i) (hc2 : ¬cond0_2 i) (hc3 : cond0_3 i) (hc4 : cond0_4 i) :
    out0_I_8 c i arg2 harg2 arg3 harg3 arg4 harg4 arg5 harg5 arg6 harg6 arg7 harg7 arg8 harg8 arg9 harg9 arg10 harg10 hc0 hc1 hc2 hc3 hc4 x0 x1 x2 x3 x4 x5 x6 a7 = k0_pay6 (k0_pay5 x0 a7 x6) := by
  unfold out0_I_8 kernelRun0_I
  dsimp only
  sl_unfold_words
  simp (disch := decide) only [View.readAt_eq_ld, Memref.IsWhole.read_unread, View.ld_unit_lit', View.readCov_unit_lit']
  exact View.read_writes_full (s := _) _ _ _ _ _

end

end Dw

end
-- ==== Proof.Dw.InQuarters.lean ====
/- The body of the input projection's weight gradient, read back, for the column block that comes from four arrays. -/
module

public import proofs.«01_k».proof.Proof.Gen.Kernel3Ideal.Value
public import Idealize.ShloMosaic.Lib.WritesUnit
public import Idealize.ShloMosaic.Lib.VecWindow
public import Idealize.ShloMosaic.Lib.Pipeline.ValueKit

@[expose] public section

set_option maxRecDepth 16384
set_option maxHeartbeats 1000000

noncomputable section

namespace Dw

open Cert.Kernel3Ideal Cert.Kernel3Ideal.Gen Idealize.ShloMosaic Idealize.ShloMosaic.TcCoe Idealize.ShloMosaic.Tactic

variable {F : FTy → Type} [FloatOps F]

/-- Four blocks of 512 columns side by side. -/
def side (w₀ w₁ w₂ w₃ : Vec F S1x1024x512 .f32) : Vec F S1x1024x2048 .f32 := fun i =>
  if h₀ : (i 2).val < 512 then w₀ (ix3 0 (i 1) ⟨(i 2).val, h₀⟩)
  else if h₁ : (i 2).val < 1024 then w₁ (ix3 0 (i 1) ⟨(i 2).val - 512, by omega⟩)
  else if h₂ : (i 2).val < 1536 then w₂ (ix3 0 (i 1) ⟨(i 2).val - 1024, by omega⟩)
  else w₃ (ix3 0 (i 1) ⟨(i 2).val - 1536, by have : (i 2).val < 2048 := (i 2).isLt; omega⟩)

/-- One store of 512 columns, read at a column it holds. -/
theorem col_mem {v : View sig .tc .vmem S1x1024x2048 .f32} (f : v.ty.Contents (Elt F)) (o : ℕ) (h : ∀ a, ![0, 0, o] a + ![1, 1024, 512] a ≤ S1x1024x2048.size a)
    (w : Vec F S1x1024x512 .f32) (L : List (View.Piece (Elt F) S1x1024x2048 .f32)) (i : S1x1024x2048.Idx) (k : Fin 512) (hk : (i 2).val = o + k.val) :
    v.read (Elt F) (v.writes (Elt F) f (⟨Rect.unit (s := S1x1024x2048) ![0, 0, o] ![1, 1024, 512] h, w⟩ :: L)) i = w (ix3 0 (i 1) k) := by
  refine View.read_writes_cons_unit_of_mem v f _ w _ i (ix3 0 (i 1) k : S1x1024x512.Idx) rfl fun a => ?_
  have h0 : (i 0).val < 1 := (i 0).isLt
  match a with
  | ⟨0, _⟩ => show (i 0).val = 0 + 0; omega
  | ⟨1, _⟩ => exact (Nat.zero_add _).symm
  | ⟨2, _⟩ => exact hk

/-- One store of 512 columns, read at a column outside it. -/
theorem col_not_mem {v : View sig .tc .vmem S1x1024x2048 .f32} (f : v.ty.Contents (Elt F)) (o : ℕ) (h : ∀ a, ![0, 0, o] a + ![1, 1024, 512] a ≤ S1x1024x2048.size a)
    (w : Vec F S1x1024x512 .f32) (L : List (View.Piece (Elt F) S1x1024x2048 .f32)) (i : S1x1024x2048.Idx) (hk : (i 2).val < o ∨ o + 512 ≤ (i 2).val) :
    v.read (Elt F) (v.writes (Elt F) f (⟨Rect.unit (s := S1x1024x2048) ![0, 0, o] ![1, 1024, 512] h, w⟩ :: L)) i
      = v.read (Elt F) (v.writes (Elt F) f L) i :=
  View.read_writes_cons_unit_of_not_mem v f _ w _ i rfl 2 hk

/-- Four stores that fill the block. -/
theorem side_read {v : View sig .tc .vmem S1x1024x2048 .f32} (f : v.ty.Contents (Elt F)) (w₀ w₁ w₂ w₃ : Vec F S1x1024x512 .f32)
    (L : List (View.Piece (Elt F) S1x1024x2048 .f32)) :
    v.read (Elt F) (v.writes (Elt F) f
        (⟨Rect.unit (s := S1x1024x2048) ![0, 0, 1536] ![1, 1024, 512] inb_S1x1024x2048_S1x1024x512_0_0_1536, w₃⟩ ::
          ⟨Rect.unit (s := S1x1024x2048) ![0, 0, 1024] ![1, 1024, 512] inb_S1x1024x2048_S1x1024x512_0_0_1024, w₂⟩ ::
          ⟨Rect.unit (s := S1x1024x2048) ![0, 0, 512] ![1, 1024, 512] inb_S1x1024x2048_S1x1024x512_0_0_512, w₁⟩ ::
          ⟨Rect.unit (s := S1x1024x2048) ![0, 0, 0] ![1, 1024, 512] inb_S1x1024x2048_S1x1024x512_0_0_0, w₀⟩ :: L))
      = side w₀ w₁ w₂ w₃ := by
  funext i
  have hi : (i 2).val < 2048 := (i 2).isLt
  unfold side
  split_ifs with h₀ h₁ h₂
  · rw [col_not_mem _ _ _ _ _ _ (by omega), col_not_mem _ _ _ _ _ _ (by omega), col_not_mem _ _ _ _ _ _ (by omega)]
    exact col_mem _ _ _ _ _ _ _ (Nat.zero_add _).symm
  · rw [col_not_mem _ _ _ _ _ _ (by omega), col_not_mem _ _ _ _ _ _ (by omega)]
    exact col_mem _ _ _ _ _ _ _ (show (i 2).val = 512 + ((i 2).val - 512) by omega)
  · rw [col_not_mem _ _ _ _ _ _ (by omega)]
    exact col_mem _ _ _ _ _ _ _ (show (i 2).val = 1024 + ((i 2).val - 1024) by omega)
  · exact col_mem _ _ _ _ _ _ _ (show (i 2).val = 1536 + ((i 2).val - 1536) by omega)

/-- A block read back whole. -/
theorem whole_read (v : View sig .tc .vmem S1x1024x2048 .f32) (w₀ w₁ w₂ w₃ : Vec F S1x1024x512 .f32)
    (L : List (View.Piece (Elt F) S1x1024x2048 .f32)) :
    v.readCov (⟨Rect.unit (s := S1x1024x2048) ![0, 0, 1536] ![1, 1024, 512] inb_S1x1024x2048_S1x1024x512_0_0_1536, w₃⟩ ::
          ⟨Rect.unit (s := S1x1024x2048) ![0, 0, 1024] ![1, 1024, 512] inb_S1x1024x2048_S1x1024x512_0_0_1024, w₂⟩ ::
          ⟨Rect.unit (s := S1x1024x2048) ![0, 0, 512] ![1, 1024, 512] inb_S1x1024x2048_S1x1024x512_0_0_512, w₁⟩ ::
          ⟨Rect.unit (s := S1x1024x2048) ![0, 0, 0] ![1, 1024, 512] inb_S1x1024x2048_S1x1024x512_0_0_0, w₀⟩ :: L)
        (Rect.unit (s := S1x1024x2048) ![0, 0, 0] ![1, 1024, 2048] inb_S1x1024x2048_S1x1024x2048_0_0_0).toLoadRect
      = side w₀ w₁ w₂ w₃ := by
  refine (congrArg (fun A => View.ld A (Rect.unit (s := S1x1024x2048) ![0, 0, 0] ![1, 1024, 2048] inb_S1x1024x2048_S1x1024x2048_0_0_0))
    (side_read v.junk w₀ w₁ w₂ w₃ L)).trans ?_
  exact View.ld_unit_lit' _ _ (by decide)

/-- Columns outside a store are what they were before it. -/
theorem before_store (v : View sig .tc .vmem S1x1024x2048 .f32) (o o' : ℕ) (h : ∀ a, ![0, 0, o] a + ![1, 1024, 512] a ≤ S1x1024x2048.size a)
    (h' : ∀ a, ![0, 0, o'] a + ![1, 1024, 512] a ≤ S1x1024x2048.size a) (w : Vec F S1x1024x512 .f32)
    (L : List (View.Piece (Elt F) S1x1024x2048 .f32)) (ho : o' + 512 ≤ o) :
    v.readCov (⟨Rect.unit (s := S1x1024x2048) ![0, 0, o'] ![1, 1024, 512] h', w⟩ :: L)
        (Rect.unit (s := S1x1024x2048) ![0, 0, o] ![1, 1024, 512] h).toLoadRect
      = v.readCov L (Rect.unit (s := S1x1024x2048) ![0, 0, o] ![1, 1024, 512] h).toLoadRect := by
  funext j
  refine col_not_mem v.junk o' h' w L ((Rect.unit (s := S1x1024x2048) ![0, 0, o] ![1, 1024, 512] h).toLoadRect.idx j) (Or.inr ?_)
  show o' + 512 ≤ o + 1 * (j 2).val
  omega

/-- Columns of a block just filled. -/
theorem of_full (v : View sig .tc .vmem S1x1024x2048 .f32) (o : ℕ) (h : ∀ a, ![0, 0, o] a + ![1, 1024, 512] a ≤ S1x1024x2048.size a)
    (Z : Vec F S1x1024x2048 .f32) :
    v.readCov [⟨Rect.unit (s := S1x1024x2048) ![0, 0, 0] ![1, 1024, 2048] inb_S1x1024x2048_S1x1024x2048_0_0_0, Z⟩]
        (Rect.unit (s := S1x1024x2048) ![0, 0, o] ![1, 1024, 512] h).toLoadRect
      = View.ld Z (Rect.unit (s := S1x1024x2048) ![0, 0, o] ![1, 1024, 512] h) :=
  congrArg (fun A => View.ld A (Rect.unit (s := S1x1024x2048) ![0, 0, o] ![1, 1024, 512] h))
    (View.read_writes_full v v.junk inb_S1x1024x2048_S1x1024x2048_0_0_0 Z [])

/-- The column block after a point: to each quarter the point's product is added. -/
def quarters (A : Vec F S1x1024x2048 .f32) (x0 : Vec F S1024x512 .bf16) (x1 x2 x3 x4 : Vec F S512x512 .bf16) : Vec F S1x1024x2048 .f32 :=
  side
    (k0_pay7 (k0_pay2 x0) (View.ld A (Rect.unit (s := S1x1024x2048) ![0, 0, 0] ![1, 1024, 512] inb_S1x1024x2048_S1x1024x512_0_0_0)) x1)
    (k0_pay8 (k0_pay2 x0) (View.ld A (Rect.unit (s := S1x1024x2048) ![0, 0, 512] ![1, 1024, 512] inb_S1x1024x2048_S1x1024x512_0_0_512)) x2)
    (k0_pay9 (k0_pay2 x0) (View.ld A (Rect.unit (s := S1x1024x2048) ![0, 0, 1024] ![1, 1024, 512] inb_S1x1024x2048_S1x1024x512_0_0_1024)) x3)
    (k0_pay3 x0 (k0_pay10 (View.ld A (Rect.unit (s := S1x1024x2048) ![0, 0, 1536] ![1, 1024, 512] inb_S1x1024x2048_S1x1024x512_0_0_1536))) x4)

section
variable (c : Dev nD) (i : grid0.Coords) (arg2 : Memref sig .tc .vmem S1024x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S1x1024x2048 .f32) (harg9 : arg9.IsWhole) (arg10 : Memref sig .tc .vmem S1x1024x2048 .bf16) (harg10 : arg10.IsWhole)
  (x0 : Vec F S1024x512 .bf16) (x1 x2 x3 x4 : Vec F S512x512 .bf16) (x5 x6 : Vec F S512x2048 .bf16)
  (a7 : Vec F S1x1024x2048 .f32)

theorem readA7 (hc0 : cond0_0 i) (hc1 : cond0_1 i) (hc2 : ¬cond0_2 i) (hc3 : ¬cond0_3 i) (hc4 : ¬cond0_4 i) :
    out0_A_7 c i arg2 harg2 arg3 harg3 arg4 harg4 arg5 harg5 arg6 harg6 arg7 harg7 arg8 harg8 arg9 harg9 arg10 harg10 hc0 hc1 hc2 hc3 hc4 x0 x1 x2 x3 x4 x5 x6 = quarters k0_pay1 x0 x1 x2 x3 x4 := by
  unfold out0_A_7 kernelRun0_A
  dsimp only
  sl_unfold_words
  simp (disch := decide) only [View.readAt_eq_ld, Memref.IsWhole.read_unread, View.ld_unit_lit', View.readCov_unit_lit']
  simp (disch := decide) only [before_store, of_full]
  exact side_read _ _ _ _ _ _

theorem readB7 (hc0 : ¬cond0_0 i) (hc1 : cond0_1 i) (hc2 : ¬cond0_2 i) (hc3 : ¬cond0_3 i) (hc4 : ¬cond0_4 i) :
    out0_B_7 c i arg2 harg2 arg3 harg3 arg4 harg4 arg5 harg5 arg6 harg6 arg7 harg7 arg8 harg8 arg9 harg9 arg10 harg10 hc0 hc1 hc2 hc3 hc4 x0 x1 x2 x3 x4 x5 x6 a7 = quarters a7 x0 x1 x2 x3 x4 := by
  unfold out0_B_7 kernelRun0_B
  dsimp only
  sl_unfold_words
  simp (disch := decide) only [View.readAt_eq_ld, Memref.IsWhole.read_unread, View.ld_unit_lit', View.readCov_unit_lit']
  exact side_read _ _ _ _ _ _

theorem readC7 (hc0 : ¬cond0_0 i) (hc1 : cond0_1 i) (hc2 : ¬cond0_2 i) (hc3 : ¬cond0_3 i) (hc4 : cond0_4 i) :
    out0_C_7 c i arg2 harg2 arg3 harg3 arg4 harg4 arg5 harg5 arg6 harg6 arg7 harg7 arg8 harg8 arg9 harg9 arg10 harg10 hc0 hc1 hc2 hc3 hc4 x0 x1 x2 x3 x4 x5 x6 a7 = quarters a7 x0 x1 x2 x3 x4 := by
  unfold out0_C_7 kernelRun0_C
  dsimp only
  sl_unfold_words
  simp (disch := decide) only [View.readAt_eq_ld, Memref.IsWhole.read_unread, View.ld_unit_lit', View.readCov_unit_lit']
  exact side_read _ _ _ _ _ _

theorem readC8 (hc0 : ¬cond0_0 i) (hc1 : cond0_1 i) (hc2 : ¬cond0_2 i) (hc3 : ¬cond0_3 i) (hc4 : cond0_4 i) :
    out0_C_8 c i arg2 harg2 arg3 harg3 arg4 harg4 arg5 harg5 arg6 harg6 arg7 harg7 arg8 harg8 arg9 harg9 arg10 harg10 hc0 hc1 hc2 hc3 hc4 x0 x1 x2 x3 x4 x5 x6 a7 = k0_pay6 (quarters a7 x0 x1 x2 x3 x4) := by
  unfold out0_C_8 kernelRun0_C
  dsimp only
  sl_unfold_words
  simp (disch := decide) only [View.readAt_eq_ld, Memref.IsWhole.read_unread, View.ld_unit_lit', View.readCov_unit_lit']
  refine (View.read_writes_full (s := _) _ _ _ _ _).trans ?_
  exact congrArg k0_pay6 (whole_read _ _ _ _ _ _)

end

end Dw

end
-- ==== Proof.Dw.Sums.lean ====
/- A weight's gradient is a sum over the tokens; the kernels add it up in sixteen blocks of 512 tokens. Sums of extended
   reals: no value has to be finite. -/
module

public import Idealize.ShloMosaic.Lib.Pointwise

@[expose] public section

noncomputable section

namespace Dw

open Idealize.ShloMosaic

/-- The token that is row `p` of block `n`. -/
def tok (n : ℕ) (h : n < 16) (p : Fin 512) : Fin 8192 := ⟨n * 512 + p.val, by omega⟩

/-- The part of a sum over the tokens that the blocks `0 … n` hold. -/
def upTo (f : Fin 8192 → EReal) (n : ℕ) : EReal :=
  ∑ k ∈ Finset.range (n + 1), ∑ p : Fin 512, f ⟨(k * 512 + p.val) % 8192, Nat.mod_lt _ (by norm_num)⟩

/-- All blocks hold all tokens. -/
theorem upTo_last (f : Fin 8192 → EReal) : upTo f 15 = ∑ s, f s := by
  unfold upTo
  rw [Finset.sum_range, ← (finProdFinEquiv (m := 16) (n := 512)).sum_comp f, Fintype.sum_prod_type]
  refine Finset.sum_congr rfl fun k _ => Finset.sum_congr rfl fun p _ => congrArg f (Fin.ext ?_)
  show (k.val * 512 + p.val) % 8192 = p.val + 512 * k.val
  omega

theorem block_sum (f : Fin 8192 → EReal) (n : ℕ) (h : n < 16) :
    ∑ p : Fin 512, f ⟨(n * 512 + p.val) % 8192, Nat.mod_lt _ (by norm_num)⟩ = ∑ p, f (tok n h p) := by
  refine Finset.sum_congr rfl fun p _ => congrArg f (Fin.ext ?_)
  show (n * 512 + p.val) % 8192 = n * 512 + p.val
  omega

/-- An accumulator that starts at the first block's sum and grows by each further block's. -/
theorem acc_upTo (f : Fin 8192 → EReal) (E : (n : ℕ) → n < 16 → EReal)
    (h0 : ∀ h, E 0 h = ∑ p, f (tok 0 h p))
    (hs : ∀ n (h : n + 1 < 16), E (n + 1) h = E n (Nat.lt_of_succ_lt h) + ∑ p, f (tok (n + 1) h p)) (n : ℕ) (h : n < 16) :
    E n h = upTo f n := by
  induction n with
  | zero =>
    rw [h0]
    unfold upTo
    rw [Finset.sum_range_succ, Finset.sum_range_zero, block_sum f 0 h, zero_add]
  | succ n ih =>
    rw [hs, ih]
    unfold upTo
    rw [Finset.sum_range_succ _ (n + 1), block_sum f (n + 1) h]

/-- The gradient of a weight: the activations against the gradient of what they were multiplied into. -/
def grad {K N : ℕ} (a : Fin 8192 → Fin K → EReal) (d : Fin 8192 → Fin N → EReal) (i : Fin K) (j : Fin N) : EReal :=
  ∑ s, a s i * d s j

/-- A two-dimensional array entry by entry. -/
def arr2 {a b : ℕ} (V : Fin a → Fin b → EReal) : (⟨2, ![a, b]⟩ : Shape).Idx → EReal := fun i => V (i 0) (i 1)

theorem eq_arr2 {a b : ℕ} {v : (⟨2, ![a, b]⟩ : Shape).Idx → EReal} {V : Fin a → Fin b → EReal} (h : ∀ i j, v (ix2 i j) = V i j) :
    v = arr2 V := by
  funext i
  have e : i = ix2 (i 0) (i 1) := by
    funext a
    match a with
    | ⟨0, _⟩ => rfl
    | ⟨1, _⟩ => rfl
  rw [e]
  exact h _ _

end Dw

end
-- ==== Proof.Dw.InPay.lean ====
/- What the input projection's weight gradient adds at one point, over the reals. -/
module

public import proofs.«01_k».proof.Proof.Dw.InRead
public import proofs.«01_k».proof.Proof.Dw.InQuarters
public import proofs.«01_k».proof.Proof.Dw.Sums
public import Idealize.ShloMosaic.Lib.Claim

@[expose] public section

set_option maxRecDepth 16384
set_option maxHeartbeats 400000

noncomputable section

namespace Dw.In

open Idealize.ShloMosaic Cert.Kernel3Ideal Cert.Kernel3Ideal.Gen Dw

/-- Columns of a block. -/
theorem ld_col (A : Vec Ideal S1x1024x2048 .f32) (o : ℕ) (h : ∀ a, ![0, 0, o] a + ![1, 1024, 512] a ≤ S1x1024x2048.size a)
    (i : Fin 1024) (k : Fin 512) (n : Fin 2048) (e : n.val = o + k.val) :
    View.ld A (Rect.unit (s := S1x1024x2048) ![0, 0, o] ![1, 1024, 512] h) (ix3 0 i k : S1x1024x512.Idx) = A (ix3 0 i n) := by
  refine congrArg A ?_
  funext a
  match a with
  | ⟨0, _⟩ => rfl
  | ⟨1, _⟩ => exact Fin.ext (by show 0 + 1 * i.val = i.val; omega)
  | ⟨2, _⟩ => exact Fin.ext (by show o + 1 * k.val = n.val; omega)

theorem pay1 (i : Fin 1024) (n : Fin 2048) : k0_pay1 (F := Ideal) (ix3 0 i n) = 0 := by pointwise [k0_pay1]

theorem pay4 (A : FVec Ideal S1x1024x2048 .f32) (x : FVec Ideal S1024x512 .bf16) (y : FVec Ideal S512x2048 .bf16) (i : Fin 1024)
    (n : Fin 2048) : k0_pay4 x A y (ix3 0 i n) = A (ix3 0 i n) + ∑ p : Fin 512, x (ix2 i p) * y (ix2 p n) := by
  pointwise [k0_pay4, k0_pay2]

theorem pay5 (A : FVec Ideal S1x1024x2048 .f32) (x : FVec Ideal S1024x512 .bf16) (y : FVec Ideal S512x2048 .bf16) (i : Fin 1024)
    (n : Fin 2048) : k0_pay5 x A y (ix3 0 i n) = A (ix3 0 i n) + ∑ p : Fin 512, x (ix2 i p) * y (ix2 p n) := by
  pointwise [k0_pay5, k0_pay2]

theorem pay6 (A : FVec Ideal S1x1024x2048 .f32) (i : Fin 1024) (n : Fin 2048) :
    @Eq EReal (k0_pay6 (F := Ideal) A (ix3 0 i n)) (A (ix3 0 i n)) := by
  pointwise [k0_pay6]

theorem pay7 (A : FVec Ideal S1x1024x512 .f32) (x : FVec Ideal S1024x512 .bf16) (y : FVec Ideal S512x512 .bf16) (i : Fin 1024)
    (n : Fin 512) : k0_pay7 (k0_pay2 x) A y (ix3 0 i n) = A (ix3 0 i n) + ∑ p : Fin 512, x (ix2 i p) * y (ix2 p n) := by
  pointwise [k0_pay7, k0_pay2]

theorem pay8 (A : FVec Ideal S1x1024x512 .f32) (x : FVec Ideal S1024x512 .bf16) (y : FVec Ideal S512x512 .bf16) (i : Fin 1024)
    (n : Fin 512) : k0_pay8 (k0_pay2 x) A y (ix3 0 i n) = A (ix3 0 i n) + ∑ p : Fin 512, x (ix2 i p) * y (ix2 p n) := by
  pointwise [k0_pay8, k0_pay2]

theorem pay9 (A : FVec Ideal S1x1024x512 .f32) (x : FVec Ideal S1024x512 .bf16) (y : FVec Ideal S512x512 .bf16) (i : Fin 1024)
    (n : Fin 512) : k0_pay9 (k0_pay2 x) A y (ix3 0 i n) = A (ix3 0 i n) + ∑ p : Fin 512, x (ix2 i p) * y (ix2 p n) := by
  pointwise [k0_pay9, k0_pay2]

theorem pay3 (A : FVec Ideal S1x1024x512 .f32) (x : FVec Ideal S1024x512 .bf16) (y : FVec Ideal S512x512 .bf16) (i : Fin 1024)
    (n : Fin 512) : k0_pay3 x (k0_pay10 A) y (ix3 0 i n) = A (ix3 0 i n) + ∑ p : Fin 512, x (ix2 i p) * y (ix2 p n) := by
  pointwise [k0_pay3, k0_pay10, k0_pay2]

/-- Four arrays of 512 columns side by side. -/
def four {N : ℕ} (q k v z : Fin N → Fin 512 → EReal) (s : Fin N) (n : Fin 2048) : EReal :=
  if h₀ : n.val < 512 then q s ⟨n.val, h₀⟩
  else if h₁ : n.val < 1024 then k s ⟨n.val - 512, by omega⟩
  else if h₂ : n.val < 1536 then v s ⟨n.val - 1024, by omega⟩
  else z s ⟨n.val - 1536, by omega⟩

section
variable (w₀ w₁ w₂ w₃ : FVec Ideal S1x1024x512 .f32) (i : Fin 1024) (n : Fin 2048)

theorem side₀ (h₀ : n.val < 512) : side (F := Ideal) w₀ w₁ w₂ w₃ (ix3 0 i n) = w₀ (ix3 0 i ⟨n.val, h₀⟩) := dif_pos h₀

theorem side₁ (h₀ : ¬n.val < 512) (h₁ : n.val < 1024) :
    side (F := Ideal) w₀ w₁ w₂ w₃ (ix3 0 i n) = w₁ (ix3 0 i ⟨n.val - 512, by omega⟩) :=
  (dif_neg h₀).trans (dif_pos h₁)

theorem side₂ (h₀ : ¬n.val < 512) (h₁ : ¬n.val < 1024) (h₂ : n.val < 1536) :
    side (F := Ideal) w₀ w₁ w₂ w₃ (ix3 0 i n) = w₂ (ix3 0 i ⟨n.val - 1024, by omega⟩) :=
  (dif_neg h₀).trans ((dif_neg h₁).trans (dif_pos h₂))

theorem side₃ (h₀ : ¬n.val < 512) (h₁ : ¬n.val < 1024) (h₂ : ¬n.val < 1536) :
    side (F := Ideal) w₀ w₁ w₂ w₃ (ix3 0 i n) = w₃ (ix3 0 i ⟨n.val - 1536, by omega⟩) :=
  (dif_neg h₀).trans ((dif_neg h₁).trans (dif_neg h₂))

end

theorem quarters_apply (A : FVec Ideal S1x1024x2048 .f32) (x : FVec Ideal S1024x512 .bf16) (y₁ y₂ y₃ y₄ : FVec Ideal S512x512 .bf16)
    (i : Fin 1024) (n : Fin 2048) :
    quarters (F := Ideal) A x y₁ y₂ y₃ y₄ (ix3 0 i n) = A (ix3 0 i n)
      + ∑ p : Fin 512, x (ix2 i p) * four (fun p k => y₁ (ix2 p k)) (fun p k => y₂ (ix2 p k)) (fun p k => y₃ (ix2 p k)) (fun p k => y₄ (ix2 p k)) p n := by
  unfold quarters four
  by_cases h₀ : n.val < 512
  · simp only [dif_pos h₀]
    rw [side₀ _ _ _ _ i n h₀, pay7, ld_col A 0 _ i _ n (Nat.zero_add _).symm]
  by_cases h₁ : n.val < 1024
  · simp only [dif_neg h₀, dif_pos h₁]
    rw [side₁ _ _ _ _ i n h₀ h₁, pay8, ld_col A 512 _ i _ n (show n.val = 512 + (n.val - 512) by omega)]
  by_cases h₂ : n.val < 1536
  · simp only [dif_neg h₀, dif_neg h₁, dif_pos h₂]
    rw [side₂ _ _ _ _ i n h₀ h₁ h₂, pay9, ld_col A 1024 _ i _ n (show n.val = 1024 + (n.val - 1024) by omega)]
  · simp only [dif_neg h₀, dif_neg h₁, dif_neg h₂]
    rw [side₃ _ _ _ _ i n h₀ h₁ h₂, pay3, ld_col A 1536 _ i _ n (show n.val = 1536 + (n.val - 1536) by omega)]

end Dw.In

end
-- ==== Proof.Dw.InBlk.lean ====
/- The blocks of the input projection's weight gradient. -/
module

public import proofs.«01_k».proof.Proof.Dw.InPay
public import Idealize.ShloMosaic.Lib.Pipeline.ValueKit

@[expose] public section

set_option maxRecDepth 16384
set_option maxHeartbeats 400000

noncomputable section

namespace Dw.In

open Idealize.ShloMosaic Cert.Kernel3Ideal Cert.Kernel3Ideal.Gen Dw

variable (m : (ℓ : Loc nD τ Cert.Kernel3Ideal.sig) → Buf (Elt Ideal) ℓ) (c : Dev nD)

theorem points : cfg0.N = 64 := N_0
theorem point_lt (t : Fin cfg0.N) : t.val < 64 := lt_of_lt_of_eq t.isLt points
theorem block_lt (n : ℕ) : n % 16 < 16 := Nat.mod_lt _ (by norm_num)

/-- The blocks of the seven arrays at each point, where they are read. -/
theorem index_eq : ∀ t : Fin cfg0.N,
    win0_0.index t = ![0, t.val % 16]
    ∧ (t.val < 16 → win0_1.index t = ![t.val % 16, 0] ∧ win0_2.index t = ![t.val % 16, 0] ∧ win0_3.index t = ![t.val % 16, 0]
      ∧ win0_4.index t = ![t.val % 16, 0])
    ∧ (t.val / 16 = 1 → win0_5.index t = ![t.val % 16, 0]) ∧ (t.val / 16 = 2 → win0_5.index t = ![t.val % 16, 1])
    ∧ (48 ≤ t.val → win0_6.index t = ![t.val % 16, 0]) ∧ win0_7.index t = ![t.val / 16, 0, 0] ∧ win0_8.index t = ![t.val / 16, 0, 0] :=
  (by decide +kernel : ∀ t : Fin grid0.N,
    win0_0.index t = ![0, t.val % 16]
    ∧ (t.val < 16 → win0_1.index t = ![t.val % 16, 0] ∧ win0_2.index t = ![t.val % 16, 0] ∧ win0_3.index t = ![t.val % 16, 0]
      ∧ win0_4.index t = ![t.val % 16, 0])
    ∧ (t.val / 16 = 1 → win0_5.index t = ![t.val % 16, 0]) ∧ (t.val / 16 = 2 → win0_5.index t = ![t.val % 16, 1])
    ∧ (48 ≤ t.val → win0_6.index t = ![t.val % 16, 0]) ∧ win0_7.index t = ![t.val / 16, 0, 0] ∧ win0_8.index t = ![t.val / 16, 0, 0])

/-- The entries of the normed tokens and of the gradients they meet. -/
abbrev ent_h (s : Fin 8192) (i : Fin 1024) : EReal := V m c main_v19 (ix2 i s)
abbrev ent_q (s : Fin 8192) (k : Fin 512) : EReal := m ((c.tc : Thread nD τ).loc main_arg4) (ix2 s k)
abbrev ent_k (s : Fin 8192) (k : Fin 512) : EReal := m ((c.tc : Thread nD τ).loc main_arg5) (ix2 s k)
abbrev ent_v (s : Fin 8192) (k : Fin 512) : EReal := m ((c.tc : Thread nD τ).loc main_arg6) (ix2 s k)
abbrev ent_z (s : Fin 8192) (k : Fin 512) : EReal := m ((c.tc : Thread nD τ).loc main_arg7) (ix2 s k)
abbrev ent_m (s : Fin 8192) (n : Fin 4096) : EReal := m ((c.tc : Thread nD τ).loc main_arg8) (ix2 s n)
abbrev ent_g (s : Fin 8192) (n : Fin 2048) : EReal := m ((c.tc : Thread nD τ).loc main_arg9) (ix2 s n)

theorem blk0 (t : Fin cfg0.N) (i : Fin 1024) (p : Fin 512) :
    iblk m c 0 t (ix2 i p) = ent_h m c (tok (t.val % 16) (block_lt _) p) i := by
  obtain ⟨e, -⟩ := index_eq t
  blk_ext [iblk, tok, e]
theorem blk1 (t : Fin cfg0.N) (h : t.val < 16) (p k : Fin 512) :
    iblk m c 1 t (ix2 p k) = ent_q m c (tok (t.val % 16) (block_lt _) p) k := by
  unfold ent_q
  rw [← V_main_arg4 m c]
  obtain ⟨-, e', -⟩ := index_eq t
  obtain ⟨e, -, -, -⟩ := e' h
  blk_ext [iblk, tok, e]
theorem blk2 (t : Fin cfg0.N) (h : t.val < 16) (p k : Fin 512) :
    iblk m c 2 t (ix2 p k) = ent_k m c (tok (t.val % 16) (block_lt _) p) k := by
  unfold ent_k
  rw [← V_main_arg5 m c]
  obtain ⟨-, e', -⟩ := index_eq t
  obtain ⟨-, e, -, -⟩ := e' h
  blk_ext [iblk, tok, e]
theorem blk3 (t : Fin cfg0.N) (h : t.val < 16) (p k : Fin 512) :
    iblk m c 3 t (ix2 p k) = ent_v m c (tok (t.val % 16) (block_lt _) p) k := by
  unfold ent_v
  rw [← V_main_arg6 m c]
  obtain ⟨-, e', -⟩ := index_eq t
  obtain ⟨-, -, e, -⟩ := e' h
  blk_ext [iblk, tok, e]
theorem blk4 (t : Fin cfg0.N) (h : t.val < 16) (p k : Fin 512) :
    iblk m c 4 t (ix2 p k) = ent_z m c (tok (t.val % 16) (block_lt _) p) k := by
  unfold ent_z
  rw [← V_main_arg7 m c]
  obtain ⟨-, e', -⟩ := index_eq t
  obtain ⟨-, -, -, e⟩ := e' h
  blk_ext [iblk, tok, e]
theorem blk5 (t : Fin cfg0.N) (h : t.val / 16 = 1) (p : Fin 512) (n : Fin 2048) :
    iblk m c 5 t (ix2 p n) = ent_m m c (tok (t.val % 16) (block_lt _) p) ⟨n.val, by omega⟩ := by
  unfold ent_m
  rw [← V_main_arg8 m c]
  obtain ⟨-, -, e', -⟩ := index_eq t
  have e := e' h
  blk_ext [iblk, tok, e]
theorem blk5' (t : Fin cfg0.N) (h : t.val / 16 = 2) (p : Fin 512) (n : Fin 2048) :
    iblk m c 5 t (ix2 p n) = ent_m m c (tok (t.val % 16) (block_lt _) p) ⟨2048 + n.val, by omega⟩ := by
  unfold ent_m
  rw [← V_main_arg8 m c]
  obtain ⟨-, -, -, e', -⟩ := index_eq t
  have e := e' h
  blk_ext [iblk, tok, e]
theorem blk6 (t : Fin cfg0.N) (h : 48 ≤ t.val) (p : Fin 512) (n : Fin 2048) :
    iblk m c 6 t (ix2 p n) = ent_g m c (tok (t.val % 16) (block_lt _) p) n := by
  unfold ent_g
  rw [← V_main_arg9 m c]
  obtain ⟨-, -, -, -, e', -⟩ := index_eq t
  have e := e' h
  blk_ext [iblk, tok, e]

end Dw.In

end
-- ==== Proof.Dw.InKer.lean ====
/- What the input projection's weight gradient's result arrays hold after the run. -/
module

public import proofs.«01_k».proof.Proof.Dw.InBlk

@[expose] public section

set_option maxRecDepth 16384
set_option maxHeartbeats 400000

noncomputable section

namespace Dw.In

open Idealize.ShloMosaic Cert.Kernel3Ideal Cert.Kernel3Ideal.Gen Dw

/-- A block of 2048 columns of the projection's gradient: the four attention parts, the two blocks of the recurrence, the gates. -/
def block (q k v z : Fin 8192 → Fin 512 → EReal) (r : Fin 8192 → Fin 4096 → EReal) (g : Fin 8192 → Fin 2048 → EReal) (j : ℕ)
    (s : Fin 8192) (n : Fin 2048) : EReal :=
  if j = 0 then four q k v z s n
  else if j = 1 then r s ⟨n.val, by omega⟩
  else if j = 2 then r s ⟨2048 + n.val, by omega⟩
  else g s n

/-- A three-dimensional array entry by entry. -/
def arr3 {a b d : ℕ} (V : Fin a → Fin b → Fin d → EReal) : (⟨3, ![a, b, d]⟩ : Shape).Idx → EReal := fun i => V (i 0) (i 1) (i 2)

theorem eq_arr3 {a b d : ℕ} {v : (⟨3, ![a, b, d]⟩ : Shape).Idx → EReal} {V : Fin a → Fin b → Fin d → EReal}
    (h : ∀ i j k, v (ix3 i j k) = V i j k) : v = arr3 V := by
  funext i
  have e : i = ix3 (i 0) (i 1) (i 2) := by
    funext a
    match a with
    | ⟨0, _⟩ => rfl
    | ⟨1, _⟩ => rfl
    | ⟨2, _⟩ => rfl
  rw [e]
  exact h _ _ _

variable (m : (ℓ : Loc nD τ Cert.Kernel3Ideal.sig) → Buf (Elt Ideal) ℓ) (c : Dev nD)

/-- The gradient's columns. -/
abbrev ent_d (j : ℕ) (s : Fin 8192) (n : Fin 2048) : EReal :=
  block (ent_q m c) (ent_k m c) (ent_v m c) (ent_z m c) (ent_m m c) (ent_g m c) j s n

/-- What point `t` adds to an entry. -/
abbrev add (t : ℕ) (i : Fin 1024) (n : Fin 2048) : EReal :=
  ∑ p : Fin 512, ent_h m c (tok (t % 16) (block_lt _) p) i * ent_d m c (t / 16) (tok (t % 16) (block_lt _) p) n

section
variable (A : FVec Ideal S1x1024x2048 .f32) (t : Fin cfg0.N) (i : Fin 1024) (n : Fin 2048)

theorem add_0 (h : t.val < 16) :
    quarters (F := Ideal) A (iblk m c 0 t) (iblk m c 1 t) (iblk m c 2 t) (iblk m c 3 t) (iblk m c 4 t) (ix3 0 i n)
      = A (ix3 0 i n) + add m c t.val i n := by
  have hj : t.val / 16 = 0 := by omega
  refine (quarters_apply _ _ _ _ _ _ i n).trans (congrArg _ (Finset.sum_congr rfl fun p _ => ?_))
  rw [blk0]
  refine congrArg _ ?_
  unfold ent_d block
  rw [if_pos hj]
  unfold four
  simp only [blk1 m c t h, blk2 m c t h, blk3 m c t h, blk4 m c t h]

theorem add_1 (h : t.val / 16 = 1 ∨ t.val / 16 = 2) :
    k0_pay4 (F := Ideal) (iblk m c 0 t) A (iblk m c 5 t) (ix3 0 i n) = A (ix3 0 i n) + add m c t.val i n := by
  refine (pay4 _ _ _ i n).trans (congrArg _ (Finset.sum_congr rfl fun p _ => ?_))
  rw [blk0]
  refine congrArg _ ?_
  unfold ent_d block
  rcases h with hj | hj
  · rw [if_neg (by omega), if_pos hj, blk5 m c t hj]
  · rw [if_neg (by omega), if_neg (by omega), if_pos hj, blk5' m c t hj]

theorem add_3 (h : 48 ≤ t.val) :
    k0_pay5 (F := Ideal) (iblk m c 0 t) A (iblk m c 6 t) (ix3 0 i n) = A (ix3 0 i n) + add m c t.val i n := by
  have := point_lt t
  refine (pay5 _ _ _ i n).trans (congrArg _ (Finset.sum_congr rfl fun p _ => ?_))
  rw [blk0]
  refine congrArg _ ?_
  unfold ent_d block
  rw [if_neg (by omega), if_neg (by omega), if_neg (by omega), blk6 m c t h]

end

section
variable (t : Fin cfg0.N) (i : Fin 1024) (n : Fin 2048)

theorem first (h0 : t.val % 16 = 0) : (outsAt0 m c t.val t.isLt).1 (ix3 0 i n) = add m c t.val i n := by
  have hlt := point_lt t
  have h4 : ¬t.val % 16 = 15 := by omega
  by_cases h1 : t.val < 16
  · rw [outsAt0_A m c t h0 h1 (by omega) (by omega) h4]; dsimp only
    rw [readA7, add_0 m c _ t i n h1, pay1, zero_add]
  by_cases h3 : 48 ≤ t.val
  · rw [outsAt0_G m c t h0 h1 (by omega) h3 h4]; dsimp only
    rw [readG7, add_3 m c _ t i n h3, pay1, zero_add]
  · rw [outsAt0_D m c t h0 h1 (by omega) h3 h4]; dsimp only
    rw [readD7, add_1 m c _ t i n (by omega), pay1, zero_add]

theorem next (h0 : ¬t.val % 16 = 0) :
    (outsAt0 m c t.val t.isLt).1 (ix3 0 i n)
      = (outsAt0 m c (t.val - 1) (Nat.lt_of_le_of_lt (Nat.sub_le _ _) t.isLt)).1 (ix3 0 i n) + add m c t.val i n := by
  have hlt := point_lt t
  by_cases h1 : t.val < 16 <;> by_cases h4 : t.val % 16 = 15
  · rw [outsAt0_C m c t h0 h1 (by omega) (by omega) h4]; dsimp only
    rw [readC7, add_0 m c _ t i n h1]
  · rw [outsAt0_B m c t h0 h1 (by omega) (by omega) h4]; dsimp only
    rw [readB7, add_0 m c _ t i n h1]
  · by_cases h3 : 48 ≤ t.val
    · rw [outsAt0_I m c t h0 h1 (by omega) h3 h4]; dsimp only
      rw [readI7, add_3 m c _ t i n h3]
    · rw [outsAt0_F m c t h0 h1 (by omega) h3 h4]; dsimp only
      rw [readF7, add_1 m c _ t i n (by omega)]
  · by_cases h3 : 48 ≤ t.val
    · rw [outsAt0_H m c t h0 h1 (by omega) h3 h4]; dsimp only
      rw [readH7, add_3 m c _ t i n h3]
    · rw [outsAt0_E m c t h0 h1 (by omega) h3 h4]; dsimp only
      rw [readE7, add_1 m c _ t i n (by omega)]

/-- At a block's last point the rounded copy is the accumulator itself, over the reals. -/
theorem copy (h4 : t.val % 16 = 15) :
    @Eq EReal ((outsAt0 m c t.val t.isLt).2 (ix3 0 i n)) ((outsAt0 m c t.val t.isLt).1 (ix3 0 i n)) := by
  have hlt := point_lt t
  have h0 : ¬t.val % 16 = 0 := by omega
  by_cases h1 : t.val < 16
  · rw [outsAt0_C m c t h0 h1 (by omega) (by omega) h4]; dsimp only
    rw [readC7, readC8]; exact pay6 _ i n
  by_cases h3 : 48 ≤ t.val
  · rw [outsAt0_I m c t h0 h1 (by omega) h3 h4]; dsimp only
    rw [readI7, readI8]; exact pay6 _ i n
  · rw [outsAt0_F m c t h0 h1 (by omega) h3 h4]; dsimp only
    rw [readF7, readF8]; exact pay6 _ i n

end

/-- The weight's gradient, by blocks of 2048 columns. -/
abbrev grad_in (j : Fin 4) (i : Fin 1024) (n : Fin 2048) : EReal := ∑ s, ent_h m c s i * ent_d m c j.val s n

/-- An index of a block, its first coordinate zero. -/
theorem point3 (z : S1x1024x2048.Idx) : z = ix3 0 (z 1) (z 2) := by
  funext a
  match a with
  | ⟨0, _⟩ => exact Subsingleton.elim (α := Fin 1) _ _
  | ⟨1, _⟩ => rfl
  | ⟨2, _⟩ => rfl

theorem point_of (j : Fin 4) (k : ℕ) (h : k < 16) : j.val * 16 + k < cfg0.N := lt_of_lt_of_eq (by omega) points.symm

theorem acc (j : Fin 4) (i : Fin 1024) (n : Fin 2048) (k : ℕ) (h : k < 16) :
    (outsAt0 m c (j.val * 16 + k) (point_of j k h)).1 (ix3 0 i n) = upTo (fun s => ent_h m c s i * ent_d m c j.val s n) k := by
  have hadd : ∀ k (h : k < 16), add m c (j.val * 16 + k) i n
      = ∑ p, ent_h m c (tok k h p) i * ent_d m c j.val (tok k h p) n := fun k h => by
    have e1 : (j.val * 16 + k) % 16 = k := by omega
    have e2 : (j.val * 16 + k) / 16 = j.val := by omega
    unfold add
    simp only [e1, e2]
  refine acc_upTo _ (fun k h => (outsAt0 m c (j.val * 16 + k) (point_of j k h)).1 (ix3 0 i n)) (fun h => ?_) (fun k h => ?_) k h
  · exact (first m c ⟨j.val * 16 + 0, point_of j 0 h⟩ i n (show (j.val * 16 + 0) % 16 = 0 by omega)).trans (hadd 0 h)
  · exact (next m c ⟨j.val * 16 + (k + 1), point_of j (k + 1) h⟩ i n (show ¬(j.val * 16 + (k + 1)) % 16 = 0 by omega)).trans
      (congrArg _ (hadd (k + 1) h))

theorem total (t : Fin cfg0.N) (h4 : t.val % 16 = 15) (i : Fin 1024) (n : Fin 2048) :
    (outsAt0 m c t.val t.isLt).1 (ix3 0 i n) = grad_in m c ⟨t.val / 16, by have := point_lt t; omega⟩ i n := by
  have hlt := point_lt t
  obtain ⟨j, e⟩ : ∃ j : Fin 4, t = ⟨j.val * 16 + 15, point_of j 15 (by norm_num)⟩ :=
    ⟨⟨t.val / 16, by omega⟩, Fin.ext (by show t.val = t.val / 16 * 16 + 15; omega)⟩
  subst e
  refine ((acc m c j i n 15 (by norm_num)).trans (upTo_last _)).trans ?_
  have e2 : (⟨(j.val * 16 + 15) / 16, by omega⟩ : Fin 4) = j := Fin.ext (by show (j.val * 16 + 15) / 16 = j.val; omega)
  exact (congrArg (fun j => grad_in m c j i n) e2).symm

/-- A block is written back after its last point only. -/
theorem last_of_flush : ∀ t : Fin cfg0.N, ((win0_7.flush t = true ∨ win0_8.flush t = true) → t.val % 16 = 15) :=
  (by decide +kernel : ∀ t : Fin grid0.N, ((win0_7.flush t = true ∨ win0_8.flush t = true) → t.val % 16 = 15))

/-- The block of 2048 columns a point works on. -/
abbrev colBlock (t : Fin cfg0.N) : Fin 4 := ⟨t.val / 16, by have := point_lt t; omega⟩

theorem arr7 : (dats m 0 c).arrAt 7 cfg0.N = arr3 (grad_in m c) := by
  refine (dats m 0 c).arrAt_eq_of_covers 7 _ (by decide +kernel) fun t hf z => ?_
  have h4 := last_of_flush t (Or.inl hf)
  obtain ⟨-, -, -, -, -, e, -⟩ := index_eq t
  blk_simp
  rw [after0_7]
  have e1 : (outsAt0 m c t.val t.isLt).1 = fun z : S1x1024x2048.Idx => grad_in m c (colBlock t) (z 1) (z 2) :=
    funext fun z => (congrArg (outsAt0 m c t.val t.isLt).1 (point3 z)).trans (total m c t h4 (z 1) (z 2))
  refine (congrFun e1 z).trans ?_
  refine Eq.trans (b := arr3 (grad_in m c) (ix3 (colBlock t) (z 1) (z 2))) rfl ?_
  blk_ext [e]

theorem arr8 : (dats m 0 c).arrAt 8 cfg0.N = arr3 (grad_in m c) := by
  refine (dats m 0 c).arrAt_eq_of_covers 8 _ (by decide +kernel) fun t hf z => ?_
  have h4 := last_of_flush t (Or.inr hf)
  obtain ⟨-, -, -, -, -, -, e⟩ := index_eq t
  blk_simp
  rw [after0_8]
  have e1 : (outsAt0 m c t.val t.isLt).2 = fun z : S1x1024x2048.Idx => grad_in m c (colBlock t) (z 1) (z 2) :=
    funext fun z => (congrArg (outsAt0 m c t.val t.isLt).2 (point3 z)).trans
      ((copy m c t (z 1) (z 2) h4).trans (total m c t h4 (z 1) (z 2)))
  refine (congrFun e1 z).trans ?_
  refine Eq.trans (b := arr3 (grad_in m c) (ix3 (colBlock t) (z 1) (z 2))) rfl ?_
  blk_ext [e]

end Dw.In

end
-- ==== Proof.Dw.InValue.lean ====
/- The certificate of the input projection's weight gradient. -/
module

public import proofs.«01_k».proof.Defs
public import proofs.«01_k».proof.Proof.Dw.InKer
public import proofs.«01_k».proof.Proof.Gen.Reference3Ideal.Run
public import proofs.«01_k».proof.Proof.Gen.Kernel3Ideal.Value
public import Idealize.ShloMosaic.Lib.Pointwise
public import Idealize.ShloMosaic.Lib.StableHlo.ReadAt

@[expose] public section

set_option maxRecDepth 16384
set_option maxHeartbeats 400000

noncomputable section

namespace Dw.In

open Idealize.ShloMosaic Idealize.SL.Sem Dw

/-- The reference's frame. -/
theorem frame_ref : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

section
open Cert.Reference3Ideal Cert.Reference3Ideal.Gen

/-- The tokens after the norm and the modulation. -/
def normed (x0 : FVec Ideal S8192x1024 .f32) (x1 x2 x3 : FVec Ideal S1x1024 .f32) : FVec Ideal S8192x1024 .f32 :=
  addf (mulf (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) (broadcastInDim S8192x1024 ![0, 1] bcast_S1x1024_S8192x1024_0_1 (addf (broadcastInDim S1x1024 ![] bcast_S_S1x1024 (constant S_ .f32 0x3F800000#32)) x2))) (broadcastInDim S8192x1024 ![0, 1] bcast_S1x1024_S8192x1024_0_1 x3)

/-- The parts the reference lays side by side, read at column `N`. -/
theorem pick (q k v z : Fin 8192 → Fin 512 → EReal) (r : Fin 8192 → Fin 4096 → EReal) (g : Fin 8192 → Fin 2048 → EReal) (s : Fin 8192)
    (j : ℕ) (n : Fin 2048) (N : ℕ) (hN : N < 8192) (e : N = j * 2048 + n.val) :
    (if h : N < 512 then q s ⟨N, h⟩
      else if h : N - 512 < 512 then k s ⟨N - 512, h⟩
      else if h : N - 512 - 512 < 512 then v s ⟨N - 512 - 512, h⟩
      else if h : N - 512 - 512 - 512 < 512 then z s ⟨N - 512 - 512 - 512, h⟩
      else if h : N - 512 - 512 - 512 - 512 < 4096 then r s ⟨N - 512 - 512 - 512 - 512, h⟩
      else g s ⟨N - 512 - 512 - 512 - 512 - 4096, by omega⟩) = block q k v z r g j s n := by
  have hn := n.isLt
  unfold block four
  split_ifs <;> first
    | (exfalso; omega)
    | exact congrArg _ (Fin.ext (by dsimp only; omega))

/-- The gradient of the weight as the reference lays it out. -/
def refOut (H : FVec Ideal S8192x1024 .f32) (x4 x5 x6 x7 : FVec Ideal S8192x512 .bf16) (x8 : FVec Ideal S8192x4096 .bf16)
    (x9 : FVec Ideal S8192x2048 .bf16) : FVec Ideal S4x1024x2048 .f32 :=
  transpose S4x1024x2048 [1, 0, 2] (shapeCast S1024x4x2048 (transpose S1024x8192 [1, 0] (Host.dotGeneral (φ₁ := .f32) dot_S8192x8192_S8192x1024_S8192x1024_0_0_1_1_n_n none ((concatenate S8192x8192 1 [⟨S8192x512, ((extf .f32 x4 bitsLt_bf16_f32) : (⟨S8192x512, .f32⟩ : BufTy).Contents (Elt Ideal))⟩, ⟨S8192x512, ((extf .f32 x5 bitsLt_bf16_f32) : (⟨S8192x512, .f32⟩ : BufTy).Contents (Elt Ideal))⟩, ⟨S8192x512, ((extf .f32 x6 bitsLt_bf16_f32) : (⟨S8192x512, .f32⟩ : BufTy).Contents (Elt Ideal))⟩, ⟨S8192x512, ((extf .f32 x7 bitsLt_bf16_f32) : (⟨S8192x512, .f32⟩ : BufTy).Contents (Elt Ideal))⟩, ⟨S8192x4096, ((extf .f32 x8 bitsLt_bf16_f32) : (⟨S8192x4096, .f32⟩ : BufTy).Contents (Elt Ideal))⟩, ⟨S8192x2048, ((extf .f32 x9 bitsLt_bf16_f32) : (⟨S8192x2048, .f32⟩ : BufTy).Contents (Elt Ideal))⟩] concatenates_S8192x512_S8192x512_S8192x512_S8192x512_S8192x4096_S8192x2048_S8192x8192_d1 : (⟨S8192x8192, .f32⟩ : BufTy).Contents (Elt Ideal))) H) transposes_S8192x1024_S1024x8192_1_0) shapeCasts_S1024x8192_S1024x4x2048) transposes_S1024x4x2048_S4x1024x2048_1_0_2

theorem refOut_apply (H : FVec Ideal S8192x1024 .f32) (x4 x5 x6 x7 : FVec Ideal S8192x512 .bf16) (x8 : FVec Ideal S8192x4096 .bf16)
    (x9 : FVec Ideal S8192x2048 .bf16) (j : Fin 4) (i : Fin 1024) (n : Fin 2048) :
    @Eq EReal (refOut H x4 x5 x6 x7 x8 x9 (ix3 j i n)) (∑ s : Fin 8192, (H (ix2 s i) : EReal)
      * block (fun s k => x4 (ix2 s k)) (fun s k => x5 (ix2 s k)) (fun s k => x6 (ix2 s k)) (fun s k => x7 (ix2 s k))
          (fun s k => x8 (ix2 s k)) (fun s k => x9 (ix2 s k)) j.val s n) := by
  have hn := n.isLt
  fin_cases j <;>
  · unfold refOut
    pointwise
    refine Finset.sum_congr rfl fun s _ => (mul_comm _ _).trans (congrArg _ ?_)
    refine pick (fun s k => x4 (ix2 s k)) (fun s k => x5 (ix2 s k)) (fun s k => x6 (ix2 s k)) (fun s k => x7 (ix2 s k))
      (fun s k => x8 (ix2 s k)) (fun s k => x9 (ix2 s k)) s _ n _ ?_ ?_
    · omega
    · simp <;> omega

end

section
open Cert.Kernel3Ideal Cert.Kernel3Ideal.Gen

variable (m : (ℓ : Loc nD τ Cert.Kernel3Ideal.sig) → Buf (Elt Ideal) ℓ) (c : Dev nD)

/-- The kernel's tokens, transposed, are the reference's. -/
theorem ent_h_eq (s : Fin 8192) (i : Fin 1024) : @Eq EReal (ent_h m c s i)
    (normed (m ((c.tc : Thread nD τ).loc main_arg0)) (m ((c.tc : Thread nD τ).loc main_arg1))
      (m ((c.tc : Thread nD τ).loc main_arg2)) (m ((c.tc : Thread nD τ).loc main_arg3)) (ix2 s i)) := by
  unfold ent_h V
  after_reads_at
  pointwise [normed]

end

/-- The kernel and the reference compute the same two arrays. -/
theorem value : Cert.algebraic_Kernel3Ideal_Reference3Ideal := by
  intro m g m' g' _ hagree
  refine ⟨fun c => arr3 (grad_in m c), fun c => arr3 (grad_in m c), ?_, ?_⟩
  · refine (θ_run _ _ _).mono (fun r h c => ?_) (Cert.Kernel3Ideal.Value.run_blocks (F := Ideal) m g)
    obtain ⟨h7, h8, hargs⟩ := h c
    exact ⟨h7.trans (arr7 m c), h8.trans (arr8 m c), hargs⟩
  · refine (θ_run _ _ _).mono (fun r h c => ?_) (Cert.Reference3Ideal.Value.run (F := Ideal) m' g')
    obtain ⟨e0, e1, e2, e3, e4, e5, e6, e7, e8, e9⟩ := hagree c
    obtain ⟨h7, h8, hargs⟩ := h c
    rw [e0, e1, e2, e3, e4, e5, e6, e7, e8, e9] at h7 h8
    have hv : ∀ j i n, @Eq EReal (refOut (normed (m ((c.tc : Thread _ _).loc Cert.Kernel3Ideal.main_arg0))
        (m ((c.tc : Thread _ _).loc Cert.Kernel3Ideal.main_arg1)) (m ((c.tc : Thread _ _).loc Cert.Kernel3Ideal.main_arg2))
        (m ((c.tc : Thread _ _).loc Cert.Kernel3Ideal.main_arg3))) (m ((c.tc : Thread _ _).loc Cert.Kernel3Ideal.main_arg4))
        (m ((c.tc : Thread _ _).loc Cert.Kernel3Ideal.main_arg5)) (m ((c.tc : Thread _ _).loc Cert.Kernel3Ideal.main_arg6))
        (m ((c.tc : Thread _ _).loc Cert.Kernel3Ideal.main_arg7)) (m ((c.tc : Thread _ _).loc Cert.Kernel3Ideal.main_arg8))
        (m ((c.tc : Thread _ _).loc Cert.Kernel3Ideal.main_arg9)) (ix3 j i n)) (grad_in m c j i n) := fun j i n =>
      (refOut_apply _ _ _ _ _ _ _ j i n).trans (Finset.sum_congr rfl fun s _ =>
        congrArg (fun x : EReal => x * ent_d m c j.val s n) (ent_h_eq m c s i).symm)
    exact ⟨h7.trans (eq_arr3 hv), h8.trans (eq_arr3 hv), hargs⟩

end Dw.In

end
-- ==== Proof.Dw.SmallRead.lean ====
/- The body of the three products, read back: what each case's run leaves in the six output buffers. -/
module

public import proofs.«01_k».proof.Proof.Gen.Kernel4Ideal.Value
public import Idealize.ShloMosaic.Lib.WritesUnit
public import Idealize.ShloMosaic.Lib.VecWindow
public import Idealize.ShloMosaic.Lib.Pipeline.ValueKit

@[expose] public section

set_option maxRecDepth 16384
set_option maxHeartbeats 1000000

noncomputable section

namespace Dw

open Cert.Kernel4Ideal Cert.Kernel4Ideal.Gen Idealize.ShloMosaic Idealize.ShloMosaic.TcCoe Idealize.ShloMosaic.Tactic

variable {F : FTy → Type} [FloatOps F]

section
variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x512 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S1024x1024 .f32) (harg11 : arg11.IsWhole) (arg12 : Memref sig .tc .vmem S1024x1024 .bf16) (harg12 : arg12.IsWhole)
  (x0 : Vec F S512x1024 .bf16) (x1 : Vec F S512x1024 .bf16) (x2 : Vec F S512x512 .bf16) (x3 : Vec F S512x1024 .bf16)
  (x4 : Vec F S512x1024 .bf16) (x5 : Vec F S512x1024 .bf16)
  (a6 : Vec F S1024x1024 .f32) (a8 : Vec F S512x1024 .f32) (a10 : Vec F S1024x1024 .f32)

theorem readA6 (hc0 : cond0_0 i) (hc1 : ¬cond0_1 i) :
    out0_A_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay7 k0_pay4 x0 x1 := by
  unfold out0_A_6 kernelRun0_A
  dsimp only
  sl_unfold_words
  simp (disch := decide) only [View.readAt_eq_ld, Memref.IsWhole.read_unread, View.ld_unit_lit', View.readCov_unit_lit']
  exact View.read_writes_full (s := _) _ _ _ _ _

theorem readA8 (hc0 : cond0_0 i) (hc1 : ¬cond0_1 i) :
    out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay8 k0_pay5 x2 x3 := by
  unfold out0_A_8 kernelRun0_A
  dsimp only
  sl_unfold_words
  simp (disch := decide) only [View.readAt_eq_ld, Memref.IsWhole.read_unread, View.ld_unit_lit', View.readCov_unit_lit']
  exact View.read_writes_full (s := _) _ _ _ _ _

theorem readA10 (hc0 : cond0_0 i) (hc1 : ¬cond0_1 i) :
    out0_A_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay9 k0_pay6 x4 x5 := by
  unfold out0_A_10 kernelRun0_A
  dsimp only
  sl_unfold_words
  simp (disch := decide) only [View.readAt_eq_ld, Memref.IsWhole.read_unread, View.ld_unit_lit', View.readCov_unit_lit']
  exact View.read_writes_full (s := _) _ _ _ _ _

theorem readB6 (hc0 : ¬cond0_0 i) (hc1 : ¬cond0_1 i) :
    out0_B_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 a6 a8 a10 = k0_pay7 a6 x0 x1 := by
  unfold out0_B_6 kernelRun0_B
  dsimp only
  sl_unfold_words
  simp (disch := decide) only [View.readAt_eq_ld, Memref.IsWhole.read_unread, View.ld_unit_lit', View.readCov_unit_lit']
  exact View.read_writes_full (s := _) _ _ _ _ _

theorem readB8 (hc0 : ¬cond0_0 i) (hc1 : ¬cond0_1 i) :
    out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 a6 a8 a10 = k0_pay8 a8 x2 x3 := by
  unfold out0_B_8 kernelRun0_B
  dsimp only
  sl_unfold_words
  simp (disch := decide) only [View.readAt_eq_ld, Memref.IsWhole.read_unread, View.ld_unit_lit', View.readCov_unit_lit']
  exact View.read_writes_full (s := _) _ _ _ _ _

theorem readB10 (hc0 : ¬cond0_0 i) (hc1 : ¬cond0_1 i) :
    out0_B_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 a6 a8 a10 = k0_pay9 a10 x4 x5 := by
  unfold out0_B_10 kernelRun0_B
  dsimp only
  sl_unfold_words
  simp (disch := decide) only [View.readAt_eq_ld, Memref.IsWhole.read_unread, View.ld_unit_lit', View.readCov_unit_lit']
  exact View.read_writes_full (s := _) _ _ _ _ _

theorem readS6 (hc0 : ¬cond0_0 i) (hc1 : cond0_1 i) :
    out0_C_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 a6 a8 a10 = k0_pay7 a6 x0 x1 := by
  unfold out0_C_6 kernelRun0_C
  dsimp only
  sl_unfold_words
  simp (disch := decide) only [View.readAt_eq_ld, Memref.IsWhole.read_unread, View.ld_unit_lit', View.readCov_unit_lit']
  exact View.read_writes_full (s := _) _ _ _ _ _

theorem readS7 (hc0 : ¬cond0_0 i) (hc1 : cond0_1 i) :
    out0_C_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 a6 a8 a10 = k0_pay1 (k0_pay7 a6 x0 x1) := by
  unfold out0_C_7 kernelRun0_C
  dsimp only
  sl_unfold_words
  simp (disch := decide) only [View.readAt_eq_ld, Memref.IsWhole.read_unread, View.ld_unit_lit', View.readCov_unit_lit']
  exact View.read_writes_full (s := _) _ _ _ _ _

theorem readS8 (hc0 : ¬cond0_0 i) (hc1 : cond0_1 i) :
    out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 a6 a8 a10 = k0_pay8 a8 x2 x3 := by
  unfold out0_C_8 kernelRun0_C
  dsimp only
  sl_unfold_words
  simp (disch := decide) only [View.readAt_eq_ld, Memref.IsWhole.read_unread, View.ld_unit_lit', View.readCov_unit_lit']
  exact View.read_writes_full (s := _) _ _ _ _ _

theorem readS9 (hc0 : ¬cond0_0 i) (hc1 : cond0_1 i) :
    out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 a6 a8 a10 = k0_pay2 (k0_pay8 a8 x2 x3) := by
  unfold out0_C_9 kernelRun0_C
  dsimp only
  sl_unfold_words
  simp (disch := decide) only [View.readAt_eq_ld, Memref.IsWhole.read_unread, View.ld_unit_lit', View.readCov_unit_lit']
  exact View.read_writes_full (s := _) _ _ _ _ _

theorem readS10 (hc0 : ¬cond0_0 i) (hc1 : cond0_1 i) :
    out0_C_10 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 a6 a8 a10 = k0_pay9 a10 x4 x5 := by
  unfold out0_C_10 kernelRun0_C
  dsimp only
  sl_unfold_words
  simp (disch := decide) only [View.readAt_eq_ld, Memref.IsWhole.read_unread, View.ld_unit_lit', View.readCov_unit_lit']
  exact View.read_writes_full (s := _) _ _ _ _ _

theorem readS11 (hc0 : ¬cond0_0 i) (hc1 : cond0_1 i) :
    out0_C_11 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 a6 a8 a10 = k0_pay3 (k0_pay9 a10 x4 x5) := by
  unfold out0_C_11 kernelRun0_C
  dsimp only
  sl_unfold_words
  simp (disch := decide) only [View.readAt_eq_ld, Memref.IsWhole.read_unread, View.ld_unit_lit', View.readCov_unit_lit']
  exact View.read_writes_full (s := _) _ _ _ _ _

end

end Dw

end
-- ==== Proof.Dw.SmallKer.lean ====
/- What the three products' result arrays hold after the run. -/
module

public import proofs.«01_k».proof.Proof.Dw.SmallRead
public import proofs.«01_k».proof.Proof.Dw.Sums
public import Idealize.ShloMosaic.Lib.Claim

@[expose] public section

set_option maxRecDepth 16384
set_option maxHeartbeats 400000

noncomputable section

namespace Dw.Small

open Idealize.ShloMosaic Cert.Kernel4Ideal Cert.Kernel4Ideal.Gen Dw

/-! ## One block of tokens -/

theorem pay7 (A : FVec Ideal S1024x1024 .f32) (x y : FVec Ideal S512x1024 .bf16) (i j : Fin 1024) :
    k0_pay7 A x y (ix2 i j) = A (ix2 i j) + ∑ p : Fin 512, x (ix2 p i) * y (ix2 p j) := by
  pointwise [k0_pay7]

theorem pay8 (A : FVec Ideal S512x1024 .f32) (x : FVec Ideal S512x512 .bf16) (y : FVec Ideal S512x1024 .bf16) (i : Fin 512)
    (j : Fin 1024) : k0_pay8 A x y (ix2 i j) = A (ix2 i j) + ∑ p : Fin 512, x (ix2 p i) * y (ix2 p j) := by
  pointwise [k0_pay8]

theorem pay9 (A : FVec Ideal S1024x1024 .f32) (x y : FVec Ideal S512x1024 .bf16) (i j : Fin 1024) :
    k0_pay9 A x y (ix2 i j) = A (ix2 i j) + ∑ p : Fin 512, x (ix2 p i) * y (ix2 p j) := by
  pointwise [k0_pay9]

theorem pay4 (i j : Fin 1024) : k0_pay4 (F := Ideal) (ix2 i j) = 0 := by pointwise [k0_pay4]
theorem pay5 (i : Fin 512) (j : Fin 1024) : k0_pay5 (F := Ideal) (ix2 i j) = 0 := by pointwise [k0_pay5]
theorem pay6 (i j : Fin 1024) : k0_pay6 (F := Ideal) (ix2 i j) = 0 := by pointwise [k0_pay6]
theorem pay1 (A : FVec Ideal S1024x1024 .f32) (i : Fin 1024) (j : Fin 1024) :
    @Eq EReal (k0_pay1 (F := Ideal) A (ix2 i j)) (A (ix2 i j)) := by
  pointwise [k0_pay1]
theorem pay2 (A : FVec Ideal S512x1024 .f32) (i : Fin 512) (j : Fin 1024) :
    @Eq EReal (k0_pay2 (F := Ideal) A (ix2 i j)) (A (ix2 i j)) := by
  pointwise [k0_pay2]
theorem pay3 (A : FVec Ideal S1024x1024 .f32) (i : Fin 1024) (j : Fin 1024) :
    @Eq EReal (k0_pay3 (F := Ideal) A (ix2 i j)) (A (ix2 i j)) := by
  pointwise [k0_pay3]

/-! ## The blocks -/

variable (m : (ℓ : Loc nD τ Cert.Kernel4Ideal.sig) → Buf (Elt Ideal) ℓ) (c : Dev nD)

theorem points : cfg0.N = 16 := N_0
theorem point_lt (t : Fin cfg0.N) : t.val < 16 := lt_of_lt_of_eq t.isLt points

/-- The blocks of the token arrays go with the point. -/
theorem index_eq : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0] :=
  (by decide +kernel : ∀ t : Fin grid0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0])

theorem blk0 (t : Fin cfg0.N) (i : Fin 512) (j : Fin 1024) :
    iblk m c 0 t (ix2 i j) = m ((c.tc : Thread nD τ).loc main_arg0) (ix2 (tok t.val (point_lt t) i) j) := by
  rw [← V_main_arg0 m c]
  obtain ⟨e, -⟩ := index_eq t
  blk_ext [iblk, tok, e]
theorem blk1 (t : Fin cfg0.N) (i : Fin 512) (j : Fin 1024) :
    iblk m c 1 t (ix2 i j) = m ((c.tc : Thread nD τ).loc main_arg1) (ix2 (tok t.val (point_lt t) i) j) := by
  rw [← V_main_arg1 m c]
  obtain ⟨-, e, -⟩ := index_eq t
  blk_ext [iblk, tok, e]
theorem blk2 (t : Fin cfg0.N) (i : Fin 512) (j : Fin 512) :
    iblk m c 2 t (ix2 i j) = m ((c.tc : Thread nD τ).loc main_arg2) (ix2 (tok t.val (point_lt t) i) j) := by
  rw [← V_main_arg2 m c]
  obtain ⟨-, -, e, -⟩ := index_eq t
  blk_ext [iblk, tok, e]
theorem blk3 (t : Fin cfg0.N) (i : Fin 512) (j : Fin 1024) :
    iblk m c 3 t (ix2 i j) = m ((c.tc : Thread nD τ).loc main_arg3) (ix2 (tok t.val (point_lt t) i) j) := by
  rw [← V_main_arg3 m c]
  obtain ⟨-, -, -, e, -⟩ := index_eq t
  blk_ext [iblk, tok, e]
theorem blk4 (t : Fin cfg0.N) (i : Fin 512) (j : Fin 1024) :
    iblk m c 4 t (ix2 i j) = m ((c.tc : Thread nD τ).loc main_arg4) (ix2 (tok t.val (point_lt t) i) j) := by
  rw [← V_main_arg4 m c]
  obtain ⟨-, -, -, -, e, -⟩ := index_eq t
  blk_ext [iblk, tok, e]
theorem blk5 (t : Fin cfg0.N) (i : Fin 512) (j : Fin 1024) :
    iblk m c 5 t (ix2 i j) = m ((c.tc : Thread nD τ).loc main_arg5) (ix2 (tok t.val (point_lt t) i) j) := by
  rw [← V_main_arg5 m c]
  obtain ⟨-, -, -, -, -, e⟩ := index_eq t
  blk_ext [iblk, tok, e]

/-! ## The accumulators -/

theorem first6 (t : Fin cfg0.N) (h0 : t.val % 16 = 0) :
    (outsAt0 m c t.val t.isLt).1 = k0_pay7 k0_pay4 (iblk m c 0 t) (iblk m c 1 t) := by
  have h1 : ¬t.val % 16 = 15 := by omega
  rw [outsAt0_A m c t h0 h1]; dsimp only; rw [readA6]

theorem next6 (t : Fin cfg0.N) (h0 : ¬t.val % 16 = 0) :
    (outsAt0 m c t.val t.isLt).1 = k0_pay7 (outsAt0 m c (t.val - 1) (Nat.lt_of_le_of_lt (Nat.sub_le _ _) t.isLt)).1
      (iblk m c 0 t) (iblk m c 1 t) := by
  by_cases h1 : t.val % 16 = 15
  · rw [outsAt0_C m c t h0 h1]; dsimp only; rw [readS6]
  · rw [outsAt0_B m c t h0 h1]; dsimp only; rw [readB6]

/-- At the last point the rounded copy is the accumulator itself, over the reals. -/
theorem copy7 (t : Fin cfg0.N) (h1 : t.val % 16 = 15) (i : Fin 1024) (j : Fin 1024) :
    @Eq EReal ((outsAt0 m c t.val t.isLt).2.1 (ix2 i j)) ((outsAt0 m c t.val t.isLt).1 (ix2 i j)) := by
  have h0 : ¬t.val % 16 = 0 := by omega
  rw [outsAt0_C m c t h0 h1]; dsimp only; rw [readS6, readS7]; exact pay1 _ i j

/-- The entries of the two arrays of the product, and the gradient of the weight. -/
abbrev act6 (s : Fin 8192) (i : Fin 1024) : EReal := m ((c.tc : Thread nD τ).loc main_arg0) (ix2 s i)
abbrev cot6 (s : Fin 8192) (j : Fin 1024) : EReal := m ((c.tc : Thread nD τ).loc main_arg1) (ix2 s j)
abbrev grad6 : Fin 1024 → Fin 1024 → EReal :=
  grad (act6 m c) (cot6 m c)

theorem acc6 (n : ℕ) (h : n < 16) (i : Fin 1024) (j : Fin 1024) :
    (outsAt0 m c n (lt_of_lt_of_eq h points.symm)).1 (ix2 i j)
      = upTo (fun s => act6 m c s i * cot6 m c s j) n := by
  refine acc_upTo _ (fun n h => (outsAt0 m c n (lt_of_lt_of_eq h points.symm)).1 (ix2 i j)) (fun h => ?_) (fun n h => ?_) n h
  · have e := first6 m c ⟨0, lt_of_lt_of_eq h points.symm⟩ rfl
    dsimp only at e ⊢
    rw [e, pay7, pay4, zero_add]
    exact Finset.sum_congr rfl fun p _ => by rw [blk0, blk1]
  · have e := next6 m c ⟨n + 1, lt_of_lt_of_eq h points.symm⟩ (show ¬(n + 1) % 16 = 0 by omega)
    dsimp only at e ⊢
    rw [e, pay7]
    exact congrArg _ (Finset.sum_congr rfl fun p _ => by rw [blk0, blk1])

theorem first8 (t : Fin cfg0.N) (h0 : t.val % 16 = 0) :
    (outsAt0 m c t.val t.isLt).2.2.1 = k0_pay8 k0_pay5 (iblk m c 2 t) (iblk m c 3 t) := by
  have h1 : ¬t.val % 16 = 15 := by omega
  rw [outsAt0_A m c t h0 h1]; dsimp only; rw [readA8]

theorem next8 (t : Fin cfg0.N) (h0 : ¬t.val % 16 = 0) :
    (outsAt0 m c t.val t.isLt).2.2.1 = k0_pay8 (outsAt0 m c (t.val - 1) (Nat.lt_of_le_of_lt (Nat.sub_le _ _) t.isLt)).2.2.1
      (iblk m c 2 t) (iblk m c 3 t) := by
  by_cases h1 : t.val % 16 = 15
  · rw [outsAt0_C m c t h0 h1]; dsimp only; rw [readS8]
  · rw [outsAt0_B m c t h0 h1]; dsimp only; rw [readB8]

/-- At the last point the rounded copy is the accumulator itself, over the reals. -/
theorem copy9 (t : Fin cfg0.N) (h1 : t.val % 16 = 15) (i : Fin 512) (j : Fin 1024) :
    @Eq EReal ((outsAt0 m c t.val t.isLt).2.2.2.1 (ix2 i j)) ((outsAt0 m c t.val t.isLt).2.2.1 (ix2 i j)) := by
  have h0 : ¬t.val % 16 = 0 := by omega
  rw [outsAt0_C m c t h0 h1]; dsimp only; rw [readS8, readS9]; exact pay2 _ i j

/-- The entries of the two arrays of the product, and the gradient of the weight. -/
abbrev act8 (s : Fin 8192) (i : Fin 512) : EReal := m ((c.tc : Thread nD τ).loc main_arg2) (ix2 s i)
abbrev cot8 (s : Fin 8192) (j : Fin 1024) : EReal := m ((c.tc : Thread nD τ).loc main_arg3) (ix2 s j)
abbrev grad8 : Fin 512 → Fin 1024 → EReal :=
  grad (act8 m c) (cot8 m c)

theorem acc8 (n : ℕ) (h : n < 16) (i : Fin 512) (j : Fin 1024) :
    (outsAt0 m c n (lt_of_lt_of_eq h points.symm)).2.2.1 (ix2 i j)
      = upTo (fun s => act8 m c s i * cot8 m c s j) n := by
  refine acc_upTo _ (fun n h => (outsAt0 m c n (lt_of_lt_of_eq h points.symm)).2.2.1 (ix2 i j)) (fun h => ?_) (fun n h => ?_) n h
  · have e := first8 m c ⟨0, lt_of_lt_of_eq h points.symm⟩ rfl
    dsimp only at e ⊢
    rw [e, pay8, pay5, zero_add]
    exact Finset.sum_congr rfl fun p _ => by rw [blk2, blk3]
  · have e := next8 m c ⟨n + 1, lt_of_lt_of_eq h points.symm⟩ (show ¬(n + 1) % 16 = 0 by omega)
    dsimp only at e ⊢
    rw [e, pay8]
    exact congrArg _ (Finset.sum_congr rfl fun p _ => by rw [blk2, blk3])

theorem first10 (t : Fin cfg0.N) (h0 : t.val % 16 = 0) :
    (outsAt0 m c t.val t.isLt).2.2.2.2.1 = k0_pay9 k0_pay6 (iblk m c 4 t) (iblk m c 5 t) := by
  have h1 : ¬t.val % 16 = 15 := by omega
  rw [outsAt0_A m c t h0 h1]; dsimp only; rw [readA10]

theorem next10 (t : Fin cfg0.N) (h0 : ¬t.val % 16 = 0) :
    (outsAt0 m c t.val t.isLt).2.2.2.2.1 = k0_pay9 (outsAt0 m c (t.val - 1) (Nat.lt_of_le_of_lt (Nat.sub_le _ _) t.isLt)).2.2.2.2.1
      (iblk m c 4 t) (iblk m c 5 t) := by
  by_cases h1 : t.val % 16 = 15
  · rw [outsAt0_C m c t h0 h1]; dsimp only; rw [readS10]
  · rw [outsAt0_B m c t h0 h1]; dsimp only; rw [readB10]

/-- At the last point the rounded copy is the accumulator itself, over the reals. -/
theorem copy11 (t : Fin cfg0.N) (h1 : t.val % 16 = 15) (i : Fin 1024) (j : Fin 1024) :
    @Eq EReal ((outsAt0 m c t.val t.isLt).2.2.2.2.2 (ix2 i j)) ((outsAt0 m c t.val t.isLt).2.2.2.2.1 (ix2 i j)) := by
  have h0 : ¬t.val % 16 = 0 := by omega
  rw [outsAt0_C m c t h0 h1]; dsimp only; rw [readS10, readS11]; exact pay3 _ i j

/-- The entries of the two arrays of the product, and the gradient of the weight. -/
abbrev act10 (s : Fin 8192) (i : Fin 1024) : EReal := m ((c.tc : Thread nD τ).loc main_arg4) (ix2 s i)
abbrev cot10 (s : Fin 8192) (j : Fin 1024) : EReal := m ((c.tc : Thread nD τ).loc main_arg5) (ix2 s j)
abbrev grad10 : Fin 1024 → Fin 1024 → EReal :=
  grad (act10 m c) (cot10 m c)

theorem acc10 (n : ℕ) (h : n < 16) (i : Fin 1024) (j : Fin 1024) :
    (outsAt0 m c n (lt_of_lt_of_eq h points.symm)).2.2.2.2.1 (ix2 i j)
      = upTo (fun s => act10 m c s i * cot10 m c s j) n := by
  refine acc_upTo _ (fun n h => (outsAt0 m c n (lt_of_lt_of_eq h points.symm)).2.2.2.2.1 (ix2 i j)) (fun h => ?_) (fun n h => ?_) n h
  · have e := first10 m c ⟨0, lt_of_lt_of_eq h points.symm⟩ rfl
    dsimp only at e ⊢
    rw [e, pay9, pay6, zero_add]
    exact Finset.sum_congr rfl fun p _ => by rw [blk4, blk5]
  · have e := next10 m c ⟨n + 1, lt_of_lt_of_eq h points.symm⟩ (show ¬(n + 1) % 16 = 0 by omega)
    dsimp only at e ⊢
    rw [e, pay9]
    exact congrArg _ (Finset.sum_congr rfl fun p _ => by rw [blk4, blk5])

/-- The last point. -/
def lastPoint : Fin cfg0.N := ⟨15, lt_of_lt_of_eq (by norm_num) points.symm⟩

theorem total6 : (outsAt0 m c 15 lastPoint.isLt).1 = arr2 (grad6 m c) :=
  eq_arr2 fun i j => (acc6 m c 15 (by norm_num) i j).trans (upTo_last _)

theorem total7 : (outsAt0 m c 15 lastPoint.isLt).2.1 = arr2 (grad6 m c) :=
  eq_arr2 fun i j => (copy7 m c lastPoint rfl i j).trans ((acc6 m c 15 (by norm_num) i j).trans (upTo_last _))

theorem arr6 : (dats m 0 c).arrAt 6 cfg0.N = arr2 (grad6 m c) := by
  refine (dats m 0 c).arrAt_eq_of_after_last 6 lastPoint (by decide +kernel) _ fun j => ?_
  blk_simp
  rw [after0_6]
  exact congrFun (total6 m c) _

theorem arr7 : (dats m 0 c).arrAt 7 cfg0.N = arr2 (grad6 m c) := by
  refine (dats m 0 c).arrAt_eq_of_after_last 7 lastPoint (by decide +kernel) _ fun j => ?_
  blk_simp
  rw [after0_7]
  exact congrFun (total7 m c) _

theorem total8 : (outsAt0 m c 15 lastPoint.isLt).2.2.1 = arr2 (grad8 m c) :=
  eq_arr2 fun i j => (acc8 m c 15 (by norm_num) i j).trans (upTo_last _)

theorem total9 : (outsAt0 m c 15 lastPoint.isLt).2.2.2.1 = arr2 (grad8 m c) :=
  eq_arr2 fun i j => (copy9 m c lastPoint rfl i j).trans ((acc8 m c 15 (by norm_num) i j).trans (upTo_last _))

theorem arr8 : (dats m 0 c).arrAt 8 cfg0.N = arr2 (grad8 m c) := by
  refine (dats m 0 c).arrAt_eq_of_after_last 8 lastPoint (by decide +kernel) _ fun j => ?_
  blk_simp
  rw [after0_8]
  exact congrFun (total8 m c) _

theorem arr9 : (dats m 0 c).arrAt 9 cfg0.N = arr2 (grad8 m c) := by
  refine (dats m 0 c).arrAt_eq_of_after_last 9 lastPoint (by decide +kernel) _ fun j => ?_
  blk_simp
  rw [after0_9]
  exact congrFun (total9 m c) _

theorem total10 : (outsAt0 m c 15 lastPoint.isLt).2.2.2.2.1 = arr2 (grad10 m c) :=
  eq_arr2 fun i j => (acc10 m c 15 (by norm_num) i j).trans (upTo_last _)

theorem total11 : (outsAt0 m c 15 lastPoint.isLt).2.2.2.2.2 = arr2 (grad10 m c) :=
  eq_arr2 fun i j => (copy11 m c lastPoint rfl i j).trans ((acc10 m c 15 (by norm_num) i j).trans (upTo_last _))

theorem arr10 : (dats m 0 c).arrAt 10 cfg0.N = arr2 (grad10 m c) := by
  refine (dats m 0 c).arrAt_eq_of_after_last 10 lastPoint (by decide +kernel) _ fun j => ?_
  blk_simp
  rw [after0_10]
  exact congrFun (total10 m c) _

theorem arr11 : (dats m 0 c).arrAt 11 cfg0.N = arr2 (grad10 m c) := by
  refine (dats m 0 c).arrAt_eq_of_after_last 11 lastPoint (by decide +kernel) _ fun j => ?_
  blk_simp
  rw [after0_11]
  exact congrFun (total11 m c) _

end Dw.Small

end
-- ==== Proof.Dw.SmallValue.lean ====
/- The certificate of the three products: the gradients of the output projection's weight and of the two branch weights. -/
module

public import proofs.«01_k».proof.Defs
public import proofs.«01_k».proof.Proof.Dw.SmallKer
public import proofs.«01_k».proof.Proof.Gen.Reference4Ideal.Run
public import proofs.«01_k».proof.Proof.Gen.Kernel4Ideal.Value

@[expose] public section

set_option maxRecDepth 16384

noncomputable section

namespace Dw.Small

open Idealize.ShloMosaic Idealize.SL.Sem Dw

/-- The reference's frame. -/
theorem frame_ref : Cert.quiescent_Reference4Ideal := fun m ρ _ =>
  (θ_run Cert.Reference4Ideal.defs _ _).mono
    (fun r h => ⟨fun c => (h c).2.2.2.2.2.2, sem_eq_zero_of_no_sems (by decide) r.2⟩)
    (Cert.Reference4Ideal.Value.run (F := Ideal) m ρ)

section
open Cert.Reference4Ideal Cert.Reference4Ideal.Gen

theorem ref_main_v5 (a : FVec Ideal S8192x1024 .bf16) (d : FVec Ideal S8192x1024 .bf16) (i : Fin 1024) (j : Fin 1024) :
    @Eq EReal (transpose S1024x1024 [1, 0] (Host.dotGeneral dot_S8192x1024_S8192x1024_S1024x1024_0_0_1_1_n_n none (extf .f32 d bitsLt_bf16_f32) (extf .f32 a bitsLt_bf16_f32)) transposes_S1024x1024_S1024x1024_1_0 (ix2 i j)) (grad (fun s i => a (ix2 s i)) (fun s j => d (ix2 s j)) i j) := by
  have e : (∑ s : Fin 8192, (d (ix2 s j) : EReal) * (a (ix2 s i) : EReal)) = ∑ s : Fin 8192, (a (ix2 s i) : EReal) * (d (ix2 s j) : EReal) :=
    Finset.sum_congr rfl fun s _ => mul_comm _ _
  unfold grad
  rw [← e]
  pointwise

theorem ref_main_v6 (a : FVec Ideal S8192x1024 .bf16) (d : FVec Ideal S8192x1024 .bf16) (i : Fin 1024) (j : Fin 1024) :
    @Eq EReal (truncf .bf16 (transpose S1024x1024 [1, 0] (Host.dotGeneral dot_S8192x1024_S8192x1024_S1024x1024_0_0_1_1_n_n none (extf .f32 d bitsLt_bf16_f32) (extf .f32 a bitsLt_bf16_f32)) transposes_S1024x1024_S1024x1024_1_0) bitsLt_bf16_f32 (ix2 i j)) (grad (fun s i => a (ix2 s i)) (fun s j => d (ix2 s j)) i j) := by
  have e : (∑ s : Fin 8192, (d (ix2 s j) : EReal) * (a (ix2 s i) : EReal)) = ∑ s : Fin 8192, (a (ix2 s i) : EReal) * (d (ix2 s j) : EReal) :=
    Finset.sum_congr rfl fun s _ => mul_comm _ _
  unfold grad
  rw [← e]
  pointwise

theorem ref_main_v12 (a : FVec Ideal S8192x512 .bf16) (d : FVec Ideal S8192x1024 .bf16) (i : Fin 512) (j : Fin 1024) :
    @Eq EReal (transpose S512x1024 [1, 0] (Host.dotGeneral dot_S8192x1024_S8192x512_S1024x512_0_0_1_1_n_n none (extf .f32 d bitsLt_bf16_f32) (extf .f32 a bitsLt_bf16_f32)) transposes_S1024x512_S512x1024_1_0 (ix2 i j)) (grad (fun s i => a (ix2 s i)) (fun s j => d (ix2 s j)) i j) := by
  have e : (∑ s : Fin 8192, (d (ix2 s j) : EReal) * (a (ix2 s i) : EReal)) = ∑ s : Fin 8192, (a (ix2 s i) : EReal) * (d (ix2 s j) : EReal) :=
    Finset.sum_congr rfl fun s _ => mul_comm _ _
  unfold grad
  rw [← e]
  pointwise

theorem ref_main_v13 (a : FVec Ideal S8192x512 .bf16) (d : FVec Ideal S8192x1024 .bf16) (i : Fin 512) (j : Fin 1024) :
    @Eq EReal (truncf .bf16 (transpose S512x1024 [1, 0] (Host.dotGeneral dot_S8192x1024_S8192x512_S1024x512_0_0_1_1_n_n none (extf .f32 d bitsLt_bf16_f32) (extf .f32 a bitsLt_bf16_f32)) transposes_S1024x512_S512x1024_1_0) bitsLt_bf16_f32 (ix2 i j)) (grad (fun s i => a (ix2 s i)) (fun s j => d (ix2 s j)) i j) := by
  have e : (∑ s : Fin 8192, (d (ix2 s j) : EReal) * (a (ix2 s i) : EReal)) = ∑ s : Fin 8192, (a (ix2 s i) : EReal) * (d (ix2 s j) : EReal) :=
    Finset.sum_congr rfl fun s _ => mul_comm _ _
  unfold grad
  rw [← e]
  pointwise

theorem ref_main_v19 (a : FVec Ideal S8192x1024 .bf16) (d : FVec Ideal S8192x1024 .bf16) (i : Fin 1024) (j : Fin 1024) :
    @Eq EReal (transpose S1024x1024 [1, 0] (Host.dotGeneral dot_S8192x1024_S8192x1024_S1024x1024_0_0_1_1_n_n none (extf .f32 d bitsLt_bf16_f32) (extf .f32 a bitsLt_bf16_f32)) transposes_S1024x1024_S1024x1024_1_0 (ix2 i j)) (grad (fun s i => a (ix2 s i)) (fun s j => d (ix2 s j)) i j) := by
  have e : (∑ s : Fin 8192, (d (ix2 s j) : EReal) * (a (ix2 s i) : EReal)) = ∑ s : Fin 8192, (a (ix2 s i) : EReal) * (d (ix2 s j) : EReal) :=
    Finset.sum_congr rfl fun s _ => mul_comm _ _
  unfold grad
  rw [← e]
  pointwise

theorem ref_main_v20 (a : FVec Ideal S8192x1024 .bf16) (d : FVec Ideal S8192x1024 .bf16) (i : Fin 1024) (j : Fin 1024) :
    @Eq EReal (truncf .bf16 (transpose S1024x1024 [1, 0] (Host.dotGeneral dot_S8192x1024_S8192x1024_S1024x1024_0_0_1_1_n_n none (extf .f32 d bitsLt_bf16_f32) (extf .f32 a bitsLt_bf16_f32)) transposes_S1024x1024_S1024x1024_1_0) bitsLt_bf16_f32 (ix2 i j)) (grad (fun s i => a (ix2 s i)) (fun s j => d (ix2 s j)) i j) := by
  have e : (∑ s : Fin 8192, (d (ix2 s j) : EReal) * (a (ix2 s i) : EReal)) = ∑ s : Fin 8192, (a (ix2 s i) : EReal) * (d (ix2 s j) : EReal) :=
    Finset.sum_congr rfl fun s _ => mul_comm _ _
  unfold grad
  rw [← e]
  pointwise

end

/-- The kernel and the reference compute the same six arrays. -/
theorem value : Cert.algebraic_Kernel4Ideal_Reference4Ideal := by
  intro m g m' g' _ hagree
  refine ⟨fun c => arr2 (grad6 m c), fun c => arr2 (grad6 m c), fun c => arr2 (grad8 m c), fun c => arr2 (grad8 m c),
    fun c => arr2 (grad10 m c), fun c => arr2 (grad10 m c), ?_, ?_⟩
  · refine (θ_run _ _ _).mono (fun r h c => ?_) (Cert.Kernel4Ideal.Value.run_blocks (F := Ideal) m g)
    obtain ⟨h6, h7, h8, h9, h10, h11, hargs⟩ := h c
    exact ⟨h6.trans (arr6 m c), h7.trans (arr7 m c), h8.trans (arr8 m c), h9.trans (arr9 m c), h10.trans (arr10 m c),
      h11.trans (arr11 m c), hargs⟩
  · refine (θ_run _ _ _).mono (fun r h c => ?_) (Cert.Reference4Ideal.Value.run (F := Ideal) m' g')
    obtain ⟨e0, e1, e2, e3, e4, e5⟩ := hagree c
    obtain ⟨h6, h7, h8, h9, h10, h11, hargs⟩ := h c
    rw [e0, e1] at h6 h7
    rw [e2, e3] at h8 h9
    rw [e4, e5] at h10 h11
    exact ⟨h6.trans (eq_arr2 (ref_main_v5 _ _)), h7.trans (eq_arr2 (ref_main_v6 _ _)), h8.trans (eq_arr2 (ref_main_v12 _ _)),
      h9.trans (eq_arr2 (ref_main_v13 _ _)), h10.trans (eq_arr2 (ref_main_v19 _ _)), h11.trans (eq_arr2 (ref_main_v20 _ _)), hargs⟩

end Dw.Small

end
-- ==== Proof.Opt.Step.lean ====
/- The reference's AdamW formulas, at any shape. -/
module

public import Idealize.ShloMosaic.Lib.Pointwise

@[expose] public section

noncomputable section

namespace Opt

open Idealize.ShloMosaic

variable {s : Shape} (hb : (⟨0, ![]⟩ : Shape).BroadcastsInDim s (![] : Fin 0 → Fin s.rank))

/-- An array with one literal everywhere. -/
abbrev lit (w : BitVec 32) : FVec Ideal s .f32 := broadcastInDim s ![] hb (constant ⟨0, ![]⟩ .f32 w)

/-- The new first moment. -/
def moment1 (g m : FVec Ideal s .f32) : FVec Ideal s .f32 :=
  addf (mulf (lit hb 0x3F666666#32) m) (mulf (lit hb 0x3DCCCCCD#32) g)

/-- The new second moment. -/
def moment2 (g v : FVec Ideal s .f32) : FVec Ideal s .f32 :=
  addf (mulf (lit hb 0x3F7FBE77#32) v) (mulf (lit hb 0x3A83126F#32) (mulf g g))

/-- The step the weight takes. -/
def delta (w g m v : FVec Ideal s .f32) : FVec Ideal s .f32 :=
  mulf (lit hb 0xBA83126F#32)
    (addf (Host.divf (Host.divf (moment1 hb g m) (lit hb 0x3F26BD02#32))
        (addf (Host.sqrt (Host.divf (moment2 hb g v) (lit hb 0x3C231ACC#32))) (lit hb 0x322BCC77#32)))
      (mulf (lit hb 0x3C23D70A#32) w))

end Opt

end
-- ==== Proof.Opt.In.lean ====
/- The AdamW update of the input projection's weight. -/
module

public import proofs.«01_k».proof.Defs
public import proofs.«01_k».proof.Proof.Opt.Step
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

set_option maxRecDepth 16384
set_option maxHeartbeats 400000

noncomputable section

namespace Opt.In

open Idealize.ShloMosaic Idealize.SL.Sem

/-- The reference's frame. -/
theorem frame_ref : Cert.quiescent_Reference5Ideal := fun m ρ _ =>
  (θ_run Cert.Reference5Ideal.defs _ _).mono
    (fun r h => ⟨fun c => (h c).2.2.2.2, sem_eq_zero_of_no_sems (by decide) r.2⟩)
    (Cert.Reference5Ideal.Value.run (F := Ideal) m ρ)

/-- A scalar fills the shard of the weight. -/
abbrev hb := Cert.Reference5Ideal.Gen.facts.bcast_S_S1024x2048

section
open Cert.Kernel5Ideal Cert.Kernel5Ideal.Gen

variable (m : (ℓ : Loc nD τ Cert.Kernel5Ideal.sig) → Buf (Elt Ideal) ℓ) (c : Dev nD)

/-- The arguments: the weight, its gradient and the two moments. -/
abbrev W : FVec Ideal S1024x2048 .f32 := m ((c.tc : Thread nD τ).loc main_arg0)
abbrev G : FVec Ideal S1024x2048 .f32 := m ((c.tc : Thread nD τ).loc main_arg1)
abbrev M1 : FVec Ideal S1024x2048 .f32 := m ((c.tc : Thread nD τ).loc main_arg2)
abbrev M2 : FVec Ideal S1024x2048 .f32 := m ((c.tc : Thread nD τ).loc main_arg3)

/-- All the windows of a point stand at the same place. -/
theorem blks (t : Fin cfg0.N) (y : S128x2048.Idx) :
    iblk m c 0 t y = W m c ((win0_4.blk t).view.emb y) ∧ iblk m c 1 t y = G m c ((win0_4.blk t).view.emb y)
    ∧ iblk m c 2 t y = M1 m c ((win0_4.blk t).view.emb y) ∧ iblk m c 3 t y = M2 m c ((win0_4.blk t).view.emb y) := by
  unfold W G M1 M2
  rw [← V_main_arg0 m c, ← V_main_arg1 m c, ← V_main_arg2 m c, ← V_main_arg3 m c]
  exact ⟨rfl, rfl, rfl, rfl⟩

theorem arr4 : (dats m 0 c).arrAt 4 cfg0.N = G m c := by
  refine (dats m 0 c).arrAt_eq_of_covers 4 _ (by decide +kernel) fun t hf y => ?_
  blk_simp
  rw [after0_4]
  frame_out
  exact (blks m c t y).2.1

theorem arr5 : (dats m 0 c).arrAt 5 cfg0.N = delta hb (W m c) (G m c) (M1 m c) (M2 m c) := by
  refine (dats m 0 c).arrAt_eq_of_covers 5 _ (by decide +kernel) fun t hf y => ?_
  obtain ⟨b0, b1, b2, b3⟩ := blks m c t y
  blk_simp
  rw [after0_5]
  frame_out
  refine Eq.trans (b := delta hb (W m c) (G m c) (M1 m c) (M2 m c) ((win0_4.blk t).view.emb y)) ?_ rfl
  pointwise [k0_pay3, k0_pay1, k0_pay2, delta, moment1, moment2]
  rw [b0, b1, b2, b3]

theorem arr6 : (dats m 0 c).arrAt 6 cfg0.N = moment1 hb (G m c) (M1 m c) := by
  refine (dats m 0 c).arrAt_eq_of_covers 6 _ (by decide +kernel) fun t hf y => ?_
  obtain ⟨b0, b1, b2, b3⟩ := blks m c t y
  blk_simp
  rw [after0_6]
  frame_out
  refine Eq.trans (b := moment1 hb (G m c) (M1 m c) ((win0_4.blk t).view.emb y)) ?_ rfl
  pointwise [k0_pay1, moment1]
  rw [b1, b2]

theorem arr7 : (dats m 0 c).arrAt 7 cfg0.N = moment2 hb (G m c) (M2 m c) := by
  refine (dats m 0 c).arrAt_eq_of_covers 7 _ (by decide +kernel) fun t hf y => ?_
  obtain ⟨b0, b1, b2, b3⟩ := blks m c t y
  blk_simp
  rw [after0_7]
  frame_out
  refine Eq.trans (b := moment2 hb (G m c) (M2 m c) ((win0_4.blk t).view.emb y)) ?_ rfl
  pointwise [k0_pay2, moment2]
  rw [b1, b3]

end

/-- The kernel and the reference compute the same four arrays. -/
theorem value : Cert.algebraic_Kernel5Ideal_Reference5Ideal := by
  intro m g m' g' _ hagree
  refine ⟨fun c => G m c, fun c => delta hb (W m c) (G m c) (M1 m c) (M2 m c), fun c => moment1 hb (G m c) (M1 m c),
    fun c => moment2 hb (G m c) (M2 m c), ?_, ?_⟩
  · refine (θ_run _ _ _).mono (fun r h c => ?_) (Cert.Kernel5Ideal.Value.run_blocks (F := Ideal) m g)
    obtain ⟨h4, h5, h6, h7, hargs⟩ := h c
    exact ⟨h4.trans (arr4 m c), h5.trans (arr5 m c), h6.trans (arr6 m c), h7.trans (arr7 m c), hargs⟩
  · refine (θ_run _ _ _).mono (fun r h c => ?_) (Cert.Reference5Ideal.Value.run (F := Ideal) m' g')
    obtain ⟨e0, e1, e2, e3⟩ := hagree c
    obtain ⟨h4, h5, h6, h7, hargs⟩ := h c
    rw [e1] at h4 h6 h7
    rw [e0, e1, e2, e3] at h5
    rw [e2] at h6
    rw [e3] at h7
    exact ⟨h4, h5, h6, h7, hargs⟩

end Opt.In

end
-- ==== Proof.Opt.Many.lean ====
/- The AdamW update of the two branch weights and of the output projection. -/
module

public import proofs.«01_k».proof.Defs
public import proofs.«01_k».proof.Proof.Opt.Step
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384
set_option maxHeartbeats 400000

noncomputable section

namespace Opt.Many

open Idealize.ShloMosaic Idealize.SL.Sem

/-- The reference's frame. -/
theorem frame_ref : Cert.quiescent_Reference6Ideal := fun m ρ _ =>
  (θ_run Cert.Reference6Ideal.defs _ _).mono
    (fun r h => ⟨fun c => (h c).2.2.2.2.2.2.2.2.2.2.2.2, sem_eq_zero_of_no_sems (by decide) r.2⟩)
    (Cert.Reference6Ideal.Value.run (F := Ideal) m ρ)

/-- A scalar fills the shards of the weights. -/
abbrev ha := Cert.Reference6Ideal.Gen.facts.bcast_S_S512x256
abbrev hb := Cert.Reference6Ideal.Gen.facts.bcast_S_S256x1024

section
open Cert.Kernel6Ideal Cert.Kernel6Ideal.Gen

variable (m : (ℓ : Loc nD τ Cert.Kernel6Ideal.sig) → Buf (Elt Ideal) ℓ) (c : Dev nD)

/-- The arguments of the three weights in turn: the weight, its gradient and the two moments. -/
abbrev A0 : FVec Ideal S512x256 .f32 := m ((c.tc : Thread nD τ).loc main_arg0)
abbrev A1 : FVec Ideal S512x256 .f32 := m ((c.tc : Thread nD τ).loc main_arg1)
abbrev A2 : FVec Ideal S512x256 .f32 := m ((c.tc : Thread nD τ).loc main_arg2)
abbrev A3 : FVec Ideal S512x256 .f32 := m ((c.tc : Thread nD τ).loc main_arg3)
abbrev A4 : FVec Ideal S256x1024 .f32 := m ((c.tc : Thread nD τ).loc main_arg4)
abbrev A5 : FVec Ideal S256x1024 .f32 := m ((c.tc : Thread nD τ).loc main_arg5)
abbrev A6 : FVec Ideal S256x1024 .f32 := m ((c.tc : Thread nD τ).loc main_arg6)
abbrev A7 : FVec Ideal S256x1024 .f32 := m ((c.tc : Thread nD τ).loc main_arg7)
abbrev A8 : FVec Ideal S256x1024 .f32 := m ((c.tc : Thread nD τ).loc main_arg8)
abbrev A9 : FVec Ideal S256x1024 .f32 := m ((c.tc : Thread nD τ).loc main_arg9)
abbrev A10 : FVec Ideal S256x1024 .f32 := m ((c.tc : Thread nD τ).loc main_arg10)
abbrev A11 : FVec Ideal S256x1024 .f32 := m ((c.tc : Thread nD τ).loc main_arg11)

/-- The windows' blocks are the arrays. -/
theorem blks_a (t : Fin cfg0.N) (y : S512x256.Idx) :
    iblk m c 0 t y = A0 m c ((win0_12.blk t).view.emb y) ∧ iblk m c 1 t y = A1 m c ((win0_12.blk t).view.emb y)
    ∧ iblk m c 2 t y = A2 m c ((win0_12.blk t).view.emb y) ∧ iblk m c 3 t y = A3 m c ((win0_12.blk t).view.emb y) := by
  unfold A0 A1 A2 A3
  rw [← V_main_arg0 m c, ← V_main_arg1 m c, ← V_main_arg2 m c, ← V_main_arg3 m c]
  exact ⟨rfl, rfl, rfl, rfl⟩

theorem blks_b (t : Fin cfg0.N) (y : S256x1024.Idx) :
    iblk m c 4 t y = A4 m c ((win0_16.blk t).view.emb y) ∧ iblk m c 5 t y = A5 m c ((win0_16.blk t).view.emb y)
    ∧ iblk m c 6 t y = A6 m c ((win0_16.blk t).view.emb y) ∧ iblk m c 7 t y = A7 m c ((win0_16.blk t).view.emb y) := by
  unfold A4 A5 A6 A7
  rw [← V_main_arg4 m c, ← V_main_arg5 m c, ← V_main_arg6 m c, ← V_main_arg7 m c]
  exact ⟨rfl, rfl, rfl, rfl⟩

theorem blks_c (t : Fin cfg0.N) (y : S256x1024.Idx) :
    iblk m c 8 t y = A8 m c ((win0_20.blk t).view.emb y) ∧ iblk m c 9 t y = A9 m c ((win0_20.blk t).view.emb y)
    ∧ iblk m c 10 t y = A10 m c ((win0_20.blk t).view.emb y) ∧ iblk m c 11 t y = A11 m c ((win0_20.blk t).view.emb y) := by
  unfold A8 A9 A10 A11
  rw [← V_main_arg8 m c, ← V_main_arg9 m c, ← V_main_arg10 m c, ← V_main_arg11 m c]
  exact ⟨rfl, rfl, rfl, rfl⟩

theorem arr12 : (dats m 0 c).arrAt 12 cfg0.N = A1 m c := by
  refine (dats m 0 c).arrAt_eq_of_covers 12 _ (by decide +kernel) fun t hf y => ?_
  obtain ⟨b0, b1, b2, b3⟩ := blks_a m c t y
  blk_simp
  rw [after0_12]
  frame_out
  exact b1

theorem arr13 : (dats m 0 c).arrAt 13 cfg0.N = delta ha (A0 m c) (A1 m c) (A2 m c) (A3 m c) := by
  refine (dats m 0 c).arrAt_eq_of_covers 13 _ (by decide +kernel) fun t hf y => ?_
  obtain ⟨b0, b1, b2, b3⟩ := blks_a m c t y
  blk_simp
  rw [after0_13]
  frame_out
  refine Eq.trans (b := (delta ha (A0 m c) (A1 m c) (A2 m c) (A3 m c)) ((win0_12.blk t).view.emb y)) ?_ rfl
  pointwise [k0_pay3, k0_pay1, k0_pay2, delta, moment1, moment2]
  rw [b0, b1, b2, b3]

theorem arr14 : (dats m 0 c).arrAt 14 cfg0.N = moment1 ha (A1 m c) (A2 m c) := by
  refine (dats m 0 c).arrAt_eq_of_covers 14 _ (by decide +kernel) fun t hf y => ?_
  obtain ⟨b0, b1, b2, b3⟩ := blks_a m c t y
  blk_simp
  rw [after0_14]
  frame_out
  refine Eq.trans (b := (moment1 ha (A1 m c) (A2 m c)) ((win0_12.blk t).view.emb y)) ?_ rfl
  pointwise [k0_pay1, moment1]
  rw [b1, b2]

theorem arr15 : (dats m 0 c).arrAt 15 cfg0.N = moment2 ha (A1 m c) (A3 m c) := by
  refine (dats m 0 c).arrAt_eq_of_covers 15 _ (by decide +kernel) fun t hf y => ?_
  obtain ⟨b0, b1, b2, b3⟩ := blks_a m c t y
  blk_simp
  rw [after0_15]
  frame_out
  refine Eq.trans (b := (moment2 ha (A1 m c) (A3 m c)) ((win0_12.blk t).view.emb y)) ?_ rfl
  pointwise [k0_pay2, moment2]
  rw [b1, b3]

theorem arr16 : (dats m 0 c).arrAt 16 cfg0.N = A5 m c := by
  refine (dats m 0 c).arrAt_eq_of_covers 16 _ (by decide +kernel) fun t hf y => ?_
  obtain ⟨b0, b1, b2, b3⟩ := blks_b m c t y
  blk_simp
  rw [after0_16]
  frame_out
  exact b1

theorem arr17 : (dats m 0 c).arrAt 17 cfg0.N = delta hb (A4 m c) (A5 m c) (A6 m c) (A7 m c) := by
  refine (dats m 0 c).arrAt_eq_of_covers 17 _ (by decide +kernel) fun t hf y => ?_
  obtain ⟨b0, b1, b2, b3⟩ := blks_b m c t y
  blk_simp
  rw [after0_17]
  frame_out
  refine Eq.trans (b := (delta hb (A4 m c) (A5 m c) (A6 m c) (A7 m c)) ((win0_16.blk t).view.emb y)) ?_ rfl
  pointwise [k0_pay6, k0_pay4, k0_pay5, delta, moment1, moment2]
  rw [b0, b1, b2, b3]

theorem arr18 : (dats m 0 c).arrAt 18 cfg0.N = moment1 hb (A5 m c) (A6 m c) := by
  refine (dats m 0 c).arrAt_eq_of_covers 18 _ (by decide +kernel) fun t hf y => ?_
  obtain ⟨b0, b1, b2, b3⟩ := blks_b m c t y
  blk_simp
  rw [after0_18]
  frame_out
  refine Eq.trans (b := (moment1 hb (A5 m c) (A6 m c)) ((win0_16.blk t).view.emb y)) ?_ rfl
  pointwise [k0_pay4, moment1]
  rw [b1, b2]

theorem arr19 : (dats m 0 c).arrAt 19 cfg0.N = moment2 hb (A5 m c) (A7 m c) := by
  refine (dats m 0 c).arrAt_eq_of_covers 19 _ (by decide +kernel) fun t hf y => ?_
  obtain ⟨b0, b1, b2, b3⟩ := blks_b m c t y
  blk_simp
  rw [after0_19]
  frame_out
  refine Eq.trans (b := (moment2 hb (A5 m c) (A7 m c)) ((win0_16.blk t).view.emb y)) ?_ rfl
  pointwise [k0_pay5, moment2]
  rw [b1, b3]

theorem arr20 : (dats m 0 c).arrAt 20 cfg0.N = A9 m c := by
  refine (dats m 0 c).arrAt_eq_of_covers 20 _ (by decide +kernel) fun t hf y => ?_
  obtain ⟨b0, b1, b2, b3⟩ := blks_c m c t y
  blk_simp
  rw [after0_20]
  frame_out
  exact b1

theorem arr21 : (dats m 0 c).arrAt 21 cfg0.N = delta hb (A8 m c) (A9 m c) (A10 m c) (A11 m c) := by
  refine (dats m 0 c).arrAt_eq_of_covers 21 _ (by decide +kernel) fun t hf y => ?_
  obtain ⟨b0, b1, b2, b3⟩ := blks_c m c t y
  blk_simp
  rw [after0_21]
  frame_out
  refine Eq.trans (b := (delta hb (A8 m c) (A9 m c) (A10 m c) (A11 m c)) ((win0_20.blk t).view.emb y)) ?_ rfl
  pointwise [k0_pay9, k0_pay7, k0_pay8, delta, moment1, moment2]
  rw [b0, b1, b2, b3]

theorem arr22 : (dats m 0 c).arrAt 22 cfg0.N = moment1 hb (A9 m c) (A10 m c) := by
  refine (dats m 0 c).arrAt_eq_of_covers 22 _ (by decide +kernel) fun t hf y => ?_
  obtain ⟨b0, b1, b2, b3⟩ := blks_c m c t y
  blk_simp
  rw [after0_22]
  frame_out
  refine Eq.trans (b := (moment1 hb (A9 m c) (A10 m c)) ((win0_20.blk t).view.emb y)) ?_ rfl
  pointwise [k0_pay7, moment1]
  rw [b1, b2]

theorem arr23 : (dats m 0 c).arrAt 23 cfg0.N = moment2 hb (A9 m c) (A11 m c) := by
  refine (dats m 0 c).arrAt_eq_of_covers 23 _ (by decide +kernel) fun t hf y => ?_
  obtain ⟨b0, b1, b2, b3⟩ := blks_c m c t y
  blk_simp
  rw [after0_23]
  frame_out
  refine Eq.trans (b := (moment2 hb (A9 m c) (A11 m c)) ((win0_20.blk t).view.emb y)) ?_ rfl
  pointwise [k0_pay8, moment2]
  rw [b1, b3]

end

/-- The kernel and the reference compute the same twelve arrays. -/
theorem value : Cert.algebraic_Kernel6Ideal_Reference6Ideal := by
  intro m g m' g' _ hagree
  refine ⟨fun c => A1 m c,
    fun c => delta ha (A0 m c) (A1 m c) (A2 m c) (A3 m c),
    fun c => moment1 ha (A1 m c) (A2 m c),
    fun c => moment2 ha (A1 m c) (A3 m c),
    fun c => A5 m c,
    fun c => delta hb (A4 m c) (A5 m c) (A6 m c) (A7 m c),
    fun c => moment1 hb (A5 m c) (A6 m c),
    fun c => moment2 hb (A5 m c) (A7 m c),
    fun c => A9 m c,
    fun c => delta hb (A8 m c) (A9 m c) (A10 m c) (A11 m c),
    fun c => moment1 hb (A9 m c) (A10 m c),
    fun c => moment2 hb (A9 m c) (A11 m c), ?_, ?_⟩
  · refine (θ_run _ _ _).mono (fun r h c => ?_) (Cert.Kernel6Ideal.Value.run_blocks (F := Ideal) m g)
    obtain ⟨h12, h13, h14, h15, h16, h17, h18, h19, h20, h21, h22, h23, hargs⟩ := h c
    exact ⟨h12.trans (arr12 m c), h13.trans (arr13 m c), h14.trans (arr14 m c), h15.trans (arr15 m c), h16.trans (arr16 m c), h17.trans (arr17 m c), h18.trans (arr18 m c), h19.trans (arr19 m c), h20.trans (arr20 m c), h21.trans (arr21 m c), h22.trans (arr22 m c), h23.trans (arr23 m c), hargs⟩
  · refine (θ_run _ _ _).mono (fun r h c => ?_) (Cert.Reference6Ideal.Value.run (F := Ideal) m' g')
    obtain ⟨e0, e1, e2, e3, e4, e5, e6, e7, e8, e9, e10, e11⟩ := hagree c
    obtain ⟨h12, h13, h14, h15, h16, h17, h18, h19, h20, h21, h22, h23, hargs⟩ := h c
    rw [e1] at h12
    rw [e0, e1, e2, e3] at h13
    rw [e1, e2] at h14
    rw [e1, e3] at h15
    rw [e5] at h16
    rw [e4, e5, e6, e7] at h17
    rw [e5, e6] at h18
    rw [e5, e7] at h19
    rw [e9] at h20
    rw [e8, e9, e10, e11] at h21
    rw [e9, e10] at h22
    rw [e9, e11] at h23
    exact ⟨h12, h13, h14, h15, h16, h17, h18, h19, h20, h21, h22, h23, hargs⟩

end Opt.Many

end
-- ==== Proof.Opt.Ada.lean ====
/- The AdamW update of the conditioning's weight, with its gradient's product. -/
module

public import proofs.«01_k».proof.Defs
public import proofs.«01_k».proof.Proof.Opt.Step
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit

@[expose] public section

set_option maxRecDepth 16384
set_option maxHeartbeats 400000

noncomputable section

namespace Opt.Ada

open Idealize.ShloMosaic Idealize.SL.Sem

/-- The reference's frame. -/
theorem frame_ref : Cert.quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run (F := Ideal) m ρ)

/-- A scalar fills the weight. -/
abbrev hb := Cert.Reference7Ideal.Gen.facts.bcast_S_S1024x768

section
open Cert.Reference7Ideal Cert.Reference7Ideal.Gen

/-- The gradient of the weight. -/
def grad (x : FVec Ideal S1024x8 .f32) (d : FVec Ideal S8x768 .f32) : FVec Ideal S1024x768 .f32 :=
  Host.dotGeneral dot_S1024x8_S8x768_S1024x768_1_0_0_1_n_n none x d

theorem grad_apply (x : FVec Ideal S1024x8 .f32) (d : FVec Ideal S8x768 .f32) (i : Fin 1024) (j : Fin 768) :
    @Eq EReal (grad x d (ix2 i j)) (∑ k : Fin 8, (x (ix2 i k) : EReal) * d (ix2 k j)) := by
  pointwise [grad]

end

section
open Cert.Kernel7Ideal Cert.Kernel7Ideal.Gen

variable (m : (ℓ : Loc nD τ Cert.Kernel7Ideal.sig) → Buf (Elt Ideal) ℓ) (c : Dev nD)

/-- The arguments: the two factors of the gradient, the weight and its two moments. -/
abbrev X : FVec Ideal S1024x8 .f32 := m ((c.tc : Thread nD τ).loc main_arg0)
abbrev D : FVec Ideal S8x768 .f32 := m ((c.tc : Thread nD τ).loc main_arg1)
abbrev W : FVec Ideal S1024x768 .f32 := m ((c.tc : Thread nD τ).loc main_arg2)
abbrev M1 : FVec Ideal S1024x768 .f32 := m ((c.tc : Thread nD τ).loc main_arg3)
abbrev M2 : FVec Ideal S1024x768 .f32 := m ((c.tc : Thread nD τ).loc main_arg4)

/-- The blocks of the factors at each point, and of the results. -/
theorem index_eq : ∀ t : Fin cfg0.N, win0_0.index t = ![t.val, 0] ∧ win0_1.index t = ![0, 0] ∧ win0_5.index t = ![t.val, 0] :=
  (by decide +kernel : ∀ t : Fin grid0.N, win0_0.index t = ![t.val, 0] ∧ win0_1.index t = ![0, 0] ∧ win0_5.index t = ![t.val, 0])

theorem point_lt (t : Fin cfg0.N) : t.val < 4 := lt_of_lt_of_eq t.isLt N_0

/-- Row `p` of block `b`. -/
def row (b : ℕ) (hb : b < 4) (p : Fin 256) : Fin 1024 := ⟨b * 256 + p.val, by omega⟩

theorem blk0 (t : Fin cfg0.N) (p : Fin 256) (k : Fin 8) :
    iblk m c 0 t (ix2 p k) = X m c (ix2 (row t.val (point_lt t) p) k) := by
  unfold X
  rw [← V_main_arg0 m c]
  obtain ⟨e, -⟩ := index_eq t
  blk_ext [iblk, row, e]

theorem blk1 (t : Fin cfg0.N) (k : Fin 8) (j : Fin 768) : iblk m c 1 t (ix2 k j) = D m c (ix2 k j) := by
  unfold D
  rw [← V_main_arg1 m c]
  obtain ⟨-, e, -⟩ := index_eq t
  blk_ext [iblk, e]

/-- The windows of the weight and its moments stand where the results' do. -/
theorem blks (t : Fin cfg0.N) (y : S256x768.Idx) :
    iblk m c 2 t y = W m c ((win0_5.blk t).view.emb y) ∧ iblk m c 3 t y = M1 m c ((win0_5.blk t).view.emb y)
    ∧ iblk m c 4 t y = M2 m c ((win0_5.blk t).view.emb y) := by
  unfold W M1 M2
  rw [← V_main_arg2 m c, ← V_main_arg3 m c, ← V_main_arg4 m c]
  exact ⟨rfl, rfl, rfl⟩

/-- The gradient the body adds up, eight products in turn. -/
def acc (x : Vec Ideal S256x8 .f32) (d : Vec Ideal S8x768 .f32) (w m1 m2 : Vec Ideal S256x768 .f32) : FVec Ideal S256x768 .f32 :=
  k0_pay3 (k0_pay7 x d w m1 m2) (View.ld x r0_12) (View.ld d r0_13) (View.ld x r0_14) (View.ld d r0_15)

theorem acc_apply (x : Vec Ideal S256x8 .f32) (d : Vec Ideal S8x768 .f32) (w m1 m2 : Vec Ideal S256x768 .f32) (p : Fin 256) (j : Fin 768) :
    @Eq EReal (acc x d w m1 m2 (ix2 p j)) (∑ k : Fin 8, (x (ix2 p k) : EReal) * d (ix2 k j)) := by
  rw [Fin.sum_univ_eight]
  pointwise [acc, k0_pay3, k0_pay7, k0_pay2]

theorem acc_grad (t : Fin cfg0.N) (y : S256x768.Idx) :
    acc (iblk m c 0 t) (iblk m c 1 t) (iblk m c 2 t) (iblk m c 3 t) (iblk m c 4 t) y
      = grad (X m c) (D m c) ((win0_5.blk t).view.emb y) := by
  obtain ⟨-, -, e⟩ := index_eq t
  have hy : y = ix2 (y 0) (y 1) := by blk_ext []
  have he : (win0_5.blk t).view.emb y = ix2 (row t.val (point_lt t) (y 0)) (y 1) := by blk_ext [row, e]
  rw [he, hy]
  exact (acc_apply _ _ _ _ _ _ _).trans ((Finset.sum_congr rfl fun k _ =>
    congrArg₂ (fun a b : EReal => a * b) (blk0 m c t _ k) (blk1 m c t k _)).trans (grad_apply _ _ _ _).symm)

theorem arr5 : (dats m 0 c).arrAt 5 cfg0.N = grad (X m c) (D m c) := by
  refine (dats m 0 c).arrAt_eq_of_covers 5 _ (by decide +kernel) fun t hf y => ?_
  blk_simp
  rw [after0_5]
  frame_out
  exact acc_grad m c t y

theorem arr6 : (dats m 0 c).arrAt 6 cfg0.N = delta hb (W m c) (grad (X m c) (D m c)) (M1 m c) (M2 m c) := by
  refine (dats m 0 c).arrAt_eq_of_covers 6 _ (by decide +kernel) fun t hf y => ?_
  obtain ⟨b2, b3, b4⟩ := blks m c t y
  have b0 := acc_grad m c t y
  blk_simp
  rw [after0_6]
  frame_out
  refine Eq.trans (b := delta hb (W m c) (grad (X m c) (D m c)) (M1 m c) (M2 m c) ((win0_5.blk t).view.emb y)) ?_ rfl
  unfold k0_pay6 k0_pay5 k0_pay4
  simp only [acc] at b0
  pointwise [k0_pay1, delta, moment1, moment2]
  rw [b0, b2, b3, b4]

theorem arr7 : (dats m 0 c).arrAt 7 cfg0.N = moment1 hb (grad (X m c) (D m c)) (M1 m c) := by
  refine (dats m 0 c).arrAt_eq_of_covers 7 _ (by decide +kernel) fun t hf y => ?_
  obtain ⟨b2, b3, b4⟩ := blks m c t y
  have b0 := acc_grad m c t y
  blk_simp
  rw [after0_7]
  frame_out
  refine Eq.trans (b := moment1 hb (grad (X m c) (D m c)) (M1 m c) ((win0_5.blk t).view.emb y)) ?_ rfl
  simp only [acc] at b0
  pointwise [k0_pay4, moment1]
  rw [b0, b3]

theorem arr8 : (dats m 0 c).arrAt 8 cfg0.N = moment2 hb (grad (X m c) (D m c)) (M2 m c) := by
  refine (dats m 0 c).arrAt_eq_of_covers 8 _ (by decide +kernel) fun t hf y => ?_
  obtain ⟨b2, b3, b4⟩ := blks m c t y
  have b0 := acc_grad m c t y
  blk_simp
  rw [after0_8]
  frame_out
  refine Eq.trans (b := moment2 hb (grad (X m c) (D m c)) (M2 m c) ((win0_5.blk t).view.emb y)) ?_ rfl
  simp only [acc] at b0
  pointwise [k0_pay5, moment2]
  rw [b0, b4]

end

/-- The kernel and the reference compute the same four arrays. -/
theorem value : Cert.algebraic_Kernel7Ideal_Reference7Ideal := by
  intro m g m' g' _ hagree
  refine ⟨fun c => grad (X m c) (D m c), fun c => delta hb (W m c) (grad (X m c) (D m c)) (M1 m c) (M2 m c),
    fun c => moment1 hb (grad (X m c) (D m c)) (M1 m c), fun c => moment2 hb (grad (X m c) (D m c)) (M2 m c), ?_, ?_⟩
  · refine (θ_run _ _ _).mono (fun r h c => ?_) (Cert.Kernel7Ideal.Value.run_blocks (F := Ideal) m g)
    obtain ⟨h5, h6, h7, h8, hargs⟩ := h c
    exact ⟨h5.trans (arr5 m c), h6.trans (arr6 m c), h7.trans (arr7 m c), h8.trans (arr8 m c), hargs⟩
  · refine (θ_run _ _ _).mono (fun r h c => ?_) (Cert.Reference7Ideal.Value.run (F := Ideal) m' g')
    obtain ⟨e0, e1, e2, e3, e4⟩ := hagree c
    obtain ⟨h5, h6, h7, h8, hargs⟩ := h c
    rw [e0, e1] at h5
    rw [e0, e1, e2, e3, e4] at h6
    rw [e0, e1, e3] at h7
    rw [e0, e1, e4] at h8
    exact ⟨h5, h6, h7, h8, hargs⟩

end Opt.Ada

end
-- ==== Proof.Opt.Packed.lean ====
/- The AdamW update of the six small weights, packed into one array. -/
module

public import proofs.«01_k».proof.Defs
public import proofs.«01_k».proof.Proof.Opt.Step
public import proofs.«01_k».proof.Proof.Gen.Kernel10Ideal.Frame
public import proofs.«01_k».proof.Proof.Gen.Reference10Ideal.Run
public import Idealize.ShloMosaic.Lib.Pointwise
public import Idealize.ShloMosaic.Lib.StableHlo.ReadAt
public import Idealize.ShloMosaic.Lib.Pipeline.ValueKit

@[expose] public section

set_option maxRecDepth 16384
set_option maxHeartbeats 400000

noncomputable section

namespace Opt.Packed

open Idealize.ShloMosaic Idealize.SL.Sem

/-- The formulas at one element. -/
abbrev hb1 := Cert.Reference10Ideal.Gen.facts.bcast_S_S1024
def one1 (g m : EReal) : EReal := moment1 (s := ⟨1, ![1024]⟩) hb1 (fun _ => g) (fun _ => m) (ix1 0)
def one2 (g v : EReal) : EReal := moment2 (s := ⟨1, ![1024]⟩) hb1 (fun _ => g) (fun _ => v) (ix1 0)
def oneD (w g m v : EReal) : EReal := delta (s := ⟨1, ![1024]⟩) hb1 (fun _ => w) (fun _ => g) (fun _ => m) (fun _ => v) (ix1 0)

section
variable {s : Shape} (hb : (⟨0, ![]⟩ : Shape).BroadcastsInDim s (![] : Fin 0 → Fin s.rank)) (w g m v : FVec Ideal s .f32) (y : s.Idx)

theorem moment1_at : moment1 hb g m y = one1 (g y) (m y) := rfl
theorem moment2_at : moment2 hb g v y = one2 (g y) (v y) := rfl
theorem delta_at : delta hb w g m v y = oneD (w y) (g y) (m y) (v y) := rfl
end

section
open Cert.Kernel10Ideal Cert.Kernel10Ideal.Gen

variable (m : (ℓ : Loc nD τ Cert.Kernel10Ideal.sig) → Buf (Elt Ideal) ℓ) (c : Dev nD)

/-- The filling of the unused words. -/
abbrev fill : FVec Ideal S_ .f32 := sitofp .f32 (constantI S_ 32 0#32)

/-- The packed array of six weights. -/
def pack (b : FVec Ideal S1x3072 .f32) (n : FVec Ideal S1x1024 .f32) (o : FVec Ideal S1x128 .f32) (r : FVec Ideal S32x8 .f32)
    (l : FVec Ideal S2x1024 .f32) (f : FVec Ideal S1024 .f32) : FVec Ideal S16x1024 .f32 :=
  pad S16x1024 ![0, 0] ![7, 0] ![0, 0] (concatenate S9x1024 0
    [⟨S3x1024, shapeCast _ (pad S3072 ![0] ![0] ![0] (shapeCast S3072 b shapeCasts_S1x3072_S3072) fill pads_S3072_S3072_000 h_S_) shapeCasts_S3072_S3x1024⟩,
     ⟨S1x1024, shapeCast _ (pad S1024 ![0] ![0] ![0] (shapeCast S1024 n shapeCasts_S1x1024_S1024) fill pads_S1024_S1024_000 h_S_) shapeCasts_S1024_S1x1024⟩,
     ⟨S1x1024, shapeCast _ (pad S1024 ![0] ![896] ![0] (shapeCast S128 o shapeCasts_S1x128_S128) fill pads_S128_S1024_08960 h_S_) shapeCasts_S1024_S1x1024⟩,
     ⟨S1x1024, shapeCast _ (pad S1024 ![0] ![768] ![0] (shapeCast S256 r shapeCasts_S32x8_S256) fill pads_S256_S1024_07680 h_S_) shapeCasts_S1024_S1x1024⟩,
     ⟨S2x1024, shapeCast _ (pad S2048 ![0] ![0] ![0] (shapeCast S2048 l shapeCasts_S2x1024_S2048) fill pads_S2048_S2048_000 h_S_) shapeCasts_S2048_S2x1024⟩,
     ⟨S1x1024, shapeCast _ (pad S1024 ![0] ![0] ![0] f fill pads_S1024_S1024_000 h_S_) shapeCasts_S1024_S1x1024⟩]
    concatenates_S3x1024_S1x1024_S1x1024_S1x1024_S2x1024_S1x1024_S9x1024_d0) fill pads_S9x1024_S16x1024_070_000 h_S_

section
variable (b : FVec Ideal S1x3072 .f32) (n : FVec Ideal S1x1024 .f32) (o : FVec Ideal S1x128 .f32) (r : FVec Ideal S32x8 .f32)
    (l : FVec Ideal S2x1024 .f32) (f : FVec Ideal S1024 .f32)

theorem pack_b (j : Fin 3072) : @Eq EReal (pack b n o r l f (ix2 ⟨j.val / 1024, by omega⟩ ⟨j.val % 1024, by omega⟩)) (b (ix2 0 j)) := by
  pointwise [pack]
  rw [dif_pos ⟨by omega, by omega⟩, dif_pos (by omega)]

theorem pack_n (j : Fin 1024) : @Eq EReal (pack b n o r l f (ix2 3 j)) (n (ix2 0 j)) := by
  pointwise [pack]

theorem pack_o (j : Fin 128) : @Eq EReal (pack b n o r l f (ix2 4 ⟨j.val, by omega⟩)) (o (ix2 0 j)) := by
  pointwise [pack]
  rw [dif_pos (by omega)]

theorem pack_r (i : Fin 32) (j : Fin 8) : @Eq EReal (pack b n o r l f (ix2 5 ⟨i.val * 8 + j.val, by omega⟩)) (r (ix2 i j)) := by
  pointwise [pack]
  rw [dif_pos (by omega), dif_pos (by omega)]

theorem pack_l (i : Fin 2) (j : Fin 1024) : @Eq EReal (pack b n o r l f (ix2 ⟨6 + i.val, by omega⟩ j)) (l (ix2 i j)) := by
  pointwise [pack]
  rw [dif_pos (by omega), dif_neg (by omega), dif_neg (by omega), dif_neg (by omega), dif_neg (by omega), dif_pos (by omega), dif_pos (by omega)]
  exact congrArg (fun a => l (ix2 a j)) (Fin.ext (by show ((6 + i.val - 3 - 1 - 1 - 1) * 1024 + j.val) / 1024 = i.val; omega))

theorem pack_f (j : Fin 1024) : @Eq EReal (pack b n o r l f (ix2 8 j)) (f (ix1 j)) := by
  pointwise [pack]

end

/-! ### The unpacking -/

def unB (T : FVec Ideal S16x1024 .f32) : FVec Ideal S1x3072 .f32 :=
  shapeCast S1x3072 (shapeCast S3072 (extractStridedSlice S3x1024 ![0, 0] T slices_S16x1024_S3x1024_0_0) shapeCasts_S3x1024_S3072) shapeCasts_S3072_S1x3072

theorem unB_at (T : FVec Ideal S16x1024 .f32) (j : Fin 3072) : @Eq EReal (unB T (ix2 0 j)) (T (ix2 ⟨j.val / 1024, by omega⟩ ⟨j.val % 1024, by omega⟩)) := by
  pointwise [unB]

def unN (T : FVec Ideal S16x1024 .f32) : FVec Ideal S1x1024 .f32 :=
  shapeCast S1x1024 (shapeCast S1024 (extractStridedSlice S1x1024 ![3, 0] T slices_S16x1024_S1x1024_3_0) shapeCasts_S1x1024_S1024) shapeCasts_S1024_S1x1024

theorem unN_at (T : FVec Ideal S16x1024 .f32) (j : Fin 1024) : @Eq EReal (unN T (ix2 0 j)) (T (ix2 3 j)) := by
  pointwise [unN]

def unO (T : FVec Ideal S16x1024 .f32) : FVec Ideal S1x128 .f32 :=
  shapeCast S1x128 (extractStridedSlice S128 ![0] (shapeCast S1024 (extractStridedSlice S1x1024 ![4, 0] T slices_S16x1024_S1x1024_4_0) shapeCasts_S1x1024_S1024) slices_S1024_S128_0) shapeCasts_S128_S1x128

theorem unO_at (T : FVec Ideal S16x1024 .f32) (j : Fin 128) : @Eq EReal (unO T (ix2 0 j)) (T (ix2 4 ⟨j.val, by omega⟩)) := by
  pointwise [unO]

def unR (T : FVec Ideal S16x1024 .f32) : FVec Ideal S32x8 .f32 :=
  shapeCast S32x8 (extractStridedSlice S256 ![0] (shapeCast S1024 (extractStridedSlice S1x1024 ![5, 0] T slices_S16x1024_S1x1024_5_0) shapeCasts_S1x1024_S1024) slices_S1024_S256_0) shapeCasts_S256_S32x8

theorem unR_at (T : FVec Ideal S16x1024 .f32) (i : Fin 32) (j : Fin 8) : @Eq EReal (unR T (ix2 i j)) (T (ix2 5 ⟨i.val * 8 + j.val, by omega⟩)) := by
  pointwise [unR]

def unL (T : FVec Ideal S16x1024 .f32) : FVec Ideal S2x1024 .f32 :=
  shapeCast S2x1024 (shapeCast S2048 (extractStridedSlice S2x1024 ![6, 0] T slices_S16x1024_S2x1024_6_0) shapeCasts_S2x1024_S2048) shapeCasts_S2048_S2x1024

theorem unL_at (T : FVec Ideal S16x1024 .f32) (i : Fin 2) (j : Fin 1024) : @Eq EReal (unL T (ix2 i j)) (T (ix2 ⟨6 + i.val, by omega⟩ j)) := by
  pointwise [unL]

def unF (T : FVec Ideal S16x1024 .f32) : FVec Ideal S1024 .f32 :=
  shapeCast S1024 (extractStridedSlice S1x1024 ![8, 0] T slices_S16x1024_S1x1024_8_0) shapeCasts_S1x1024_S1024

theorem unF_at (T : FVec Ideal S16x1024 .f32) (j : Fin 1024) : @Eq EReal (unF T (ix1 j)) (T (ix2 8 j)) := by
  pointwise [unF]

end

end Opt.Packed

end
-- ==== Proof.Opt.PackedRead.lean ====
/- What the host packs, and what the region leaves of it. -/
module

public import proofs.«01_k».proof.Proof.Opt.Packed

@[expose] public section

set_option maxRecDepth 16384
set_option maxHeartbeats 400000

noncomputable section

namespace Opt.Packed

open Idealize.ShloMosaic Idealize.SL.Sem

section
open Cert.Kernel10Ideal Cert.Kernel10Ideal.Gen

variable (m : (ℓ : Loc nD τ Cert.Kernel10Ideal.sig) → Buf (Elt Ideal) ℓ) (c : Dev nD)

/-- One argument. -/
abbrev at_ (b : Ref Cert.Kernel10Ideal.sig .tc) : Buf (Elt Ideal) ((c.tc : Thread nD τ).loc b) := m ((c.tc : Thread nD τ).loc b)

/-- The weights, their gradients and their two moments, each packed. -/
def pack_w : FVec Ideal S16x1024 .f32 := pack (at_ m c main_arg0) (at_ m c main_arg4) (at_ m c main_arg8) (at_ m c main_arg12) (at_ m c main_arg16) (at_ m c main_arg20)
def pack_g : FVec Ideal S16x1024 .f32 := pack (at_ m c main_arg1) (at_ m c main_arg5) (at_ m c main_arg9) (at_ m c main_arg13) (at_ m c main_arg17) (at_ m c main_arg21)
def pack_m : FVec Ideal S16x1024 .f32 := pack (at_ m c main_arg2) (at_ m c main_arg6) (at_ m c main_arg10) (at_ m c main_arg14) (at_ m c main_arg18) (at_ m c main_arg22)
def pack_v : FVec Ideal S16x1024 .f32 := pack (at_ m c main_arg3) (at_ m c main_arg7) (at_ m c main_arg11) (at_ m c main_arg15) (at_ m c main_arg19) (at_ m c main_arg23)

set_option maxHeartbeats 4000000 in
theorem V_w : V m c main_v72 = pack_w m c := by
  unfold V V0 pack_w
  simp only [List.flatten_cons, List.flatten_nil, List.cons_append, List.nil_append, List.append_nil]
  after_results_simp
  rfl

set_option maxHeartbeats 4000000 in
theorem V_g : V m c main_v73 = pack_g m c := by
  unfold V V0 pack_g
  simp only [List.flatten_cons, List.flatten_nil, List.cons_append, List.nil_append, List.append_nil]
  after_results_simp
  rfl

set_option maxHeartbeats 4000000 in
theorem V_m : V m c main_v74 = pack_m m c := by
  unfold V V0 pack_m
  simp only [List.flatten_cons, List.flatten_nil, List.cons_append, List.nil_append, List.append_nil]
  after_results_simp
  rfl

set_option maxHeartbeats 4000000 in
theorem V_v : V m c main_v75 = pack_v m c := by
  unfold V V0 pack_v
  simp only [List.flatten_cons, List.flatten_nil, List.cons_append, List.nil_append, List.append_nil]
  after_results_simp
  rfl

theorem blks (t : Fin cfg0.N) (y : S16x1024.Idx) :
    iblk m c 0 t y = pack_w m c ((win0_4.blk t).view.emb y) ∧ iblk m c 1 t y = pack_g m c ((win0_4.blk t).view.emb y)
    ∧ iblk m c 2 t y = pack_m m c ((win0_4.blk t).view.emb y) ∧ iblk m c 3 t y = pack_v m c ((win0_4.blk t).view.emb y) := by
  rw [← V_w m c, ← V_g m c, ← V_m m c, ← V_v m c]
  exact ⟨rfl, rfl, rfl, rfl⟩

/-- The step, packed. -/
def outD : FVec Ideal S16x1024 .f32 := fun y => oneD (pack_w m c y) (pack_g m c y) (pack_m m c y) (pack_v m c y)
/-- The first moment, packed. -/
def out1 : FVec Ideal S16x1024 .f32 := fun y => one1 (pack_g m c y) (pack_m m c y)
/-- The second moment, packed. -/
def out2 : FVec Ideal S16x1024 .f32 := fun y => one2 (pack_g m c y) (pack_v m c y)

theorem arr5 : (dats m 0 c).arrAt 5 cfg0.N = outD m c := by
  refine (dats m 0 c).arrAt_eq_of_covers 5 _ (by decide +kernel) fun t hf y => ?_
  obtain ⟨b0, b1, b2, b3⟩ := blks m c t y
  blk_simp
  rw [after0_5]
  frame_out
  refine Eq.trans (b := outD m c ((win0_4.blk t).view.emb y)) ?_ rfl
  pointwise [k0_pay4, k0_pay3, k0_pay1, k0_pay2, outD, oneD, delta, moment1, moment2]
  rw [b0, b1, b2, b3]

theorem arr6 : (dats m 0 c).arrAt 6 cfg0.N = out1 m c := by
  refine (dats m 0 c).arrAt_eq_of_covers 6 _ (by decide +kernel) fun t hf y => ?_
  obtain ⟨b0, b1, b2, b3⟩ := blks m c t y
  blk_simp
  rw [after0_6]
  frame_out
  refine Eq.trans (b := out1 m c ((win0_4.blk t).view.emb y)) ?_ rfl
  pointwise [k0_pay1, k0_pay2, out1, one1, moment1]
  rw [b1, b2]

theorem arr7 : (dats m 0 c).arrAt 7 cfg0.N = out2 m c := by
  refine (dats m 0 c).arrAt_eq_of_covers 7 _ (by decide +kernel) fun t hf y => ?_
  obtain ⟨b0, b1, b2, b3⟩ := blks m c t y
  blk_simp
  rw [after0_7]
  frame_out
  refine Eq.trans (b := out2 m c ((win0_4.blk t).view.emb y)) ?_ rfl
  pointwise [k0_pay1, k0_pay3, out2, one2, moment2]
  rw [b1, b3]

/-- What the region leaves, before the host unpacks it. -/
abbrev left (b : Ref Cert.Kernel10Ideal.sig .tc) := Pipeline.withArrays (cfgs 0).spec c (V0 m c) (fun w => (dats m 0 c).arrAt w (cfgs 0).N) (Proc.tc.devRef b)

theorem left1 : left m c main_v76_1 = outD m c :=
  (Pipeline.withArrays_arr spec0 (by decide : Function.Injective (Pipeline.arrRef spec0)) c (V0 m c) (fun w => (dats m 0 c).arrAt w (cfgs 0).N) 5).trans (arr5 m c)
theorem left2 : left m c main_v76_2 = out1 m c :=
  (Pipeline.withArrays_arr spec0 (by decide : Function.Injective (Pipeline.arrRef spec0)) c (V0 m c) (fun w => (dats m 0 c).arrAt w (cfgs 0).N) 6).trans (arr6 m c)
theorem left3 : left m c main_v76_3 = out2 m c :=
  (Pipeline.withArrays_arr spec0 (by decide : Function.Injective (Pipeline.arrRef spec0)) c (V0 m c) (fun w => (dats m 0 c).arrAt w (cfgs 0).N) 7).trans (arr7 m c)

end

end Opt.Packed

end
-- ==== Proof.Opt.PackedValue.lean ====
/- The AdamW update of the six small weights: the unpacked results are the reference's. -/
module

public import proofs.«01_k».proof.Proof.Opt.PackedRead
public import proofs.«01_k».proof.Proof.Gen.Kernel10.Frame

@[expose] public section

set_option maxRecDepth 16384
set_option maxHeartbeats 400000

noncomputable section

namespace Opt.Packed

open Idealize.ShloMosaic Idealize.SL.Sem

/-- The reference's frame. -/
theorem frame_ref : Cert.quiescent_Reference10Ideal := fun m ρ _ =>
  (θ_run Cert.Reference10Ideal.defs _ _).mono
    (fun r h => ⟨fun c => (h c).2.2.2.2.2.2.2.2.2.2.2.2.2.2.2.2.2.2, sem_eq_zero_of_no_sems (by decide) r.2⟩)
    (Cert.Reference10Ideal.Value.run (F := Ideal) m ρ)

theorem frame_kernel : Cert.quiescent_Kernel10 := fun m ρ _ => Cert.Kernel10.Gen.frame m ρ

theorem frame_ideal : Cert.quiescent_Kernel10Ideal := fun m ρ _ => Cert.Kernel10Ideal.Gen.frame m ρ

section
open Cert.Kernel10Ideal Cert.Kernel10Ideal.Gen

variable (m : (ℓ : Loc nD τ Cert.Kernel10Ideal.sig) → Buf (Elt Ideal) ℓ) (c : Dev nD)

/-- What the host hands on. -/
abbrev handed (b : Ref Cert.Kernel10Ideal.sig .tc) := Pipeline.afterTail₀ cfgs (dats m) 0 (V0 m) [hostOps1] c b

set_option maxHeartbeats 2000000 in
theorem handed_steps : handed m c main_v79 = unB (outD m c) ∧ handed m c main_v82 = unN (outD m c) ∧ handed m c main_v86 = unO (outD m c) ∧ handed m c main_v90 = unR (outD m c) ∧ handed m c main_v93 = unL (outD m c) ∧ handed m c main_v95 = unF (outD m c) := by
  unfold handed Pipeline.afterTail₀
  rw [List.flatten_singleton, ← left1 m c]
  refine ⟨?_, ?_, ?_, ?_, ?_, ?_⟩ <;> (after_results_simp; rfl)

set_option maxHeartbeats 2000000 in
theorem handed_firsts : handed m c main_v98 = unB (out1 m c) ∧ handed m c main_v101 = unN (out1 m c) ∧ handed m c main_v105 = unO (out1 m c) ∧ handed m c main_v109 = unR (out1 m c) ∧ handed m c main_v112 = unL (out1 m c) ∧ handed m c main_v114 = unF (out1 m c) := by
  unfold handed Pipeline.afterTail₀
  rw [List.flatten_singleton, ← left2 m c]
  refine ⟨?_, ?_, ?_, ?_, ?_, ?_⟩ <;> (after_results_simp; rfl)

set_option maxHeartbeats 2000000 in
theorem handed_seconds : handed m c main_v117 = unB (out2 m c) ∧ handed m c main_v120 = unN (out2 m c) ∧ handed m c main_v124 = unO (out2 m c) ∧ handed m c main_v128 = unR (out2 m c) ∧ handed m c main_v131 = unL (out2 m c) ∧ handed m c main_v133 = unF (out2 m c) := by
  unfold handed Pipeline.afterTail₀
  rw [List.flatten_singleton, ← left3 m c]
  refine ⟨?_, ?_, ?_, ?_, ?_, ?_⟩ <;> (after_results_simp; rfl)

abbrev hbB := Cert.Reference10Ideal.Gen.facts.bcast_S_S1x3072

theorem outs_B : unB (outD m c) = delta hbB (at_ m c main_arg0) (at_ m c main_arg1) (at_ m c main_arg2) (at_ m c main_arg3)
    ∧ unB (out1 m c) = moment1 hbB (at_ m c main_arg1) (at_ m c main_arg2)
    ∧ unB (out2 m c) = moment2 hbB (at_ m c main_arg1) (at_ m c main_arg3) := by
  refine ⟨?_, ?_, ?_⟩ <;>
  · funext (y : S1x3072.Idx)
    obtain ⟨i, j, rfl⟩ : ∃ i j, y = (ix2 i j : S1x3072.Idx) := ⟨y 0, y 1, eq_ix2 y⟩
    obtain rfl : i = 0 := Subsingleton.elim _ _
    refine (unB_at _ j).trans ?_
    simp only [delta_at, moment1_at, moment2_at, outD, out1, out2, pack_w, pack_g, pack_m, pack_v, pack_b]

abbrev hbN := Cert.Reference10Ideal.Gen.facts.bcast_S_S1x1024

theorem outs_N : unN (outD m c) = delta hbN (at_ m c main_arg4) (at_ m c main_arg5) (at_ m c main_arg6) (at_ m c main_arg7)
    ∧ unN (out1 m c) = moment1 hbN (at_ m c main_arg5) (at_ m c main_arg6)
    ∧ unN (out2 m c) = moment2 hbN (at_ m c main_arg5) (at_ m c main_arg7) := by
  refine ⟨?_, ?_, ?_⟩ <;>
  · funext (y : S1x1024.Idx)
    obtain ⟨i, j, rfl⟩ : ∃ i j, y = (ix2 i j : S1x1024.Idx) := ⟨y 0, y 1, eq_ix2 y⟩
    obtain rfl : i = 0 := Subsingleton.elim _ _
    refine (unN_at _ j).trans ?_
    simp only [delta_at, moment1_at, moment2_at, outD, out1, out2, pack_w, pack_g, pack_m, pack_v, pack_n]

abbrev hbO := Cert.Reference10Ideal.Gen.facts.bcast_S_S1x128

theorem outs_O : unO (outD m c) = delta hbO (at_ m c main_arg8) (at_ m c main_arg9) (at_ m c main_arg10) (at_ m c main_arg11)
    ∧ unO (out1 m c) = moment1 hbO (at_ m c main_arg9) (at_ m c main_arg10)
    ∧ unO (out2 m c) = moment2 hbO (at_ m c main_arg9) (at_ m c main_arg11) := by
  refine ⟨?_, ?_, ?_⟩ <;>
  · funext (y : S1x128.Idx)
    obtain ⟨i, j, rfl⟩ : ∃ i j, y = (ix2 i j : S1x128.Idx) := ⟨y 0, y 1, eq_ix2 y⟩
    obtain rfl : i = 0 := Subsingleton.elim _ _
    refine (unO_at _ j).trans ?_
    simp only [delta_at, moment1_at, moment2_at, outD, out1, out2, pack_w, pack_g, pack_m, pack_v, pack_o]

abbrev hbR := Cert.Reference10Ideal.Gen.facts.bcast_S_S32x8

theorem outs_R : unR (outD m c) = delta hbR (at_ m c main_arg12) (at_ m c main_arg13) (at_ m c main_arg14) (at_ m c main_arg15)
    ∧ unR (out1 m c) = moment1 hbR (at_ m c main_arg13) (at_ m c main_arg14)
    ∧ unR (out2 m c) = moment2 hbR (at_ m c main_arg13) (at_ m c main_arg15) := by
  refine ⟨?_, ?_, ?_⟩ <;>
  · funext (y : S32x8.Idx)
    obtain ⟨i, j, rfl⟩ : ∃ i j, y = (ix2 i j : S32x8.Idx) := ⟨y 0, y 1, eq_ix2 y⟩
    refine (unR_at _ i j).trans ?_
    simp only [delta_at, moment1_at, moment2_at, outD, out1, out2, pack_w, pack_g, pack_m, pack_v, pack_r]

abbrev hbL := Cert.Reference10Ideal.Gen.facts.bcast_S_S2x1024

theorem outs_L : unL (outD m c) = delta hbL (at_ m c main_arg16) (at_ m c main_arg17) (at_ m c main_arg18) (at_ m c main_arg19)
    ∧ unL (out1 m c) = moment1 hbL (at_ m c main_arg17) (at_ m c main_arg18)
    ∧ unL (out2 m c) = moment2 hbL (at_ m c main_arg17) (at_ m c main_arg19) := by
  refine ⟨?_, ?_, ?_⟩ <;>
  · funext (y : S2x1024.Idx)
    obtain ⟨i, j, rfl⟩ : ∃ i j, y = (ix2 i j : S2x1024.Idx) := ⟨y 0, y 1, eq_ix2 y⟩
    refine (unL_at _ i j).trans ?_
    simp only [delta_at, moment1_at, moment2_at, outD, out1, out2, pack_w, pack_g, pack_m, pack_v, pack_l]

abbrev hbF := Cert.Reference10Ideal.Gen.facts.bcast_S_S1024

theorem outs_F : unF (outD m c) = delta hbF (at_ m c main_arg20) (at_ m c main_arg21) (at_ m c main_arg22) (at_ m c main_arg23)
    ∧ unF (out1 m c) = moment1 hbF (at_ m c main_arg21) (at_ m c main_arg22)
    ∧ unF (out2 m c) = moment2 hbF (at_ m c main_arg21) (at_ m c main_arg23) := by
  refine ⟨?_, ?_, ?_⟩ <;>
  · funext (y : S1024.Idx)
    obtain ⟨j, rfl⟩ : ∃ j, y = (ix1 j : S1024.Idx) := ⟨y 0, eq_ix1 y⟩
    refine (unF_at _ j).trans ?_
    simp only [delta_at, moment1_at, moment2_at, outD, out1, out2, pack_w, pack_g, pack_m, pack_v, pack_f]

end

/-- An argument of the reference. -/
abbrev rat (m : (ℓ : Loc Cert.Reference10Ideal.nD Cert.Reference10Ideal.τ Cert.Reference10Ideal.sig) → Buf (Elt Ideal) ℓ) (c : Dev Cert.Reference10Ideal.nD) (b : Ref Cert.Reference10Ideal.sig .tc) :
    Buf (Elt Ideal) ((c.tc : Thread Cert.Reference10Ideal.nD Cert.Reference10Ideal.τ).loc b) := m ((c.tc : Thread Cert.Reference10Ideal.nD Cert.Reference10Ideal.τ).loc b)

section
open Cert.Reference10Ideal

variable (m : (ℓ : Loc nD τ Cert.Reference10Ideal.sig) → Buf (Elt Ideal) ℓ) (g : Dev nD → PrngReg)

set_option maxHeartbeats 2000000 in
/-- The reference's run, in the formulas. -/
theorem ref_run : θ_run (Cert.Reference10Ideal.defs (F := Ideal)) (onTc (τ := τ) (Cert.Reference10Ideal.main (F := Ideal))) ⟨m, fun _ => 0, g⟩ fun r => ∀ c : Dev nD,
      r.2.mem ((c.tc : Thread nD τ).loc main_v23) = delta hbB (rat m c main_arg0) (rat m c main_arg1) (rat m c main_arg2) (rat m c main_arg3)
      ∧ r.2.mem ((c.tc : Thread nD τ).loc main_v4) = moment1 hbB (rat m c main_arg1) (rat m c main_arg2)
      ∧ r.2.mem ((c.tc : Thread nD τ).loc main_v10) = moment2 hbB (rat m c main_arg1) (rat m c main_arg3)
      ∧ r.2.mem ((c.tc : Thread nD τ).loc main_v47) = delta hbN (rat m c main_arg4) (rat m c main_arg5) (rat m c main_arg6) (rat m c main_arg7)
      ∧ r.2.mem ((c.tc : Thread nD τ).loc main_v28) = moment1 hbN (rat m c main_arg5) (rat m c main_arg6)
      ∧ r.2.mem ((c.tc : Thread nD τ).loc main_v34) = moment2 hbN (rat m c main_arg5) (rat m c main_arg7)
      ∧ r.2.mem ((c.tc : Thread nD τ).loc main_v71) = delta hbO (rat m c main_arg8) (rat m c main_arg9) (rat m c main_arg10) (rat m c main_arg11)
      ∧ r.2.mem ((c.tc : Thread nD τ).loc main_v52) = moment1 hbO (rat m c main_arg9) (rat m c main_arg10)
      ∧ r.2.mem ((c.tc : Thread nD τ).loc main_v58) = moment2 hbO (rat m c main_arg9) (rat m c main_arg11)
      ∧ r.2.mem ((c.tc : Thread nD τ).loc main_v95) = delta hbR (rat m c main_arg12) (rat m c main_arg13) (rat m c main_arg14) (rat m c main_arg15)
      ∧ r.2.mem ((c.tc : Thread nD τ).loc main_v76) = moment1 hbR (rat m c main_arg13) (rat m c main_arg14)
      ∧ r.2.mem ((c.tc : Thread nD τ).loc main_v82) = moment2 hbR (rat m c main_arg13) (rat m c main_arg15)
      ∧ r.2.mem ((c.tc : Thread nD τ).loc main_v119) = delta hbL (rat m c main_arg16) (rat m c main_arg17) (rat m c main_arg18) (rat m c main_arg19)
      ∧ r.2.mem ((c.tc : Thread nD τ).loc main_v100) = moment1 hbL (rat m c main_arg17) (rat m c main_arg18)
      ∧ r.2.mem ((c.tc : Thread nD τ).loc main_v106) = moment2 hbL (rat m c main_arg17) (rat m c main_arg19)
      ∧ r.2.mem ((c.tc : Thread nD τ).loc main_v143) = delta hbF (rat m c main_arg20) (rat m c main_arg21) (rat m c main_arg22) (rat m c main_arg23)
      ∧ r.2.mem ((c.tc : Thread nD τ).loc main_v124) = moment1 hbF (rat m c main_arg21) (rat m c main_arg22)
      ∧ r.2.mem ((c.tc : Thread nD τ).loc main_v130) = moment2 hbF (rat m c main_arg21) (rat m c main_arg23)
      ∧ r.2.mem ((c.tc : Thread nD τ).loc main_arg0) = rat m c main_arg0
      ∧ r.2.mem ((c.tc : Thread nD τ).loc main_arg1) = rat m c main_arg1
      ∧ r.2.mem ((c.tc : Thread nD τ).loc main_arg2) = rat m c main_arg2
      ∧ r.2.mem ((c.tc : Thread nD τ).loc main_arg3) = rat m c main_arg3
      ∧ r.2.mem ((c.tc : Thread nD τ).loc main_arg4) = rat m c main_arg4
      ∧ r.2.mem ((c.tc : Thread nD τ).loc main_arg5) = rat m c main_arg5
      ∧ r.2.mem ((c.tc : Thread nD τ).loc main_arg6) = rat m c main_arg6
      ∧ r.2.mem ((c.tc : Thread nD τ).loc main_arg7) = rat m c main_arg7
      ∧ r.2.mem ((c.tc : Thread nD τ).loc main_arg8) = rat m c main_arg8
      ∧ r.2.mem ((c.tc : Thread nD τ).loc main_arg9) = rat m c main_arg9
      ∧ r.2.mem ((c.tc : Thread nD τ).loc main_arg10) = rat m c main_arg10
      ∧ r.2.mem ((c.tc : Thread nD τ).loc main_arg11) = rat m c main_arg11
      ∧ r.2.mem ((c.tc : Thread nD τ).loc main_arg12) = rat m c main_arg12
      ∧ r.2.mem ((c.tc : Thread nD τ).loc main_arg13) = rat m c main_arg13
      ∧ r.2.mem ((c.tc : Thread nD τ).loc main_arg14) = rat m c main_arg14
      ∧ r.2.mem ((c.tc : Thread nD τ).loc main_arg15) = rat m c main_arg15
      ∧ r.2.mem ((c.tc : Thread nD τ).loc main_arg16) = rat m c main_arg16
      ∧ r.2.mem ((c.tc : Thread nD τ).loc main_arg17) = rat m c main_arg17
      ∧ r.2.mem ((c.tc : Thread nD τ).loc main_arg18) = rat m c main_arg18
      ∧ r.2.mem ((c.tc : Thread nD τ).loc main_arg19) = rat m c main_arg19
      ∧ r.2.mem ((c.tc : Thread nD τ).loc main_arg20) = rat m c main_arg20
      ∧ r.2.mem ((c.tc : Thread nD τ).loc main_arg21) = rat m c main_arg21
      ∧ r.2.mem ((c.tc : Thread nD τ).loc main_arg22) = rat m c main_arg22
      ∧ r.2.mem ((c.tc : Thread nD τ).loc main_arg23) = rat m c main_arg23 :=
  (θ_run _ _ _).mono (fun _ h c => h c) (Cert.Reference10Ideal.Value.run (F := Ideal) m g)

end

set_option maxHeartbeats 4000000 in
/-- The kernel and the reference compute the same eighteen arrays. -/
theorem value : Cert.algebraic_Kernel10Ideal_Reference10Ideal := by
  intro m g m' g' _ hagree
  refine ⟨fun c => unB (outD m c), fun c => unB (out1 m c), fun c => unB (out2 m c), fun c => unN (outD m c), fun c => unN (out1 m c), fun c => unN (out2 m c), fun c => unO (outD m c), fun c => unO (out1 m c), fun c => unO (out2 m c), fun c => unR (outD m c), fun c => unR (out1 m c), fun c => unR (out2 m c), fun c => unL (outD m c), fun c => unL (out1 m c), fun c => unL (out2 m c), fun c => unF (outD m c), fun c => unF (out1 m c), fun c => unF (out2 m c), ?_, ?_⟩
  · refine (θ_run _ _ _).mono (fun r h c => ?_) (θ_run_and (Cert.Kernel10Ideal.Gen.run_main (F := Ideal) m g) (Cert.Kernel10Ideal.Gen.unchanged (F := Ideal) m g))
    obtain ⟨d0, d1, d2, d3, d4, d5⟩ := handed_steps m c
    obtain ⟨f0, f1, f2, f3, f4, f5⟩ := handed_firsts m c
    obtain ⟨s0, s1, s2, s3, s4, s5⟩ := handed_seconds m c
    have k := (h.1 c).2
    exact ⟨(k Cert.Kernel10Ideal.main_v79 (by decide)).trans d0,
      (k Cert.Kernel10Ideal.main_v98 (by decide)).trans f0,
      (k Cert.Kernel10Ideal.main_v117 (by decide)).trans s0,
      (k Cert.Kernel10Ideal.main_v82 (by decide)).trans d1,
      (k Cert.Kernel10Ideal.main_v101 (by decide)).trans f1,
      (k Cert.Kernel10Ideal.main_v120 (by decide)).trans s1,
      (k Cert.Kernel10Ideal.main_v86 (by decide)).trans d2,
      (k Cert.Kernel10Ideal.main_v105 (by decide)).trans f2,
      (k Cert.Kernel10Ideal.main_v124 (by decide)).trans s2,
      (k Cert.Kernel10Ideal.main_v90 (by decide)).trans d3,
      (k Cert.Kernel10Ideal.main_v109 (by decide)).trans f3,
      (k Cert.Kernel10Ideal.main_v128 (by decide)).trans s3,
      (k Cert.Kernel10Ideal.main_v93 (by decide)).trans d4,
      (k Cert.Kernel10Ideal.main_v112 (by decide)).trans f4,
      (k Cert.Kernel10Ideal.main_v131 (by decide)).trans s4,
      (k Cert.Kernel10Ideal.main_v95 (by decide)).trans d5,
      (k Cert.Kernel10Ideal.main_v114 (by decide)).trans f5,
      (k Cert.Kernel10Ideal.main_v133 (by decide)).trans s5, h.2 c⟩
  · refine (θ_run _ _ _).mono (fun r h c => ?_) (ref_run m' g')
    obtain ⟨e0, e1, e2, e3, e4, e5, e6, e7, e8, e9, e10, e11, e12, e13, e14, e15, e16, e17, e18, e19, e20, e21, e22, e23⟩ := hagree c
    obtain ⟨h0, h1, h2, h3, h4, h5, h6, h7, h8, h9, h10, h11, h12, h13, h14, h15, h16, h17, ha⟩ := h c
    unfold rat at h0
    rw [e0, e1, e2, e3] at h0
    unfold rat at h1
    rw [e1, e2] at h1
    unfold rat at h2
    rw [e1, e3] at h2
    unfold rat at h3
    rw [e4, e5, e6, e7] at h3
    unfold rat at h4
    rw [e5, e6] at h4
    unfold rat at h5
    rw [e5, e7] at h5
    unfold rat at h6
    rw [e8, e9, e10, e11] at h6
    unfold rat at h7
    rw [e9, e10] at h7
    unfold rat at h8
    rw [e9, e11] at h8
    unfold rat at h9
    rw [e12, e13, e14, e15] at h9
    unfold rat at h10
    rw [e13, e14] at h10
    unfold rat at h11
    rw [e13, e15] at h11
    unfold rat at h12
    rw [e16, e17, e18, e19] at h12
    unfold rat at h13
    rw [e17, e18] at h13
    unfold rat at h14
    rw [e17, e19] at h14
    unfold rat at h15
    rw [e20, e21, e22, e23] at h15
    unfold rat at h16
    rw [e21, e22] at h16
    unfold rat at h17
    rw [e21, e23] at h17
    exact ⟨h0.trans (outs_B m c).1.symm,
      h1.trans (outs_B m c).2.1.symm,
      h2.trans (outs_B m c).2.2.symm,
      h3.trans (outs_N m c).1.symm,
      h4.trans (outs_N m c).2.1.symm,
      h5.trans (outs_N m c).2.2.symm,
      h6.trans (outs_O m c).1.symm,
      h7.trans (outs_O m c).2.1.symm,
      h8.trans (outs_O m c).2.2.symm,
      h9.trans (outs_R m c).1.symm,
      h10.trans (outs_R m c).2.1.symm,
      h11.trans (outs_R m c).2.2.symm,
      h12.trans (outs_L m c).1.symm,
      h13.trans (outs_L m c).2.1.symm,
      h14.trans (outs_L m c).2.2.symm,
      h15.trans (outs_F m c).1.symm,
      h16.trans (outs_F m c).2.1.symm,
      h17.trans (outs_F m c).2.2.symm, ha⟩

end Opt.Packed

end
-- ==== Proof.Opt.Sum.lean ====
/- The sum over the devices of the loss and of the gradients of the six small weights. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import Idealize.ShloMosaic.Lib.Pointwise
public import Idealize.ShloMosaic.Lib.StableHlo.ReadAt
public import Idealize.ShloMosaic.Lib.Pipeline.ValueKit

@[expose] public section

set_option maxRecDepth 16384
set_option maxHeartbeats 400000

noncomputable section

namespace Opt.Sum

open Idealize.ShloMosaic Idealize.SL.Sem

/-- The reference's frame. -/
theorem frame_ref : Cert.quiescent_Reference11Ideal := fun m ρ _ =>
  (θ_run Cert.Reference11Ideal.defs _ _).mono
    (fun r h => ⟨fun c => (h c).2.2.2.2.2.2.2, sem_eq_zero_of_no_sems (by decide) r.2⟩)
    (Cert.Reference11Ideal.Value.run (F := Ideal) m ρ)

section
open Cert.Reference11Ideal Cert.Reference11Ideal.Gen

/-- The exponentials of the softmax over the rows, each column's largest entry taken off before. -/
def ex (l : FVec Ideal S2x1024 .f32) : FVec Ideal S2x1024 .f32 :=
  Host.exp (subf l (broadcastInDim S2x1024 ![0, 1] bcast_S1x1024_S2x1024_0_1 (broadcastInDim S1x1024 ![1] bcast_S1024_S1x1024_1
    (maximumf (broadcastInDim S1024 ![] bcast_S_S1024 (constant S_ .f32 0xFF800000#32))
      (Host.reduce FloatOps.maximumf l (constant S_ .f32 0xFF800000#32) reducesTo_S2x1024_S1024_d0 h_S_)))))

/-- Their sums. -/
def exSum (l : FVec Ideal S2x1024 .f32) : FVec Ideal S1x1024 .f32 :=
  broadcastInDim S1x1024 ![1] bcast_S1024_S1x1024_1 (Host.reduceAdd (ex l) (constant S_ .f32 0x00000000#32) reducesTo_S2x1024_S1024_d0 h_S_)

/-- The cotangent of the softmax, out of the first running sum's. -/
def cot (d : FVec Ideal S1024 .f32) : FVec Ideal S2x1024 .f32 :=
  Host.reduceWindowAdd ![2, 1] ![1, 1] ![0, 0] ![1, 0] (pad S2x1024 ![0, 0] ![1, 0] ![0, 0] (broadcastInDim S1x1024 ![1] bcast_S1024_S1x1024_1 d)
    (constant S_ .f32 0x00000000#32) pads_S1x1024_S2x1024_010_000 h_S_) (broadcastInDim S_ ![] bcast_S_S_ (constant S_ .f32 0x00000000#32)) reduceWindows_S2x1024_S2x1024_w2s1p0_1_w1s1p0_0 h_S_

/-- The gradient of the lower bounds' weight, given the cotangent of the layer's lower bound. -/
def lbGrad (l : FVec Ideal S2x1024 .f32) (d : FVec Ideal S1024 .f32) : FVec Ideal S2x1024 .f32 :=
  mulf (addf (Host.divf (cot d) (broadcastInDim S2x1024 ![0, 1] bcast_S1x1024_S2x1024_0_1 (exSum l)))
    (broadcastInDim S2x1024 ![1] bcast_S1024_S2x1024_1 (Host.reduceAdd (Host.negf (shapeCast S1x1024 (Host.reduceAdd
      (mulf (mulf (cot d) (broadcastInDim S2x1024 ![0, 1] bcast_S1x1024_S2x1024_0_1
        (Host.divf (broadcastInDim S1x1024 ![] bcast_S_S1x1024 (constant S_ .f32 0x3F800000#32)) (mulf (exSum l) (exSum l))))) (ex l))
      (constant S_ .f32 0x00000000#32) reducesTo_S2x1024_S1024_d0 h_S_) shapeCasts_S1024_S1x1024)) (constant S_ .f32 0x00000000#32) reducesTo_S1x1024_S1024_d0 h_S_)))
    (ex l)

end

section
open Cert.Kernel11Ideal Cert.Kernel11Ideal.Gen

variable (m : (ℓ : Loc nD τ Cert.Kernel11Ideal.sig) → Buf (Elt Ideal) ℓ) (c : Dev nD)

/-- What the devices hand over. -/
abbrev packs : FVec Ideal S8x16x1024 .f32 := m ((c.tc : Thread nD τ).loc main_arg0)

/-- The sum over the devices. -/
def tot (A : FVec Ideal S8x16x1024 .f32) : FVec Ideal S16x1024 .f32 := fun i => ∑ d : Fin 8, (A (ix3 d (i 0) (i 1)) : EReal)

theorem sum8 (f : Fin 8 → EReal) : f 0 + f 1 + f 2 + f 3 + f 4 + f 5 + f 6 + f 7 = ∑ d, f d := (Fin.sum_univ_eight f).symm

theorem idx0 (t : Fin cfg0.N) : win0_0.index t = ![0, 0, 0] :=
  (by decide +kernel : ∀ t : Fin cfg0.N, win0_0.index t = ![0, 0, 0]) t
theorem idx1 (t : Fin cfg0.N) : win0_1.index t = ![0, 0] :=
  (by decide +kernel : ∀ t : Fin cfg0.N, win0_1.index t = ![0, 0]) t

theorem emb1 (t : Fin cfg0.N) (i : Fin 16) (j : Fin 1024) : (win0_1.blk t).view.emb (ix2 i j) = ix2 i j := by
  have e := idx1 t
  blk_ext [e]

theorem blk0 (t : Fin cfg0.N) (d : Fin 8) (i : Fin 16) (j : Fin 1024) : iblk m c 0 t (ix3 d i j) = packs m c (ix3 d i j) := by
  unfold packs
  rw [← V_main_arg0 m c]
  have e := idx0 t
  blk_ext [iblk, e]

theorem arr1 : (dats m 0 c).arrAt 1 cfg0.N = tot (packs m c) := by
  refine (dats m 0 c).arrAt_eq_of_covers 1 _ (by decide +kernel) fun t hf (y : S16x1024.Idx) => ?_
  obtain ⟨i, j, rfl⟩ : ∃ i j, y = (ix2 i j : S16x1024.Idx) := ⟨y 0, y 1, eq_ix2 y⟩
  blk_simp
  rw [after0_1]
  frame_out
  refine Eq.trans (b := tot (packs m c) (ix2 i j)) ?_ (congrArg (tot (packs m c)) (emb1 t i j).symm)
  pointwise [k0_pay1, tot, r0_0, r0_1, r0_2, r0_3, r0_4, r0_5, r0_6, r0_7]
  rw [blk0 m c t 0 i j, blk0 m c t 1 i j, blk0 m c t 2 i j, blk0 m c t 3 i j, blk0 m c t 4 i j, blk0 m c t 5 i j, blk0 m c t 6 i j, blk0 m c t 7 i j]
  exact sum8 fun d => packs m c (ix3 d i j)

/-- After the region the first array is the sum. -/
theorem region0 : Pipeline.withArrays (cfgs 0).spec c (V0 m c) (fun w => (dats m 0 c).arrAt w (cfgs 0).N) (Proc.tc.devRef main_v0) = tot (packs m c) :=
  (Pipeline.withArrays_arr spec0 (by decide : Function.Injective (Pipeline.arrRef spec0)) c (V0 m c) (fun w => (dats m 0 c).arrAt w (cfgs 0).N) 1).trans (arr1 m c)

/-- The loss. -/
def loss (A : FVec Ideal S8x16x1024 .f32) : FVec Ideal S_ .f32 := fun _ => tot A (ix2 7 0)
/-- The gradient of the modulation's bias: three rows. -/
def bAda (A : FVec Ideal S8x16x1024 .f32) : FVec Ideal S1x3072 .f32 := fun y => tot A (ix2 ⟨(y 1).val / 1024, have := (y 1).isLt; by simp at this; omega⟩ ⟨(y 1).val % 1024, by omega⟩)
/-- The gradient of the norm's gain. -/
def normG (A : FVec Ideal S8x16x1024 .f32) : FVec Ideal S1x1024 .f32 := fun y => tot A (ix2 3 (y 1))
/-- The gradient of the heads' norm: the first 128 words of a row. -/
def onorm (A : FVec Ideal S8x16x1024 .f32) : FVec Ideal S1x128 .f32 := fun y => tot A (ix2 6 ⟨(y 1).val, have := (y 1).isLt; by simp at this; omega⟩)
/-- The gradient of the table of relative positions: the first 256 words of a row. -/
def rel (A : FVec Ideal S8x16x1024 .f32) : FVec Ideal S32x8 .f32 := fun y => tot A (ix2 8 ⟨(y 0).val * 8 + (y 1).val, have := (y 0).isLt; have := (y 1).isLt; by simp at *; omega⟩)
/-- The gradient of the last norm's gain. -/
def finalG (A : FVec Ideal S8x16x1024 .f32) : FVec Ideal S1024 .f32 := fun y => tot A (ix2 4 (y 0))

theorem host_loss : Pipeline.afterTail₀ cfgs (dats m) 0 (V0 m) [hostOps1, hostOps1_1, hostOps1_2, hostOps1_3, hostOps1_4] c main_v2 = loss (packs m c) := by
  unfold Pipeline.afterTail₀
  simp only [List.flatten_cons, List.flatten_nil, List.cons_append, List.nil_append, List.append_nil]
  funext y
  after_reads_at
  exact congrFun (region0 m c) _

theorem host_bAda : Pipeline.afterTail₀ cfgs (dats m) 0 (V0 m) [hostOps1, hostOps1_1, hostOps1_2, hostOps1_3, hostOps1_4] c main_v4 = bAda (packs m c) := by
  unfold Pipeline.afterTail₀
  simp only [List.flatten_cons, List.flatten_nil, List.cons_append, List.nil_append, List.append_nil]
  funext (y : S1x3072.Idx)
  obtain ⟨i, j, rfl⟩ : ∃ i j, y = (ix2 i j : S1x3072.Idx) := ⟨y 0, y 1, eq_ix2 y⟩
  obtain rfl : i = 0 := Subsingleton.elim _ _
  after_reads_at
  exact congrFun (region0 m c) _

theorem host_normG : Pipeline.afterTail₀ cfgs (dats m) 0 (V0 m) [hostOps1, hostOps1_1, hostOps1_2, hostOps1_3, hostOps1_4] c main_v5 = normG (packs m c) := by
  unfold Pipeline.afterTail₀
  simp only [List.flatten_cons, List.flatten_nil, List.cons_append, List.nil_append, List.append_nil]
  funext (y : S1x1024.Idx)
  obtain ⟨i, j, rfl⟩ : ∃ i j, y = (ix2 i j : S1x1024.Idx) := ⟨y 0, y 1, eq_ix2 y⟩
  obtain rfl : i = 0 := Subsingleton.elim _ _
  after_reads_at
  exact congrFun (region0 m c) _

theorem host_onorm : Pipeline.afterTail₀ cfgs (dats m) 0 (V0 m) [hostOps1, hostOps1_1, hostOps1_2, hostOps1_3, hostOps1_4] c main_v6 = onorm (packs m c) := by
  unfold Pipeline.afterTail₀
  simp only [List.flatten_cons, List.flatten_nil, List.cons_append, List.nil_append, List.append_nil]
  funext (y : S1x128.Idx)
  obtain ⟨i, j, rfl⟩ : ∃ i j, y = (ix2 i j : S1x128.Idx) := ⟨y 0, y 1, eq_ix2 y⟩
  obtain rfl : i = 0 := Subsingleton.elim _ _
  after_reads_at
  exact congrFun (region0 m c) _

theorem host_rel : Pipeline.afterTail₀ cfgs (dats m) 0 (V0 m) [hostOps1, hostOps1_1, hostOps1_2, hostOps1_3, hostOps1_4] c main_v9 = rel (packs m c) := by
  unfold Pipeline.afterTail₀
  simp only [List.flatten_cons, List.flatten_nil, List.cons_append, List.nil_append, List.append_nil]
  funext (y : S32x8.Idx)
  obtain ⟨i, j, rfl⟩ : ∃ i j, y = (ix2 i j : S32x8.Idx) := ⟨y 0, y 1, eq_ix2 y⟩
  after_reads_at
  exact congrFun (region0 m c) _

theorem host_finalG : Pipeline.afterTail₀ cfgs (dats m) 0 (V0 m) [hostOps1, hostOps1_1, hostOps1_2, hostOps1_3, hostOps1_4] c main_v11 = finalG (packs m c) := by
  unfold Pipeline.afterTail₀
  simp only [List.flatten_cons, List.flatten_nil, List.cons_append, List.nil_append, List.append_nil]
  funext (y : S1024.Idx)
  obtain ⟨j, rfl⟩ : ∃ j, y = (ix1 j : S1024.Idx) := ⟨y 0, eq_ix1 y⟩
  after_reads_at
  exact congrFun (region0 m c) _

/-- The cotangent of the layer's lower bound, summed over the devices. -/
def dLow (A : FVec Ideal S8x16x1024 .f32) : FVec Ideal S1024 .f32 := fun y => tot A (ix2 5 (y 0))

theorem row5 (A : FVec Ideal S8x16x1024 .f32) : shapeCast S1024 (extractStridedSlice S1x1024 ![5, 0] (tot A) slices_S16x1024_S1x1024_5_0) shapeCasts_S1x1024_S1024 = dLow A := by
  funext (y : S1024.Idx)
  obtain ⟨j, rfl⟩ : ∃ j, y = (ix1 j : S1024.Idx) := ⟨y 0, eq_ix1 y⟩
  refine (show @Eq EReal _ _ from ?_)
  pointwise [dLow]

/-- The weight of the lower bounds. -/
abbrev bounds : FVec Ideal S2x1024 .f32 := m ((c.tc : Thread nD τ).loc main_arg1)

/-- The region leaves the weight of the lower bounds. -/
theorem region_arg1 : Pipeline.withArrays (cfgs 0).spec c (V0 m c) (fun w => (dats m 0 c).arrAt w (cfgs 0).N) (Proc.tc.devRef main_arg1) = bounds m c :=
  Pipeline.withArrays_of_ne _ c (V0 m c) _ main_arg1 (by exact (by decide : ∀ w, Pipeline.arrRef spec0 w ≠ main_arg1))

set_option maxHeartbeats 2000000 in
theorem host_lb : Pipeline.afterTail₀ cfgs (dats m) 0 (V0 m) [hostOps1, hostOps1_1, hostOps1_2, hostOps1_3, hostOps1_4] c main_v59 = lbGrad (bounds m c) (dLow (packs m c)) := by
  unfold Pipeline.afterTail₀
  simp only [List.flatten_cons, List.flatten_nil, List.cons_append, List.nil_append, List.append_nil]
  after_results_simp
  simp only [StableHlo.TRef.toBuf, StableHlo.TRef.ofBuf, cast_eq]
  rw [region0 m c, region_arg1 m c]
  exact congrArg (lbGrad (bounds m c)) (row5 (packs m c))

end

section
open Cert.Reference11Ideal Cert.Reference11Ideal.Gen

theorem ref_loss (A : FVec Ideal S8x16x1024 .f32) : Host.reduceAdd (shapeCast _ (extractStridedSlice S8x1x1 ![0, 7, 0] A slices_S8x16x1024_S8x1x1_0_7_0) shapeCasts_S8x1x1_S8) (constant (F := Ideal) S_ .f32 0x00000000#32) reducesTo_S8_S_d0 h_S_ = loss A := by
  funext y
  refine (show @Eq EReal _ _ from ?_)
  pointwise [tot, loss]

theorem ref_bAda (A : FVec Ideal S8x16x1024 .f32) : Host.reduceAdd (shapeCast _ (extractStridedSlice S8x3x1024 ![0, 0, 0] A slices_S8x16x1024_S8x3x1024_0_0_0) shapeCasts_S8x3x1024_S8x1x3072) (constant (F := Ideal) S_ .f32 0x00000000#32) reducesTo_S8x1x3072_S1x3072_d0 h_S_ = bAda A := by
  funext (y : S1x3072.Idx)
  obtain ⟨i, j, rfl⟩ : ∃ i j, y = (ix2 i j : S1x3072.Idx) := ⟨y 0, y 1, eq_ix2 y⟩
  obtain rfl : i = 0 := Subsingleton.elim _ _
  refine (show @Eq EReal _ _ from ?_)
  pointwise [tot, bAda]

theorem ref_normG (A : FVec Ideal S8x16x1024 .f32) : Host.reduceAdd (extractStridedSlice S8x1x1024 ![0, 3, 0] A slices_S8x16x1024_S8x1x1024_0_3_0) (constant (F := Ideal) S_ .f32 0x00000000#32) reducesTo_S8x1x1024_S1x1024_d0 h_S_ = normG A := by
  funext (y : S1x1024.Idx)
  obtain ⟨i, j, rfl⟩ : ∃ i j, y = (ix2 i j : S1x1024.Idx) := ⟨y 0, y 1, eq_ix2 y⟩
  obtain rfl : i = 0 := Subsingleton.elim _ _
  refine (show @Eq EReal _ _ from ?_)
  pointwise [tot, normG]

theorem ref_onorm (A : FVec Ideal S8x16x1024 .f32) : Host.reduceAdd (extractStridedSlice S8x1x128 ![0, 6, 0] A slices_S8x16x1024_S8x1x128_0_6_0) (constant (F := Ideal) S_ .f32 0x00000000#32) reducesTo_S8x1x128_S1x128_d0 h_S_ = onorm A := by
  funext (y : S1x128.Idx)
  obtain ⟨i, j, rfl⟩ : ∃ i j, y = (ix2 i j : S1x128.Idx) := ⟨y 0, y 1, eq_ix2 y⟩
  obtain rfl : i = 0 := Subsingleton.elim _ _
  refine (show @Eq EReal _ _ from ?_)
  pointwise [tot, onorm]

theorem ref_rel (A : FVec Ideal S8x16x1024 .f32) : Host.reduceAdd (shapeCast _ (shapeCast _ (extractStridedSlice S8x1x256 ![0, 8, 0] A slices_S8x16x1024_S8x1x256_0_8_0) shapeCasts_S8x1x256_S8x256) shapeCasts_S8x256_S8x32x8) (constant (F := Ideal) S_ .f32 0x00000000#32) reducesTo_S8x32x8_S32x8_d0 h_S_ = rel A := by
  funext (y : S32x8.Idx)
  obtain ⟨i, j, rfl⟩ : ∃ i j, y = (ix2 i j : S32x8.Idx) := ⟨y 0, y 1, eq_ix2 y⟩
  refine (show @Eq EReal _ _ from ?_)
  pointwise [tot, rel]

theorem ref_finalG (A : FVec Ideal S8x16x1024 .f32) : Host.reduceAdd (shapeCast _ (extractStridedSlice S8x1x1024 ![0, 4, 0] A slices_S8x16x1024_S8x1x1024_0_4_0) shapeCasts_S8x1x1024_S8x1024) (constant (F := Ideal) S_ .f32 0x00000000#32) reducesTo_S8x1024_S1024_d0 h_S_ = finalG A := by
  funext (y : S1024.Idx)
  obtain ⟨j, rfl⟩ : ∃ j, y = (ix1 j : S1024.Idx) := ⟨y 0, eq_ix1 y⟩
  refine (show @Eq EReal _ _ from ?_)
  pointwise [tot, finalG]

theorem ref_dLow (A : FVec Ideal S8x16x1024 .f32) : Host.reduceAdd (shapeCast _ (extractStridedSlice S8x1x1024 ![0, 5, 0] A slices_S8x16x1024_S8x1x1024_0_5_0) shapeCasts_S8x1x1024_S8x1024) (constant (F := Ideal) S_ .f32 0x00000000#32) reducesTo_S8x1024_S1024_d0 h_S_ = dLow A := by
  funext (y : S1024.Idx)
  obtain ⟨j, rfl⟩ : ∃ j, y = (ix1 j : S1024.Idx) := ⟨y 0, eq_ix1 y⟩
  refine (show @Eq EReal _ _ from ?_)
  pointwise [tot, dLow]

theorem ref_lb (m : (ℓ : Loc nD τ Cert.Reference11Ideal.sig) → Buf (Elt Ideal) ℓ) (c : Dev nD) :
    Cert.Reference11Ideal.Value.res_out6 (F := Ideal) m c = lbGrad (m ((c.tc : Thread nD τ).loc main_arg1)) (dLow (m ((c.tc : Thread nD τ).loc main_arg0))) := by
  rw [← ref_dLow]
  rfl

end

/-- The sum's value: every result is the sum over the devices. -/
theorem value : Cert.algebraic_Kernel11Ideal_Reference11Ideal := by
  intro m g m' g' _ hagree
  refine ⟨fun c => loss (packs m c), fun c => bAda (packs m c), fun c => normG (packs m c), fun c => onorm (packs m c), fun c => rel (packs m c), fun c => finalG (packs m c), fun c => lbGrad (bounds m c) (dLow (packs m c)), ?_, ?_⟩
  · refine (θ_run _ _ _).mono (fun r h c => ?_) (θ_run_and (Cert.Kernel11Ideal.Gen.run_main (F := Ideal) m g) (Cert.Kernel11Ideal.Gen.unchanged (F := Ideal) m g))
    exact ⟨((h.1 c).2 Cert.Kernel11Ideal.main_v2 (by decide)).trans (host_loss m c), ((h.1 c).2 Cert.Kernel11Ideal.main_v4 (by decide)).trans (host_bAda m c),
      ((h.1 c).2 Cert.Kernel11Ideal.main_v5 (by decide)).trans (host_normG m c), ((h.1 c).2 Cert.Kernel11Ideal.main_v6 (by decide)).trans (host_onorm m c),
      ((h.1 c).2 Cert.Kernel11Ideal.main_v9 (by decide)).trans (host_rel m c), ((h.1 c).2 Cert.Kernel11Ideal.main_v11 (by decide)).trans (host_finalG m c),
      ((h.1 c).2 Cert.Kernel11Ideal.main_v59 (by decide)).trans (host_lb m c), h.2 c⟩
  · refine (θ_run _ _ _).mono (fun r h c => ?_) (Cert.Reference11Ideal.Value.run (F := Ideal) m' g')
    obtain ⟨e0, e1⟩ := hagree c
    obtain ⟨h0, h1, h2, h3, h4, h5, h6, ha⟩ := h c
    rw [e0] at h0 h1 h2 h3 h4 h5
    replace h6 := h6.trans (ref_lb m' c)
    rw [e0, e1] at h6
    exact ⟨h0.trans (ref_loss _), h1.trans (ref_bAda _), h2.trans (ref_normG _), h3.trans (ref_onorm _), h4.trans (ref_rel _), h5.trans (ref_finalG _), h6, ha⟩

theorem frame_kernel : Cert.quiescent_Kernel11 := fun m ρ _ => Cert.Kernel11.Gen.frame m ρ

theorem frame_ideal : Cert.quiescent_Kernel11Ideal := fun m ρ _ => Cert.Kernel11Ideal.Gen.frame m ρ

end Opt.Sum

end
-- ==== Proof.Proj.OwnTable.lean ====
/- The prefetched words of the first projection call: both are 0, so its product goes to the first quarter of the columns. -/
module

public import proofs.«01_k».proof.Proof.Gen.Kernel8Ideal.Frame.Runs
public import Idealize.ShloMosaic.Lib.Claim
public import Idealize.ShloMosaic.Lib.Pointwise
public import Idealize.ShloMosaic.Lib.StableHlo.ReadAt

@[expose] public section

set_option maxRecDepth 16384

noncomputable section

namespace Proj.Own

open Idealize.ShloMosaic Cert.Kernel8Ideal Cert.Kernel8Ideal.Gen

variable {F : FTy → Type} [FloatOps F] (m : (ℓ : Loc nD τ Cert.Kernel8Ideal.sig) → Buf (Elt F) ℓ)

theorem words (c : Dev nD) : (V m c main_v5 : (⟨S2, .i32⟩ : BufTy).Contents (Elt F)) = fun _ => 0#32 := by
  unfold V V0
  refine Eq.trans (b := broadcastInDim S2 ![] bcast_S_S2 (constantI S_ 32 0#32)) ?_ rfl
  rw [List.flatten_singleton]
  after_results_simp

theorem column (i : grid0.Coords) : cc0_transform_3 inb_S2_S1_1 numel1_S1 (tbl m) i = ![(i 0).val, 0] := by
  have h : (i 0).val < 16 := (i 0).isLt
  have e : (tbl m).at 0 (Rect.unit (s := S2) ![1] S1.size inb_S2_S1_1) numel1_S1 = 0#32 := congrFun (words m 0) _
  unfold cc0_transform_3
  dsimp only
  rw [e]
  have e' : (BitVec.ofNat 32 (i 0).val).toNat = (i 0).val := by
    rw [BitVec.toNat_ofNat]; omega
  rw [e']
  rfl

theorem ok : Ok m := by
  intro i
  have h : (i 0).val < 16 := (i 0).isLt
  refine ⟨fun a => ?_, .inl rfl⟩
  rw [column]
  match a with
  | ⟨0, _⟩ => show ((i 0).val + 1) * 512 ≤ 8192; omega
  | ⟨1, _⟩ => show (0 + 1) * 2048 ≤ 8192; omega

end Proj.Own

end
-- ==== Proof.Proj.OwnPay.lean ====
/- One block of tokens in the first projection call: the kernel's normed tokens are the reference's, and what the body
   leaves in the three output buffers. -/
module

public import proofs.«01_k».proof.Proof.Gen.Kernel8Ideal.Frame
public import proofs.«01_k».proof.Proof.Gen.Reference8Ideal.Run
public import Idealize.ShloMosaic.Lib.Pointwise
public import Idealize.ShloMosaic.Lib.WritesUnit
public import Idealize.ShloMosaic.Lib.VecWindow
public import Idealize.ShloMosaic.Lib.Pipeline.ValueKit

@[expose] public section

set_option maxRecDepth 16384
set_option maxHeartbeats 1000000

noncomputable section

namespace Proj.Own

open Idealize.ShloMosaic Idealize.ShloMosaic.TcCoe Idealize.ShloMosaic.Tactic

section
open Cert.Reference8Ideal Cert.Reference8Ideal.Gen

/-- The tokens after the norm and the modulation, as the reference writes them. -/
def normed (x0 : FVec Ideal S8192x1024 .f32) (x1 x2 x3 : FVec Ideal S1x1024 .f32) : FVec Ideal S8192x1024 .f32 :=
  addf (mulf (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 x1)) (broadcastInDim S8192x1024 ![0, 1] bcast_S1x1024_S8192x1024_0_1 (addf (broadcastInDim S1x1024 ![] bcast_S_S1x1024 (constant S_ .f32 0x3F800000#32)) x2))) (broadcastInDim S8192x1024 ![0, 1] bcast_S1x1024_S8192x1024_0_1 x3)

end

open Cert.Kernel8Ideal Cert.Kernel8Ideal.Gen

/-- The two rows of the vectors' block that are read. -/
abbrev row0 {F : FTy → Type} [FloatOps F] (A : Vec F S8x1024 .f32) : Vec F S1x1024 .f32 :=
  View.ld A (Rect.unit (s := S8x1024) ![0, 0] S1x1024.size inb_S8x1024_S1x1024_0_0)
abbrev row1 {F : FTy → Type} [FloatOps F] (A : Vec F S8x1024 .f32) : Vec F S1x1024 .f32 :=
  View.ld A (Rect.unit (s := S8x1024) ![1, 0] S1x1024.size inb_S8x1024_S1x1024_1_0)

theorem row0_apply (A : Vec Ideal S8x1024 .f32) (j : Fin 1024) : row0 A (ix2 0 j) = A (ix2 0 j) := by
  refine congrArg A ?_
  funext a
  match a with
  | ⟨0, _⟩ => rfl
  | ⟨1, _⟩ => exact Fin.ext (by show 0 + 1 * j.val = j.val; omega)

theorem row1_apply (A : Vec Ideal S8x1024 .f32) (j : Fin 1024) : row1 A (ix2 0 j) = A (ix2 1 j) := by
  refine congrArg A ?_
  funext a
  match a with
  | ⟨0, _⟩ => rfl
  | ⟨1, _⟩ => exact Fin.ext (by show 0 + 1 * j.val = j.val; omega)

section
variable {x0 : FVec Ideal S512x1024 .f32} {a b : FVec Ideal S1x1024 .f32} {x : FVec Ideal S8192x1024 .f32} {g sc sh : FVec Ideal S1x1024 .f32}
  {s : Fin 8192} {p : Fin 512}
  (hx : ∀ k, x0 (ix2 p k) = x (ix2 s k)) (ha : ∀ k, a (ix2 0 k) = g (ix2 0 k) * (1 + sc (ix2 0 k))) (hb : ∀ k, b (ix2 0 k) = sh (ix2 0 k))
include hx ha hb

/-- A row of the normed block is the normed token. -/
theorem pay1 (i : Fin 1024) : k0_pay1 x0 a b (ix2 p i) = normed x g sc sh (ix2 s i) := by
  pointwise [k0_pay1, normed]
  simp only [hx, ha, hb, mul_assoc]

end

section
variable {F : FTy → Type} [FloatOps F]
variable (c : Dev nD) (i : grid0.Coords) (arg2 : Memref sig .tc .vmem S512x1024 .f32) (harg2 : arg2.IsWhole) (arg3 : Memref sig .tc .vmem S8x1024 .f32) (harg3 : arg3.IsWhole) (arg4 : Memref sig .tc .vmem S1024x2048 .bf16) (harg4 : arg4.IsWhole) (arg5 : Memref sig .tc .vmem S512x2048 .f32) (harg5 : arg5.IsWhole) (arg6 : Memref sig .tc .vmem S512x1024 .bf16) (harg6 : arg6.IsWhole) (arg7 : Memref sig .tc .vmem S1024x512 .bf16) (harg7 : arg7.IsWhole)
  (x0 : Vec F S512x1024 .f32) (x1 : Vec F S8x1024 .f32) (x2 : Vec F S1024x2048 .bf16) (xt0 : TbBuf0 (F := F) c tbM0_0)

theorem read3 : out0_A_3 c i arg2 harg2 arg3 harg3 arg4 harg4 arg5 harg5 arg6 harg6 arg7 harg7 x0 x1 x2 xt0 = k0_pay4 x0 (row0 x1) (row1 x1) x2 := by
  unfold out0_A_3 kernelRun0_A
  dsimp only
  sl_unfold_words
  simp (disch := decide) only [View.readAt_eq_ld, Memref.IsWhole.read_unread, View.ld_unit_lit', View.readCov_unit_lit']
  exact View.read_writes_full (s := _) _ _ _ _ _

theorem read4 : out0_A_4 c i arg2 harg2 arg3 harg3 arg4 harg4 arg5 harg5 arg6 harg6 arg7 harg7 x0 x1 x2 xt0 = k0_pay2 x0 (row0 x1) (row1 x1) := by
  unfold out0_A_4 kernelRun0_A
  dsimp only
  sl_unfold_words
  simp (disch := decide) only [View.readAt_eq_ld, Memref.IsWhole.read_unread, View.ld_unit_lit', View.readCov_unit_lit']
  exact View.read_writes_full (s := _) _ _ _ _ _

theorem read5 : out0_A_5 c i arg2 harg2 arg3 harg3 arg4 harg4 arg5 harg5 arg6 harg6 arg7 harg7 x0 x1 x2 xt0 = k0_pay3 x0 (row0 x1) (row1 x1) := by
  unfold out0_A_5 kernelRun0_A
  dsimp only
  sl_unfold_words
  simp (disch := decide) only [View.readAt_eq_ld, Memref.IsWhole.read_unread, View.ld_unit_lit', View.readCov_unit_lit']
  exact View.read_writes_full (s := _) _ _ _ _ _

end

end Proj.Own

end
-- ==== Proof.Proj.OwnVal.lean ====
/- What the first projection call's result arrays hold after the run. -/
module

public import proofs.«01_k».proof.Proof.Proj.OwnTable
public import proofs.«01_k».proof.Proof.Proj.OwnPay
public import proofs.«01_k».proof.Proof.Dw.Sums
public import Idealize.ShloMosaic.Lib.StableHlo.ReadAt

@[expose] public section

set_option maxRecDepth 16384
set_option maxHeartbeats 1000000

noncomputable section

namespace Proj.Own

open Idealize.ShloMosaic Cert.Kernel8Ideal Cert.Kernel8Ideal.Gen Dw

variable (m : (ℓ : Loc nD τ Cert.Kernel8Ideal.sig) → Buf (Elt Ideal) ℓ) (c : Dev nD)

/-- The normed tokens of the kernel's arguments. -/
abbrev nrm : FVec Ideal S8192x1024 .f32 :=
  normed (m ((c.tc : Thread nD τ).loc main_arg0)) (m ((c.tc : Thread nD τ).loc main_arg1))
    (m ((c.tc : Thread nD τ).loc main_arg2)) (m ((c.tc : Thread nD τ).loc main_arg3))
/-- The entries of the norm's gain, the scale and the projection's weight. -/
abbrev gain (j : Fin 1024) : EReal := m ((c.tc : Thread nD τ).loc main_arg1) (ix2 0 j)
abbrev scale (j : Fin 1024) : EReal := m ((c.tc : Thread nD τ).loc main_arg2) (ix2 0 j)
abbrev wt (i : Fin 1024) (j : Fin 2048) : EReal := m ((c.tc : Thread nD τ).loc main_arg4) (ix2 i j)

theorem host_vec0 (j : Fin 1024) : @Eq EReal ((V m c main_v4 : FVec Ideal S8x1024 .f32) (ix2 0 j))
    (gain m c j * (1 + scale m c j)) := by
  unfold V
  after_reads_at
  after_reads_at

theorem host_vec1 (j : Fin 1024) : @Eq EReal ((V m c main_v4 : FVec Ideal S8x1024 .f32) (ix2 1 j))
    (m ((c.tc : Thread nD τ).loc main_arg3) (ix2 0 j)) := by
  unfold V
  after_reads_at

theorem points : (cfgM m (ok m)).N = 16 := N_0
theorem point_lt (t : Fin (cfgM m (ok m)).N) : t.val < 16 := lt_of_lt_of_eq t.isLt (points m)

theorem maps : ∀ t : Fin grid0.N,
    cc0_transform_0 (grid0.coords t) = ![t.val, 0] ∧ cc0_transform_1 (grid0.coords t) = ![0, 0]
    ∧ cc0_transform_2 (grid0.coords t) = ![0, 0] ∧ cc0_transform_4 (grid0.coords t) = ![t.val, 0]
    ∧ cc0_transform_5 (grid0.coords t) = ![0, t.val] ∧ (grid0.coords t 0).val = t.val := by decide +kernel

variable (t : Fin (cfgM m (ok m)).N)

/-- A column of the first quarter. -/
def col (j : Fin 2048) : Fin 8192 := ⟨j.val, by omega⟩

theorem index0 : ((cfgM m (ok m)).win 0).index t = ![t.val, 0] := (maps t).1
theorem index1 : ((cfgM m (ok m)).win 1).index t = ![0, 0] := (maps t).2.1
theorem index2 : ((cfgM m (ok m)).win 2).index t = ![0, 0] := (maps t).2.2.1
theorem index4 : ((cfgM m (ok m)).win 4).index t = ![t.val, 0] := (maps t).2.2.2.1
theorem index5 : ((cfgM m (ok m)).win 5).index t = ![0, t.val] := (maps t).2.2.2.2.1
theorem index3 : ((cfgM m (ok m)).win 3).index t = ![t.val, 0] := (column m (grid0.coords t)).trans (by rw [(maps t).2.2.2.2.2])

theorem blk0 (p : Fin 512) (k : Fin 1024) :
    iblk m (ok m) c 0 t (ix2 p k) = m ((c.tc : Thread nD τ).loc main_arg0) (ix2 (tok t.val (point_lt m t) p) k) := by
  rw [← V_main_arg0 m c]
  have e := index0 m t
  blk_ext [iblk, tok, e]

theorem blk1 (i : Fin 8) (k : Fin 1024) : iblk m (ok m) c 1 t (ix2 i k) = V m c main_v4 (ix2 i k) := by
  have e := index1 m t
  blk_ext [iblk, e]

theorem blk2 (i : Fin 1024) (k : Fin 2048) : iblk m (ok m) c 2 t (ix2 i k) = m ((c.tc : Thread nD τ).loc main_arg4) (ix2 i k) := by
  rw [← V_main_arg4 m c]
  have e := index2 m t
  blk_ext [iblk, e]

/-- The normed block of a point. -/
theorem normed_block (p : Fin 512) (i : Fin 1024) :
    k0_pay1 (iblk m (ok m) c 0 t) (row0 (iblk m (ok m) c 1 t)) (row1 (iblk m (ok m) c 1 t)) (ix2 p i)
      = nrm m c (ix2 (tok t.val (point_lt m t) p) i) :=
  pay1 (fun k => blk0 m c t p k)
    (fun k => (row0_apply _ k).trans ((blk1 m c t 0 k).trans (host_vec0 m c k)))
    (fun k => (row1_apply _ k).trans ((blk1 m c t 1 k).trans (host_vec1 m c k))) i

/-- The blocks a point reads, at their shapes. -/
def b0 : Vec Ideal S512x1024 .f32 := iblk m (ok m) c 0 t
def b1 : Vec Ideal S8x1024 .f32 := iblk m (ok m) c 1 t
def b2 : Vec Ideal S1024x2048 .bf16 := iblk m (ok m) c 2 t

theorem run3 : (outsAt0 m (ok m) c t).1 = out0_A_3 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t)
    (b0 m c t) (b1 m c t) (b2 m c t) (tbl m 0) := by
  delta outsAt0 b0 b1 b2
  with_reducible rfl
theorem res3 : (outsAt0 m (ok m) c t).1 = k0_pay4 (b0 m c t) (row0 (b1 m c t)) (row1 (b1 m c t)) (b2 m c t) :=
  (run3 m c t).trans (read3 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t)
    (b0 m c t) (b1 m c t) (b2 m c t) (tbl m 0))
theorem run4 : (outsAt0 m (ok m) c t).2.1 = out0_A_4 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t)
    (b0 m c t) (b1 m c t) (b2 m c t) (tbl m 0) := by
  delta outsAt0 b0 b1 b2
  with_reducible rfl
theorem res4 : (outsAt0 m (ok m) c t).2.1 = k0_pay2 (b0 m c t) (row0 (b1 m c t)) (row1 (b1 m c t)) :=
  (run4 m c t).trans (read4 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t)
    (b0 m c t) (b1 m c t) (b2 m c t) (tbl m 0))
theorem run5 : (outsAt0 m (ok m) c t).2.2 = out0_A_5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t)
    (b0 m c t) (b1 m c t) (b2 m c t) (tbl m 0) := by
  delta outsAt0 b0 b1 b2
  with_reducible rfl
theorem res5 : (outsAt0 m (ok m) c t).2.2 = k0_pay3 (b0 m c t) (row0 (b1 m c t)) (row1 (b1 m c t)) :=
  (run5 m c t).trans (read5 c (grid0.coords t) (ms0_0 m (ok m) t) (hs0_0 m (ok m) t) (ms0_1 m (ok m) t) (hs0_1 m (ok m) t) (ms0_2 m (ok m) t) (hs0_2 m (ok m) t) (ms0_3 m (ok m) t) (hs0_3 m (ok m) t) (ms0_4 m (ok m) t) (hs0_4 m (ok m) t) (ms0_5 m (ok m) t) (hs0_5 m (ok m) t)
    (b0 m c t) (b1 m c t) (b2 m c t) (tbl m 0))

/-- The normed block of a point. -/
theorem normed_blk (p : Fin 512) (i : Fin 1024) :
    @Eq EReal (k0_pay1 (b0 m c t) (row0 (b1 m c t)) (row1 (b1 m c t)) (ix2 p i)) (nrm m c (ix2 (tok t.val (point_lt m t) p) i)) :=
  normed_block m c t p i

theorem out4 (p : Fin 512) (i : Fin 1024) :
    @Eq EReal ((outsAt0 m (ok m) c t).2.1 (ix2 p i)) (nrm m c (ix2 (tok t.val (point_lt m t) p) i)) := by
  rw [res4, ← normed_blk]
  pointwise [k0_pay2]

theorem out5 (i : Fin 1024) (p : Fin 512) :
    @Eq EReal ((outsAt0 m (ok m) c t).2.2 (ix2 i p)) (nrm m c (ix2 (tok t.val (point_lt m t) p) i)) := by
  rw [res5, ← normed_blk]
  pointwise [k0_pay3, k0_pay2]

/-- The projection of a token. -/
abbrev proj (s : Fin 8192) (j : Fin 2048) : EReal := ∑ k : Fin 1024, (nrm m c (ix2 s k) : EReal) * wt m c k j

theorem out3 (p : Fin 512) (j : Fin 2048) :
    @Eq EReal ((outsAt0 m (ok m) c t).1 (ix2 p j)) (proj m c (tok t.val (point_lt m t) p) j) := by
  rw [res3]
  refine Eq.trans (b := ∑ k : Fin 1024, (k0_pay1 (b0 m c t) (row0 (b1 m c t)) (row1 (b1 m c t)) (ix2 p k) : EReal) * b2 m c t (ix2 k j)) ?_
    (Finset.sum_congr rfl fun k _ => congrArg₂ (fun x y : EReal => x * y) (normed_blk m c t p k) (blk2 m c t k j))
  generalize b0 m c t = x0
  generalize row0 (b1 m c t) = a
  generalize row1 (b1 m c t) = b
  pointwise [k0_pay4, k0_pay2]

theorem emb3 (p : Fin 512) (j : Fin 2048) :
    (((cfgM m (ok m)).win 3).blk t).view.emb (ix2 p j) = ix2 (tok t.val (point_lt m t) p) (col j) := by
  have e := index3 m t
  blk_ext [tok, col, e]

theorem emb4 (p : Fin 512) (k : Fin 1024) :
    (((cfgM m (ok m)).win 4).blk t).view.emb (ix2 p k) = ix2 (tok t.val (point_lt m t) p) k := by
  have e := index4 m t
  blk_ext [tok, e]

theorem emb5 (k : Fin 1024) (p : Fin 512) :
    (((cfgM m (ok m)).win 5).blk t).view.emb (ix2 k p) = ix2 k (tok t.val (point_lt m t) p) := by
  have e := index5 m t
  blk_ext [tok, e]

theorem flush5 : ((cfgM m (ok m)).win 5).flush t = true :=
  (by decide +kernel : ∀ t, Pipeline.Window.flushOf grid0 true cc0_transform_5 t = true) t

theorem flush4 : ((cfgM m (ok m)).win 4).flush t = true :=
  (by decide +kernel : ∀ t, Pipeline.Window.flushOf grid0 true cc0_transform_4 t = true) t

end Proj.Own

end
-- ==== Proof.Proj.OwnArr.lean ====
/- The first projection call's three result arrays after the run, and its claims. -/
module

public import proofs.«01_k».proof.Defs
public import proofs.«01_k».proof.Proof.Proj.OwnVal

@[expose] public section

set_option maxRecDepth 16384
set_option maxHeartbeats 1000000

noncomputable section

namespace Proj.Own

section
open Idealize.ShloMosaic Cert.Reference8Ideal Cert.Reference8Ideal.Gen

theorem ref_proj (N : FVec Ideal S8192x1024 .f32) (w : FVec Ideal S1024x2048 .bf16) (s : Fin 8192) (j : Fin 2048) :
    @Eq EReal (Host.dotGeneral (F := Ideal) (φ₁ := .f32) dot_S8192x1024_S1024x2048_S8192x2048_1_0_0_1_n_n none N (extf .f32 w bitsLt_bf16_f32) (ix2 s j))
      (∑ k : Fin 1024, (N (ix2 s k) : EReal) * w (ix2 k j)) := by
  pointwise

theorem ref_transposed (N : FVec Ideal S8192x1024 .f32) :
    (truncf .bf16 (transpose S1024x8192 [1, 0] N transposes_S8192x1024_S1024x8192_1_0) bitsLt_bf16_f32 : FVec Ideal S1024x8192 .bf16)
      = fun i => N (ix2 (i 1) (i 0)) := by
  funext i
  obtain ⟨k, s, rfl⟩ : ∃ k s, i = ix2 k s := ⟨i 0, i 1, eq_ix2 i⟩
  pointwise

end

open Idealize.ShloMosaic Idealize.SL.Sem Cert.Kernel8Ideal Cert.Kernel8Ideal.Gen Dw

variable (m : (ℓ : Loc nD τ Cert.Kernel8Ideal.sig) → Buf (Elt Ideal) ℓ) (c : Dev nD)

/-- The point that holds a token. -/
noncomputable def ptOf (s : Fin 8192) : Fin (cfgM m (ok m)).N := ⟨s.val / 512, by rw [points]; omega⟩
/-- A token's row in its block. -/
noncomputable def rowOf (s : Fin 8192) : Fin 512 := ⟨s.val % 512, by omega⟩
theorem tok_ptOf (s : Fin 8192) : tok (ptOf m s).val (point_lt m (ptOf m s)) (rowOf s) = s :=
  Fin.ext (by show s.val / 512 * 512 + s.val % 512 = s.val; omega)

/-- Contents of the projection's array that hold the projection in the first quarter of the columns. -/
noncomputable def G3 : (⟨S8192x8192, .f32⟩ : BufTy).Contents (Elt Ideal) := fun i =>
  if h : (i 1).val < 2048 then proj m c (i 0) ⟨(i 1).val, h⟩ else 0

theorem G3_apply (s : Fin 8192) (j : Fin 2048) : @Eq EReal (G3 m c (ix2 s (col j))) (proj m c s j) := by
  unfold G3
  exact dif_pos (show j.val < 2048 from j.isLt)

theorem flush3 (t : Fin (cfgM m (ok m)).N) : ((cfgM m (ok m)).win 3).flush t = true := by
  rw [← flush4 m t]
  unfold Pipeline.Window.flush
  simp only [index3, index4]
  rfl

theorem mem4 (s : Fin 8192) (k : Fin 1024) : (ix2 s k : S8192x1024.Idx) ∈ (((cfgM m (ok m)).win 4).blk (ptOf m s)).view.set := by
  have e := emb4 m (ptOf m s) (rowOf s) k
  rw [tok_ptOf] at e
  rw [← e]
  exact View.emb_mem_set _ _

theorem mem5 (k : Fin 1024) (s : Fin 8192) : (ix2 k s : S1024x8192.Idx) ∈ (((cfgM m (ok m)).win 5).blk (ptOf m s)).view.set := by
  have e := emb5 m (ptOf m s) k (rowOf s)
  rw [tok_ptOf] at e
  rw [← e]
  exact View.emb_mem_set _ _

theorem arr4 : (dats m (ok m) 0 c).arrAt 4 (cfgM m (ok m)).N = nrm m c := by
  refine (dats m (ok m) 0 c).arrAt_eq_of_emb 4 _ (fun t _ (y : S512x1024.Idx) => ?_) (fun (i : S8192x1024.Idx) => ?_)
  · obtain ⟨p, k, rfl⟩ : ∃ p k, y = (ix2 p k : S512x1024.Idx) := ⟨y 0, y 1, eq_ix2 y⟩
    refine Eq.trans ?_ ((out4 m c t p k).trans (congrArg (nrm m c) (emb4 m t p k).symm))
    exact congrFun (after0_4 m (ok m) c t) (ix2 p k)
  · obtain ⟨s, k, rfl⟩ : ∃ s k, i = ix2 s k := ⟨i 0, i 1, eq_ix2 i⟩
    exact ⟨ptOf m s, flush4 m _, mem4 m s k⟩

theorem arr5 : (dats m (ok m) 0 c).arrAt 5 (cfgM m (ok m)).N = fun i : S1024x8192.Idx => nrm m c (ix2 (i 1) (i 0)) := by
  refine (dats m (ok m) 0 c).arrAt_eq_of_emb 5 _ (fun t _ (y : S1024x512.Idx) => ?_) (fun (i : S1024x8192.Idx) => ?_)
  · obtain ⟨k, p, rfl⟩ : ∃ k p, y = (ix2 k p : S1024x512.Idx) := ⟨y 0, y 1, eq_ix2 y⟩
    refine Eq.trans ?_ ((out5 m c t k p).trans (congrArg (fun i : S1024x8192.Idx => nrm m c (ix2 (i 1) (i 0))) (emb5 m t k p).symm))
    exact congrFun (after0_5 m (ok m) c t) (ix2 k p)
  · obtain ⟨k, s, rfl⟩ : ∃ k s, i = ix2 k s := ⟨i 0, i 1, eq_ix2 i⟩
    exact ⟨ptOf m s, flush5 m _, mem5 m k s⟩

theorem arr3 (s : Fin 8192) (j : Fin 2048) :
    @Eq EReal ((dats m (ok m) 0 c).arrAt 3 (cfgM m (ok m)).N (ix2 s (col j))) (proj m c s j) := by
  refine Eq.trans (b := G3 m c (ix2 s (col j))) ?_ (G3_apply m c s j)
  refine (dats m (ok m) 0 c).arrAt_forall_of_flushed 3 (fun i v => v = G3 m c i) (fun t _ (y : S512x2048.Idx) => ?_) _ (ptOf m s) _
    (ptOf m s).isLt (flush3 m _) ?_
  · obtain ⟨p, j, rfl⟩ : ∃ p j, y = (ix2 p j : S512x2048.Idx) := ⟨y 0, y 1, eq_ix2 y⟩
    refine Eq.trans ?_ ((out3 m c t p j).trans ((G3_apply m c _ j).symm.trans (congrArg (G3 m c) (emb3 m t p j).symm)))
    exact congrFun (after0_3 m (ok m) c t) (ix2 p j)
  · have e := emb3 m (ptOf m s) (rowOf s) j
    rw [tok_ptOf] at e
    rw [← e]
    exact View.emb_mem_set _ _

/-- The first quarter of the columns, as the host takes it. -/
theorem host_slice : (Pipeline.afterTail pcfgs (fun _ => adm m (ok m)) (dats m (ok m)) 0 (V0 m) [hostOps1] c main_v7 : FVec Ideal S8192x2048 .f32)
    = arr2 (proj m c) := by
  refine eq_arr2 fun s j => ?_
  unfold Pipeline.afterTail
  rw [List.flatten_singleton]
  refine Eq.trans ?_ (arr3 m c s j)
  after_reads_at
  exact congrFun (Pipeline.withArrays_arr spec0 (by decide : Function.Injective (Pipeline.arrRef spec0)) c (V0 m c) (fun w => (dats m (ok m) 0 c).arrAt w (cfgM m (ok m)).N) 3) (ix2 s (col j))

variable (ρ : Dev nD → PrngReg)

/-- The run: the three result arrays, and the arguments as launched. -/
theorem run : θ_run defs (onTc (τ := τ) (main (F := Ideal))) ⟨m, fun _ => 0, ρ⟩ (fun r => ∀ c : Dev nD,
      r.2.mem ((c.tc : Thread nD τ).loc main_v7) = arr2 (proj m c)
      ∧ r.2.mem ((c.tc : Thread nD τ).loc main_v6_1) = nrm m c
      ∧ r.2.mem ((c.tc : Thread nD τ).loc main_v6_2) = (fun i : S1024x8192.Idx => nrm m c (ix2 (i 1) (i 0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun _ h c => ⟨((h.1 c).2 main_v7 (by decide : main_v7 ∈ Pipeline.restRefs sig spec0)).trans (host_slice m c),
    ((h.1 c).1 4).trans (arr4 m c), ((h.1 c).1 5).trans (arr5 m c), h.2 c⟩)
    (θ_run_and (run_main m ρ (ok m)) (unchanged m ρ (ok m)))

/-- The kernel and the reference compute the same three arrays. -/
theorem value : Cert.algebraic_Kernel8Ideal_Reference8Ideal := by
  intro m g m' g' _ hagree
  refine ⟨fun c => arr2 (proj m c), fun c => nrm m c, fun c => fun i : S1024x8192.Idx => nrm m c (ix2 (i 1) (i 0)), run m g, ?_⟩
  refine (θ_run _ _ _).mono (fun r h c => ?_) (Cert.Reference8Ideal.Value.run (F := Ideal) m' g')
  obtain ⟨e0, e1, e2, e3, e4⟩ := hagree c
  obtain ⟨h0, h1, h2, hargs⟩ := h c
  rw [e0, e1, e2, e3, e4] at h0
  rw [e0, e1, e2, e3] at h1 h2
  refine ⟨h0.trans (eq_arr2 fun s j => ?_), h1.trans ?_, h2.trans ?_, hargs⟩
  · exact ref_proj _ _ s j
  · rfl
  · exact ref_transposed _

end Proj.Own

end
-- ==== Proof.Proj.OwnFrame.lean ====
/- The table of the program over machine floats, and the frames. The prefetched words of the first projection call: both are 0, so its product goes to the first quarter of the columns. -/
module

public import proofs.«01_k».proof.Proof.Gen.Kernel8.Frame
public import proofs.«01_k».proof.Proof.Proj.OwnArr
public import Idealize.ShloMosaic.Lib.Claim
public import Idealize.ShloMosaic.Lib.Pointwise
public import Idealize.ShloMosaic.Lib.StableHlo.ReadAt

@[expose] public section

set_option maxRecDepth 16384

noncomputable section

namespace Proj.Own.Machine

open Idealize.ShloMosaic Cert.Kernel8 Cert.Kernel8.Gen

variable {F : FTy → Type} [FloatOps F] (m : (ℓ : Loc nD τ Cert.Kernel8.sig) → Buf (Elt F) ℓ)

theorem words (c : Dev nD) : (V m c main_v5 : (⟨S2, .i32⟩ : BufTy).Contents (Elt F)) = fun _ => 0#32 := by
  unfold V V0
  refine Eq.trans (b := broadcastInDim S2 ![] bcast_S_S2 (constantI S_ 32 0#32)) ?_ rfl
  rw [List.flatten_singleton]
  after_results_simp

theorem column (i : grid0.Coords) : cc0_transform_3 inb_S2_S1_1 numel1_S1 (tbl m) i = ![(i 0).val, 0] := by
  have h : (i 0).val < 16 := (i 0).isLt
  have e : (tbl m).at 0 (Rect.unit (s := S2) ![1] S1.size inb_S2_S1_1) numel1_S1 = 0#32 := congrFun (words m 0) _
  unfold cc0_transform_3
  dsimp only
  rw [e]
  have e' : (BitVec.ofNat 32 (i 0).val).toNat = (i 0).val := by
    rw [BitVec.toNat_ofNat]; omega
  rw [e']
  rfl

theorem ok : Ok m := by
  intro i
  have h : (i 0).val < 16 := (i 0).isLt
  refine ⟨fun a => ?_, .inl rfl⟩
  rw [column]
  match a with
  | ⟨0, _⟩ => show ((i 0).val + 1) * 512 ≤ 8192; omega
  | ⟨1, _⟩ => show (0 + 1) * 2048 ≤ 8192; omega

end Proj.Own.Machine

namespace Proj.Own

open Idealize.ShloMosaic Idealize.SL.Sem

theorem frame_kernel : Cert.quiescent_Kernel8 := fun m ρ _ => Cert.Kernel8.Gen.frame m ρ (Machine.ok m)

theorem frame_ideal : Cert.quiescent_Kernel8Ideal := fun m ρ _ => Cert.Kernel8Ideal.Gen.frame m ρ (ok m)

/-- The reference's frame. -/
theorem frame_ref : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.Value.run (F := Ideal) m ρ)

end Proj.Own

end
-- ==== Proof.Proj.RestTable.lean ====
/- The prefetched words of the second projection call: both are 0, so its products go to the last three quarters of the
   columns. -/
module

public import proofs.«01_k».proof.Proof.Gen.Kernel9Ideal.Frame.Runs
public import Idealize.ShloMosaic.Lib.Claim
public import Idealize.ShloMosaic.Lib.Pointwise
public import Idealize.ShloMosaic.Lib.StableHlo.ReadAt

@[expose] public section

set_option maxRecDepth 16384

noncomputable section

namespace Proj.Rest

open Idealize.ShloMosaic Cert.Kernel9Ideal Cert.Kernel9Ideal.Gen

variable {F : FTy → Type} [FloatOps F] (m : (ℓ : Loc nD τ Cert.Kernel9Ideal.sig) → Buf (Elt F) ℓ)

theorem words (c : Dev nD) : (V m c main_v0 : (⟨S2, .i32⟩ : BufTy).Contents (Elt F)) = fun _ => 0#32 := by
  unfold V
  refine Eq.trans (b := broadcastInDim S2 ![] bcast_S_S2 (constantI S_ 32 0#32)) ?_ rfl
  after_results_simp

theorem word : (tbl m).at 0 (Rect.unit (s := S2) ![1] S1.size inb_S2_S1_1) numel1_S1 = 0#32 := congrFun (words m 0) _

theorem column1 (i : grid0.Coords) : cc0_transform_1 inb_S2_S1_1 numel1_S1 (tbl m) i = ![0, (i 0).val + 1] := by
  unfold cc0_transform_1
  dsimp only
  rw [word]
  refine congrArg (fun k : ℕ => ![0, k]) ?_
  generalize i 0 = a
  revert a
  show ∀ a : Fin 3, _
  decide +kernel

theorem column3 (i : grid0.Coords) : cc0_transform_3 inb_S2_S1_1 numel1_S1 (tbl m) i = ![(i 1).val, (i 0).val + 1] := by
  have h : (i 1).val < 16 := (i 1).isLt
  have e' : (BitVec.ofNat 32 (i 1).val).toNat = (i 1).val := by
    rw [BitVec.toNat_ofNat]; omega
  unfold cc0_transform_3
  dsimp only
  rw [word, e']
  refine congrArg (fun k : ℕ => ![(i 1).val, k]) ?_
  generalize i 0 = a
  revert a
  show ∀ a : Fin 3, _
  decide +kernel

theorem ok : Ok m := by
  refine ⟨fun i => ⟨fun a => ?_, ?_⟩, fun i => ⟨fun a => ?_, .inl rfl⟩⟩
  · have h : (i 0).val < 3 := (i 0).isLt
    rw [column1]
    match a with
    | ⟨0, _⟩ => show (0 + 1) * 1024 ≤ 1024; omega
    | ⟨1, _⟩ => show ((i 0).val + 1 + 1) * 2048 ≤ 8192; omega
  · exact .inr (Affine.block_words_dvd (of_decide_eq_true rfl) (by decide))
  · have h : (i 0).val < 3 := (i 0).isLt
    have h' : (i 1).val < 16 := (i 1).isLt
    rw [column3]
    match a with
    | ⟨0, _⟩ => show ((i 1).val + 1) * 512 ≤ 8192; omega
    | ⟨1, _⟩ => show ((i 0).val + 1 + 1) * 2048 ≤ 8192; omega

end Proj.Rest

end
-- ==== Proof.Proj.RestVal.lean ====
/- The second projection call: the three quarters of the columns that it writes, and the quarter that it leaves. -/
module

public import proofs.«01_k».proof.Defs
public import proofs.«01_k».proof.Proof.Proj.RestTable
public import proofs.«01_k».proof.Proof.Dw.Sums
public import proofs.«01_k».proof.Proof.Gen.Kernel9Ideal.Frame
public import proofs.«01_k».proof.Proof.Gen.Reference9Ideal.Run
public import Idealize.ShloMosaic.Lib.Pointwise
public import Idealize.ShloMosaic.Lib.WritesUnit
public import Idealize.ShloMosaic.Lib.VecWindow
public import Idealize.ShloMosaic.Lib.Pipeline.ValueKit

@[expose] public section

set_option maxRecDepth 16384
set_option maxHeartbeats 1000000

noncomputable section

namespace Proj.Rest

open Idealize.ShloMosaic Idealize.ShloMosaic.TcCoe Idealize.ShloMosaic.Tactic Idealize.SL.Sem

/-- A column of the last three quarters. -/
def rcol (n : ℕ) (h : n < 3) (j : Fin 2048) : Fin 8192 := ⟨(n + 1) * 2048 + j.val, by omega⟩

section
open Cert.Reference9Ideal Cert.Reference9Ideal.Gen

/-- The projection's array as the reference leaves it. -/
def refArr (h : FVec Ideal S8192x1024 .bf16) (w : FVec Ideal S1024x8192 .bf16) (p : FVec Ideal S8192x8192 .f32) : FVec Ideal S8192x8192 .f32 :=
  concatenate S8192x8192 1 [⟨S8192x2048, (extractStridedSlice S8192x2048 ![0, 0] p slices_S8192x8192_S8192x2048_0_0)⟩,
    ⟨S8192x6144, (Host.dotGeneral (F := Ideal) (φ₁ := .f32) dot_S8192x1024_S1024x6144_S8192x6144_1_0_0_1_n_n none (extf .f32 h bitsLt_bf16_f32)
      (extf .f32 (extractStridedSlice S1024x6144 ![0, 2048] w slices_S1024x8192_S1024x6144_0_2048) bitsLt_bf16_f32))⟩]
    concatenates_S8192x2048_S8192x6144_S8192x8192_d1

variable (h : FVec Ideal S8192x1024 .bf16) (w : FVec Ideal S1024x8192 .bf16) (p : FVec Ideal S8192x8192 .f32) (s : Fin 8192)

theorem refArr_left (j : Fin 8192) (hj : j.val < 2048) : @Eq EReal (refArr h w p (ix2 s j)) (p (ix2 s j)) := by
  pointwise [refArr]
  rw [dif_pos hj]

theorem refArr_right (j : Fin 8192) (hj : ¬ j.val < 2048) :
    @Eq EReal (refArr h w p (ix2 s j)) (∑ k : Fin 1024, (h (ix2 s k) : EReal) * w (ix2 k j)) := by
  pointwise [refArr]
  rw [dif_neg hj]
  exact Finset.sum_congr rfl fun k _ => congrArg (fun i => h (ix2 s k) * w (ix2 k i)) (Fin.ext (by show 2048 + (j.val - 2048) = j.val; omega))

end

open Cert.Kernel9Ideal Cert.Kernel9Ideal.Gen Dw

section
variable {F : FTy → Type} [FloatOps F]
variable (c : Dev nD) (i : grid0.Coords) (arg3 : Memref sig .tc .vmem S512x1024 .bf16) (harg3 : arg3.IsWhole) (arg4 : Memref sig .tc .vmem S1024x2048 .bf16) (harg4 : arg4.IsWhole) (arg6 : Memref sig .tc .vmem S512x2048 .f32) (harg6 : arg6.IsWhole)
  (x0 : Vec F S512x1024 .bf16) (x1 : Vec F S1024x2048 .bf16) (xt0 : TbBuf0 (F := F) c tbM0_0)

theorem read2 : out0_A_2 c i arg3 harg3 arg4 harg4 arg6 harg6 x0 x1 xt0 = k0_pay1 x0 x1 := by
  unfold out0_A_2 kernelRun0_A
  dsimp only
  sl_unfold_words
  simp (disch := decide) only [View.readAt_eq_ld, Memref.IsWhole.read_unread, View.ld_unit_lit', View.readCov_unit_lit']
  exact View.read_writes_full (s := _) _ _ _ _ _

end

variable (m : (ℓ : Loc nD τ Cert.Kernel9Ideal.sig) → Buf (Elt Ideal) ℓ) (c : Dev nD)

/-- The arguments. -/
abbrev hid : FVec Ideal S8192x1024 .bf16 := m ((c.tc : Thread nD τ).loc main_arg0)
abbrev wt : FVec Ideal S1024x8192 .bf16 := m ((c.tc : Thread nD τ).loc main_arg1)
abbrev old : FVec Ideal S8192x8192 .f32 := m ((c.tc : Thread nD τ).loc main_arg2)

theorem points : (cfgM m (ok m)).N = 48 := N_0
theorem point_lt (t : Fin (cfgM m (ok m)).N) : t.val < 48 := lt_of_lt_of_eq t.isLt (points m)

theorem maps : ∀ t : Fin grid0.N,
    cc0_transform_0 (grid0.coords t) = ![t.val % 16, 0] ∧ (grid0.coords t 0).val = t.val / 16 ∧ (grid0.coords t 1).val = t.val % 16 := by
  decide +kernel

variable (t : Fin (cfgM m (ok m)).N)

theorem index0 : ((cfgM m (ok m)).win 0).index t = ![t.val % 16, 0] := (maps t).1
theorem index1 : ((cfgM m (ok m)).win 1).index t = ![0, t.val / 16 + 1] := (column1 m (grid0.coords t)).trans (by rw [(maps t).2.1])
theorem index2 : ((cfgM m (ok m)).win 2).index t = ![t.val % 16, t.val / 16 + 1] :=
  (column3 m (grid0.coords t)).trans (by rw [(maps t).2.1, (maps t).2.2])

theorem quarter_lt : t.val / 16 < 3 := by have := point_lt m t; omega
/-- The token and the column of an element of a point's output block. -/
abbrev tk (p : Fin 512) : Fin 8192 := tok (t.val % 16) (Nat.mod_lt _ (by decide)) p
abbrev cl (j : Fin 2048) : Fin 8192 := rcol (t.val / 16) (quarter_lt m t) j

theorem blk0 (p : Fin 512) (k : Fin 1024) : iblk m (ok m) c 0 t (ix2 p k) = hid m c (ix2 (tk m t p) k) := by
  unfold hid
  rw [← V_main_arg0 m c]
  have e := index0 m t
  blk_ext [iblk, tok, e]

theorem blk1 (k : Fin 1024) (j : Fin 2048) : iblk m (ok m) c 1 t (ix2 k j) = wt m c (ix2 k (cl m t j)) := by
  unfold wt
  rw [← V_main_arg1 m c]
  have e := index1 m t
  blk_ext [iblk, rcol, e]

theorem emb2 (p : Fin 512) (j : Fin 2048) :
    (((cfgM m (ok m)).win 2).blk t).view.emb (ix2 p j) = ix2 (tk m t p) (cl m t j) := by
  have e := index2 m t
  blk_ext [tok, rcol, e]

/-- The blocks a point reads, at their shapes. -/
def b0 : Vec Ideal S512x1024 .bf16 := iblk m (ok m) c 0 t
def b1 : Vec Ideal S1024x2048 .bf16 := iblk m (ok m) c 1 t

theorem run2 : outsAt0 m (ok m) c t = out0_A_2 c (grid0.coords t) (ms0_0 m (ok m) t) (hs0_0 m (ok m) t) (ms0_1 m (ok m) t) (hs0_1 m (ok m) t) (ms0_2 m (ok m) t) (hs0_2 m (ok m) t)
    (b0 m c t) (b1 m c t) (tbl m 0) := by
  delta outsAt0 b0 b1
  with_reducible rfl
theorem res2 : outsAt0 m (ok m) c t = k0_pay1 (b0 m c t) (b1 m c t) :=
  (run2 m c t).trans (read2 c (grid0.coords t) (ms0_0 m (ok m) t) (hs0_0 m (ok m) t) (ms0_1 m (ok m) t) (hs0_1 m (ok m) t) (ms0_2 m (ok m) t) (hs0_2 m (ok m) t)
    (b0 m c t) (b1 m c t) (tbl m 0))

/-- The projection of a token. -/
abbrev proj (s : Fin 8192) (j : Fin 8192) : EReal := ∑ k : Fin 1024, (hid m c (ix2 s k) : EReal) * wt m c (ix2 k j)

theorem out2 (p : Fin 512) (j : Fin 2048) :
    @Eq EReal (outsAt0 m (ok m) c t (ix2 p j)) (proj m c (tk m t p) (cl m t j)) := by
  rw [res2]
  refine Eq.trans (b := ∑ k : Fin 1024, (b0 m c t (ix2 p k) : EReal) * b1 m c t (ix2 k j)) ?_
    (Finset.sum_congr rfl fun k _ => congrArg₂ (fun x y : EReal => x * y) (blk0 m c t p k) (blk1 m c t k j))
  generalize b0 m c t = x0
  generalize b1 m c t = x1
  pointwise [k0_pay1]

theorem flush2 : ((cfgM m (ok m)).win 2).flush t = true := by
  refine (Pipeline.Window.flush_eq_flushOf _ t).trans ?_
  have e : ((cfgM m (ok m)).win 2).indexMap = fun i : grid0.Coords => ![(i 1).val, (i 0).val + 1] := funext (column3 m)
  rw [e]
  exact (by decide +kernel : ∀ t, Pipeline.Window.flushOf grid0 true (fun i : grid0.Coords => ![(i 1).val, (i 0).val + 1]) t = true) t

/-- The point that holds an element of the last three quarters. -/
noncomputable def ptOf (s j : Fin 8192) (hj : ¬ j.val < 2048) : Fin (cfgM m (ok m)).N := ⟨(j.val / 2048 - 1) * 16 + s.val / 512, by rw [points]; omega⟩

theorem emb_ptOf (s j : Fin 8192) (hj : ¬ j.val < 2048) :
    (((cfgM m (ok m)).win 2).blk (ptOf m s j hj)).view.emb (ix2 ⟨s.val % 512, by omega⟩ ⟨j.val % 2048, by omega⟩) = ix2 s j := by
  rw [emb2]
  refine congrArg₂ ix2 (Fin.ext ?_) (Fin.ext ?_)
  · show ((j.val / 2048 - 1) * 16 + s.val / 512) % 16 * 512 + s.val % 512 = s.val
    omega
  · show (((j.val / 2048 - 1) * 16 + s.val / 512) / 16 + 1) * 2048 + j.val % 2048 = j.val
    omega

/-- The projection's array after the call. -/
abbrev G : FVec Ideal S8192x8192 .f32 := refArr (hid m c) (wt m c) (old m c)

theorem entry : (dats m (ok m) 0 c).A 2 = old m c := by
  refine (A_eq m (ok m) c 2).trans ?_
  show V m c main_v1 = old m c
  unfold V
  after_results_simp
  rfl

theorem arr2 : (dats m (ok m) 0 c).arrAt 2 (cfgM m (ok m)).N = G m c := by
  funext (i : S8192x8192.Idx)
  obtain ⟨s, j, rfl⟩ : ∃ s j, i = ix2 s j := ⟨i 0, i 1, eq_ix2 i⟩
  by_cases hj : j.val < 2048
  · refine ((dats m (ok m) 0 c).arrAt_apply_of_forall_not_mem 2 _ _ fun t _ _ hi => ?_).trans
      ((congrFun (entry m c) (ix2 s j)).trans (refArr_left _ _ _ s j hj).symm)
    obtain ⟨(y : S512x2048.Idx), _, e⟩ := Finset.mem_map.mp hi
    obtain ⟨p, j', rfl⟩ : ∃ p j', y = (ix2 p j' : S512x2048.Idx) := ⟨y 0, y 1, eq_ix2 y⟩
    rw [emb2] at e
    have e1 : (t.val / 16 + 1) * 2048 + j'.val = j.val := congrArg (fun i : S8192x8192.Idx => (i 1).val) e
    omega
  · refine (dats m (ok m) 0 c).arrAt_forall_of_flushed 2 (fun i v => v = G m c i) (fun t _ (y : S512x2048.Idx) => ?_) _ (ptOf m s j hj) _
      (ptOf m s j hj).isLt (flush2 m _) ?_
    · obtain ⟨p, j, rfl⟩ : ∃ p j, y = (ix2 p j : S512x2048.Idx) := ⟨y 0, y 1, eq_ix2 y⟩
      have hc : ¬ (cl m t j).val < 2048 := by show ¬ (t.val / 16 + 1) * 2048 + j.val < 2048; omega
      refine Eq.trans ?_ ((out2 m c t p j).trans ((refArr_right _ _ _ _ _ hc).symm.trans (congrArg (G m c) (emb2 m t p j).symm)))
      exact congrFun (after0_2 m (ok m) c t) (ix2 p j)
    · rw [← emb_ptOf m s j hj]
      exact View.emb_mem_set _ _

variable (ρ : Dev nD → PrngReg)

/-- The run: the projection's array, and the arguments as launched. -/
theorem run : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨((h.1 c).1 2).trans (arr2 m c), h.2 c⟩)
    (θ_run_and (run_main m ρ (ok m)) (unchanged m ρ (ok m)))

/-- The kernel and the reference compute the same array. -/
theorem value : Cert.algebraic_Kernel9Ideal_Reference9Ideal := by
  intro m g m' g' _ hagree
  refine ⟨fun c => G m c, run m g, ?_⟩
  refine (θ_run _ _ _).mono (fun r h c => ?_) (Cert.Reference9Ideal.Value.run (F := Ideal) m' g')
  obtain ⟨e0, e1, e2⟩ := hagree c
  obtain ⟨h0, hargs⟩ := h c
  rw [e0, e1, e2] at h0
  exact ⟨h0, hargs⟩

end Proj.Rest

end
-- ==== Proof.Proj.RestFrame.lean ====
/- The table of the program over machine floats, and the frames. The prefetched words of the second projection call: both are 0, so its products go to the last three quarters of the
   columns. -/
module

public import proofs.«01_k».proof.Proof.Gen.Kernel9.Frame
public import proofs.«01_k».proof.Proof.Proj.RestVal
public import Idealize.ShloMosaic.Lib.Claim
public import Idealize.ShloMosaic.Lib.Pointwise
public import Idealize.ShloMosaic.Lib.StableHlo.ReadAt

@[expose] public section

set_option maxRecDepth 16384

noncomputable section

namespace Proj.Rest.Machine

open Idealize.ShloMosaic Cert.Kernel9 Cert.Kernel9.Gen

variable {F : FTy → Type} [FloatOps F] (m : (ℓ : Loc nD τ Cert.Kernel9.sig) → Buf (Elt F) ℓ)

theorem words (c : Dev nD) : (V m c main_v0 : (⟨S2, .i32⟩ : BufTy).Contents (Elt F)) = fun _ => 0#32 := by
  unfold V
  refine Eq.trans (b := broadcastInDim S2 ![] bcast_S_S2 (constantI S_ 32 0#32)) ?_ rfl
  after_results_simp

theorem word : (tbl m).at 0 (Rect.unit (s := S2) ![1] S1.size inb_S2_S1_1) numel1_S1 = 0#32 := congrFun (words m 0) _

theorem column1 (i : grid0.Coords) : cc0_transform_1 inb_S2_S1_1 numel1_S1 (tbl m) i = ![0, (i 0).val + 1] := by
  unfold cc0_transform_1
  dsimp only
  rw [word]
  refine congrArg (fun k : ℕ => ![0, k]) ?_
  generalize i 0 = a
  revert a
  show ∀ a : Fin 3, _
  decide +kernel

theorem column3 (i : grid0.Coords) : cc0_transform_3 inb_S2_S1_1 numel1_S1 (tbl m) i = ![(i 1).val, (i 0).val + 1] := by
  have h : (i 1).val < 16 := (i 1).isLt
  have e' : (BitVec.ofNat 32 (i 1).val).toNat = (i 1).val := by
    rw [BitVec.toNat_ofNat]; omega
  unfold cc0_transform_3
  dsimp only
  rw [word, e']
  refine congrArg (fun k : ℕ => ![(i 1).val, k]) ?_
  generalize i 0 = a
  revert a
  show ∀ a : Fin 3, _
  decide +kernel

theorem ok : Ok m := by
  refine ⟨fun i => ⟨fun a => ?_, ?_⟩, fun i => ⟨fun a => ?_, .inl rfl⟩⟩
  · have h : (i 0).val < 3 := (i 0).isLt
    rw [column1]
    match a with
    | ⟨0, _⟩ => show (0 + 1) * 1024 ≤ 1024; omega
    | ⟨1, _⟩ => show ((i 0).val + 1 + 1) * 2048 ≤ 8192; omega
  · exact .inr (Affine.block_words_dvd (of_decide_eq_true rfl) (by decide))
  · have h : (i 0).val < 3 := (i 0).isLt
    have h' : (i 1).val < 16 := (i 1).isLt
    rw [column3]
    match a with
    | ⟨0, _⟩ => show ((i 1).val + 1) * 512 ≤ 8192; omega
    | ⟨1, _⟩ => show ((i 0).val + 1 + 1) * 2048 ≤ 8192; omega

end Proj.Rest.Machine

namespace Proj.Rest

open Idealize.ShloMosaic Idealize.SL.Sem

theorem frame_kernel : Cert.quiescent_Kernel9 := fun m ρ _ => Cert.Kernel9.Gen.frame m ρ (Machine.ok m)

theorem frame_ideal : Cert.quiescent_Kernel9Ideal := fun m ρ _ => Cert.Kernel9Ideal.Gen.frame m ρ (ok m)

/-- The reference's frame. -/
theorem frame_ref : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

end Proj.Rest

end
-- ==== Proof.lean ====
/- The certificate of eleven calls of the training step: the gated merge of the two branches with the output projection, the
   residual, the final norm and the loss head, forward and backward (`Merge`); the backward pass of the input projection and of
   the modulated norm before it, down to the token stream's gradient (`Dh`); the input projection's weight gradient (`Dw.In`);
   the gradients of the output projection's weight and of the two branch weights (`Dw.Small`); the
   three calls of AdamW on the large weights and the one on the six small weights (`Opt`); the two calls of the input projection,
   forward (`Proj`); and the sums of the loss and of five small gradients over the devices (`Opt.Sum`). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Pre_finite_dh
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.MergeFrame
public import proofs.«01_k».proof.Proof.MergeValue
public import proofs.«01_k».proof.Proof.Dh.Value
public import proofs.«01_k».proof.Proof.Dw.InValue
public import proofs.«01_k».proof.Proof.Dw.SmallValue
public import proofs.«01_k».proof.Proof.Opt.In
public import proofs.«01_k».proof.Proof.Opt.Many
public import proofs.«01_k».proof.Proof.Opt.Ada
public import proofs.«01_k».proof.Proof.Opt.PackedValue
public import proofs.«01_k».proof.Proof.Opt.Sum
public import proofs.«01_k».proof.Proof.Proj.OwnFrame
public import proofs.«01_k».proof.Proof.Proj.RestFrame
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Merge.preFacts, Cert.Pre_finite_dh.Gen.facts,
    Merge.frame_kernel, fun m ρ _ => Merge.Run.frame (F := Ideal) m ρ, fun m ρ _ => Merge.Run.frame (F := Ideal) m ρ,
    Merge.frame_ref, fun m ρ _ => Merge.frame_ref m ρ trivial,
    fun m ρ _ => Cert.Kernel2.Gen.frame m ρ, fun m ρ _ => Cert.Kernel2Ideal.Gen.frame m ρ, fun m ρ _ => Cert.Kernel2Ideal.Gen.frame m ρ,
    Dh.frame_ref, fun m ρ _ => Dh.frame_ref m ρ trivial,
    fun m ρ _ => Cert.Kernel3.Gen.frame m ρ, fun m ρ _ => Cert.Kernel3Ideal.Gen.frame m ρ, Dw.In.frame_ref,
    fun m ρ _ => Cert.Kernel4.Gen.frame m ρ, fun m ρ _ => Cert.Kernel4Ideal.Gen.frame m ρ, Dw.Small.frame_ref,
    fun m ρ _ => Cert.Kernel5.Gen.frame m ρ, fun m ρ _ => Cert.Kernel5Ideal.Gen.frame m ρ, Opt.In.frame_ref,
    fun m ρ _ => Cert.Kernel6.Gen.frame m ρ, fun m ρ _ => Cert.Kernel6Ideal.Gen.frame m ρ, Opt.Many.frame_ref,
    fun m ρ _ => Cert.Kernel7.Gen.frame m ρ, fun m ρ _ => Cert.Kernel7Ideal.Gen.frame m ρ, Opt.Ada.frame_ref,
    Proj.Own.frame_kernel, Proj.Own.frame_ideal, Proj.Own.frame_ref,
    Proj.Rest.frame_kernel, Proj.Rest.frame_ideal, Proj.Rest.frame_ref,
    Opt.Packed.frame_kernel, Opt.Packed.frame_ideal, Opt.Packed.frame_ref,
    Opt.Sum.frame_kernel, Opt.Sum.frame_ideal, Opt.Sum.frame_ref,
    trivial, Merge.value, trivial, Dh.value, trivial, Dw.In.value, trivial, Dw.Small.value,
    trivial, Opt.In.value, trivial, Opt.Many.value, trivial, Opt.Ada.value,
    trivial, Proj.Own.value, trivial, Proj.Rest.value, trivial, Opt.Packed.value, trivial, Opt.Sum.value⟩

end Cert.Proof

end
